-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Scales (m : (ℓ : Loc Cert.Scales.nD Cert.Scales.τ Cert.Scales.sig) → Buf (Elt Bits) ℓ) : Prop :=
  True

def Pre_ScalesIdeal (m : (ℓ : Loc Cert.ScalesIdeal.nD Cert.ScalesIdeal.τ Cert.ScalesIdeal.sig) → Buf (Elt Ideal) ℓ) : Prop :=
  True

def Pre_ScalesReferenceIdeal (m : (ℓ : Loc Cert.ScalesReferenceIdeal.nD Cert.ScalesReferenceIdeal.τ Cert.ScalesReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Scales [hScales : Cert.Scales.Facts] : Prop :=
  ∀ (m : (ℓ : Loc Cert.Scales.nD Cert.Scales.τ Cert.Scales.sig) → Buf (Elt Bits) ℓ) (g : Dev Cert.Scales.nD → PrngReg), Pre_Scales m →
    θ_run (Cert.Scales.defs (F := Bits)) (onTc (τ := Cert.Scales.τ) (Cert.Scales.main (F := Bits))) ⟨m, fun _ => 0, g⟩ (fun r => (∀ c : Dev Cert.Scales.nD,
      r.2.mem ((c.tc : Thread Cert.Scales.nD Cert.Scales.τ).loc Cert.Scales.main_arg0) = m ((c.tc : Thread Cert.Scales.nD Cert.Scales.τ).loc Cert.Scales.main_arg0)
      ∧ r.2.mem ((c.tc : Thread Cert.Scales.nD Cert.Scales.τ).loc Cert.Scales.main_arg1) = m ((c.tc : Thread Cert.Scales.nD Cert.Scales.τ).loc Cert.Scales.main_arg1)
      ∧ r.2.mem ((c.tc : Thread Cert.Scales.nD Cert.Scales.τ).loc Cert.Scales.main_arg2) = m ((c.tc : Thread Cert.Scales.nD Cert.Scales.τ).loc Cert.Scales.main_arg2))
      ∧ r.2.sem = fun _ => 0)

def quiescent_ScalesIdeal [hScalesIdeal : Cert.ScalesIdeal.Facts] : Prop :=
  ∀ (m : (ℓ : Loc Cert.ScalesIdeal.nD Cert.ScalesIdeal.τ Cert.ScalesIdeal.sig) → Buf (Elt Ideal) ℓ) (g : Dev Cert.ScalesIdeal.nD → PrngReg), Pre_ScalesIdeal m →
    θ_run (Cert.ScalesIdeal.defs (F := Ideal)) (onTc (τ := Cert.ScalesIdeal.τ) (Cert.ScalesIdeal.main (F := Ideal))) ⟨m, fun _ => 0, g⟩ (fun r => (∀ c : Dev Cert.ScalesIdeal.nD,
      r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
      ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
      ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2))
      ∧ r.2.sem = fun _ => 0)

def quiescent_ScalesReferenceIdeal [hScalesReferenceIdeal : Cert.ScalesReferenceIdeal.Facts] : Prop :=
  ∀ (m : (ℓ : Loc Cert.ScalesReferenceIdeal.nD Cert.ScalesReferenceIdeal.τ Cert.ScalesReferenceIdeal.sig) → Buf (Elt Ideal) ℓ) (g : Dev Cert.ScalesReferenceIdeal.nD → PrngReg), Pre_ScalesReferenceIdeal m →
    θ_run (Cert.ScalesReferenceIdeal.defs (F := Ideal)) (onTc (τ := Cert.ScalesReferenceIdeal.τ) (Cert.ScalesReferenceIdeal.main (F := Ideal))) ⟨m, fun _ => 0, g⟩ (fun r => (∀ c : Dev Cert.ScalesReferenceIdeal.nD,
      r.2.mem ((c.tc : Thread Cert.ScalesReferenceIdeal.nD Cert.ScalesReferenceIdeal.τ).loc Cert.ScalesReferenceIdeal.main_arg0) = m ((c.tc : Thread Cert.ScalesReferenceIdeal.nD Cert.ScalesReferenceIdeal.τ).loc Cert.ScalesReferenceIdeal.main_arg0)
      ∧ r.2.mem ((c.tc : Thread Cert.ScalesReferenceIdeal.nD Cert.ScalesReferenceIdeal.τ).loc Cert.ScalesReferenceIdeal.main_arg1) = m ((c.tc : Thread Cert.ScalesReferenceIdeal.nD Cert.ScalesReferenceIdeal.τ).loc Cert.ScalesReferenceIdeal.main_arg1)
      ∧ r.2.mem ((c.tc : Thread Cert.ScalesReferenceIdeal.nD Cert.ScalesReferenceIdeal.τ).loc Cert.ScalesReferenceIdeal.main_arg2) = m ((c.tc : Thread Cert.ScalesReferenceIdeal.nD Cert.ScalesReferenceIdeal.τ).loc Cert.ScalesReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3_0)) (v1 : (c : Dev Cert.KernelIdeal.nD) → Buf (Elt Ideal) ((c.tc : Thread Cert.KernelIdeal.nD Cert.KernelIdeal.τ).loc Cert.KernelIdeal.main_v3_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3_0) = v0 c
          ∧ r.2.mem ((c.tc : Thread Cert.KernelIdeal.nD Cert.KernelIdeal.τ).loc Cert.KernelIdeal.main_v3_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_v6) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Scales_ScalesIdeal : Prop :=
  True

def algebraic_ScalesIdeal_ScalesReferenceIdeal [hScalesIdeal : Cert.ScalesIdeal.Facts] [hScalesReferenceIdeal : Cert.ScalesReferenceIdeal.Facts] : Prop :=
  ∀ (m : (ℓ : Loc Cert.ScalesIdeal.nD Cert.ScalesIdeal.τ Cert.ScalesIdeal.sig) → Buf (Elt Ideal) ℓ) (g : Dev Cert.ScalesIdeal.nD → PrngReg)
    (m' : (ℓ : Loc Cert.ScalesReferenceIdeal.nD Cert.ScalesReferenceIdeal.τ Cert.ScalesReferenceIdeal.sig) → Buf (Elt Ideal) ℓ) (g' : Dev Cert.ScalesReferenceIdeal.nD → PrngReg), Pre_ScalesIdeal m →
    (∀ c : Dev Cert.ScalesIdeal.nD,
      m' ((c.tc : Thread Cert.ScalesReferenceIdeal.nD Cert.ScalesReferenceIdeal.τ).loc Cert.ScalesReferenceIdeal.main_arg0) = m ((c.tc : Thread Cert.ScalesIdeal.nD Cert.ScalesIdeal.τ).loc Cert.ScalesIdeal.main_arg0)
      ∧ m' ((c.tc : Thread Cert.ScalesReferenceIdeal.nD Cert.ScalesReferenceIdeal.τ).loc Cert.ScalesReferenceIdeal.main_arg1) = m ((c.tc : Thread Cert.ScalesIdeal.nD Cert.ScalesIdeal.τ).loc Cert.ScalesIdeal.main_arg1)
      ∧ m' ((c.tc : Thread Cert.ScalesReferenceIdeal.nD Cert.ScalesReferenceIdeal.τ).loc Cert.ScalesReferenceIdeal.main_arg2) = m ((c.tc : Thread Cert.ScalesIdeal.nD Cert.ScalesIdeal.τ).loc Cert.ScalesIdeal.main_arg2)) →
    ∃ (v0 : (c : Dev Cert.ScalesIdeal.nD) → Buf (Elt Ideal) ((c.tc : Thread Cert.ScalesIdeal.nD Cert.ScalesIdeal.τ).loc Cert.ScalesIdeal.main_v63_0)) (v1 : (c : Dev Cert.ScalesIdeal.nD) → Buf (Elt Ideal) ((c.tc : Thread Cert.ScalesIdeal.nD Cert.ScalesIdeal.τ).loc Cert.ScalesIdeal.main_v63_1)),
      θ_run (Cert.ScalesIdeal.defs (F := Ideal)) (onTc (τ := Cert.ScalesIdeal.τ) (Cert.ScalesIdeal.main (F := Ideal))) ⟨m, fun _ => 0, g⟩ (fun r => ∀ c : Dev Cert.ScalesIdeal.nD,
          r.2.mem ((c.tc : Thread Cert.ScalesIdeal.nD Cert.ScalesIdeal.τ).loc Cert.ScalesIdeal.main_v63_0) = v0 c
          ∧ r.2.mem ((c.tc : Thread Cert.ScalesIdeal.nD Cert.ScalesIdeal.τ).loc Cert.ScalesIdeal.main_v63_1) = v1 c
          ∧ r.2.mem ((c.tc : Thread Cert.ScalesIdeal.nD Cert.ScalesIdeal.τ).loc Cert.ScalesIdeal.main_arg0) = m ((c.tc : Thread Cert.ScalesIdeal.nD Cert.ScalesIdeal.τ).loc Cert.ScalesIdeal.main_arg0)
          ∧ r.2.mem ((c.tc : Thread Cert.ScalesIdeal.nD Cert.ScalesIdeal.τ).loc Cert.ScalesIdeal.main_arg1) = m ((c.tc : Thread Cert.ScalesIdeal.nD Cert.ScalesIdeal.τ).loc Cert.ScalesIdeal.main_arg1)
          ∧ r.2.mem ((c.tc : Thread Cert.ScalesIdeal.nD Cert.ScalesIdeal.τ).loc Cert.ScalesIdeal.main_arg2) = m ((c.tc : Thread Cert.ScalesIdeal.nD Cert.ScalesIdeal.τ).loc Cert.ScalesIdeal.main_arg2))
      ∧ θ_run (Cert.ScalesReferenceIdeal.defs (F := Ideal)) (onTc (τ := Cert.ScalesReferenceIdeal.τ) (Cert.ScalesReferenceIdeal.main (F := Ideal))) ⟨m', fun _ => 0, g'⟩ (fun r => ∀ c : Dev Cert.ScalesReferenceIdeal.nD,
          r.2.mem ((c.tc : Thread Cert.ScalesReferenceIdeal.nD Cert.ScalesReferenceIdeal.τ).loc Cert.ScalesReferenceIdeal.main_v72) = v0 c
          ∧ r.2.mem ((c.tc : Thread Cert.ScalesReferenceIdeal.nD Cert.ScalesReferenceIdeal.τ).loc Cert.ScalesReferenceIdeal.main_v145) = v1 c
          ∧ r.2.mem ((c.tc : Thread Cert.ScalesReferenceIdeal.nD Cert.ScalesReferenceIdeal.τ).loc Cert.ScalesReferenceIdeal.main_arg0) = m' ((c.tc : Thread Cert.ScalesReferenceIdeal.nD Cert.ScalesReferenceIdeal.τ).loc Cert.ScalesReferenceIdeal.main_arg0)
          ∧ r.2.mem ((c.tc : Thread Cert.ScalesReferenceIdeal.nD Cert.ScalesReferenceIdeal.τ).loc Cert.ScalesReferenceIdeal.main_arg1) = m' ((c.tc : Thread Cert.ScalesReferenceIdeal.nD Cert.ScalesReferenceIdeal.τ).loc Cert.ScalesReferenceIdeal.main_arg1)
          ∧ r.2.mem ((c.tc : Thread Cert.ScalesReferenceIdeal.nD Cert.ScalesReferenceIdeal.τ).loc Cert.ScalesReferenceIdeal.main_arg2) = m' ((c.tc : Thread Cert.ScalesReferenceIdeal.nD Cert.ScalesReferenceIdeal.τ).loc Cert.ScalesReferenceIdeal.main_arg2))

def Claim : Prop :=
  ∃ (hKernel : Cert.Kernel.Facts) (hKernelIdeal : Cert.KernelIdeal.Facts) (hReferenceIdeal : Cert.ReferenceIdeal.Facts) (hScales : Cert.Scales.Facts) (hScalesIdeal : Cert.ScalesIdeal.Facts) (hScalesReferenceIdeal : Cert.ScalesReferenceIdeal.Facts),
    quiescent_Kernel (hKernel := hKernel)
    ∧ quiescent_KernelIdeal (hKernelIdeal := hKernelIdeal)
    ∧ quiescent_ReferenceIdeal (hReferenceIdeal := hReferenceIdeal)
    ∧ quiescent_Scales (hScales := hScales)
    ∧ quiescent_ScalesIdeal (hScalesIdeal := hScalesIdeal)
    ∧ quiescent_ScalesReferenceIdeal (hScalesReferenceIdeal := hScalesReferenceIdeal)
    ∧ preserves_Kernel_KernelIdeal
    ∧ algebraic_KernelIdeal_ReferenceIdeal (hKernelIdeal := hKernelIdeal) (hReferenceIdeal := hReferenceIdeal)
    ∧ preserves_Scales_ScalesIdeal
    ∧ algebraic_ScalesIdeal_ScalesReferenceIdeal (hScalesIdeal := hScalesIdeal) (hScalesReferenceIdeal := hScalesReferenceIdeal)
-- ==== Kernel.lean ====
abbrev S2x128x7168 : Shape := ⟨3, ![2, 128, 7168]⟩
abbrev S2x128x18432 : Shape := ⟨3, ![2, 128, 18432]⟩
abbrev S7168x18432 : Shape := ⟨2, ![7168, 18432]⟩
abbrev S256x18432 : Shape := ⟨2, ![256, 18432]⟩
abbrev S256x7168 : Shape := ⟨2, ![256, 7168]⟩
abbrev S1024x1024 : Shape := ⟨2, ![1024, 1024]⟩
abbrev S256x1024 : Shape := ⟨2, ![256, 1024]⟩
abbrev S7168x256 : Shape := ⟨2, ![7168, 256]⟩
abbrev S256x256 : Shape := ⟨2, ![256, 256]⟩
abbrev S1024x256 : Shape := ⟨2, ![1024, 256]⟩

abbrev nBuf : Space → Nat
  | .hbm => 9
  | .vmem => 17
  | .smem => 0
  | _ => 0

abbrev bufTy : (tb : Table) → Fin (tcTables nBuf tb) → BufTy
  | .hbm, ⟨0, _⟩ => ⟨S2x128x7168, .bf16⟩
  | .hbm, ⟨1, _⟩ => ⟨S2x128x18432, .bf16⟩
  | .hbm, ⟨2, _⟩ => ⟨S2x128x18432, .bf16⟩
  | .hbm, ⟨3, _⟩ => ⟨S7168x18432, .bf16⟩
  | .hbm, ⟨4, _⟩ => ⟨S256x18432, .bf16⟩
  | .hbm, ⟨5, _⟩ => ⟨S256x18432, .bf16⟩
  | .hbm, ⟨6, _⟩ => ⟨S256x7168, .bf16⟩
  | .hbm, ⟨7, _⟩ => ⟨S256x7168, .bf16⟩
  | .hbm, ⟨8, _⟩ => ⟨S7168x18432, .f32⟩
  | .local _ .vmem, ⟨0, _⟩ => ⟨S1024x1024, .bf16⟩
  | .local _ .vmem, ⟨1, _⟩ => ⟨S1024x1024, .bf16⟩
  | .local _ .vmem, ⟨2, _⟩ => ⟨S256x1024, .bf16⟩
  | .local _ .vmem, ⟨3, _⟩ => ⟨S256x1024, .bf16⟩
  | .local _ .vmem, ⟨4, _⟩ => ⟨S256x1024, .bf16⟩
  | .local _ .vmem, ⟨5, _⟩ => ⟨S256x1024, .bf16⟩
  | .local _ .vmem, ⟨6, _⟩ => ⟨S256x1024, .bf16⟩
  | .local _ .vmem, ⟨7, _⟩ => ⟨S256x1024, .bf16⟩
  | .local _ .vmem, ⟨8, _⟩ => ⟨S256x1024, .bf16⟩
  | .local _ .vmem, ⟨9, _⟩ => ⟨S256x1024, .bf16⟩
  | .local _ .vmem, ⟨10, _⟩ => ⟨S1024x1024, .f32⟩
  | .local _ .vmem, ⟨11, _⟩ => ⟨S1024x1024, .f32⟩
  | .local _ .vmem, ⟨12, _⟩ => ⟨S7168x256, .bf16⟩
  | .local _ .vmem, ⟨13, _⟩ => ⟨S7168x256, .f32⟩
  | .local _ .vmem, ⟨14, _⟩ => ⟨S256x1024, .bf16⟩
  | .local _ .vmem, ⟨15, _⟩ => ⟨S256x1024, .bf16⟩
  | .local _ .vmem, ⟨16, _⟩ => ⟨S256x1024, .bf16⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_scratch3 : Ref sig .tc := ⟨.vmem, 15, rfl⟩
abbrev cc0_scratch4 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![18, 7], ![false, false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_mult1 (i : grid0.Coords) : BitVec 32 :=
  let arg1 : BitVec 32 := BitVec.ofNat 32 (i 1).val
  let c1024_i32 : BitVec 32 := 1024#32
  let v17 : BitVec 32 := Scalar.muli arg1 c1024_i32
  let c0_i32_11 : BitVec 32 := 0#32
  let v18 : BitVec 32 := Scalar.addi v17 c0_i32_11
  v18
def k0_off1 (i : grid0.Coords) (c0_i32_11 : BitVec 32) : Fin 2 → Nat :=
  let arg1 : BitVec 32 := BitVec.ofNat 32 (i 1).val
  let c1024_i32 : BitVec 32 := 1024#32
  let v17 : BitVec 32 := Scalar.muli arg1 c1024_i32
  let v18 : BitVec 32 := Scalar.addi v17 c0_i32_11
  let v19 : BitVec 32 := v18
  let v20 : Index := Scalar.indexCast v19
  let c0_12 : Index := 0#32
  ![v20.toNat, 0]
def k0_mult2 (i : grid0.Coords) : BitVec 32 :=
  let arg1 : BitVec 32 := BitVec.ofNat 32 (i 1).val
  let c1024_i32_14 : BitVec 32 := 1024#32
  let v26 : BitVec 32 := Scalar.muli arg1 c1024_i32_14
  let c256_i32 : BitVec 32 := 256#32
  let v27 : BitVec 32 := Scalar.addi v26 c256_i32
  v27
def k0_mult3 (i : grid0.Coords) : BitVec 32 :=
  let arg1 : BitVec 32 := BitVec.ofNat 32 (i 1).val
  let c1024_i32_17 : BitVec 32 := 1024#32
  let v35 : BitVec 32 := Scalar.muli arg1 c1024_i32_17
  let c512_i32 : BitVec 32 := 512#32
  let v36 : BitVec 32 := Scalar.addi v35 c512_i32
  v36
def k0_mult4 (i : grid0.Coords) : BitVec 32 :=
  let arg1 : BitVec 32 := BitVec.ofNat 32 (i 1).val
  let c1024_i32_20 : BitVec 32 := 1024#32
  let v44 : BitVec 32 := Scalar.muli arg1 c1024_i32_20
  let c768_i32 : BitVec 32 := 768#32
  let v45 : BitVec 32 := Scalar.addi v44 c768_i32
  v45
def k0_mult5 (i : grid0.Coords) : BitVec 32 :=
  let arg1 : BitVec 32 := BitVec.ofNat 32 (i 1).val
  let c1024_i32_22 : BitVec 32 := 1024#32
  let v52 : BitVec 32 := Scalar.muli arg1 c1024_i32_22
  v52
def k0_off2 (i : grid0.Coords) : Fin 2 → Nat :=
  let arg1 : BitVec 32 := BitVec.ofNat 32 (i 1).val
  let c1024_i32_22 : BitVec 32 := 1024#32
  let v52 : BitVec 32 := Scalar.muli arg1 c1024_i32_22
  let v53 : BitVec 32 := v52
  let v54 : Index := Scalar.indexCast v53
  let c0_23 : Index := 0#32
  ![v54.toNat, 0]
@[reducible] def k0_t1_loop : Scf.Loop 32 :=
  let c0_i32_3 : BitVec 32 := 0#32
  let c4_i32 : BitVec 32 := 4#32
  let v6 : BitVec 32 := Scalar.addi c0_i32_3 c4_i32
  let c1_i32 : BitVec 32 := 1#32
  ⟨c0_i32_3, v6, c1_i32⟩
def k0_mult6 (k0_t1 : Fin k0_t1_loop.trips) : BitVec 32 :=
  let c0_i32_3 : BitVec 32 := 0#32
  let c1_i32 : BitVec 32 := 1#32
  let arg13 : BitVec 32 := Scf.iv c0_i32_3 c1_i32 k0_t1
  let c256_i32 : BitVec 32 := 256#32
  let v10 : BitVec 32 := Scalar.muli arg13 c256_i32
  v10
def k0_mult7 (i : grid0.Coords) (k0_t1 : Fin k0_t1_loop.trips) : BitVec 32 :=
  let arg1 : BitVec 32 := BitVec.ofNat 32 (i 1).val
  let c1024_i32 : BitVec 32 := 1024#32
  let v12 : BitVec 32 := Scalar.muli arg1 c1024_i32
  let c0_i32_3 : BitVec 32 := 0#32
  let c1_i32 : BitVec 32 := 1#32
  let arg13 : BitVec 32 := Scf.iv c0_i32_3 c1_i32 k0_t1
  let c256_i32 : BitVec 32 := 256#32
  let v10 : BitVec 32 := Scalar.muli arg13 c256_i32
  let v11 : BitVec 32 := v10
  let v13 : BitVec 32 := Scalar.addi v12 v11
  v13
def k0_off3 (i : grid0.Coords) (k0_t1 : Fin k0_t1_loop.trips) : Fin 2 → Nat :=
  let arg1 : BitVec 32 := BitVec.ofNat 32 (i 1).val
  let c1024_i32 : BitVec 32 := 1024#32
  let v12 : BitVec 32 := Scalar.muli arg1 c1024_i32
  let c0_i32_3 : BitVec 32 := 0#32
  let c1_i32 : BitVec 32 := 1#32
  let arg13 : BitVec 32 := Scf.iv c0_i32_3 c1_i32 k0_t1
  let c256_i32 : BitVec 32 := 256#32
  let v10 : BitVec 32 := Scalar.muli arg13 c256_i32
  let v11 : BitVec 32 := v10
  let v13 : BitVec 32 := Scalar.addi v12 v11
  let v14 : BitVec 32 := v13
  let v15 : Index := Scalar.indexCast v14
  let c0 : Index := 0#32
  ![v15.toNat, 0]
def k0_off4 (k0_t1 : Fin k0_t1_loop.trips) : Fin 2 → Nat :=
  let c0_i32_3 : BitVec 32 := 0#32
  let c1_i32 : BitVec 32 := 1#32
  let arg13 : BitVec 32 := Scf.iv c0_i32_3 c1_i32 k0_t1
  let c256_i32 : BitVec 32 := 256#32
  let v10 : BitVec 32 := Scalar.muli arg13 c256_i32
  let v11 : BitVec 32 := v10
  let v21 : Index := Scalar.indexCast v11
  let c0_9 : Index := 0#32
  ![v21.toNat, 0]
def k0_cond3 (i : grid0.Coords) : BitVec 1 :=
  let arg0 : BitVec 32 := BitVec.ofNat 32 (i 0).val
  let c17_i32 : BitVec 32 := 17#32
  let v7 : BitVec 1 := Scalar.cmpi .eq arg0 c17_i32
  let v8 : BitVec 32 := Scalar.extui v7
  let c0_i32_5 : BitVec 32 := 0#32
  let v9 : BitVec 1 := Scalar.cmpi .ne v8 c0_i32_5
  v9

def k0_mult8 (i : grid0.Coords) : BitVec 32 :=
  let arg1 : BitVec 32 := BitVec.ofNat 32 (i 1).val
  let c1024_i32 : BitVec 32 := 1024#32
  let v10 : BitVec 32 := Scalar.muli arg1 c1024_i32
  v10
def k0_off5 (i : grid0.Coords) : Fin 2 → Nat :=
  let arg1 : BitVec 32 := BitVec.ofNat 32 (i 1).val
  let c1024_i32 : BitVec 32 := 1024#32
  let v10 : BitVec 32 := Scalar.muli arg1 c1024_i32
  let v11 : BitVec 32 := v10
  let v12 : Index := Scalar.indexCast v11
  let c0 : Index := 0#32
  ![v12.toNat, 0]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c6_i32 : BitVec 32 := 6#32
  let v1 : BitVec 32 := Scalar.select v0 arg1 c6_i32
  let c0_i32_0 : BitVec 32 := 0#32
  let c0_i32_1 : BitVec 32 := 0#32
  ![c0_i32_0.toNat, v1.toNat]

def cc0_transform_4 (i : grid0.Coords) : Fin 2 → Nat :=
  let arg0 : BitVec 32 := BitVec.ofNat 32 (i 0).val
  let arg1 : BitVec 32 := BitVec.ofNat 32 (i 1).val
  let c17_i32 : BitVec 32 := 17#32
  let v0 : BitVec 1 := Scalar.cmpi .eq arg0 c17_i32
  let c0_i32 : BitVec 32 := 0#32
  let v1 : BitVec 32 := Scalar.select v0 arg1 c0_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S256x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== ReferenceIdeal.lean ====
abbrev S2x128x7168 : Shape := ⟨3, ![2, 128, 7168]⟩
abbrev S2x128x18432 : Shape := ⟨3, ![2, 128, 18432]⟩
abbrev S7168x18432 : Shape := ⟨2, ![7168, 18432]⟩
abbrev S_ : Shape := ⟨0, ![]⟩
abbrev S256x7168 : Shape := ⟨2, ![256, 7168]⟩

abbrev nBuf : Space → Nat
  | .hbm => 14
  | .vmem => 0
  | .smem => 0
  | _ => 0

abbrev bufTy : (tb : Table) → Fin (tcTables nBuf tb) → BufTy
  | .hbm, ⟨0, _⟩ => ⟨S2x128x7168, .bf16⟩
  | .hbm, ⟨1, _⟩ => ⟨S2x128x18432, .bf16⟩
  | .hbm, ⟨2, _⟩ => ⟨S2x128x18432, .bf16⟩
  | .hbm, ⟨3, _⟩ => ⟨S7168x18432, .bf16⟩
  | .hbm, ⟨4, _⟩ => ⟨S2x128x7168, .f32⟩
  | .hbm, ⟨5, _⟩ => ⟨S_, .f32⟩
  | .hbm, ⟨6, _⟩ => ⟨S2x128x7168, .f32⟩
  | .hbm, ⟨7, _⟩ => ⟨S2x128x7168, .f32⟩
  | .hbm, ⟨8, _⟩ => ⟨S2x128x7168, .bf16⟩
  | .hbm, ⟨9, _⟩ => ⟨S7168x18432, .f32⟩
  | .hbm, ⟨10, _⟩ => ⟨S_, .f32⟩
  | .hbm, ⟨11, _⟩ => ⟨S7168x18432, .f32⟩
  | .hbm, ⟨12, _⟩ => ⟨S7168x18432, .f32⟩
  | .hbm, ⟨13, _⟩ => ⟨S256x7168, .bf16⟩
  | _, _ => ⟨S2x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩

abbrev nD : Nat := 1
abbrev τ : Topo := Topo.v7x

variable {F : FTy → Type} [FloatOps F]
-- ==== Scales.lean ====
abbrev S2x128x7168 : Shape := ⟨3, ![2, 128, 7168]⟩
abbrev S2x128x18432 : Shape := ⟨3, ![2, 128, 18432]⟩
abbrev S2x128 : Shape := ⟨2, ![2, 128]⟩
abbrev S256x256 : Shape := ⟨2, ![256, 256]⟩
abbrev S_ : Shape := ⟨0, ![]⟩
abbrev S256x18432 : Shape := ⟨2, ![256, 18432]⟩
abbrev S256x7168 : Shape := ⟨2, ![256, 7168]⟩
abbrev S1x256 : Shape := ⟨2, ![1, 256]⟩
abbrev S8x7168 : Shape := ⟨2, ![8, 7168]⟩
abbrev S8x18432 : Shape := ⟨2, ![8, 18432]⟩
abbrev S256x1024 : Shape := ⟨2, ![256, 1024]⟩
abbrev S8x1024 : Shape := ⟨2, ![8, 1024]⟩
abbrev S8x128 : Shape := ⟨2, ![8, 128]⟩

abbrev nBuf : Space → Nat
  | .hbm => 94
  | .vmem => 12
  | .smem => 0
  | _ => 0

abbrev bufTy : (tb : Table) → Fin (tcTables nBuf tb) → BufTy
  | .hbm, ⟨0, _⟩ => ⟨S2x128x7168, .bf16⟩
  | .hbm, ⟨1, _⟩ => ⟨S2x128x18432, .bf16⟩
  | .hbm, ⟨2, _⟩ => ⟨S2x128, .f32⟩
  | .hbm, ⟨3, _⟩ => ⟨S256x256, .i32⟩
  | .hbm, ⟨4, _⟩ => ⟨S256x256, .i32⟩
  | .hbm, ⟨5, _⟩ => ⟨S_, .i32⟩
  | .hbm, ⟨6, _⟩ => ⟨S256x256, .i32⟩
  | .hbm, ⟨7, _⟩ => ⟨S256x256, .i32⟩
  | .hbm, ⟨8, _⟩ => ⟨S_, .i32⟩
  | .hbm, ⟨9, _⟩ => ⟨S256x256, .i32⟩
  | .hbm, ⟨10, _⟩ => ⟨S256x256, .i32⟩
  | .hbm, ⟨11, _⟩ => ⟨S_, .i32⟩
  | .hbm, ⟨12, _⟩ => ⟨S256x256, .i32⟩
  | .hbm, ⟨13, _⟩ => ⟨S256x256, .i32⟩
  | .hbm, ⟨14, _⟩ => ⟨S256x256, .i32⟩
  | .hbm, ⟨15, _⟩ => ⟨S256x256, .i32⟩
  | .hbm, ⟨16, _⟩ => ⟨S_, .i32⟩
  | .hbm, ⟨17, _⟩ => ⟨S256x256, .i32⟩
  | .hbm, ⟨18, _⟩ => ⟨S256x256, .i32⟩
  | .hbm, ⟨19, _⟩ => ⟨S_, .i32⟩
  | .hbm, ⟨20, _⟩ => ⟨S256x256, .i32⟩
  | .hbm, ⟨21, _⟩ => ⟨S256x256, .i32⟩
  | .hbm, ⟨22, _⟩ => ⟨S_, .i32⟩
  | .hbm, ⟨23, _⟩ => ⟨S256x256, .i32⟩
  | .hbm, ⟨24, _⟩ => ⟨S256x256, .i32⟩
  | .hbm, ⟨25, _⟩ => ⟨S_, .i32⟩
  | .hbm, ⟨26, _⟩ => ⟨S256x256, .i32⟩
  | .hbm, ⟨27, _⟩ => ⟨S256x256, .i32⟩
  | .hbm, ⟨28, _⟩ => ⟨S_, .i32⟩
  | .hbm, ⟨29, _⟩ => ⟨S256x256, .i32⟩
  | .hbm, ⟨30, _⟩ => ⟨S256x256, .i32⟩
  | .hbm, ⟨31, _⟩ => ⟨S256x256, .i32⟩
  | .hbm, ⟨32, _⟩ => ⟨S_, .i32⟩
  | .hbm, ⟨33, _⟩ => ⟨S256x256, .i32⟩
  | .hbm, ⟨34, _⟩ => ⟨S256x256, .i32⟩
  | .hbm, ⟨35, _⟩ => ⟨S_, .i32⟩
  | .hbm, ⟨36, _⟩ => ⟨S256x256, .i32⟩
  | .hbm, ⟨37, _⟩ => ⟨S256x256, .i32⟩
  | .hbm, ⟨38, _⟩ => ⟨S256x256, .i32⟩
  | .hbm, ⟨39, _⟩ => ⟨S_, .i32⟩
  | .hbm, ⟨40, _⟩ => ⟨S256x256, .i32⟩
  | .hbm, ⟨41, _⟩ => ⟨S256x256, .i32⟩
  | .hbm, ⟨42, _⟩ => ⟨S_, .i32⟩
  | .hbm, ⟨43, _⟩ => ⟨S256x256, .i32⟩
  | .hbm, ⟨44, _⟩ => ⟨S256x256, .i32⟩
  | .hbm, ⟨45, _⟩ => ⟨S256x256, .i32⟩
  | .hbm, ⟨46, _⟩ => ⟨S_, .i32⟩
  | .hbm, ⟨47, _⟩ => ⟨S256x256, .i32⟩
  | .hbm, ⟨48, _⟩ => ⟨S256x256, .i32⟩
  | .hbm, ⟨49, _⟩ => ⟨S_, .i32⟩
  | .hbm, ⟨50, _⟩ => ⟨S256x256, .i32⟩
  | .hbm, ⟨51, _⟩ => ⟨S256x256, .i32⟩
  | .hbm, ⟨52, _⟩ => ⟨S256x256, .i32⟩
  | .hbm, ⟨53, _⟩ => ⟨S_, .i32⟩
  | .hbm, ⟨54, _⟩ => ⟨S256x256, .i32⟩
  | .hbm, ⟨55, _⟩ => ⟨S256x256, .i32⟩
  | .hbm, ⟨56, _⟩ => ⟨S_, .i32⟩
  | .hbm, ⟨57, _⟩ => ⟨S256x256, .i32⟩
  | .hbm, ⟨58, _⟩ => ⟨S256x256, .i32⟩
  | .hbm, ⟨59, _⟩ => ⟨S256x256, .i32⟩
  | .hbm, ⟨60, _⟩ => ⟨S_, .i32⟩
  | .hbm, ⟨61, _⟩ => ⟨S256x256, .i32⟩
  | .hbm, ⟨62, _⟩ => ⟨S256x256, .i32⟩
  | .hbm, ⟨63, _⟩ => ⟨S_, .i32⟩
  | .hbm, ⟨64, _⟩ => ⟨S256x256, .i32⟩
  | .hbm, ⟨65, _⟩ => ⟨S256x256, .i32⟩
  | .hbm, ⟨66, _⟩ => ⟨S256x256, .i32⟩
  | .hbm, ⟨67, _⟩ => ⟨S_, .i32⟩
  | .hbm, ⟨68, _⟩ => ⟨S256x256, .i32⟩
  | .hbm, ⟨69, _⟩ => ⟨S256x256, .i32⟩
  | .hbm, ⟨70, _⟩ => ⟨S_, .i32⟩
  | .hbm, ⟨71, _⟩ => ⟨S256x256, .i32⟩
  | .hbm, ⟨72, _⟩ => ⟨S256x256, .i32⟩
  | .hbm, ⟨73, _⟩ => ⟨S256x256, .i1⟩
  | .hbm, ⟨74, _⟩ => ⟨S_, .i32⟩
  | .hbm, ⟨75, _⟩ => ⟨S256x256, .i32⟩
  | .hbm, ⟨76, _⟩ => ⟨S256x256, .i32⟩
  | .hbm, ⟨77, _⟩ => ⟨S_, .i32⟩
  | .hbm, ⟨78, _⟩ => ⟨S256x256, .i32⟩
  | .hbm, ⟨79, _⟩ => ⟨S256x256, .i32⟩
  | .hbm, ⟨80, _⟩ => ⟨S_, .i32⟩
  | .hbm, ⟨81, _⟩ => ⟨S256x256, .i32⟩
  | .hbm, ⟨82, _⟩ => ⟨S256x256, .i32⟩
  | .hbm, ⟨83, _⟩ => ⟨S_, .i32⟩
  | .hbm, ⟨84, _⟩ => ⟨S_, .i32⟩
  | .hbm, ⟨85, _⟩ => ⟨S256x256, .i32⟩
  | .hbm, ⟨86, _⟩ => ⟨S256x256, .i32⟩
  | .hbm, ⟨87, _⟩ => ⟨S256x256, .f32⟩
  | .hbm, ⟨88, _⟩ => ⟨S256x256, .bf16⟩
  | .hbm, ⟨89, _⟩ => ⟨S256x18432, .bf16⟩
  | .hbm, ⟨90, _⟩ => ⟨S256x7168, .bf16⟩
  | .hbm, ⟨91, _⟩ => ⟨S1x256, .f32⟩
  | .hbm, ⟨92, _⟩ => ⟨S8x7168, .i32⟩
  | .hbm, ⟨93, _⟩ => ⟨S8x18432, .i32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S1x256, .f32⟩
  | .local _ .vmem, ⟨5, _⟩ => ⟨S256x256, .bf16⟩
  | .local _ .vmem, ⟨6, _⟩ => ⟨S8x1024, .i32⟩
  | .local _ .vmem, ⟨7, _⟩ => ⟨S8x1024, .i32⟩
  | .local _ .vmem, ⟨8, _⟩ => ⟨S8x1024, .i32⟩
  | .local _ .vmem, ⟨9, _⟩ => ⟨S8x1024, .i32⟩
  | .local _ .vmem, ⟨10, _⟩ => ⟨S256x256, .bf16⟩
  | .local _ .vmem, ⟨11, _⟩ => ⟨S256x1024, .f32⟩
  | _, _ => ⟨S2x128x7168, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_c_0 : Ref sig .tc := ⟨.hbm, 8, rfl⟩
abbrev main_v4 : Ref sig .tc := ⟨.hbm, 9, rfl⟩
abbrev main_v5 : Ref sig .tc := ⟨.hbm, 10, rfl⟩
abbrev main_c_1 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_c_2 : Ref sig .tc := ⟨.hbm, 16, rfl⟩
abbrev main_v10 : Ref sig .tc := ⟨.hbm, 17, rfl⟩
abbrev main_v11 : Ref sig .tc := ⟨.hbm, 18, rfl⟩
abbrev main_c_3 : Ref sig .tc := ⟨.hbm, 19, rfl⟩
abbrev main_v12 : Ref sig .tc := ⟨.hbm, 20, rfl⟩
abbrev main_v13 : Ref sig .tc := ⟨.hbm, 21, rfl⟩
abbrev main_c_4 : Ref sig .tc := ⟨.hbm, 22, rfl⟩
abbrev main_v14 : Ref sig .tc := ⟨.hbm, 23, rfl⟩
abbrev main_v15 : Ref sig .tc := ⟨.hbm, 24, rfl⟩
abbrev main_c_5 : Ref sig .tc := ⟨.hbm, 25, rfl⟩
abbrev main_v16 : Ref sig .tc := ⟨.hbm, 26, rfl⟩
abbrev main_v17 : Ref sig .tc := ⟨.hbm, 27, rfl⟩
abbrev main_c_6 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_c_7 : Ref sig .tc := ⟨.hbm, 32, rfl⟩
abbrev main_v21 : Ref sig .tc := ⟨.hbm, 33, rfl⟩
abbrev main_v22 : Ref sig .tc := ⟨.hbm, 34, rfl⟩
abbrev main_c_8 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_c_9 : Ref sig .tc := ⟨.hbm, 39, rfl⟩
abbrev main_v26 : Ref sig .tc := ⟨.hbm, 40, rfl⟩
abbrev main_v27 : Ref sig .tc := ⟨.hbm, 41, rfl⟩
abbrev main_c_10 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_c_11 : Ref sig .tc := ⟨.hbm, 46, rfl⟩
abbrev main_v31 : Ref sig .tc := ⟨.hbm, 47, rfl⟩
abbrev main_v32 : Ref sig .tc := ⟨.hbm, 48, rfl⟩
abbrev main_c_12 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_c_13 : Ref sig .tc := ⟨.hbm, 53, rfl⟩
abbrev main_v36 : Ref sig .tc := ⟨.hbm, 54, rfl⟩
abbrev main_v37 : Ref sig .tc := ⟨.hbm, 55, rfl⟩
abbrev main_c_14 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_c_15 : Ref sig .tc := ⟨.hbm, 60, rfl⟩
abbrev main_v41 : Ref sig .tc := ⟨.hbm, 61, rfl⟩
abbrev main_v42 : Ref sig .tc := ⟨.hbm, 62, rfl⟩
abbrev main_c_16 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_c_17 : Ref sig .tc := ⟨.hbm, 67, rfl⟩
abbrev main_v46 : Ref sig .tc := ⟨.hbm, 68, rfl⟩
abbrev main_v47 : Ref sig .tc := ⟨.hbm, 69, rfl⟩
abbrev main_c_18 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_c_19 : Ref sig .tc := ⟨.hbm, 74, rfl⟩
abbrev main_v51 : Ref sig .tc := ⟨.hbm, 75, rfl⟩
abbrev main_v52 : Ref sig .tc := ⟨.hbm, 76, rfl⟩
abbrev main_c_20 : Ref sig .tc := ⟨.hbm, 77, rfl⟩
abbrev main_v53 : Ref sig .tc := ⟨.hbm, 78, rfl⟩
abbrev main_v54 : Ref sig .tc := ⟨.hbm, 79, rfl⟩
abbrev main_c_21 : Ref sig .tc := ⟨.hbm, 80, rfl⟩
abbrev main_v55 : Ref sig .tc := ⟨.hbm, 81, rfl⟩
abbrev main_v56 : Ref sig .tc := ⟨.hbm, 82, rfl⟩
abbrev main_c_22 : Ref sig .tc := ⟨.hbm, 83, rfl⟩
abbrev main_call0_v0 : Ref sig .tc := ⟨.hbm, 84, rfl⟩
abbrev main_call0_v1 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63_0 : Ref sig .tc := ⟨.hbm, 92, rfl⟩
abbrev main_v63_1 : Ref sig .tc := ⟨.hbm, 93, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨2, ![18, 7], ![false, false]⟩

def k0_cond2 (i : grid0.Coords) : BitVec 1 :=
  let arg0 : BitVec 32 := BitVec.ofNat 32 (i 0).val
  let c0_i32_2 : BitVec 32 := 0#32
  let v5 : BitVec 1 := Scalar.cmpi .eq arg0 c0_i32_2
  let v6 : BitVec 32 := Scalar.extui v5
  let c0_i32_3 : BitVec 32 := 0#32
  let v7 : BitVec 1 := Scalar.cmpi .ne v6 c0_i32_3
  v7

def k0_cond3 (i : grid0.Coords) : BitVec 1 :=
  let arg1 : BitVec 32 := BitVec.ofNat 32 (i 1).val
  let c0_i32_4 : BitVec 32 := 0#32
  let v8 : BitVec 1 := Scalar.cmpi .eq arg1 c0_i32_4
  let v9 : BitVec 32 := Scalar.extui v8
  let c0_i32_5 : BitVec 32 := 0#32
  let v10 : BitVec 1 := Scalar.cmpi .ne v9 c0_i32_5
  v10

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c6_i32 : BitVec 32 := 6#32
  let v1 : BitVec 32 := Scalar.select v0 arg1 c6_i32
  let c0_i32_0 : BitVec 32 := 0#32
  let c0_i32_1 : BitVec 32 := 0#32
  ![c0_i32_0.toNat, v1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .eq arg0 c0_i32
  let c6_i32 : BitVec 32 := 6#32
  let v1 : BitVec 32 := Scalar.select v0 arg1 c6_i32
  let c0_i32_0 : BitVec 32 := 0#32
  let c0_i32_1 : BitVec 32 := 0#32
  ![c0_i32_0.toNat, v1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S1x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S8x1024 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S8x1024 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]
-- ==== ScalesReferenceIdeal.lean ====
abbrev S2x128x7168 : Shape := ⟨3, ![2, 128, 7168]⟩
abbrev S2x128x18432 : Shape := ⟨3, ![2, 128, 18432]⟩
abbrev S2x128 : Shape := ⟨2, ![2, 128]⟩
abbrev S255 : Shape := ⟨1, ![255]⟩
abbrev S128 : Shape := ⟨1, ![128]⟩
abbrev S128x1 : Shape := ⟨2, ![128, 1]⟩
abbrev S1x128 : Shape := ⟨2, ![1, 128]⟩
abbrev S128x128 : Shape := ⟨2, ![128, 128]⟩
abbrev S_ : Shape := ⟨0, ![]⟩
abbrev S2x128x1 : Shape := ⟨3, ![2, 128, 1]⟩
abbrev S128x2x7168 : Shape := ⟨3, ![128, 2, 7168]⟩
abbrev S2x4x32x7168 : Shape := ⟨4, ![2, 4, 32, 7168]⟩
abbrev S2x4x7168 : Shape := ⟨3, ![2, 4, 7168]⟩
abbrev S2x4x7168x1 : Shape := ⟨4, ![2, 4, 7168, 1]⟩
abbrev S1x1x1x255 : Shape := ⟨4, ![1, 1, 1, 255]⟩
abbrev S2x4x7168x255 : Shape := ⟨4, ![2, 4, 7168, 255]⟩
abbrev S8x7168 : Shape := ⟨2, ![8, 7168]⟩
abbrev S128x2x18432 : Shape := ⟨3, ![128, 2, 18432]⟩
abbrev S2x4x32x18432 : Shape := ⟨4, ![2, 4, 32, 18432]⟩
abbrev S2x4x18432 : Shape := ⟨3, ![2, 4, 18432]⟩
abbrev S2x4x18432x1 : Shape := ⟨4, ![2, 4, 18432, 1]⟩
abbrev S2x4x18432x255 : Shape := ⟨4, ![2, 4, 18432, 255]⟩
abbrev S8x18432 : Shape := ⟨2, ![8, 18432]⟩

abbrev nBuf : Space → Nat
  | .hbm => 203
  | .vmem => 0
  | .smem => 0
  | _ => 0

abbrev hbmTy0_0 (i : Nat) : BufTy := match i % 128 with
  | 0 => ⟨S2x128x7168, .bf16⟩
  | 1 => ⟨S2x128x18432, .bf16⟩
  | 2 => ⟨S2x128, .f32⟩
  | 3 => ⟨S255, .f32⟩
  | 4 => ⟨S255, .f32⟩
  | 5 => ⟨S128, .i32⟩
  | 6 => ⟨S128x1, .i32⟩
  | 7 => ⟨S1x128, .i32⟩
  | 8 => ⟨S128x128, .i32⟩
  | 9 => ⟨S128x128, .i32⟩
  | 10 => ⟨S128x128, .i32⟩
  | 11 => ⟨S_, .i32⟩
  | 12 => ⟨S128x128, .i32⟩
  | 13 => ⟨S128x128, .i32⟩
  | 14 => ⟨S_, .i32⟩
  | 15 => ⟨S128x128, .i32⟩
  | 16 => ⟨S128x128, .i32⟩
  | 17 => ⟨S_, .i32⟩
  | 18 => ⟨S128x128, .i32⟩
  | 19 => ⟨S128x128, .i32⟩
  | 20 => ⟨S_, .i32⟩
  | 21 => ⟨S128x128, .i32⟩
  | 22 => ⟨S128x128, .i32⟩
  | 23 => ⟨S_, .i32⟩
  | 24 => ⟨S128x128, .i32⟩
  | 25 => ⟨S128x128, .i32⟩
  | 26 => ⟨S128x128, .i32⟩
  | 27 => ⟨S_, .i32⟩
  | 28 => ⟨S128x128, .i32⟩
  | 29 => ⟨S128x128, .i32⟩
  | 30 => ⟨S_, .i32⟩
  | 31 => ⟨S128x128, .i32⟩
  | 32 => ⟨S128x128, .i32⟩
  | 33 => ⟨S128x128, .i32⟩
  | 34 => ⟨S_, .i32⟩
  | 35 => ⟨S128x128, .i32⟩
  | 36 => ⟨S128x128, .i32⟩
  | 37 => ⟨S_, .i32⟩
  | 38 => ⟨S128x128, .i32⟩
  | 39 => ⟨S128x128, .i32⟩
  | 40 => ⟨S128x128, .i32⟩
  | 41 => ⟨S_, .i32⟩
  | 42 => ⟨S128x128, .i32⟩
  | 43 => ⟨S128x128, .i32⟩
  | 44 => ⟨S_, .i32⟩
  | 45 => ⟨S128x128, .i32⟩
  | 46 => ⟨S128x128, .i32⟩
  | 47 => ⟨S128x128, .i32⟩
  | 48 => ⟨S_, .i32⟩
  | 49 => ⟨S128x128, .i32⟩
  | 50 => ⟨S128x128, .i32⟩
  | 51 => ⟨S_, .i32⟩
  | 52 => ⟨S128x128, .i32⟩
  | 53 => ⟨S128x128, .i32⟩
  | 54 => ⟨S128x128, .i32⟩
  | 55 => ⟨S_, .i32⟩
  | 56 => ⟨S128x128, .i32⟩
  | 57 => ⟨S128x128, .i32⟩
  | 58 => ⟨S_, .i32⟩
  | 59 => ⟨S128x128, .i32⟩
  | 60 => ⟨S128x128, .i32⟩
  | 61 => ⟨S128x128, .i32⟩
  | 62 => ⟨S_, .i32⟩
  | 63 => ⟨S128x128, .i32⟩
  | 64 => ⟨S128x128, .i32⟩
  | 65 => ⟨S_, .i32⟩
  | 66 => ⟨S128x128, .i32⟩
  | 67 => ⟨S128x128, .i32⟩
  | 68 => ⟨S_, .i32⟩
  | 69 => ⟨S128x128, .i32⟩
  | 70 => ⟨S128x128, .i32⟩
  | 71 => ⟨S128x128, .f32⟩
  | 72 => ⟨S_, .f32⟩
  | 73 => ⟨S128x128, .f32⟩
  | 74 => ⟨S128x128, .f32⟩
  | 75 => ⟨S2x128x7168, .f32⟩
  | 76 => ⟨S2x128x1, .f32⟩
  | 77 => ⟨S2x128x7168, .f32⟩
  | 78 => ⟨S2x128x7168, .f32⟩
  | 79 => ⟨S128x2x7168, .f32⟩
  | 80 => ⟨S2x128x7168, .f32⟩
  | 81 => ⟨S2x4x32x7168, .f32⟩
  | 82 => ⟨S2x4x32x7168, .f32⟩
  | 83 => ⟨S_, .f32⟩
  | 84 => ⟨S2x4x7168, .f32⟩
  | 85 => ⟨S2x4x7168x1, .f32⟩
  | 86 => ⟨S1x1x1x255, .f32⟩
  | 87 => ⟨S2x4x7168x255, .f32⟩
  | 88 => ⟨S2x4x7168x255, .f32⟩
  | 89 => ⟨S2x4x7168x255, .i1⟩
  | 90 => ⟨S2x4x7168x255, .i32⟩
  | 91 => ⟨S_, .i32⟩
  | 92 => ⟨S2x4x7168, .i32⟩
  | 93 => ⟨S_, .i32⟩
  | 94 => ⟨S2x4x7168, .i32⟩
  | 95 => ⟨S2x4x7168, .i1⟩
  | 96 => ⟨S_, .i32⟩
  | 97 => ⟨S2x4x7168, .i32⟩
  | 98 => ⟨S2x4x7168, .i32⟩
  | 99 => ⟨S_, .i32⟩
  | 100 => ⟨S_, .i32⟩
  | 101 => ⟨S2x4x7168, .i32⟩
  | 102 => ⟨S2x4x7168, .i32⟩
  | 103 => ⟨S8x7168, .i32⟩
  | 104 => ⟨S128, .i32⟩
  | 105 => ⟨S128x1, .i32⟩
  | 106 => ⟨S1x128, .i32⟩
  | 107 => ⟨S128x128, .i32⟩
  | 108 => ⟨S128x128, .i32⟩
  | 109 => ⟨S128x128, .i32⟩
  | 110 => ⟨S_, .i32⟩
  | 111 => ⟨S128x128, .i32⟩
  | 112 => ⟨S128x128, .i32⟩
  | 113 => ⟨S_, .i32⟩
  | 114 => ⟨S128x128, .i32⟩
  | 115 => ⟨S128x128, .i32⟩
  | 116 => ⟨S_, .i32⟩
  | 117 => ⟨S128x128, .i32⟩
  | 118 => ⟨S128x128, .i32⟩
  | 119 => ⟨S_, .i32⟩
  | 120 => ⟨S128x128, .i32⟩
  | 121 => ⟨S128x128, .i32⟩
  | 122 => ⟨S_, .i32⟩
  | 123 => ⟨S128x128, .i32⟩
  | 124 => ⟨S128x128, .i32⟩
  | 125 => ⟨S128x128, .i32⟩
  | 126 => ⟨S_, .i32⟩
  | 127 => ⟨S128x128, .i32⟩
  | _ => ⟨S2x128x7168, .bf16⟩

abbrev hbmTy0_1 (i : Nat) : BufTy := match i % 128 with
  | 0 => ⟨S128x128, .i32⟩
  | 1 => ⟨S_, .i32⟩
  | 2 => ⟨S128x128, .i32⟩
  | 3 => ⟨S128x128, .i32⟩
  | 4 => ⟨S128x128, .i32⟩
  | 5 => ⟨S_, .i32⟩
  | 6 => ⟨S128x128, .i32⟩
  | 7 => ⟨S128x128, .i32⟩
  | 8 => ⟨S_, .i32⟩
  | 9 => ⟨S128x128, .i32⟩
  | 10 => ⟨S128x128, .i32⟩
  | 11 => ⟨S128x128, .i32⟩
  | 12 => ⟨S_, .i32⟩
  | 13 => ⟨S128x128, .i32⟩
  | 14 => ⟨S128x128, .i32⟩
  | 15 => ⟨S_, .i32⟩
  | 16 => ⟨S128x128, .i32⟩
  | 17 => ⟨S128x128, .i32⟩
  | 18 => ⟨S128x128, .i32⟩
  | 19 => ⟨S_, .i32⟩
  | 20 => ⟨S128x128, .i32⟩
  | 21 => ⟨S128x128, .i32⟩
  | 22 => ⟨S_, .i32⟩
  | 23 => ⟨S128x128, .i32⟩
  | 24 => ⟨S128x128, .i32⟩
  | 25 => ⟨S128x128, .i32⟩
  | 26 => ⟨S_, .i32⟩
  | 27 => ⟨S128x128, .i32⟩
  | 28 => ⟨S128x128, .i32⟩
  | 29 => ⟨S_, .i32⟩
  | 30 => ⟨S128x128, .i32⟩
  | 31 => ⟨S128x128, .i32⟩
  | 32 => ⟨S128x128, .i32⟩
  | 33 => ⟨S_, .i32⟩
  | 34 => ⟨S128x128, .i32⟩
  | 35 => ⟨S128x128, .i32⟩
  | 36 => ⟨S_, .i32⟩
  | 37 => ⟨S128x128, .i32⟩
  | 38 => ⟨S128x128, .i32⟩
  | 39 => ⟨S_, .i32⟩
  | 40 => ⟨S128x128, .i32⟩
  | 41 => ⟨S128x128, .i32⟩
  | 42 => ⟨S128x128, .f32⟩
  | 43 => ⟨S_, .f32⟩
  | 44 => ⟨S128x128, .f32⟩
  | 45 => ⟨S128x128, .f32⟩
  | 46 => ⟨S2x128x18432, .f32⟩
  | 47 => ⟨S2x128x1, .f32⟩
  | 48 => ⟨S2x128x18432, .f32⟩
  | 49 => ⟨S2x128x18432, .f32⟩
  | 50 => ⟨S128x2x18432, .f32⟩
  | 51 => ⟨S2x128x18432, .f32⟩
  | 52 => ⟨S2x4x32x18432, .f32⟩
  | 53 => ⟨S2x4x32x18432, .f32⟩
  | 54 => ⟨S_, .f32⟩
  | 55 => ⟨S2x4x18432, .f32⟩
  | 56 => ⟨S2x4x18432x1, .f32⟩
  | 57 => ⟨S1x1x1x255, .f32⟩
  | 58 => ⟨S2x4x18432x255, .f32⟩
  | 59 => ⟨S2x4x18432x255, .f32⟩
  | 60 => ⟨S2x4x18432x255, .i1⟩
  | 61 => ⟨S2x4x18432x255, .i32⟩
  | 62 => ⟨S_, .i32⟩
  | 63 => ⟨S2x4x18432, .i32⟩
  | 64 => ⟨S_, .i32⟩
  | 65 => ⟨S2x4x18432, .i32⟩
  | 66 => ⟨S2x4x18432, .i1⟩
  | 67 => ⟨S_, .i32⟩
  | 68 => ⟨S2x4x18432, .i32⟩
  | 69 => ⟨S2x4x18432, .i32⟩
  | 70 => ⟨S_, .i32⟩
  | 71 => ⟨S_, .i32⟩
  | 72 => ⟨S2x4x18432, .i32⟩
  | 73 => ⟨S2x4x18432, .i32⟩
  | 74 => ⟨S8x18432, .i32⟩
  | _ => ⟨S2x128x7168, .bf16⟩

abbrev hbmTy (i : Nat) : BufTy := match i / 128 with
  | 0 => hbmTy0_0 i
  | 1 => hbmTy0_1 i
  | _ => ⟨S2x128x7168, .bf16⟩

abbrev bufTy : (tb : Table) → Fin (tcTables nBuf tb) → BufTy
  | .hbm, ⟨i, _⟩ => hbmTy i
  | _, _ => ⟨S2x128x7168, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_c_1 : Ref sig .tc := ⟨.hbm, 14, rfl⟩
abbrev main_v8 : Ref sig .tc := ⟨.hbm, 15, rfl⟩
abbrev main_v9 : Ref sig .tc := ⟨.hbm, 16, rfl⟩
abbrev main_c_2 : Ref sig .tc := ⟨.hbm, 17, rfl⟩
abbrev main_v10 : Ref sig .tc := ⟨.hbm, 18, rfl⟩
abbrev main_v11 : Ref sig .tc := ⟨.hbm, 19, rfl⟩
abbrev main_c_3 : Ref sig .tc := ⟨.hbm, 20, rfl⟩
abbrev main_v12 : Ref sig .tc := ⟨.hbm, 21, rfl⟩
abbrev main_v13 : Ref sig .tc := ⟨.hbm, 22, rfl⟩
abbrev main_c_4 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_c_5 : Ref sig .tc := ⟨.hbm, 27, rfl⟩
abbrev main_v17 : Ref sig .tc := ⟨.hbm, 28, rfl⟩
abbrev main_v18 : Ref sig .tc := ⟨.hbm, 29, rfl⟩
abbrev main_c_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_c_7 : Ref sig .tc := ⟨.hbm, 34, rfl⟩
abbrev main_v22 : Ref sig .tc := ⟨.hbm, 35, rfl⟩
abbrev main_v23 : Ref sig .tc := ⟨.hbm, 36, rfl⟩
abbrev main_c_8 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_9 : Ref sig .tc := ⟨.hbm, 41, rfl⟩
abbrev main_v27 : Ref sig .tc := ⟨.hbm, 42, rfl⟩
abbrev main_v28 : Ref sig .tc := ⟨.hbm, 43, rfl⟩
abbrev main_c_10 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_c_11 : Ref sig .tc := ⟨.hbm, 48, rfl⟩
abbrev main_v32 : Ref sig .tc := ⟨.hbm, 49, rfl⟩
abbrev main_v33 : Ref sig .tc := ⟨.hbm, 50, rfl⟩
abbrev main_c_12 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_c_13 : Ref sig .tc := ⟨.hbm, 55, rfl⟩
abbrev main_v37 : Ref sig .tc := ⟨.hbm, 56, rfl⟩
abbrev main_v38 : Ref sig .tc := ⟨.hbm, 57, rfl⟩
abbrev main_c_14 : Ref sig .tc := ⟨.hbm, 58, rfl⟩
abbrev main_v39 : Ref sig .tc := ⟨.hbm, 59, rfl⟩
abbrev main_v40 : Ref sig .tc := ⟨.hbm, 60, rfl⟩
abbrev main_v41 : Ref sig .tc := ⟨.hbm, 61, rfl⟩
abbrev main_c_15 : Ref sig .tc := ⟨.hbm, 62, rfl⟩
abbrev main_v42 : Ref sig .tc := ⟨.hbm, 63, rfl⟩
abbrev main_v43 : Ref sig .tc := ⟨.hbm, 64, rfl⟩
abbrev main_c_16 : Ref sig .tc := ⟨.hbm, 65, rfl⟩
abbrev main_v44 : Ref sig .tc := ⟨.hbm, 66, rfl⟩
abbrev main_v45 : Ref sig .tc := ⟨.hbm, 67, rfl⟩
abbrev main_c_17 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_cst_18 : Ref sig .tc := ⟨.hbm, 72, rfl⟩
abbrev main_v49 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_cst_19 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_c_20 : Ref sig .tc := ⟨.hbm, 91, rfl⟩
abbrev main_v66 : Ref sig .tc := ⟨.hbm, 92, rfl⟩
abbrev main_c_21 : Ref sig .tc := ⟨.hbm, 93, rfl⟩
abbrev main_v67 : Ref sig .tc := ⟨.hbm, 94, rfl⟩
abbrev main_v68 : Ref sig .tc := ⟨.hbm, 95, rfl⟩
abbrev main_c_22 : Ref sig .tc := ⟨.hbm, 96, rfl⟩
abbrev main_v69 : Ref sig .tc := ⟨.hbm, 97, rfl⟩
abbrev main_v70 : Ref sig .tc := ⟨.hbm, 98, rfl⟩
abbrev main_c_23 : Ref sig .tc := ⟨.hbm, 99, rfl⟩
abbrev main_call0_v0 : Ref sig .tc := ⟨.hbm, 100, rfl⟩
abbrev main_call0_v1 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_v76 : Ref sig .tc := ⟨.hbm, 107, rfl⟩
abbrev main_v77 : Ref sig .tc := ⟨.hbm, 108, rfl⟩
abbrev main_v78 : Ref sig .tc := ⟨.hbm, 109, rfl⟩
abbrev main_c_24 : Ref sig .tc := ⟨.hbm, 110, rfl⟩
abbrev main_v79 : Ref sig .tc := ⟨.hbm, 111, rfl⟩
abbrev main_v80 : Ref sig .tc := ⟨.hbm, 112, rfl⟩
abbrev main_c_25 : Ref sig .tc := ⟨.hbm, 113, rfl⟩
abbrev main_v81 : Ref sig .tc := ⟨.hbm, 114, rfl⟩
abbrev main_v82 : Ref sig .tc := ⟨.hbm, 115, rfl⟩
abbrev main_c_26 : Ref sig .tc := ⟨.hbm, 116, rfl⟩
abbrev main_v83 : Ref sig .tc := ⟨.hbm, 117, rfl⟩
abbrev main_v84 : Ref sig .tc := ⟨.hbm, 118, rfl⟩
abbrev main_c_27 : Ref sig .tc := ⟨.hbm, 119, rfl⟩
abbrev main_v85 : Ref sig .tc := ⟨.hbm, 120, rfl⟩
abbrev main_v86 : Ref sig .tc := ⟨.hbm, 121, rfl⟩
abbrev main_c_28 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_c_29 : Ref sig .tc := ⟨.hbm, 126, rfl⟩
abbrev main_v90 : Ref sig .tc := ⟨.hbm, 127, rfl⟩
abbrev main_v91 : Ref sig .tc := ⟨.hbm, 128, rfl⟩
abbrev main_c_30 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_c_31 : Ref sig .tc := ⟨.hbm, 133, rfl⟩
abbrev main_v95 : Ref sig .tc := ⟨.hbm, 134, rfl⟩
abbrev main_v96 : Ref sig .tc := ⟨.hbm, 135, rfl⟩
abbrev main_c_32 : Ref sig .tc := ⟨.hbm, 136, rfl⟩
abbrev main_v97 : Ref sig .tc := ⟨.hbm, 137, rfl⟩
abbrev main_v98 : Ref sig .tc := ⟨.hbm, 138, rfl⟩
abbrev main_v99 : Ref sig .tc := ⟨.hbm, 139, rfl⟩
abbrev main_c_33 : Ref sig .tc := ⟨.hbm, 140, rfl⟩
abbrev main_v100 : Ref sig .tc := ⟨.hbm, 141, rfl⟩
abbrev main_v101 : Ref sig .tc := ⟨.hbm, 142, rfl⟩
abbrev main_c_34 : Ref sig .tc := ⟨.hbm, 143, rfl⟩
abbrev main_v102 : Ref sig .tc := ⟨.hbm, 144, rfl⟩
abbrev main_v103 : Ref sig .tc := ⟨.hbm, 145, rfl⟩
abbrev main_v104 : Ref sig .tc := ⟨.hbm, 146, rfl⟩
abbrev main_c_35 : Ref sig .tc := ⟨.hbm, 147, rfl⟩
abbrev main_v105 : Ref sig .tc := ⟨.hbm, 148, rfl⟩
abbrev main_v106 : Ref sig .tc := ⟨.hbm, 149, rfl⟩
abbrev main_c_36 : Ref sig .tc := ⟨.hbm, 150, rfl⟩
abbrev main_v107 : Ref sig .tc := ⟨.hbm, 151, rfl⟩
abbrev main_v108 : Ref sig .tc := ⟨.hbm, 152, rfl⟩
abbrev main_v109 : Ref sig .tc := ⟨.hbm, 153, rfl⟩
abbrev main_c_37 : Ref sig .tc := ⟨.hbm, 154, rfl⟩
abbrev main_v110 : Ref sig .tc := ⟨.hbm, 155, rfl⟩
abbrev main_v111 : Ref sig .tc := ⟨.hbm, 156, rfl⟩
abbrev main_c_38 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_c_39 : Ref sig .tc := ⟨.hbm, 161, rfl⟩
abbrev main_v115 : Ref sig .tc := ⟨.hbm, 162, rfl⟩
abbrev main_v116 : Ref sig .tc := ⟨.hbm, 163, rfl⟩
abbrev main_c_40 : Ref sig .tc := ⟨.hbm, 164, rfl⟩
abbrev main_v117 : Ref sig .tc := ⟨.hbm, 165, rfl⟩
abbrev main_v118 : Ref sig .tc := ⟨.hbm, 166, rfl⟩
abbrev main_c_41 : Ref sig .tc := ⟨.hbm, 167, rfl⟩
abbrev main_v119 : Ref sig .tc := ⟨.hbm, 168, rfl⟩
abbrev main_v120 : Ref sig .tc := ⟨.hbm, 169, rfl⟩
abbrev main_v121 : Ref sig .tc := ⟨.hbm, 170, rfl⟩
abbrev main_cst_42 : Ref sig .tc := ⟨.hbm, 171, rfl⟩
abbrev main_v122 : Ref sig .tc := ⟨.hbm, 172, rfl⟩
abbrev main_v123 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_v131 : Ref sig .tc := ⟨.hbm, 181, rfl⟩
abbrev main_cst_43 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_c_44 : Ref sig .tc := ⟨.hbm, 190, rfl⟩
abbrev main_v139 : Ref sig .tc := ⟨.hbm, 191, rfl⟩
abbrev main_c_45 : Ref sig .tc := ⟨.hbm, 192, rfl⟩
abbrev main_v140 : Ref sig .tc := ⟨.hbm, 193, rfl⟩
abbrev main_v141 : Ref sig .tc := ⟨.hbm, 194, rfl⟩
abbrev main_c_46 : Ref sig .tc := ⟨.hbm, 195, rfl⟩
abbrev main_v142 : Ref sig .tc := ⟨.hbm, 196, rfl⟩
abbrev main_v143 : Ref sig .tc := ⟨.hbm, 197, rfl⟩
abbrev main_c_47 : Ref sig .tc := ⟨.hbm, 198, rfl⟩
abbrev main_call1_v0 : Ref sig .tc := ⟨.hbm, 199, rfl⟩
abbrev main_call1_v1 : Ref sig .tc := ⟨.hbm, 200, rfl⟩
abbrev main_v144 : Ref sig .tc := ⟨.hbm, 201, rfl⟩
abbrev main_v145 : Ref sig .tc := ⟨.hbm, 202, rfl⟩

abbrev nD : Nat := 1
abbrev τ : Topo := Topo.v7x

variable {F : FTy → Type} [FloatOps F]
-- ==== Proof.Bits.Body.lean ====
/-
  THE KERNEL'S BODY, RUN ONCE. The body at a grid point is four pieces one after the other: on the first `n` it fills
  its block of the transposed activations and zeroes its block of the accumulator; on the first `k` it copies the two
  gradient blocks into scratch; a loop of four strips computes a strip of `dw` and adds a strip of products to the
  accumulator; on the last `n` it writes the block of `dx`. Here each piece is run at arbitrary contents, and what it
  leaves is stated as contents overlaid on contents.
-/
module

public import proofs.«01_k».proof.Proof.Gen.Kernel.Frame
public import proofs.«01_k».proof.Proof.Gen.Kernel.Skeleton
public import Idealize.ShloMosaic.Lib.Tactic
public import Idealize.ShloMosaic.Lib.Pipeline.Kit
public import Idealize.ShloMosaic.Lib.WritesUnit
public import Idealize.ShloMosaic.Lib.Pipeline.ValueKit

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a view reads after one more write is the write's payload laid over what it read before. -/
theorem read_writes_cons {sp : Space} {s : Shape} {e : EltTy} (v : View sig .tc sp s e) (f : v.ty.Contents (Elt F))
    (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

/-- The rectangles the body's accesses name. -/
abbrev rTile (i : grid0.Coords) (k : Fin k0_t1_loop.trips) : Rect S7168x256 := Rect.unit (k0_off3 i k) S256x256.size (k0_off3_inb i k)
abbrev rStrip (k : Fin k0_t1_loop.trips) : Rect S1024x1024 := Rect.unit (k0_off4 k) S256x1024.size (k0_off4_inb k)

/-- What a view reads after one write of its whole shape. -/
theorem read_writes_whole {sp : Space} {s : Shape} {e : EltTy} (v : View sig .tc sp s e) (f : v.ty.Contents (Elt F))
    {off : Fin s.rank → ℕ} (h : ∀ a, off a = 0) (inb : ∀ a, off a + s.size a ≤ s.size a) (w : s.Idx → Elt F e)
    (L : List (View.Piece (Elt F) s e)) :
    v.read (Elt F) (v.writes (Elt F) f (⟨Rect.unit off s.size inb, w⟩ :: L)) = w := by
  obtain rfl : off = fun _ => 0 := funext h
  rw [read_writes_cons]
  funext y
  have hy : (Rect.unit (fun _ => 0) s.size inb).emb y = y := by
    funext a; exact Fin.ext (by simp [Rect.emb, Rect.unit])
  conv_lhs => rw [← hy]
  exact Rect.overlay_emb _ _ _ _

/-- Reading all of a contents through the rectangle of its whole shape. -/
theorem ld_whole {s : Shape} {e : EltTy} {off : Fin s.rank → ℕ} (h : ∀ a, off a = 0) (inb : ∀ a, off a + s.size a ≤ s.size a)
    (X : s.Idx → Elt F e) : View.ld X (Rect.unit off s.size inb) = X := View.ld_unit_lit inb X h

/-- A load covered by one store of the whole shape reads what was stored. -/
theorem readCov_whole {sp : Space} {s : Shape} {e : EltTy} {v : View sig .tc sp s e} {off : Fin s.rank → ℕ} (h : ∀ a, off a = 0)
    (inb : ∀ a, off a + s.size a ≤ s.size a) (w : s.Idx → Elt F e) (r : Rect s) :
    v.readCov [⟨Rect.unit off s.size inb, w⟩] r.toLoadRect = View.ld w r := by
  rw [View.readCov_eq_canon_ld _ _ _ (fun y => ⟨_, List.mem_singleton_self _, View.mem_set_unit_zero (funext h) inb y⟩),
    View.canon_unit_zero (funext h)]

theorem z2 : ∀ a, (![0, 0] : Fin 2 → ℕ) a = 0 := by decide

/-- The second condition: the grid's `k` is zero. -/
def cond2 (i : grid0.Coords) : BitVec 1 :=
  let v3 : BitVec 1 := Scalar.cmpi .eq (BitVec.ofNat 32 (i 1).val) 0#32
  let v4 : BitVec 32 := Scalar.extui v3
  Scalar.cmpi .ne v4 0#32

section run
variable (c : Dev nD) (i : grid0.Coords)
  (M2 : Memref sig .tc .vmem S1024x1024 .bf16) (h2 : M2.IsWhole) (M3 : Memref sig .tc .vmem S256x1024 .bf16) (h3 : M3.IsWhole)
  (M4 : Memref sig .tc .vmem S256x1024 .bf16) (h4 : M4.IsWhole) (M5 : Memref sig .tc .vmem S256x1024 .bf16) (h5 : M5.IsWhole)
  (M6 : Memref sig .tc .vmem S256x1024 .bf16) (h6 : M6.IsWhole) (M7 : Memref sig .tc .vmem S1024x1024 .f32) (h7 : M7.IsWhole)
  (M8 : Memref sig .tc .vmem S7168x256 .bf16) (h8 : M8.IsWhole) (M9 : Memref sig .tc .vmem S7168x256 .f32) (h9 : M9.IsWhole)
  (M10 : Memref sig .tc .vmem S256x1024 .bf16) (h10 : M10.IsWhole) (M11 : Memref sig .tc .vmem S256x1024 .bf16) (h11 : M11.IsWhole)
  (M12 : Memref sig .tc .vmem S256x1024 .bf16) (h12 : M12.IsWhole)

/-- A memref held whole at contents that read `X`. -/
abbrev ow {sp : Space} {s : Shape} {e : EltTy} (M : Memref sig .tc sp s e) (X : s.Idx → Elt F e) : sProp 𝕄 :=
  owns (c : Thread nD τ) M fullShare X

/-- The transposed activations with one block filled: the four tiles of the block, transposed. -/
def fillT (i : grid0.Coords) (h : k0_cond1 i = 1#1) (X5 : S256x1024.Idx → Elt F .bf16) (X8 : S7168x256.Idx → Elt F .bf16) :
    S7168x256.Idx → Elt F .bf16 :=
  (Rect.unit (k0_off1 i 768#32) S256x256.size (k0_off1_inb i h 3) : Rect S7168x256).overlay ((Rect.unit (k0_off1 i 512#32) S256x256.size (k0_off1_inb i h 2) : Rect S7168x256).overlay ((Rect.unit (k0_off1 i 256#32) S256x256.size (k0_off1_inb i h 1) : Rect S7168x256).overlay ((Rect.unit (k0_off1 i 0#32) S256x256.size (k0_off1_inb i h 0) : Rect S7168x256).overlay X8
    (k0_pay10 (View.ld (k0_pay9 X5) (Rect.unit (s := S256x1024) ![0, 0] S256x256.size inb_S256x1024_S256x256_0_0))))
    (k0_pay11 (View.ld (k0_pay9 X5) (Rect.unit (s := S256x1024) ![0, 256] S256x256.size inb_S256x1024_S256x256_0_256))))
    (k0_pay12 (View.ld (k0_pay9 X5) (Rect.unit (s := S256x1024) ![0, 512] S256x256.size inb_S256x1024_S256x256_0_512))))
    (k0_pay1 (k0_pay13 (View.ld (k0_pay9 X5) (Rect.unit (s := S256x1024) ![0, 768] S256x256.size inb_S256x1024_S256x256_0_768))))

/-- The accumulator with one block zeroed. -/
def zeroT (i : grid0.Coords) (h : k0_cond1 i = 1#1) (X9 : S7168x256.Idx → Elt F .f32) : S7168x256.Idx → Elt F .f32 :=
  (Rect.unit (k0_off2 i) S1024x256.size (k0_off2_inb i h) : Rect S7168x256).overlay X9 (k0_pay2 (F := F))

/-- The block of `dw` after `k` strips. -/
def dwIt (i : grid0.Coords) (X8 : S7168x256.Idx → Elt F .bf16) (X11 : S256x1024.Idx → Elt F .bf16) (X7 : S1024x1024.Idx → Elt F .f32) :
    ℕ → S1024x1024.Idx → Elt F .f32
  | 0 => X7
  | k + 1 => if h : k < k0_t1_loop.trips then
      (rStrip ⟨k, h⟩).overlay (dwIt i X8 X11 X7 k) (k0_pay5 (View.ld X8 (rTile i ⟨k, h⟩)) X11) else dwIt i X8 X11 X7 k

/-- The accumulator after `k` strips. -/
def accIt (i : grid0.Coords) (X2 : S1024x1024.Idx → Elt F .bf16) (X10 : S256x1024.Idx → Elt F .bf16) (X9 : S7168x256.Idx → Elt F .f32) :
    ℕ → S7168x256.Idx → Elt F .f32
  | 0 => X9
  | k + 1 => if h : k < k0_t1_loop.trips then
      (rTile i ⟨k, h⟩).overlay (accIt i X2 X10 X9 k)
        (k0_pay7 (View.ld (accIt i X2 X10 X9 k) (rTile i ⟨k, h⟩)) (k0_pay6 (View.ld X2 (rStrip ⟨k, h⟩))) X10) else accIt i X2 X10 X9 k

/-- The first piece: on the first `n`, the block of transposed activations and the block of zeros. -/
def segA : Prog (TpuEff nD τ sig (Elt F) Λ₀ .tc) PUnit :=
  if k0_h1 : k0_cond1 i = 1#1 then do
    let ⟨v43, _⟩ : Σ' (v43 : FVec F S256x256 .bf16), BitVec 32 ← k0_part1 i M2 h2 M3 h3 M4 h4 M5 h5 M6 h6 M7 h7 M8 h8 M9 h9 M10 h10 M11 h11 M12 h12 (BitVec.ofNat 32 (i 1).val) k0_h1
    let v48 : Vec F S256x256 .bf16 ← Prog.lift (.load M8 (Rect.unit (s := S7168x256) (k0_off1 i 768#32) S256x256.size (k0_off1_inb i k0_h1 3)).toLoadRect (View.loadsAt_vmem h_S256x256))
    Prog.lift (.store M8 (Rect.unit (s := S7168x256) (k0_off1 i 768#32) S256x256.size (k0_off1_inb i k0_h1 3)) (k0_pay1 v43) Finset.univ (View.stores_vmem h_S256x256 (h8.storeExact_slice rfl _ (k0_off1_packedbf16 i k0_h1 3)) (fun _ => rfl)) (.inl rfl))
    let v55 : Vec F S1024x256 .f32 ← Prog.lift (.load M9 (Rect.unit (s := S7168x256) (k0_off2 i) S1024x256.size (k0_off2_inb i k0_h1)).toLoadRect (View.loadsAt_vmem h_S1024x256))
    Prog.lift (.store M9 (Rect.unit (s := S7168x256) (k0_off2 i) S1024x256.size (k0_off2_inb i k0_h1)) (k0_pay2 (F := F)) Finset.univ (View.stores_vmem_bits_univ h_S1024x256 rfl) (.inl rfl))
    pure ⟨⟩
  else pure ⟨⟩

/-- The second piece: on the first `k`, the two gradient blocks copied into scratch. -/
def segB : Prog (TpuEff nD τ sig (Elt F) Λ₀ .tc) PUnit :=
  if k0_h2 : cond2 i = 1#1 then do
    let v10 : Vec F S256x1024 .bf16 ← Prog.lift (.load M4 (Rect.unit (s := S256x1024) ![0, 0] S256x1024.size inb_S256x1024_S256x1024_0_0).toLoadRect (View.loadsAt_vmem h_S256x1024))
    let v12 : Vec F S256x1024 .bf16 ← Prog.lift (.load M11 (Rect.unit (s := S256x1024) ![0, 0] S256x1024.size inb_S256x1024_S256x1024_0_0).toLoadRect (View.loadsAt_vmem h_S256x1024))
    Prog.lift (.store M11 (Rect.unit (s := S256x1024) ![0, 0] S256x1024.size inb_S256x1024_S256x1024_0_0) (k0_pay3 v10) Finset.univ (View.stores_vmem h_S256x1024 (h11.storeExact_slice rfl _ packedbf16_S256x1024_S256x1024_0_0) (fun _ => rfl)) (.inl rfl))
    let v15 : Vec F S256x1024 .bf16 ← Prog.lift (.load M3 (Rect.unit (s := S256x1024) ![0, 0] S256x1024.size inb_S256x1024_S256x1024_0_0).toLoadRect (View.loadsAt_vmem h_S256x1024))
    let v17 : Vec F S256x1024 .bf16 ← Prog.lift (.load M10 (Rect.unit (s := S256x1024) ![0, 0] S256x1024.size inb_S256x1024_S256x1024_0_0).toLoadRect (View.loadsAt_vmem h_S256x1024))
    Prog.lift (.store M10 (Rect.unit (s := S256x1024) ![0, 0] S256x1024.size inb_S256x1024_S256x1024_0_0) (k0_pay4 v15) Finset.univ (View.stores_vmem h_S256x1024 (h10.storeExact_slice rfl _ packedbf16_S256x1024_S256x1024_0_0) (fun _ => rfl)) (.inl rfl))
    pure ⟨⟩
  else pure ⟨⟩

/-- The last piece: on the last `n`, the block of `dx` out of the accumulator. -/
def segD : Prog (TpuEff nD τ sig (Elt F) Λ₀ .tc) PUnit :=
  if k0_h3 : k0_cond3 i = 1#1 then do
    let v13 : Vec F S1024x256 .f32 ← Prog.lift (.load M9 (Rect.unit (s := S7168x256) (k0_off5 i) S1024x256.size (k0_off5_inb i k0_h3)).toLoadRect (View.loadsAt_vmem h_S1024x256))
    let v18 : Vec F S256x1024 .bf16 ← Prog.lift (.load M6 (Rect.unit (s := S256x1024) ![0, 0] S256x1024.size inb_S256x1024_S256x1024_0_0).toLoadRect (View.loadsAt_vmem h_S256x1024))
    Prog.lift (.store M6 (Rect.unit (s := S256x1024) ![0, 0] S256x1024.size inb_S256x1024_S256x1024_0_0) (k0_pay8 v13) Finset.univ (View.stores_vmem h_S256x1024 (h6.storeExact_slice rfl _ packedbf16_S256x1024_S256x1024_0_0) (fun _ => rfl)) (.inl rfl))
    pure ⟨⟩
  else pure ⟨⟩

/-- The loop of four strips. -/
def segC : Prog (TpuEff nD τ sig (Elt F) Λ₀ .tc) PUnit :=
  Scf.Loop.for k0_t1_loop k0_t1_ok ⟨⟩ (k0_t1_body i M2 h2 M3 h3 M4 h4 M5 h5 M6 h6 M7 h7 M8 h8 M9 h9 M10 h10 M11 h11 M12 h12)

/-- The body is its four pieces in order. -/
theorem body_eq : cc0_mxfp4_bwd i M2 h2 M3 h3 M4 h4 M5 h5 M6 h6 M7 h7 M8 h8 M9 h9 M10 h10 M11 h11 M12 h12
    = (segA (F := F) i M2 h2 M3 h3 M4 h4 M5 h5 M6 h6 M7 h7 M8 h8 M9 h9 M10 h10 M11 h11 M12 h12 >>= fun _ => segB (F := F) i M3 M4 M10 h10 M11 h11 >>= fun _ => segC (F := F) i M2 h2 M3 h3 M4 h4 M5 h5 M6 h6 M7 h7 M8 h8 M9 h9 M10 h10 M11 h11 M12 h12 >>= fun _ => segD (F := F) i M6 h6 M9) := by
  rw [cc0_mxfp4_bwd_eq_skeleton]
  unfold cc0_mxfp4_bwd_skel segA segB segC segD cond2
  by_cases q1 : k0_cond1 i = 1#1 <;>
  by_cases q2 : cond2 i = 1#1 <;>
  by_cases q3 : k0_cond3 i = 1#1 <;>
  unfold cond2 at q2 <;>
  simp only [q1, q2, q3, dite_true, dite_false, bind_assoc, pure_bind, ↓reduceDIte]

theorem segA_run (X5 : S256x1024.Idx → Elt F .bf16) (X8 : S7168x256.Idx → Elt F .bf16) (X9 : S7168x256.Idx → Elt F .f32) :
    iprop(ow c M5 X5 ∗ ow c M8 X8 ∗ ow c M9 X9 ∗ (∃ d, ow (F := F) c M12 d))
    ⊢ wp frame (wpE (defs₀ (F := F)) Variants.none (c : Thread nD τ) none) Set.univ (segA (F := F) i M2 h2 M3 h3 M4 h4 M5 h5 M6 h6 M7 h7 M8 h8 M9 h9 M10 h10 M11 h11 M12 h12)
        (fun _ => iprop(ow c M5 X5 ∗ ow c M8 (if h : k0_cond1 i = 1#1 then fillT i h X5 X8 else X8)
          ∗ ow c M9 (if h : k0_cond1 i = 1#1 then zeroT i h X9 else X9) ∗ (∃ d, ow (F := F) c M12 d))) := by
  by_cases h : k0_cond1 i = 1#1
  · simp only [segA, dif_pos h]
    rw [k0_part1_eq_skeleton]
    unfold k0_part1_skel ow owns
    iintro ⟨⟨%f5, %e5, H5⟩, ⟨%f8, %e8, H8⟩, ⟨%f9, %e9, H9⟩, ⟨%d12, %f12, -, H12⟩⟩
    sl_exec
    sl_step
    isplitl [H5]
    · iexists _; isplitr; swap; · iexact H5
      ipureintro; exact e5
    isplitl [H8]
    · iexists _; isplitr; swap; · iexact H8
      ipureintro
      unfold segA_run.sl.v42 segA_run.sl.v33 segA_run.sl.v24 segA_run.sl.v15
      rw [read_writes_cons, read_writes_cons, read_writes_cons, read_writes_cons, View.writes_nil, e8]
      unfold segA_run.sl.H12_1
      simp only [View.readAt_eq_ld]
      rw [e5, ld_whole z2, readCov_whole z2, readCov_whole z2, readCov_whole z2, readCov_whole z2]
      unfold fillT
      rfl
    isplitl [H9]
    · iexists _; isplitr; swap; · iexact H9
      ipureintro
      rw [read_writes_cons, View.writes_nil, e9]; rfl
    · iexists _, _; isplitr; swap; · iexact H12
      ipureintro; rfl
  · simp only [segA, dif_neg h]
    iintro H
    sl_step
    iexact H

theorem segB_run (X3 X4 X10 X11 : S256x1024.Idx → Elt F .bf16) :
    iprop(ow c M3 X3 ∗ ow c M4 X4 ∗ ow c M10 X10 ∗ ow c M11 X11)
    ⊢ wp frame (wpE (defs₀ (F := F)) Variants.none (c : Thread nD τ) none) Set.univ (segB (F := F) i M3 M4 M10 h10 M11 h11)
        (fun _ => iprop(ow c M3 X3 ∗ ow c M4 X4 ∗ ow c M10 (if cond2 i = 1#1 then k0_pay4 X3 else X10)
          ∗ ow c M11 (if cond2 i = 1#1 then k0_pay3 X4 else X11))) := by
  by_cases h : cond2 i = 1#1
  · simp only [segB, dif_pos h, if_pos h]
    unfold ow owns
    iintro ⟨⟨%f3, %e3, H3⟩, ⟨%f4, %e4, H4⟩, ⟨%f10, %e10, H10⟩, ⟨%f11, %e11, H11⟩⟩
    sl_exec
    sl_step
    isplitl [H3]
    · iexists _; isplitr; swap; · iexact H3
      ipureintro; exact e3
    isplitl [H4]
    · iexists _; isplitr; swap; · iexact H4
      ipureintro; exact e4
    isplitl [H10]
    · iexists _; isplitr; swap; · iexact H10
      ipureintro
      rw [read_writes_whole _ _ z2, View.readAt_eq_ld, ld_whole z2, e3]
    · iexists _; isplitr; swap; · iexact H11
      ipureintro
      rw [read_writes_whole _ _ z2, View.readAt_eq_ld, ld_whole z2, e4]
  · simp only [segB, dif_neg h, if_neg h]
    iintro H
    sl_step
    iexact H

theorem segD_run (X6 : S256x1024.Idx → Elt F .bf16) (X9 : S7168x256.Idx → Elt F .f32) :
    iprop(ow c M6 X6 ∗ ow c M9 X9)
    ⊢ wp frame (wpE (defs₀ (F := F)) Variants.none (c : Thread nD τ) none) Set.univ (segD (F := F) i M6 h6 M9)
        (fun _ => iprop(ow c M6 (if h : k0_cond3 i = 1#1 then k0_pay8 (View.ld X9 (Rect.unit (k0_off5 i) S1024x256.size (k0_off5_inb i h) : Rect S7168x256)) else X6)
          ∗ ow c M9 X9)) := by
  by_cases h : k0_cond3 i = 1#1
  · simp only [segD, dif_pos h]
    unfold ow owns
    iintro ⟨⟨%f6, %e6, H6⟩, ⟨%f9, %e9, H9⟩⟩
    sl_exec
    sl_step
    isplitl [H6]
    · iexists _; isplitr; swap; · iexact H6
      ipureintro
      rw [read_writes_whole _ _ z2]
      unfold segD_run.sl.v13
      rw [View.readAt_eq_ld, e9]
    · iexists _; isplitr; swap; · iexact H9
      ipureintro; exact e9
  · simp only [segD, dif_neg h]
    iintro H
    sl_step
    iexact H

/-- One strip: the strip of `dw` is the product of the tile of transposed activations with the gradient block, scaled;
    the tile of the accumulator gains the product of the strip of the weight block with the other gradient block. -/
theorem trip_run (k : Fin k0_t1_loop.trips) (u : Unit) (X2 : S1024x1024.Idx → Elt F .bf16) (X8 : S7168x256.Idx → Elt F .bf16)
    (X10 X11 : S256x1024.Idx → Elt F .bf16) (X7 : S1024x1024.Idx → Elt F .f32) (X9 : S7168x256.Idx → Elt F .f32) :
    iprop(ow c M2 X2 ∗ ow c M8 X8 ∗ ow c M10 X10 ∗ ow c M11 X11 ∗ ow c M7 X7 ∗ ow c M9 X9 ∗ (∃ d, ow (F := F) c M12 d))
    ⊢ wp frame (wpE (defs₀ (F := F)) Variants.none (c : Thread nD τ) none) Set.univ
        (k0_t1_body i M2 h2 M3 h3 M4 h4 M5 h5 M6 h6 M7 h7 M8 h8 M9 h9 M10 h10 M11 h11 M12 h12 k u)
        (fun _ => iprop(ow c M2 X2 ∗ ow c M8 X8 ∗ ow c M10 X10 ∗ ow c M11 X11
          ∗ ow c M7 ((rStrip k).overlay X7 (k0_pay5 (View.ld X8 (rTile i k)) X11))
          ∗ ow c M9 ((rTile i k).overlay X9 (k0_pay7 (View.ld X9 (rTile i k)) (k0_pay6 (View.ld X2 (rStrip k))) X10))
          ∗ (∃ d, ow (F := F) c M12 d))) := by
  have hk : k.val < 4 := Nat.lt_of_lt_of_le k.isLt k0_t1_abs.2.1
  unfold k0_t1_body ow owns
  iintro ⟨⟨%f2, %e2, H2⟩, ⟨%f8, %e8, H8⟩, ⟨%f10, %e10, H10⟩, ⟨%f11, %e11, H11⟩, ⟨%f7, %e7, H7⟩, ⟨%f9, %e9, H9⟩, ⟨%d12, %f12, -, H12⟩⟩
  sl_exec
  sl_step
  isplitl [H2]
  · iexists _; isplitr; swap; · iexact H2
    ipureintro; exact e2
  isplitl [H8]
  · iexists _; isplitr; swap; · iexact H8
    ipureintro; exact e8
  isplitl [H10]
  · iexists _; isplitr; swap; · iexact H10
    ipureintro; exact e10
  isplitl [H11]
  · iexists _; isplitr; swap; · iexact H11
    ipureintro; exact e11
  isplitl [H7]
  · iexists _; isplitr; swap; · iexact H7
    ipureintro
    rw [read_writes_cons, View.writes_nil, e7, View.readAt_eq_ld, View.readAt_eq_ld, e8, e11, ld_whole z2]
  isplitl [H9]
  · iexists _; isplitr; swap; · iexact H9
    ipureintro
    rw [read_writes_cons, View.writes_nil, e9]
    unfold trip_run.sl.v30 trip_run.sl.H12_1
    simp only [View.readAt_eq_ld]
    rw [e9, e10, e2, ld_whole z2, readCov_whole z2, ld_whole z2]
  · iexists _, _; isplitr; swap; · iexact H12
    ipureintro; rfl

/-- The loop: four strips. -/
theorem segC_run (X2 : S1024x1024.Idx → Elt F .bf16) (X8 : S7168x256.Idx → Elt F .bf16)
    (X10 X11 : S256x1024.Idx → Elt F .bf16) (X7 : S1024x1024.Idx → Elt F .f32) (X9 : S7168x256.Idx → Elt F .f32) :
    iprop(ow c M2 X2 ∗ ow c M8 X8 ∗ ow c M10 X10 ∗ ow c M11 X11 ∗ ow c M7 X7 ∗ ow c M9 X9 ∗ (∃ d, ow (F := F) c M12 d))
    ⊢ wp frame (wpE (defs₀ (F := F)) Variants.none (c : Thread nD τ) none) Set.univ (segC (F := F) i M2 h2 M3 h3 M4 h4 M5 h5 M6 h6 M7 h7 M8 h8 M9 h9 M10 h10 M11 h11 M12 h12)
        (fun _ => iprop(ow c M2 X2 ∗ ow c M8 X8 ∗ ow c M10 X10 ∗ ow c M11 X11
          ∗ ow c M7 (dwIt i X8 X11 X7 k0_t1_loop.trips) ∗ ow c M9 (accIt i X2 X10 X9 k0_t1_loop.trips) ∗ (∃ d, ow (F := F) c M12 d))) := by
  refine BI.BIBase.Entails.trans ?_ (Scf.wp_for frame (wpE (defs₀ (F := F)) Variants.none (c : Thread nD τ) none) Set.univ
    k0_t1_loop.lb k0_t1_loop.ub k0_t1_loop.st k0_t1_ok ⟨⟩ (k0_t1_body i M2 h2 M3 h3 M4 h4 M5 h5 M6 h6 M7 h7 M8 h8 M9 h9 M10 h10 M11 h11 M12 h12)
    (fun k _ => iprop(ow c M2 X2 ∗ ow c M8 X8 ∗ ow c M10 X10 ∗ ow c M11 X11
          ∗ ow c M7 (dwIt i X8 X11 X7 k) ∗ ow c M9 (accIt i X2 X10 X9 k) ∗ (∃ d, ow (F := F) c M12 d))) ?_)
  · iintro H
    isplitl [H]
    · iexact H
    · iintro %acc H
      iexact H
  · intro k acc
    have := trip_run c i M2 h2 M3 h3 M4 h4 M5 h5 M6 h6 M7 h7 M8 h8 M9 h9 M10 h10 M11 h11 M12 h12 k acc X2 X8 X10 X11 (dwIt i X8 X11 X7 k) (accIt i X2 X10 X9 k)
    have e7 : dwIt i X8 X11 X7 (k.val + 1) = (rStrip k).overlay (dwIt i X8 X11 X7 k) (k0_pay5 (View.ld X8 (rTile i k)) X11) := by
      conv_lhs => unfold dwIt
      exact dif_pos k.isLt
    have e9 : accIt i X2 X10 X9 (k.val + 1) = (rTile i k).overlay (accIt i X2 X10 X9 k)
        (k0_pay7 (View.ld (accIt i X2 X10 X9 k) (rTile i k)) (k0_pay6 (View.ld X2 (rStrip k))) X10) := by
      conv_lhs => unfold accIt
      exact dif_pos k.isLt
    rw [← e7, ← e9] at this
    exact this

end run
end Cert.Kernel.Hand
end
-- ==== Proof.Bits.Geo.lean ====
/-
  WHERE THE BODY'S ACCESSES FALL. The two large scratch arrays are seven blocks of 1024 rows; a grid point's `k` names
  the block it works on. Each piece's contents (Body.lean) is restated block by block: what the block of this `k` holds
  afterwards, and that every other block is as it was.
-/
module

public import proofs.«01_k».proof.Proof.Bits.Body
public import Idealize.ShloMosaic.Lib.ValueIdxCore

@[expose] public section

noncomputable section

namespace Cert.Kernel.Hand

open Cert.Kernel Cert.Kernel.Gen
open Idealize.ShloMosaic

variable {F : FTy → Type} [FloatOps F]

/-- An overlay read inside its rectangle. -/
theorem ov_in {s : Shape} {α : Type} (off size : Fin s.rank → ℕ) (inb : ∀ a, off a + size a ≤ s.size a) (X : s.Idx → α)
    (w : (Rect.unit off size inb).shape.Idx → α) (y : s.Idx) (r : (Rect.unit off size inb).shape.Idx)
    {o : Fin s.rank → ℕ} (ho : off = o) (h : ∀ a, (y a).val = o a + (r a).val) : (Rect.unit off size inb).overlay X w y = w r := by
  subst ho
  have e : (Rect.unit off size inb).emb r = y := by
    funext a; apply Fin.ext; rw [h a]; exact ValueKit.rect_emb_unit_val off size inb r a
  rw [← e, Rect.overlay_emb]

/-- An overlay read outside its rectangle. -/
theorem ov_out {s : Shape} {α : Type} (off size : Fin s.rank → ℕ) (inb : ∀ a, off a + size a ≤ s.size a) (X : s.Idx → α)
    (w : (Rect.unit off size inb).shape.Idx → α) (y : s.Idx) (a : Fin s.rank) {o : Fin s.rank → ℕ} (ho : off = o)
    (h : (y a).val < o a ∨ o a + size a ≤ (y a).val) :
    (Rect.unit off size inb).overlay X w y = X y := by
  subst ho
  apply Rect.overlay_of_not_mem
  intro hy
  rw [Rect.mem_set_unit] at hy
  have := hy a
  omega

/-- A load read at an index. -/
theorem ld_at {s : Shape} {e : EltTy} (off size : Fin s.rank → ℕ) (inb : ∀ a, off a + size a ≤ s.size a) (X : s.Idx → Elt F e)
    (r : (Rect.unit off size inb).shape.Idx) (y : s.Idx) {o : Fin s.rank → ℕ} (ho : off = o) (h : ∀ a, (y a).val = o a + (r a).val) :
    View.ld X (Rect.unit off size inb) r = X y := by
  subst ho
  exact  View.ld_unit_apply_of X off size inb r y h

/-- The grid point's `k`. -/
def kk (i : grid0.Coords) : Fin 7 := i 1

theorem trips_eq : k0_t1_loop.trips = 4 := by decide +kernel

theorem off1_eq (i : grid0.Coords) (c : Fin 4) : k0_off1 i (BitVec.ofNat 32 (256 * c.val)) = ![1024 * (kk i).val + 256 * c.val, 0] := by
  have h : ∀ (k : Fin 7) (c : Fin 4), (Scalar.indexCast (Scalar.addi (Scalar.muli (BitVec.ofNat 32 k.val) 1024#32) (BitVec.ofNat 32 (256 * c.val))) : Index).toNat
    = 1024 * k.val + 256 * c.val := by decide +kernel
  unfold k0_off1
  show ![_, _] = _
  rw [← h (kk i) c]; rfl

theorem off2_eq (i : grid0.Coords) : k0_off2 i = ![1024 * (kk i).val, 0] := by
  have h : ∀ (k : Fin 7), (Scalar.indexCast (Scalar.muli (BitVec.ofNat 32 k.val) 1024#32) : Index).toNat = 1024 * k.val := by decide +kernel
  unfold k0_off2
  show ![_, _] = _
  rw [← h (kk i)]; rfl

theorem off5_eq (i : grid0.Coords) : k0_off5 i = ![1024 * (kk i).val, 0] := off2_eq i

theorem off4_eq (c : Fin k0_t1_loop.trips) : k0_off4 c = ![256 * c.val, 0] := by
  revert c; decide +kernel

theorem off3_eq (i : grid0.Coords) (c : Fin k0_t1_loop.trips) : k0_off3 i c = ![1024 * (kk i).val + 256 * c.val, 0] := by
  have h : ∀ (k : Fin 7) (c : Fin k0_t1_loop.trips), (Scalar.indexCast (Scalar.addi (Scalar.muli (BitVec.ofNat 32 k.val) 1024#32)
      (Scalar.muli (Scf.iv 0#32 1#32 c) 256#32)) : Index).toNat = 1024 * k.val + 256 * c.val := by decide +kernel
  unfold k0_off3
  show ![_, _] = _
  rw [← h (kk i) c]; rfl

/-- Block `k` of a scratch array of 7168 rows. -/
def rows {α : Type} (X : S7168x256.Idx → α) (k : Fin 7) : S1024x256.Idx → α :=
  fun y => X (ValueIdx.ix2 ⟨1024 * k.val + (y 0).val, by have h := (y 0).isLt; have h' : (y 0).val < 1024 := h; have := k.isLt; omega⟩ (y 1))

/-- Strip `c` of a block of 1024 rows. -/
def strip {α : Type} {n : ℕ} (X : (⟨2, ![1024, n]⟩ : Shape).Idx → α) (c : Fin 4) : (⟨2, ![256, n]⟩ : Shape).Idx → α :=
  fun y => X (ValueIdx.ix2 ⟨256 * c.val + (y 0).val, by have h' : (y 0).val < 256 := (y 0).isLt; have := c.isLt; omega⟩ (y 1))

/-- The strip an index of a block of 1024 rows lies in, and its index there. -/
def stripOf {n : ℕ} (y : (⟨2, ![1024, n]⟩ : Shape).Idx) : Fin 4 := ⟨(y 0).val / 256, by have h' : (y 0).val < 1024 := (y 0).isLt; omega⟩
def inStrip {n : ℕ} (y : (⟨2, ![1024, n]⟩ : Shape).Idx) : (⟨2, ![256, n]⟩ : Shape).Idx := ValueIdx.ix2 ⟨(y 0).val % 256, Nat.mod_lt _ (by decide)⟩ (y 1)

/-- One step of the accumulator's block: the four strips of products added. -/
def accStep (A : S1024x256.Idx → Elt F .f32) (W : S1024x1024.Idx → Elt F .bf16) (D : S256x1024.Idx → Elt F .bf16) :
    S1024x256.Idx → Elt F .f32 :=
  fun y => k0_pay7 (strip A (stripOf y)) (k0_pay6 (strip W (stripOf y))) D (inStrip y)

/-- The block of `dw`: the four strips of products, scaled. -/
def dwB (T : S1024x256.Idx → Elt F .bf16) (G : S256x1024.Idx → Elt F .bf16) : S1024x1024.Idx → Elt F .f32 :=
  fun y => k0_pay5 (strip T (stripOf y)) G (inStrip y)

theorem ld_strip (X : S1024x1024.Idx → Elt F .bf16) (c : Fin k0_t1_loop.trips) :
    View.ld X (rStrip c) = strip X (c.cast trips_eq) := by
  funext r
  refine ld_at _ _ _ _ _ _ (off4_eq c) fun a => ?_
  match a with
  | ⟨0, _⟩ => rfl
  | ⟨1, _⟩ => exact (Nat.zero_add _).symm

theorem ld_tile {e : EltTy} (X : S7168x256.Idx → Elt F e) (i : grid0.Coords) (c : Fin k0_t1_loop.trips) :
    View.ld X (rTile i c) = strip (rows X (kk i)) (c.cast trips_eq) := by
  funext r
  refine ld_at _ _ _ _ _ _ (off3_eq i c) fun a => ?_
  match a with
  | ⟨0, _⟩ => exact (Nat.add_assoc _ _ _).symm
  | ⟨1, _⟩ => exact (Nat.zero_add _).symm

theorem ld_block (X : S7168x256.Idx → Elt F .f32) (i : grid0.Coords) (h : k0_cond3 i = 1#1) :
    View.ld X (Rect.unit (k0_off5 i) S1024x256.size (k0_off5_inb i h) : Rect S7168x256) = rows X (kk i) := by
  funext r
  refine ld_at _ _ _ _ _ _ (off5_eq i) fun a => ?_
  match a with
  | ⟨0, _⟩ => rfl
  | ⟨1, _⟩ => exact (Nat.zero_add _).symm

theorem dwIt_succ (i : grid0.Coords) (X8 : S7168x256.Idx → Elt F .bf16) (X11 : S256x1024.Idx → Elt F .bf16) (X7 : S1024x1024.Idx → Elt F .f32)
    (n : ℕ) (h : n < k0_t1_loop.trips) : dwIt i X8 X11 X7 (n + 1) =
      (rStrip ⟨n, h⟩).overlay (dwIt i X8 X11 X7 n) (k0_pay5 (View.ld X8 (rTile i ⟨n, h⟩)) X11) := by
  conv_lhs => unfold dwIt
  exact dif_pos h

theorem accIt_succ (i : grid0.Coords) (X2 : S1024x1024.Idx → Elt F .bf16) (X10 : S256x1024.Idx → Elt F .bf16) (X9 : S7168x256.Idx → Elt F .f32)
    (n : ℕ) (h : n < k0_t1_loop.trips) : accIt i X2 X10 X9 (n + 1) =
      (rTile i ⟨n, h⟩).overlay (accIt i X2 X10 X9 n)
        (k0_pay7 (View.ld (accIt i X2 X10 X9 n) (rTile i ⟨n, h⟩)) (k0_pay6 (View.ld X2 (rStrip ⟨n, h⟩))) X10) := by
  conv_lhs => unfold accIt
  exact dif_pos h

/-- After `n` strips, an index in one of them holds its product. -/
theorem dwIt_in (i : grid0.Coords) (X8 : S7168x256.Idx → Elt F .bf16) (X11 : S256x1024.Idx → Elt F .bf16) (X7 : S1024x1024.Idx → Elt F .f32)
    (y : S1024x1024.Idx) : ∀ n, n ≤ 4 → (y 0).val < 256 * n → dwIt i X8 X11 X7 n y = dwB (rows X8 (kk i)) X11 y
  | 0, _, h => absurd h (by omega)
  | n + 1, hn, h => by
    rw [dwIt_succ i X8 X11 X7 n (by rw [trips_eq]; omega)]
    by_cases hy : (y 0).val < 256 * n
    · rw [← dwIt_in i X8 X11 X7 y n (by omega) hy]
      exact ov_out _ _ _ _ _ _ 0 (off4_eq _) (Or.inl hy)
    · refine (ov_in (s := S1024x1024) (k0_off4 ⟨n, by rw [trips_eq]; omega⟩) S256x1024.size _ _ _ y (inStrip y) (off4_eq _) (fun a => by
        match a with
        | ⟨0, _⟩ => show (y 0).val = 256 * n + (y 0).val % 256; omega
        | ⟨1, _⟩ => exact (Nat.zero_add _).symm)).trans ?_
      rw [ld_tile]
      have : (Fin.cast trips_eq ⟨n, by rw [trips_eq]; omega⟩ : Fin 4) = stripOf y := Fin.ext (by show n = (y 0).val / 256; omega)
      rw [this]; rfl

theorem dwIt_all (i : grid0.Coords) (X8 : S7168x256.Idx → Elt F .bf16) (X11 : S256x1024.Idx → Elt F .bf16) (X7 : S1024x1024.Idx → Elt F .f32) :
    dwIt i X8 X11 X7 k0_t1_loop.trips = dwB (rows X8 (kk i)) X11 := by
  funext y
  rw [trips_eq]
  exact dwIt_in i X8 X11 X7 y 4 le_rfl (by have h' : (y 0).val < 1024 := (y 0).isLt; omega)

/-- After `n` strips, an index outside them is as it was. -/
theorem accIt_out (i : grid0.Coords) (X2 : S1024x1024.Idx → Elt F .bf16) (X10 : S256x1024.Idx → Elt F .bf16) (X9 : S7168x256.Idx → Elt F .f32)
    (y : S7168x256.Idx) : ∀ n, n ≤ 4 → ((y 0).val < 1024 * (kk i).val ∨ 1024 * (kk i).val + 256 * n ≤ (y 0).val) → accIt i X2 X10 X9 n y = X9 y
  | 0, _, h => rfl
  | n + 1, hn, h => by
    rw [accIt_succ i X2 X10 X9 n (by rw [trips_eq]; omega), ← accIt_out i X2 X10 X9 y n (by omega) (by omega)]
    refine ov_out _ _ _ _ _ _ 0 (off3_eq _ _) ?_
    show (y 0).val < 1024 * (kk i).val + 256 * n ∨ 1024 * (kk i).val + 256 * n + 256 ≤ (y 0).val
    omega

/-- After `n` strips, an index in one of them has gained its product. -/
theorem accIt_in (i : grid0.Coords) (X2 : S1024x1024.Idx → Elt F .bf16) (X10 : S256x1024.Idx → Elt F .bf16) (X9 : S7168x256.Idx → Elt F .f32)
    (y : S1024x256.Idx) : ∀ n, n ≤ 4 → (y 0).val < 256 * n → rows (accIt i X2 X10 X9 n) (kk i) y = accStep (rows X9 (kk i)) X2 X10 y
  | 0, _, h => absurd h (by omega)
  | n + 1, hn, h => by
    have hlt : n < k0_t1_loop.trips := by rw [trips_eq]; omega
    by_cases hy : (y 0).val < 256 * n
    · rw [← accIt_in i X2 X10 X9 y n (by omega) hy]
      unfold rows
      rw [accIt_succ i X2 X10 X9 n hlt]
      refine ov_out _ _ _ _ _ _ 0 (off3_eq _ _) (Or.inl ?_)
      show 1024 * (kk i).val + (y 0).val < 1024 * (kk i).val + 256 * n
      omega
    · have hld : View.ld (accIt i X2 X10 X9 n) (rTile i ⟨n, hlt⟩) = View.ld X9 (rTile i ⟨n, hlt⟩) := by
        rw [ld_tile, ld_tile]
        funext z
        refine accIt_out i X2 X10 X9 _ n (by omega) (Or.inr ?_)
        show 1024 * (kk i).val + 256 * n ≤ 1024 * (kk i).val + (256 * n + (z 0).val)
        omega
      conv_lhs => unfold rows
      rw [accIt_succ i X2 X10 X9 n hlt, hld]
      refine (ov_in (s := S7168x256) (k0_off3 i ⟨n, hlt⟩) S256x256.size _ _ _ _ (inStrip y) (off3_eq _ _) (fun a => by
        match a with
        | ⟨0, _⟩ => show 1024 * (kk i).val + (y 0).val = 1024 * (kk i).val + 256 * n + (y 0).val % 256; omega
        | ⟨1, _⟩ => exact (Nat.zero_add _).symm)).trans ?_
      rw [ld_tile, ld_strip]
      have : (Fin.cast trips_eq ⟨n, hlt⟩ : Fin 4) = stripOf y := Fin.ext (by show n = (y 0).val / 256; omega)
      rw [this]; rfl

/-- The block the loop works on gains its products; -/
theorem accIt_rows (i : grid0.Coords) (X2 : S1024x1024.Idx → Elt F .bf16) (X10 : S256x1024.Idx → Elt F .bf16) (X9 : S7168x256.Idx → Elt F .f32) :
    rows (accIt i X2 X10 X9 k0_t1_loop.trips) (kk i) = accStep (rows X9 (kk i)) X2 X10 := by
  funext y
  rw [trips_eq]
  exact accIt_in i X2 X10 X9 y 4 le_rfl (by have h' : (y 0).val < 1024 := (y 0).isLt; omega)

/-- every other block is as it was. -/
theorem accIt_rows_ne (i : grid0.Coords) (X2 : S1024x1024.Idx → Elt F .bf16) (X10 : S256x1024.Idx → Elt F .bf16) (X9 : S7168x256.Idx → Elt F .f32)
    (k : Fin 7) (hk : k.val ≠ (kk i).val) : rows (accIt i X2 X10 X9 k0_t1_loop.trips) k = rows X9 k := by
  funext y
  rw [trips_eq]
  have h' : (y 0).val < 1024 := (y 0).isLt
  refine accIt_out i X2 X10 X9 _ 4 le_rfl ?_
  show 1024 * k.val + (y 0).val < 1024 * (kk i).val ∨ 1024 * (kk i).val + 256 * 4 ≤ 1024 * k.val + (y 0).val
  omega

/-- A block laid over the seven, read at its own block and at another. -/
theorem block_in (X9 : S7168x256.Idx → Elt F .f32) (w : S1024x256.Idx → Elt F .f32) (k : Fin 7) (off : Fin 2 → ℕ) (ho : off = ![1024 * k.val, 0])
    (inb : ∀ a, off a + S1024x256.size a ≤ S7168x256.size a) :
    rows ((Rect.unit off S1024x256.size inb : Rect S7168x256).overlay X9 w) k = w := by
  funext y
  unfold rows
  refine ov_in (s := S7168x256) off S1024x256.size inb X9 w _ y ho fun a => ?_
  match a with
  | ⟨0, _⟩ => rfl
  | ⟨1, _⟩ => exact (Nat.zero_add _).symm

theorem block_out (X9 : S7168x256.Idx → Elt F .f32) (w : S1024x256.Idx → Elt F .f32) (k k' : Fin 7) (hk : k'.val ≠ k.val) (off : Fin 2 → ℕ)
    (ho : off = ![1024 * k.val, 0]) (inb : ∀ a, off a + S1024x256.size a ≤ S7168x256.size a) :
    rows ((Rect.unit off S1024x256.size inb : Rect S7168x256).overlay X9 w) k' = rows X9 k' := by
  funext y
  have h' : (y 0).val < 1024 := (y 0).isLt
  unfold rows
  refine ov_out (s := S7168x256) off S1024x256.size inb X9 w _ 0 ho ?_
  show 1024 * k'.val + (y 0).val < 1024 * k.val ∨ 1024 * k.val + 1024 ≤ 1024 * k'.val + (y 0).val
  omega

theorem zeroT_rows (i : grid0.Coords) (h : k0_cond1 i = 1#1) (X9 : S7168x256.Idx → Elt F .f32) :
    rows (zeroT i h X9) (kk i) = k0_pay2 := block_in X9 _ (kk i) _ (off2_eq i) _

theorem zeroT_rows_ne (i : grid0.Coords) (h : k0_cond1 i = 1#1) (X9 : S7168x256.Idx → Elt F .f32) (k : Fin 7) (hk : k.val ≠ (kk i).val) :
    rows (zeroT i h X9) k = rows X9 k := block_out X9 _ (kk i) k hk _ (off2_eq i) _

/-- A block of activations, transposed. -/
def tr (X : S256x1024.Idx → Elt F .bf16) : S1024x256.Idx → Elt F .bf16 := fun y => X (ValueIdx.ix2 (y 1) (y 0))

theorem tile_tr (X : S256x1024.Idx → Elt F .bf16) (off : Fin 2 → ℕ) (o : ℕ) (ho : off = ![0, o])
    (inb : ∀ a, off a + S256x256.size a ≤ S256x1024.size a) (z : S256x256.Idx) (y : S256x1024.Idx)
    (h0 : (y 0).val = (z 1).val) (h1 : (y 1).val = o + (z 0).val) :
    transpose S256x256 [1, 0] (View.ld (k0_pay9 X) (Rect.unit (s := S256x1024) off S256x256.size inb)) transposes_S256x256_p1_0_S256x256 z = X y := by
  have e9 : k0_pay9 X = X := by
    show shapeCast S256x1024 (shapeCast S256x1024 X _) _ = X
    rw [shapeCast_self, shapeCast_self]
  rw [e9]
  refine ld_at _ _ _ _ _ _ ho fun a => ?_
  match a with
  | ⟨0, _⟩ => exact h0.trans (Nat.zero_add _).symm
  | ⟨1, _⟩ => exact h1

/-- A tile of the block of transposed activations laid over, read inside and outside. -/
theorem fill_in (i : grid0.Coords) (X : S256x1024.Idx → Elt F .bf16) (c : Fin 4) (o : Fin 2 → ℕ) (hb : o = ![1024 * (kk i).val + 256 * c.val, 0])
    (inb : ∀ a, o a + S256x256.size a ≤ S7168x256.size a) (off : Fin 2 → ℕ) (ho : off = ![0, 256 * c.val])
    (inb' : ∀ a, off a + S256x256.size a ≤ S256x1024.size a) (Y : S7168x256.Idx → Elt F .bf16) (w : S256x256.Idx → Elt F .bf16)
    (hw : w = transpose S256x256 [1, 0] (View.ld (k0_pay9 X) (Rect.unit (s := S256x1024) off S256x256.size inb')) transposes_S256x256_p1_0_S256x256)
    (y : S1024x256.Idx) (hy : (y 0).val / 256 = c.val) :
    rows ((Rect.unit o S256x256.size inb : Rect S7168x256).overlay Y w) (kk i) y = tr X y := by
  subst hb
  refine (ov_in (s := S7168x256) _ S256x256.size inb Y w _ (inStrip y) rfl fun a => ?_).trans ?_
  · match a with
    | ⟨0, _⟩ => show 1024 * (kk i).val + (y 0).val = 1024 * (kk i).val + 256 * c.val + (y 0).val % 256; omega
    | ⟨1, _⟩ => exact (Nat.zero_add _).symm
  · rw [hw]
    refine tile_tr X off _ ho inb' (inStrip y) _ rfl ?_
    show (y 0).val = 256 * c.val + (y 0).val % 256
    omega

theorem fill_out (i : grid0.Coords) (c : Fin 4) (o : Fin 2 → ℕ) (hb : o = ![1024 * (kk i).val + 256 * c.val, 0])
    (inb : ∀ a, o a + S256x256.size a ≤ S7168x256.size a) (Y : S7168x256.Idx → Elt F .bf16) (w : S256x256.Idx → Elt F .bf16)
    (k : Fin 7) (y : S1024x256.Idx) (hy : k.val ≠ (kk i).val ∨ (y 0).val / 256 ≠ c.val) :
    rows ((Rect.unit o S256x256.size inb : Rect S7168x256).overlay Y w) k y = rows Y k y := by
  subst hb
  have h' : (y 0).val < 1024 := (y 0).isLt
  refine ov_out (s := S7168x256) _ S256x256.size inb Y w _ 0 rfl ?_
  have := c.isLt
  show 1024 * k.val + (y 0).val < 1024 * (kk i).val + 256 * c.val ∨ 1024 * (kk i).val + 256 * c.val + 256 ≤ 1024 * k.val + (y 0).val
  omega

theorem fillT_rows (i : grid0.Coords) (h : k0_cond1 i = 1#1) (X5 : S256x1024.Idx → Elt F .bf16) (X8 : S7168x256.Idx → Elt F .bf16) :
    rows (fillT i h X5 X8) (kk i) = tr X5 := by
  funext y
  have h' : (y 0).val < 1024 := (y 0).isLt
  have e10 : ∀ v : S256x256.Idx → Elt F .bf16, k0_pay10 v = transpose S256x256 [1, 0] v transposes_S256x256_p1_0_S256x256 := fun v => shapeCast_self _ _
  have e11 : ∀ v : S256x256.Idx → Elt F .bf16, k0_pay11 v = transpose S256x256 [1, 0] v transposes_S256x256_p1_0_S256x256 := fun v => shapeCast_self _ _
  have e12 : ∀ v : S256x256.Idx → Elt F .bf16, k0_pay12 v = transpose S256x256 [1, 0] v transposes_S256x256_p1_0_S256x256 := fun v => shapeCast_self _ _
  have e13 : ∀ v : S256x256.Idx → Elt F .bf16, k0_pay1 (k0_pay13 v) = transpose S256x256 [1, 0] v transposes_S256x256_p1_0_S256x256 := fun v => shapeCast_self _ _
  unfold fillT
  by_cases h3 : (y 0).val / 256 = 3
  · exact fill_in i X5 3 (k0_off1 i 768#32) (off1_eq i 3) _ _ rfl _ _ _ (e13 _) y h3
  rw [fill_out i 3 (k0_off1 i 768#32) (off1_eq i 3) _ _ _ _ y (Or.inr h3)]
  by_cases h2 : (y 0).val / 256 = 2
  · exact fill_in i X5 2 (k0_off1 i 512#32) (off1_eq i 2) _ _ rfl _ _ _ (e12 _) y h2
  rw [fill_out i 2 (k0_off1 i 512#32) (off1_eq i 2) _ _ _ _ y (Or.inr h2)]
  by_cases h1 : (y 0).val / 256 = 1
  · exact fill_in i X5 1 (k0_off1 i 256#32) (off1_eq i 1) _ _ rfl _ _ _ (e11 _) y h1
  rw [fill_out i 1 (k0_off1 i 256#32) (off1_eq i 1) _ _ _ _ y (Or.inr h1)]
  exact fill_in i X5 0 (k0_off1 i 0#32) (off1_eq i 0) _ _ rfl _ _ _ (e10 _) y (by show (y 0).val / 256 = 0; omega)

theorem fillT_rows_ne (i : grid0.Coords) (h : k0_cond1 i = 1#1) (X5 : S256x1024.Idx → Elt F .bf16) (X8 : S7168x256.Idx → Elt F .bf16)
    (k : Fin 7) (hk : k.val ≠ (kk i).val) : rows (fillT i h X5 X8) k = rows X8 k := by
  funext y
  unfold fillT
  rw [fill_out i 3 (k0_off1 i 768#32) (off1_eq i 3) _ _ _ _ y (Or.inl hk), fill_out i 2 (k0_off1 i 512#32) (off1_eq i 2) _ _ _ _ y (Or.inl hk),
    fill_out i 1 (k0_off1 i 256#32) (off1_eq i 1) _ _ _ _ y (Or.inl hk), fill_out i 0 (k0_off1 i 0#32) (off1_eq i 0) _ _ _ _ y (Or.inl hk)]

end Cert.Kernel.Hand
end
-- ==== Proof.Bits.Inv.lean ====
/-
  WHAT THE SCRATCH HOLDS AFTER SO MANY POINTS. Over arbitrary sequences of blocks: the accumulator's blocks as a
  recursion, the invariant, and that one point's body keeps it.
-/
module

public import proofs.«01_k».proof.Proof.Bits.Geo

@[expose] public section

noncomputable section

namespace Cert.Kernel.Hand

open Cert.Kernel Cert.Kernel.Gen
open Idealize.ShloMosaic

variable {F : FTy → Type} [FloatOps F]

/-! ## A point's coordinates and the branch conditions -/

theorem c0_val (t : Fin grid0.N) : (grid0.coords t 0).val = t.val / 7 := by
  have h := Pipeline.Grid.coords_val (G := grid0) t 0 (S := 7) (B := 18) (by decide) rfl
  have ht : t.val < 126 := lt_of_lt_of_eq t.isLt N_0
  rw [h]; omega

theorem kk_val (t : Fin grid0.N) : (kk (grid0.coords t)).val = t.val % 7 := by
  have h := Pipeline.Grid.coords_val (G := grid0) t 1 (S := 1) (B := 7) (by decide) rfl
  rw [Nat.div_one] at h
  exact h

theorem cond1_iff (t : Fin grid0.N) : k0_cond1 (grid0.coords t) = 1#1 ↔ t.val / 7 = 0 := by
  rw [← c0_val]
  have h : ∀ n : Fin 18, (Scalar.cmpi .ne (Scalar.extui (Scalar.cmpi .eq (BitVec.ofNat 32 n.val) 0#32) : BitVec 32) 0#32 = 1#1) ↔ n.val = 0 := by
    decide +kernel
  exact h (grid0.coords t 0)

theorem cond2_iff (t : Fin grid0.N) : cond2 (grid0.coords t) = 1#1 ↔ t.val % 7 = 0 := by
  rw [← kk_val]
  have h : ∀ n : Fin 7, (Scalar.cmpi .ne (Scalar.extui (Scalar.cmpi .eq (BitVec.ofNat 32 n.val) 0#32) : BitVec 32) 0#32 = 1#1) ↔ n.val = 0 := by
    decide +kernel
  exact h (kk (grid0.coords t))

theorem cond3_iff (t : Fin grid0.N) : k0_cond3 (grid0.coords t) = 1#1 ↔ t.val / 7 = 17 := by
  rw [← c0_val]
  have h : ∀ n : Fin 18, (Scalar.cmpi .ne (Scalar.extui (Scalar.cmpi .eq (BitVec.ofNat 32 n.val) 17#32) : BitVec 32) 0#32 = 1#1) ↔ n.val = 17 := by
    decide +kernel
  exact h (grid0.coords t 0)

/-! ## The contents one point leaves -/

/-- The transposed activations after a point. -/
def n8 (i : grid0.Coords) (X5 : S256x1024.Idx → Elt F .bf16) (X8 : S7168x256.Idx → Elt F .bf16) : S7168x256.Idx → Elt F .bf16 :=
  if h : k0_cond1 i = 1#1 then fillT i h X5 X8 else X8
/-- The accumulator as the loop finds it. -/
def n9 (i : grid0.Coords) (X9 : S7168x256.Idx → Elt F .f32) : S7168x256.Idx → Elt F .f32 :=
  if h : k0_cond1 i = 1#1 then zeroT i h X9 else X9
/-- The first gradient block after a point. -/
def n10 (i : grid0.Coords) (X3 X10 : S256x1024.Idx → Elt F .bf16) : S256x1024.Idx → Elt F .bf16 :=
  if cond2 i = 1#1 then k0_pay4 X3 else X10
/-- The second gradient block after a point. -/
def n11 (i : grid0.Coords) (X4 X11 : S256x1024.Idx → Elt F .bf16) : S256x1024.Idx → Elt F .bf16 :=
  if cond2 i = 1#1 then k0_pay3 X4 else X11

/-! ## The invariant -/

section inv
variable (w : ℕ → S1024x1024.Idx → Elt F .bf16) (d g x : ℕ → S256x1024.Idx → Elt F .bf16)

/-- The accumulator's block `k` after `n` of its steps: zero, then the products of the weight blocks of points
    `7 n + k` and the gradient blocks of points `7 n` added in order. -/
def ACC (k : ℕ) : ℕ → S1024x256.Idx → Elt F .f32
  | 0 => k0_pay2
  | n + 1 => accStep (ACC k n) (w (7 * n + k)) (k0_pay4 (d (7 * n)))

/-- What the four live scratch arrays hold after `t` points. -/
structure Inv (t : ℕ) (X8 : S7168x256.Idx → Elt F .bf16) (X9 : S7168x256.Idx → Elt F .f32) (X10 X11 : S256x1024.Idx → Elt F .bf16) : Prop where
  xt : ∀ k : Fin 7, k.val < t → rows X8 k = tr (x k.val)
  acc : ∀ k : Fin 7, k.val < t → rows X9 k = ACC w d k.val ((t - k.val + 6) / 7)
  dy : 0 < t → X10 = k0_pay4 (d (7 * ((t - 1) / 7)))
  gy : 0 < t → X11 = k0_pay3 (g (7 * ((t - 1) / 7)))

theorem Inv.zero (X8 : S7168x256.Idx → Elt F .bf16) (X9 : S7168x256.Idx → Elt F .f32) (X10 X11 : S256x1024.Idx → Elt F .bf16) :
    Inv w d g x 0 X8 X9 X10 X11 :=
  ⟨fun _ h => absurd h (Nat.not_lt_zero _), fun _ h => absurd h (Nat.not_lt_zero _), fun h => absurd h (lt_irrefl _),
    fun h => absurd h (lt_irrefl _)⟩

variable {w d g x}
variable {t : Fin grid0.N} {X8 : S7168x256.Idx → Elt F .bf16} {X9 : S7168x256.Idx → Elt F .f32} {X10 X11 : S256x1024.Idx → Elt F .bf16}

theorem n8_rows (h : Inv w d g x t.val X8 X9 X10 X11) (k : Fin 7) (hk : k.val < t.val + 1) :
    rows (n8 (grid0.coords t) (x t.val) X8) k = tr (x k.val) := by
  unfold n8
  by_cases h1 : k0_cond1 (grid0.coords t) = 1#1
  · rw [dif_pos h1]
    have hn := (cond1_iff t).1 h1
    have hkv := kk_val t
    by_cases e : k.val = t.val
    · have ek : k = kk (grid0.coords t) := Fin.ext (by rw [hkv]; omega)
      rw [e]; rw [ek]; exact fillT_rows _ h1 _ _
    · rw [fillT_rows_ne _ h1 _ _ k (by rw [hkv]; omega)]
      exact h.xt k (by omega)
  · rw [dif_neg h1]
    have hn : ¬ t.val / 7 = 0 := fun e => h1 ((cond1_iff t).2 e)
    have := k.isLt
    exact h.xt k (by omega)

theorem n10_eq (h : Inv w d g x t.val X8 X9 X10 X11) : n10 (grid0.coords t) (d t.val) X10 = k0_pay4 (d (7 * (t.val / 7))) := by
  unfold n10
  by_cases h2 : cond2 (grid0.coords t) = 1#1
  · rw [if_pos h2]
    have := (cond2_iff t).1 h2
    rw [show 7 * (t.val / 7) = t.val by omega]
  · rw [if_neg h2]
    have : ¬ t.val % 7 = 0 := fun e => h2 ((cond2_iff t).2 e)
    rw [h.dy (by omega), show (t.val - 1) / 7 = t.val / 7 by omega]

theorem n11_eq (h : Inv w d g x t.val X8 X9 X10 X11) : n11 (grid0.coords t) (g t.val) X11 = k0_pay3 (g (7 * (t.val / 7))) := by
  unfold n11
  by_cases h2 : cond2 (grid0.coords t) = 1#1
  · rw [if_pos h2]
    have := (cond2_iff t).1 h2
    rw [show 7 * (t.val / 7) = t.val by omega]
  · rw [if_neg h2]
    have : ¬ t.val % 7 = 0 := fun e => h2 ((cond2_iff t).2 e)
    rw [h.gy (by omega), show (t.val - 1) / 7 = t.val / 7 by omega]

theorem n9_rows (h : Inv w d g x t.val X8 X9 X10 X11) :
    rows (n9 (grid0.coords t) X9) (kk (grid0.coords t)) = ACC w d (t.val % 7) (t.val / 7) := by
  unfold n9
  by_cases h1 : k0_cond1 (grid0.coords t) = 1#1
  · rw [dif_pos h1, zeroT_rows, (cond1_iff t).1 h1]; rfl
  · rw [dif_neg h1]
    have hn : ¬ t.val / 7 = 0 := fun e => h1 ((cond1_iff t).2 e)
    have hkv := kk_val t
    rw [h.acc _ (by rw [hkv]; omega), hkv, show (t.val - t.val % 7 + 6) / 7 = t.val / 7 by omega]

theorem n9_rows_ne (k : Fin 7) (hk : k.val ≠ (kk (grid0.coords t)).val) : rows (n9 (grid0.coords t) X9) k = rows X9 k := by
  unfold n9
  by_cases h1 : k0_cond1 (grid0.coords t) = 1#1
  · rw [dif_pos h1]; exact zeroT_rows_ne _ h1 _ k hk
  · rw [dif_neg h1]

/-- The accumulator after a point. -/
abbrev a9 (w : ℕ → S1024x1024.Idx → Elt F .bf16) (d : ℕ → S256x1024.Idx → Elt F .bf16) (t : Fin grid0.N)
    (X9 : S7168x256.Idx → Elt F .f32) (X10 : S256x1024.Idx → Elt F .bf16) : S7168x256.Idx → Elt F .f32 :=
  accIt (grid0.coords t) (w t.val) (n10 (grid0.coords t) (d t.val) X10) (n9 (grid0.coords t) X9) k0_t1_loop.trips

theorem a9_rows (h : Inv w d g x t.val X8 X9 X10 X11) :
    rows (a9 w d t X9 X10) (kk (grid0.coords t)) = ACC w d (t.val % 7) (t.val / 7 + 1) := by
  unfold a9
  rw [accIt_rows, n9_rows h, n10_eq h, ACC, show 7 * (t.val / 7) + t.val % 7 = t.val by omega]

/-- One point's body keeps the invariant. -/
theorem Inv.step (h : Inv w d g x t.val X8 X9 X10 X11) :
    Inv w d g x (t.val + 1) (n8 (grid0.coords t) (x t.val) X8) (a9 w d t X9 X10)
      (n10 (grid0.coords t) (d t.val) X10) (n11 (grid0.coords t) (g t.val) X11) where
  xt k hk := n8_rows h k hk
  acc k hk := by
    have hkv := kk_val t
    by_cases e : k.val = t.val % 7
    · have ek : k = kk (grid0.coords t) := Fin.ext (by rw [hkv]; exact e)
      rw [e, show (t.val + 1 - t.val % 7 + 6) / 7 = t.val / 7 + 1 by omega]
      subst ek
      exact a9_rows h
    · have := k.isLt
      unfold a9
      rw [accIt_rows_ne _ _ _ _ k (by rw [hkv]; exact e), n9_rows_ne k (by rw [hkv]; exact e), h.acc k (by omega),
        show (t.val + 1 - k.val + 6) / 7 = (t.val - k.val + 6) / 7 by omega]
  dy _ := by rw [Nat.add_sub_cancel]; exact n10_eq h
  gy _ := by rw [Nat.add_sub_cancel]; exact n11_eq h

/-- What a point writes to the block of `dw`. -/
theorem dw_at (h : Inv w d g x t.val X8 X9 X10 X11) (X7 : S1024x1024.Idx → Elt F .f32) :
    dwIt (grid0.coords t) (n8 (grid0.coords t) (x t.val) X8) (n11 (grid0.coords t) (g t.val) X11) X7 k0_t1_loop.trips
      = dwB (tr (x (t.val % 7))) (k0_pay3 (g (7 * (t.val / 7)))) := by
  rw [dwIt_all, n11_eq h, n8_rows h _ (by rw [kk_val]; omega), kk_val]

/-- What a point of the last `n` writes to the block of `dx`. -/
theorem dx_at (h : Inv w d g x t.val X8 X9 X10 X11) (h3 : k0_cond3 (grid0.coords t) = 1#1) :
    k0_pay8 (View.ld (a9 w d t X9 X10) (Rect.unit (k0_off5 (grid0.coords t)) S1024x256.size (k0_off5_inb (grid0.coords t) h3) : Rect S7168x256))
      = k0_pay8 (ACC w d (t.val % 7) 18) := by
  rw [ld_block _ _ h3, a9_rows h, (cond3_iff t).1 h3]

end inv

end Cert.Kernel.Hand

end
-- ==== Proof.Bits.Run.lean ====
/-
  THE WHOLE RUN. The four pieces of the body chained at arbitrary contents; the proof data of the grid's pipeline with
  the invariant of Inv.lean on the scratch; the body's obligation; the run and the frame.
-/
module

public import proofs.«01_k».proof.Proof.Bits.Inv

@[expose] public section

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at arbitrary contents -/

section body
variable (c : Dev nD) (i : grid0.Coords)
  (M2 : Memref sig .tc .vmem S1024x1024 .bf16) (h2 : M2.IsWhole) (M3 : Memref sig .tc .vmem S256x1024 .bf16) (h3 : M3.IsWhole)
  (M4 : Memref sig .tc .vmem S256x1024 .bf16) (h4 : M4.IsWhole) (M5 : Memref sig .tc .vmem S256x1024 .bf16) (h5 : M5.IsWhole)
  (M6 : Memref sig .tc .vmem S256x1024 .bf16) (h6 : M6.IsWhole) (M7 : Memref sig .tc .vmem S1024x1024 .f32) (h7 : M7.IsWhole)
  (M8 : Memref sig .tc .vmem S7168x256 .bf16) (h8 : M8.IsWhole) (M9 : Memref sig .tc .vmem S7168x256 .f32) (h9 : M9.IsWhole)
  (M10 : Memref sig .tc .vmem S256x1024 .bf16) (h10 : M10.IsWhole) (M11 : Memref sig .tc .vmem S256x1024 .bf16) (h11 : M11.IsWhole)
  (M12 : Memref sig .tc .vmem S256x1024 .bf16) (h12 : M12.IsWhole)

/-- The block of `dx` after a point. -/
def n6 (i : grid0.Coords) (X9 : S7168x256.Idx → Elt F .f32) (X6 : S256x1024.Idx → Elt F .bf16) : S256x1024.Idx → Elt F .bf16 :=
  if h : k0_cond3 i = 1#1 then k0_pay8 (View.ld X9 (Rect.unit (k0_off5 i) S1024x256.size (k0_off5_inb i h) : Rect S7168x256)) else X6

/-- The whole body at arbitrary contents. -/
theorem body_run (X2 : S1024x1024.Idx → Elt F .bf16) (X3 X4 X5 X6 : S256x1024.Idx → Elt F .bf16) (X7 : S1024x1024.Idx → Elt F .f32)
    (X8 : S7168x256.Idx → Elt F .bf16) (X9 : S7168x256.Idx → Elt F .f32) (X10 X11 : S256x1024.Idx → Elt F .bf16) :
    iprop(ow c M2 X2 ∗ ow c M3 X3 ∗ ow c M4 X4 ∗ ow c M5 X5 ∗ ow c M6 X6 ∗ ow c M7 X7 ∗ ow c M8 X8 ∗ ow c M9 X9 ∗ ow c M10 X10
      ∗ ow c M11 X11 ∗ (∃ d, ow (F := F) c M12 d))
    ⊢ wp frame (wpE (defs₀ (F := F)) Variants.none (c : Thread nD τ) none) Set.univ
        (cc0_mxfp4_bwd i M2 h2 M3 h3 M4 h4 M5 h5 M6 h6 M7 h7 M8 h8 M9 h9 M10 h10 M11 h11 M12 h12)
        (fun _ => iprop(ow c M2 X2 ∗ ow c M3 X3 ∗ ow c M4 X4 ∗ ow c M5 X5
          ∗ ow c M6 (n6 i (accIt i X2 (n10 i X3 X10) (n9 i X9) k0_t1_loop.trips) X6)
          ∗ ow c M7 (dwIt i (n8 i X5 X8) (n11 i X4 X11) X7 k0_t1_loop.trips)
          ∗ ow c M8 (n8 i X5 X8) ∗ ow c M9 (accIt i X2 (n10 i X3 X10) (n9 i X9) k0_t1_loop.trips) ∗ ow c M10 (n10 i X3 X10)
          ∗ ow c M11 (n11 i X4 X11) ∗ (∃ d, ow (F := F) c M12 d))) := by
  rw [body_eq]
  simp only [wp_bind]
  iintro ⟨H2, H3, H4, H5, H6, H7, H8, H9, H10, H11, H12⟩
  iapply wp_wand_r
  isplitl [H5 H8 H9 H12]
  · iapply (segA_run c i M2 h2 M3 h3 M4 h4 M5 h5 M6 h6 M7 h7 M8 h8 M9 h9 M10 h10 M11 h11 M12 h12 X5 X8 X9)
    isplitl [H5]; · iexact H5
    isplitl [H8]; · iexact H8
    isplitl [H9]; · iexact H9
    iexact H12
  iintro %_ ⟨H5, H8, H9, H12⟩
  iapply wp_wand_r
  isplitl [H3 H4 H10 H11]
  · iapply (segB_run c i M3 M4 M10 h10 M11 h11 X3 X4 X10 X11)
    isplitl [H3]; · iexact H3
    isplitl [H4]; · iexact H4
    isplitl [H10]; · iexact H10
    iexact H11
  iintro %_ ⟨H3, H4, H10, H11⟩
  iapply wp_wand_r
  isplitl [H2 H8 H10 H11 H7 H9 H12]
  · iapply (segC_run c i M2 h2 M3 h3 M4 h4 M5 h5 M6 h6 M7 h7 M8 h8 M9 h9 M10 h10 M11 h11 M12 h12 X2 (n8 i X5 X8) (n10 i X3 X10) (n11 i X4 X11) X7 (n9 i X9))
    isplitl [H2]; · iexact H2
    isplitl [H8]; · iexact H8
    isplitl [H10]; · iexact H10
    isplitl [H11]; · iexact H11
    isplitl [H7]; · iexact H7
    isplitl [H9]; · iexact H9
    iexact H12
  iintro %_ ⟨H2, H8, H10, H11, H7, H9, H12⟩
  iapply wp_wand_r
  isplitl [H6 H9]
  · iapply (segD_run c i M6 h6 M9 X6 (accIt i X2 (n10 i X3 X10) (n9 i X9) k0_t1_loop.trips))
    isplitl [H6]; · iexact H6
    iexact H9
  iintro %_ ⟨H6, H9⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end body

/-! ## The pipeline's proof data -/

variable (m : (ℓ : Loc nD τ sig) → Buf (Elt F) ℓ) (ρ : Dev nD → PrngReg)

/-- Point `n`, for any `n`. -/
def pt (n : ℕ) : Fin cfg0.N := ⟨n % 126, lt_of_lt_of_eq (Nat.mod_lt n (by decide)) N_0.symm⟩

theorem pt_val (t : Fin cfg0.N) : pt t.val = t := Fin.ext (Nat.mod_eq_of_lt (lt_of_lt_of_eq t.isLt N_0))

/-- The block of weights at point `n`. -/
def wB (c : Dev nD) (n : ℕ) : S1024x1024.Idx → Elt F .bf16 := iblk m c 0 (pt n)
/-- The block of the first gradient at point `n`. -/
def dB (c : Dev nD) (n : ℕ) : S256x1024.Idx → Elt F .bf16 := iblk m c 1 (pt n)
/-- The block of the second gradient at point `n`. -/
def gB (c : Dev nD) (n : ℕ) : S256x1024.Idx → Elt F .bf16 := iblk m c 2 (pt n)
/-- The block of activations at point `n`. -/
def xB (c : Dev nD) (n : ℕ) : S256x1024.Idx → Elt F .bf16 := iblk m c 3 (pt n)

theorem wB_val (c : Dev nD) (t : Fin cfg0.N) : wB m c t.val = iblk m c 0 t := by unfold wB; rw [pt_val]
theorem dB_val (c : Dev nD) (t : Fin cfg0.N) : dB m c t.val = iblk m c 1 t := by unfold dB; rw [pt_val]
theorem gB_val (c : Dev nD) (t : Fin cfg0.N) : gB m c t.val = iblk m c 2 t := by unfold gB; rw [pt_val]
theorem xB_val (c : Dev nD) (t : Fin cfg0.N) : xB m c t.val = iblk m c 3 t := by unfold xB; rw [pt_val]

/-- The block of `dx` written at point `t` of the last `n`. -/
def dxBlk (c : Dev nD) (t : ℕ) : S256x1024.Idx → Elt F .bf16 := k0_pay8 (ACC (wB m c) (dB m c) (t % 7) 18)
/-- The block of `dw` written at point `t`. -/
def dwBlk (c : Dev nD) (t : ℕ) : S1024x1024.Idx → Elt F .f32 := dwB (tr (xB m c (t % 7))) (k0_pay3 (gB m c (7 * (t / 7))))

/-- The scratch after `t` points: the four live arrays at contents satisfying the invariant, the fifth at any. -/
def PhiS (c : Dev nD) (t : ℕ) : sProp 𝕄 :=
  iprop((∃ X8 X9 X10 X11, ⌜Inv (wB m c) (dB m c) (gB m c) (xB m c) t X8 X9 X10 X11⌝
      ∗ ow c (Memref.whole cc0_scratch0) X8 ∗ ow c (Memref.whole cc0_scratch1) X9 ∗ ow c (Memref.whole cc0_scratch2) X10
      ∗ ow c (Memref.whole cc0_scratch3) X11 ∗ (∃ d, ow (F := F) c (Memref.whole cc0_scratch4) d))
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dxBlk m c t.val
    | ⟨5, _⟩ => dwBlk m c t.val
    | ⟨_ + 6, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = dxBlk m c t.val := by dsimp only [dats]
theorem after0_5 (c : Dev nD) (t : Fin cfg0.N) : (dats m 0 c).after 5 t = dwBlk m c t.val := by dsimp only [dats]

theorem Phi_pre (c : Dev nD) (t : Fin cfg0.N) : (dats m 0 c).Φ t.castSucc = PhiS m c t.val := by
  dsimp only [dats]; exact Pipeline.Dat.Φ_castSucc (fun n _ => PhiS m c n) t
theorem Phi_post (c : Dev nD) (t : Fin cfg0.N) : (dats m 0 c).Φ t.succ = PhiS m c (t.val + 1) := by
  dsimp only [dats]; rfl

theorem before0_0 (c : Dev nD) (t : Fin cfg0.N) (d) : (dats m 0 c).before 0 t d = wB m c t.val :=
  (before0_0_of m (dats m 0 c) (A_eq m c 0) (after0_0 m c) t d).trans (wB_val m c t).symm
theorem before0_1 (c : Dev nD) (t : Fin cfg0.N) (d) : (dats m 0 c).before 1 t d = dB m c t.val :=
  (before0_1_of m (dats m 0 c) (A_eq m c 1) (after0_1 m c) t d).trans (dB_val m c t).symm
theorem before0_2 (c : Dev nD) (t : Fin cfg0.N) (d) : (dats m 0 c).before 2 t d = gB m c t.val :=
  (before0_2_of m (dats m 0 c) (A_eq m c 2) (after0_2 m c) t d).trans (gB_val m c t).symm
theorem before0_3 (c : Dev nD) (t : Fin cfg0.N) (d) : (dats m 0 c).before 3 t d = xB m c t.val :=
  (before0_3_of m (dats m 0 c) (A_eq m c 3) (after0_3 m c) t d).trans (xB_val m c t).symm

/-- Window 4 is not written back before the last `n`. -/
theorem flush0_4 : ∀ t : Fin cfg0.N, t.val / 7 ≠ 17 → (cfg0.win 4).flush t = false := by
  have h : ∀ t : Fin grid0.N, t.val / 7 ≠ 17 → win0_4.flush t = false := by decide +kernel
  exact h

/-- What a point leaves in window 4's staging buffer: written on the last `n`, in place before it. -/
def post4 (c : Dev nD) (t : Fin cfg0.N) : sProp 𝕄 :=
  if t.val / 7 = 17 then owns (c : Thread nD τ) (st0_4 t) fullShare ((dats m 0 c).after 4 t)
  else iprop(∃ d, owns (c : Thread nD τ) (st0_4 t) fullShare ((dats m 0 c).before 4 t d))

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ post4 m c t
    ∗ owns (c : Thread nD τ) (st0_5 t) fullShare ((dats m 0 c).after 5 t))

theorem n6_post (c : Dev nD) (t : Fin cfg0.N) (X8 : S7168x256.Idx → Elt F .bf16) (X9 : S7168x256.Idx → Elt F .f32) (X10 X11 : S256x1024.Idx → Elt F .bf16)
    (h : Inv (wB m c) (dB m c) (gB m c) (xB m c) t.val X8 X9 X10 X11) (d) :
    owns (c : Thread nD τ) (st0_4 t) fullShare (n6 (grid0.coords t) (a9 (wB m c) (dB m c) t X9 X10) ((dats m 0 c).before 4 t d))
      ⊢ post4 m c t := by
  unfold post4 n6
  by_cases h3 : k0_cond3 (grid0.coords t) = 1#1
  · rw [dif_pos h3, if_pos ((cond3_iff t).1 h3), after0_4, dx_at h h3]
    exact .rfl
  · rw [dif_neg h3, if_neg fun e => h3 ((cond3_iff t).2 e)]
    iintro H; iexists d; iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_pre, Phi_post, after0_0, after0_1, after0_2, after0_3, after0_5]
  simp only [before0_0, before0_1, before0_2, before0_3]
  unfold PhiS Dat.owesAt Pipeline.owesWithin
  rw [show (dats m 0 c).owed t.castSucc = 0 from rfl, show (dats m 0 c).owed t.succ = 0 from rfl]
  iintro ⟨⟨⟨%X8, %X9, %X10, %X11, %hI, HS0, HS1, HS2, HS3, HS4⟩, Hg⟩, ⟨%W, -, HW⟩, ⟨%d0, H0⟩, ⟨%d1, H1⟩, ⟨%d2, H2⟩, ⟨%d3, H3⟩, ⟨%d4, H4⟩, ⟨%d5, H5⟩⟩
  iapply wp_wand_r
  isplitl [HS0 HS1 HS2 HS3 HS4 H0 H1 H2 H3 H4 H5]
  · iapply (body_run c (grid0.coords t) _ _ _ _ _ _ _ _ _ _ _ _ _ _ _ _ _ _ _ _ _ _ (wB m c t.val) (dB m c t.val) (gB m c t.val) (xB m c t.val)
      ((dats m 0 c).before 4 t d4) ((dats m 0 c).before 5 t d5) X8 X9 X10 X11)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iexact HS4
  iintro %_ ⟨H0, H1, H2, H3, H4, H5, HS0, HS1, HS2, HS3, HS4⟩
  isplitl [HS0 HS1 HS2 HS3 HS4 Hg]
  · isplitl [HS0 HS1 HS2 HS3 HS4]
    · iexists _, _, _, _
      isplitr
      · ipureintro; exact hI.step
      isplitl [HS0]; · iexact HS0
      isplitl [HS1]; · iexact HS1
      isplitl [HS2]; · iexact HS2
      isplitl [HS3]; · iexact HS3
      iexact HS4
    iexact Hg
  isplitl [HW]
  · iexists W; isplitr; · ipureintro; exact fun _ _ => Or.inl trivial
    iexact HW
  isplitl [H0]; · rw [← wB_val]; iexact H0
  isplitl [H1]; · rw [← dB_val]; iexact H1
  isplitl [H2]; · rw [← gB_val]; iexact H2
  isplitl [H3]; · rw [← xB_val]; iexact H3
  isplitl [H4]; · iapply (n6_post m c t X8 X9 X10 X11 hI d4); iexact H4
  rw [show dwBlk m c t.val = _ from (dw_at hI ((dats m 0 c).before 5 t d5)).symm]
  iexact H5

theorem defs₀_row (t : Fin cfg0.N) :
    defs₀ (F := F) .tc cfg0.body (cfg0.bodyArgs t (cfg0.slots t)) = bodyAt0 t := by
  unfold defs₀; rw [Defs.onTc_tc]

/-- Window 4's clause of the body's post, at its two kinds of points. -/
theorem post4_eq (c : Dev nD) (t : Fin cfg0.N) :
    (match cfg0.idle 4 (cfg0.grid.coords t) with
      | true => (match (cfg0.win 4).flush t with
        | false => iprop(∃ d, owns (c : Thread nD τ) (st0_4 t) fullShare ((dats m 0 c).before 4 t d))
        | true => owns (c : Thread nD τ) (st0_4 t) fullShare ((dats m 0 c).after 4 t))
      | false => owns (c : Thread nD τ) (st0_4 t) fullShare ((dats m 0 c).after 4 t) : sProp 𝕄) = post4 m c t := by
  unfold post4
  by_cases h : t.val / 7 = 17
  · rw [show cfg0.idle 4 (cfg0.grid.coords t) = false from by
      show (!(k0_cond3 (grid0.coords t) == 1#1)) = false
      rw [(cond3_iff t).2 h]; rfl, if_pos h]
  · rw [show cfg0.idle 4 (cfg0.grid.coords t) = true from by
      show (!(k0_cond3 (grid0.coords t) == 1#1)) = true
      have : ¬ k0_cond3 (grid0.coords t) = 1#1 := fun e => h ((cond3_iff t).1 e)
      simp [this], flush0_4 t h, if_neg h]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  rw [← post4_eq]
  exact .rfl

/-! ## The run and the frame -/

theorem scratch_eq (c : Dev nD) :
    (Pipeline.scopedRest (Ix := Unit) (Name := ℕ) (U := UR sig nD τ) (Lvl := ℕ) (Val := Elt F) spec0 c : sProp 𝕄)
      = iprop((∃ d, ow (F := F) c (Memref.whole cc0_scratch0) d) ∗ (∃ d, ow (F := F) c (Memref.whole cc0_scratch1) d)
        ∗ (∃ d, ow (F := F) c (Memref.whole cc0_scratch2) d) ∗ (∃ d, ow (F := F) c (Memref.whole cc0_scratch3) d)
        ∗ (∃ d, ow (F := F) c (Memref.whole cc0_scratch4) d)) := by
  rw [scopedRest0_eq]
  unfold ow
  simp only [owns_whole]; try rfl

theorem Phi_in (c : Dev nD) : (Pipeline.ΦA spec0 c : sProp 𝕄) ⊢ (dats m 0 c).Φ 0 := by
  show (Pipeline.ΦA spec0 c : sProp 𝕄) ⊢ PhiS m c 0
  unfold Pipeline.ΦA PhiS
  rw [scratch_eq]
  iintro ⟨⟨⟨%X8, H0⟩, ⟨%X9, H1⟩, ⟨%X10, H2⟩, ⟨%X11, H3⟩, H4⟩, Hg⟩
  isplitl [H0 H1 H2 H3 H4]
  · iexists X8, X9, X10, X11
    isplitr
    · ipureintro; exact Inv.zero _ _ _ _ X8 X9 X10 X11
    isplitl [H0]; · iexact H0
    isplitl [H1]; · iexact H1
    isplitl [H2]; · iexact H2
    isplitl [H3]; · iexact H3
    iexact H4
  iexact Hg

theorem Phi_out (c : Dev nD) : (dats m 0 c).Φ (Fin.last cfg0.N) ⊢ (Pipeline.ΦA spec0 c : sProp 𝕄) := by
  show PhiS m c _ ⊢ (Pipeline.ΦA spec0 c : sProp 𝕄)
  unfold Pipeline.ΦA PhiS
  rw [scratch_eq]
  iintro ⟨⟨%X8, %X9, %X10, %X11, %_, H0, H1, H2, H3, H4⟩, Hg⟩
  isplitl [H0 H1 H2 H3 H4]
  · isplitl [H0]; · iexists X8; iexact H0
    isplitl [H1]; · iexists X9; iexact H1
    isplitl [H2]; · iexists X10; iexact H2
    isplitl [H3]; · iexists X11; iexact H3
    iexact H4
  iexact Hg

set_option backward.isDefEq.respectTransparency.types false in
/-- The kernel's run ends, every array as the pipeline's data says and every semaphore back at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := Phi_in m) (hout := Phi_out m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_main m ρ))

end Cert.Kernel.Hand

end
-- ==== Proof.Ideal.Body.lean ====
/-
  THE KERNEL'S BODY, RUN ONCE. The body at a grid point is four pieces one after the other: on the first `n` it fills
  its block of the transposed activations and zeroes its block of the accumulator; on the first `k` it copies the two
  gradient blocks into scratch; a loop of four strips computes a strip of `dw` and adds a strip of products to the
  accumulator; on the last `n` it writes the block of `dx`. Here each piece is run at arbitrary contents, and what it
  leaves is stated as contents overlaid on contents.
-/
module

public import proofs.«01_k».proof.Proof.Gen.KernelIdeal.Frame
public import proofs.«01_k».proof.Proof.Gen.KernelIdeal.Skeleton
public import Idealize.ShloMosaic.Lib.Tactic
public import Idealize.ShloMosaic.Lib.Pipeline.Kit
public import Idealize.ShloMosaic.Lib.WritesUnit
public import Idealize.ShloMosaic.Lib.Pipeline.ValueKit

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- What a view reads after one more write is the write's payload laid over what it read before. -/
theorem read_writes_cons {sp : Space} {s : Shape} {e : EltTy} (v : View sig .tc sp s e) (f : v.ty.Contents (Elt F))
    (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

/-- The rectangles the body's accesses name. -/
abbrev rTile (i : grid0.Coords) (k : Fin k0_t1_loop.trips) : Rect S7168x256 := Rect.unit (k0_off3 i k) S256x256.size (k0_off3_inb i k)
abbrev rStrip (k : Fin k0_t1_loop.trips) : Rect S1024x1024 := Rect.unit (k0_off4 k) S256x1024.size (k0_off4_inb k)

/-- What a view reads after one write of its whole shape. -/
theorem read_writes_whole {sp : Space} {s : Shape} {e : EltTy} (v : View sig .tc sp s e) (f : v.ty.Contents (Elt F))
    {off : Fin s.rank → ℕ} (h : ∀ a, off a = 0) (inb : ∀ a, off a + s.size a ≤ s.size a) (w : s.Idx → Elt F e)
    (L : List (View.Piece (Elt F) s e)) :
    v.read (Elt F) (v.writes (Elt F) f (⟨Rect.unit off s.size inb, w⟩ :: L)) = w := by
  obtain rfl : off = fun _ => 0 := funext h
  rw [read_writes_cons]
  funext y
  have hy : (Rect.unit (fun _ => 0) s.size inb).emb y = y := by
    funext a; exact Fin.ext (by simp [Rect.emb, Rect.unit])
  conv_lhs => rw [← hy]
  exact Rect.overlay_emb _ _ _ _

/-- Reading all of a contents through the rectangle of its whole shape. -/
theorem ld_whole {s : Shape} {e : EltTy} {off : Fin s.rank → ℕ} (h : ∀ a, off a = 0) (inb : ∀ a, off a + s.size a ≤ s.size a)
    (X : s.Idx → Elt F e) : View.ld X (Rect.unit off s.size inb) = X := View.ld_unit_lit inb X h

/-- A load covered by one store of the whole shape reads what was stored. -/
theorem readCov_whole {sp : Space} {s : Shape} {e : EltTy} {v : View sig .tc sp s e} {off : Fin s.rank → ℕ} (h : ∀ a, off a = 0)
    (inb : ∀ a, off a + s.size a ≤ s.size a) (w : s.Idx → Elt F e) (r : Rect s) :
    v.readCov [⟨Rect.unit off s.size inb, w⟩] r.toLoadRect = View.ld w r := by
  rw [View.readCov_eq_canon_ld _ _ _ (fun y => ⟨_, List.mem_singleton_self _, View.mem_set_unit_zero (funext h) inb y⟩),
    View.canon_unit_zero (funext h)]

theorem z2 : ∀ a, (![0, 0] : Fin 2 → ℕ) a = 0 := by decide

/-- The second condition: the grid's `k` is zero. -/
def cond2 (i : grid0.Coords) : BitVec 1 :=
  let v3 : BitVec 1 := Scalar.cmpi .eq (BitVec.ofNat 32 (i 1).val) 0#32
  let v4 : BitVec 32 := Scalar.extui v3
  Scalar.cmpi .ne v4 0#32

section run
variable (c : Dev nD) (i : grid0.Coords)
  (M2 : Memref sig .tc .vmem S1024x1024 .bf16) (h2 : M2.IsWhole) (M3 : Memref sig .tc .vmem S256x1024 .bf16) (h3 : M3.IsWhole)
  (M4 : Memref sig .tc .vmem S256x1024 .bf16) (h4 : M4.IsWhole) (M5 : Memref sig .tc .vmem S256x1024 .bf16) (h5 : M5.IsWhole)
  (M6 : Memref sig .tc .vmem S256x1024 .bf16) (h6 : M6.IsWhole) (M7 : Memref sig .tc .vmem S1024x1024 .f32) (h7 : M7.IsWhole)
  (M8 : Memref sig .tc .vmem S7168x256 .bf16) (h8 : M8.IsWhole) (M9 : Memref sig .tc .vmem S7168x256 .f32) (h9 : M9.IsWhole)
  (M10 : Memref sig .tc .vmem S256x1024 .bf16) (h10 : M10.IsWhole) (M11 : Memref sig .tc .vmem S256x1024 .bf16) (h11 : M11.IsWhole)
  (M12 : Memref sig .tc .vmem S256x1024 .bf16) (h12 : M12.IsWhole)

/-- A memref held whole at contents that read `X`. -/
abbrev ow {sp : Space} {s : Shape} {e : EltTy} (M : Memref sig .tc sp s e) (X : s.Idx → Elt F e) : sProp 𝕄 :=
  owns (c : Thread nD τ) M fullShare X

/-- The transposed activations with one block filled: the four tiles of the block, transposed. -/
def fillT (i : grid0.Coords) (h : k0_cond1 i = 1#1) (X5 : S256x1024.Idx → Elt F .bf16) (X8 : S7168x256.Idx → Elt F .bf16) :
    S7168x256.Idx → Elt F .bf16 :=
  (Rect.unit (k0_off1 i 768#32) S256x256.size (k0_off1_inb i h 3) : Rect S7168x256).overlay ((Rect.unit (k0_off1 i 512#32) S256x256.size (k0_off1_inb i h 2) : Rect S7168x256).overlay ((Rect.unit (k0_off1 i 256#32) S256x256.size (k0_off1_inb i h 1) : Rect S7168x256).overlay ((Rect.unit (k0_off1 i 0#32) S256x256.size (k0_off1_inb i h 0) : Rect S7168x256).overlay X8
    (k0_pay10 (View.ld (k0_pay9 X5) (Rect.unit (s := S256x1024) ![0, 0] S256x256.size inb_S256x1024_S256x256_0_0))))
    (k0_pay11 (View.ld (k0_pay9 X5) (Rect.unit (s := S256x1024) ![0, 256] S256x256.size inb_S256x1024_S256x256_0_256))))
    (k0_pay12 (View.ld (k0_pay9 X5) (Rect.unit (s := S256x1024) ![0, 512] S256x256.size inb_S256x1024_S256x256_0_512))))
    (k0_pay1 (k0_pay13 (View.ld (k0_pay9 X5) (Rect.unit (s := S256x1024) ![0, 768] S256x256.size inb_S256x1024_S256x256_0_768))))

/-- The accumulator with one block zeroed. -/
def zeroT (i : grid0.Coords) (h : k0_cond1 i = 1#1) (X9 : S7168x256.Idx → Elt F .f32) : S7168x256.Idx → Elt F .f32 :=
  (Rect.unit (k0_off2 i) S1024x256.size (k0_off2_inb i h) : Rect S7168x256).overlay X9 (k0_pay2 (F := F))

/-- The block of `dw` after `k` strips. -/
def dwIt (i : grid0.Coords) (X8 : S7168x256.Idx → Elt F .bf16) (X11 : S256x1024.Idx → Elt F .bf16) (X7 : S1024x1024.Idx → Elt F .f32) :
    ℕ → S1024x1024.Idx → Elt F .f32
  | 0 => X7
  | k + 1 => if h : k < k0_t1_loop.trips then
      (rStrip ⟨k, h⟩).overlay (dwIt i X8 X11 X7 k) (k0_pay5 (View.ld X8 (rTile i ⟨k, h⟩)) X11) else dwIt i X8 X11 X7 k

/-- The accumulator after `k` strips. -/
def accIt (i : grid0.Coords) (X2 : S1024x1024.Idx → Elt F .bf16) (X10 : S256x1024.Idx → Elt F .bf16) (X9 : S7168x256.Idx → Elt F .f32) :
    ℕ → S7168x256.Idx → Elt F .f32
  | 0 => X9
  | k + 1 => if h : k < k0_t1_loop.trips then
      (rTile i ⟨k, h⟩).overlay (accIt i X2 X10 X9 k)
        (k0_pay7 (View.ld (accIt i X2 X10 X9 k) (rTile i ⟨k, h⟩)) (k0_pay6 (View.ld X2 (rStrip ⟨k, h⟩))) X10) else accIt i X2 X10 X9 k

/-- The first piece: on the first `n`, the block of transposed activations and the block of zeros. -/
def segA : Prog (TpuEff nD τ sig (Elt F) Λ₀ .tc) PUnit :=
  if k0_h1 : k0_cond1 i = 1#1 then do
    let ⟨v43, _⟩ : Σ' (v43 : FVec F S256x256 .bf16), BitVec 32 ← k0_part1 i M2 h2 M3 h3 M4 h4 M5 h5 M6 h6 M7 h7 M8 h8 M9 h9 M10 h10 M11 h11 M12 h12 (BitVec.ofNat 32 (i 1).val) k0_h1
    let v48 : Vec F S256x256 .bf16 ← Prog.lift (.load M8 (Rect.unit (s := S7168x256) (k0_off1 i 768#32) S256x256.size (k0_off1_inb i k0_h1 3)).toLoadRect (View.loadsAt_vmem h_S256x256))
    Prog.lift (.store M8 (Rect.unit (s := S7168x256) (k0_off1 i 768#32) S256x256.size (k0_off1_inb i k0_h1 3)) (k0_pay1 v43) Finset.univ (View.stores_vmem h_S256x256 (h8.storeExact_slice rfl _ (k0_off1_packedbf16 i k0_h1 3)) (fun _ => rfl)) (.inl rfl))
    let v55 : Vec F S1024x256 .f32 ← Prog.lift (.load M9 (Rect.unit (s := S7168x256) (k0_off2 i) S1024x256.size (k0_off2_inb i k0_h1)).toLoadRect (View.loadsAt_vmem h_S1024x256))
    Prog.lift (.store M9 (Rect.unit (s := S7168x256) (k0_off2 i) S1024x256.size (k0_off2_inb i k0_h1)) (k0_pay2 (F := F)) Finset.univ (View.stores_vmem_bits_univ h_S1024x256 rfl) (.inl rfl))
    pure ⟨⟩
  else pure ⟨⟩

/-- The second piece: on the first `k`, the two gradient blocks copied into scratch. -/
def segB : Prog (TpuEff nD τ sig (Elt F) Λ₀ .tc) PUnit :=
  if k0_h2 : cond2 i = 1#1 then do
    let v10 : Vec F S256x1024 .bf16 ← Prog.lift (.load M4 (Rect.unit (s := S256x1024) ![0, 0] S256x1024.size inb_S256x1024_S256x1024_0_0).toLoadRect (View.loadsAt_vmem h_S256x1024))
    let v12 : Vec F S256x1024 .bf16 ← Prog.lift (.load M11 (Rect.unit (s := S256x1024) ![0, 0] S256x1024.size inb_S256x1024_S256x1024_0_0).toLoadRect (View.loadsAt_vmem h_S256x1024))
    Prog.lift (.store M11 (Rect.unit (s := S256x1024) ![0, 0] S256x1024.size inb_S256x1024_S256x1024_0_0) (k0_pay3 v10) Finset.univ (View.stores_vmem h_S256x1024 (h11.storeExact_slice rfl _ packedbf16_S256x1024_S256x1024_0_0) (fun _ => rfl)) (.inl rfl))
    let v15 : Vec F S256x1024 .bf16 ← Prog.lift (.load M3 (Rect.unit (s := S256x1024) ![0, 0] S256x1024.size inb_S256x1024_S256x1024_0_0).toLoadRect (View.loadsAt_vmem h_S256x1024))
    let v17 : Vec F S256x1024 .bf16 ← Prog.lift (.load M10 (Rect.unit (s := S256x1024) ![0, 0] S256x1024.size inb_S256x1024_S256x1024_0_0).toLoadRect (View.loadsAt_vmem h_S256x1024))
    Prog.lift (.store M10 (Rect.unit (s := S256x1024) ![0, 0] S256x1024.size inb_S256x1024_S256x1024_0_0) (k0_pay4 v15) Finset.univ (View.stores_vmem h_S256x1024 (h10.storeExact_slice rfl _ packedbf16_S256x1024_S256x1024_0_0) (fun _ => rfl)) (.inl rfl))
    pure ⟨⟩
  else pure ⟨⟩

/-- The last piece: on the last `n`, the block of `dx` out of the accumulator. -/
def segD : Prog (TpuEff nD τ sig (Elt F) Λ₀ .tc) PUnit :=
  if k0_h3 : k0_cond3 i = 1#1 then do
    let v13 : Vec F S1024x256 .f32 ← Prog.lift (.load M9 (Rect.unit (s := S7168x256) (k0_off5 i) S1024x256.size (k0_off5_inb i k0_h3)).toLoadRect (View.loadsAt_vmem h_S1024x256))
    let v18 : Vec F S256x1024 .bf16 ← Prog.lift (.load M6 (Rect.unit (s := S256x1024) ![0, 0] S256x1024.size inb_S256x1024_S256x1024_0_0).toLoadRect (View.loadsAt_vmem h_S256x1024))
    Prog.lift (.store M6 (Rect.unit (s := S256x1024) ![0, 0] S256x1024.size inb_S256x1024_S256x1024_0_0) (k0_pay8 v13) Finset.univ (View.stores_vmem h_S256x1024 (h6.storeExact_slice rfl _ packedbf16_S256x1024_S256x1024_0_0) (fun _ => rfl)) (.inl rfl))
    pure ⟨⟩
  else pure ⟨⟩

/-- The loop of four strips. -/
def segC : Prog (TpuEff nD τ sig (Elt F) Λ₀ .tc) PUnit :=
  Scf.Loop.for k0_t1_loop k0_t1_ok ⟨⟩ (k0_t1_body i M2 h2 M3 h3 M4 h4 M5 h5 M6 h6 M7 h7 M8 h8 M9 h9 M10 h10 M11 h11 M12 h12)

/-- The body is its four pieces in order. -/
theorem body_eq : cc0_mxfp4_bwd i M2 h2 M3 h3 M4 h4 M5 h5 M6 h6 M7 h7 M8 h8 M9 h9 M10 h10 M11 h11 M12 h12
    = (segA (F := F) i M2 h2 M3 h3 M4 h4 M5 h5 M6 h6 M7 h7 M8 h8 M9 h9 M10 h10 M11 h11 M12 h12 >>= fun _ => segB (F := F) i M3 M4 M10 h10 M11 h11 >>= fun _ => segC (F := F) i M2 h2 M3 h3 M4 h4 M5 h5 M6 h6 M7 h7 M8 h8 M9 h9 M10 h10 M11 h11 M12 h12 >>= fun _ => segD (F := F) i M6 h6 M9) := by
  rw [cc0_mxfp4_bwd_eq_skeleton]
  unfold cc0_mxfp4_bwd_skel segA segB segC segD cond2
  by_cases q1 : k0_cond1 i = 1#1 <;>
  by_cases q2 : cond2 i = 1#1 <;>
  by_cases q3 : k0_cond3 i = 1#1 <;>
  unfold cond2 at q2 <;>
  simp only [q1, q2, q3, dite_true, dite_false, bind_assoc, pure_bind, ↓reduceDIte]

theorem segA_run (X5 : S256x1024.Idx → Elt F .bf16) (X8 : S7168x256.Idx → Elt F .bf16) (X9 : S7168x256.Idx → Elt F .f32) :
    iprop(ow c M5 X5 ∗ ow c M8 X8 ∗ ow c M9 X9 ∗ (∃ d, ow (F := F) c M12 d))
    ⊢ wp frame (wpE (defs₀ (F := F)) Variants.none (c : Thread nD τ) none) Set.univ (segA (F := F) i M2 h2 M3 h3 M4 h4 M5 h5 M6 h6 M7 h7 M8 h8 M9 h9 M10 h10 M11 h11 M12 h12)
        (fun _ => iprop(ow c M5 X5 ∗ ow c M8 (if h : k0_cond1 i = 1#1 then fillT i h X5 X8 else X8)
          ∗ ow c M9 (if h : k0_cond1 i = 1#1 then zeroT i h X9 else X9) ∗ (∃ d, ow (F := F) c M12 d))) := by
  by_cases h : k0_cond1 i = 1#1
  · simp only [segA, dif_pos h]
    rw [k0_part1_eq_skeleton]
    unfold k0_part1_skel ow owns
    iintro ⟨⟨%f5, %e5, H5⟩, ⟨%f8, %e8, H8⟩, ⟨%f9, %e9, H9⟩, ⟨%d12, %f12, -, H12⟩⟩
    sl_exec
    sl_step
    isplitl [H5]
    · iexists _; isplitr; swap; · iexact H5
      ipureintro; exact e5
    isplitl [H8]
    · iexists _; isplitr; swap; · iexact H8
      ipureintro
      unfold segA_run.sl.v42 segA_run.sl.v33 segA_run.sl.v24 segA_run.sl.v15
      rw [read_writes_cons, read_writes_cons, read_writes_cons, read_writes_cons, View.writes_nil, e8]
      unfold segA_run.sl.H12_1
      simp only [View.readAt_eq_ld]
      rw [e5, ld_whole z2, readCov_whole z2, readCov_whole z2, readCov_whole z2, readCov_whole z2]
      unfold fillT
      rfl
    isplitl [H9]
    · iexists _; isplitr; swap; · iexact H9
      ipureintro
      rw [read_writes_cons, View.writes_nil, e9]; rfl
    · iexists _, _; isplitr; swap; · iexact H12
      ipureintro; rfl
  · simp only [segA, dif_neg h]
    iintro H
    sl_step
    iexact H

theorem segB_run (X3 X4 X10 X11 : S256x1024.Idx → Elt F .bf16) :
    iprop(ow c M3 X3 ∗ ow c M4 X4 ∗ ow c M10 X10 ∗ ow c M11 X11)
    ⊢ wp frame (wpE (defs₀ (F := F)) Variants.none (c : Thread nD τ) none) Set.univ (segB (F := F) i M3 M4 M10 h10 M11 h11)
        (fun _ => iprop(ow c M3 X3 ∗ ow c M4 X4 ∗ ow c M10 (if cond2 i = 1#1 then k0_pay4 X3 else X10)
          ∗ ow c M11 (if cond2 i = 1#1 then k0_pay3 X4 else X11))) := by
  by_cases h : cond2 i = 1#1
  · simp only [segB, dif_pos h, if_pos h]
    unfold ow owns
    iintro ⟨⟨%f3, %e3, H3⟩, ⟨%f4, %e4, H4⟩, ⟨%f10, %e10, H10⟩, ⟨%f11, %e11, H11⟩⟩
    sl_exec
    sl_step
    isplitl [H3]
    · iexists _; isplitr; swap; · iexact H3
      ipureintro; exact e3
    isplitl [H4]
    · iexists _; isplitr; swap; · iexact H4
      ipureintro; exact e4
    isplitl [H10]
    · iexists _; isplitr; swap; · iexact H10
      ipureintro
      rw [read_writes_whole _ _ z2, View.readAt_eq_ld, ld_whole z2, e3]
    · iexists _; isplitr; swap; · iexact H11
      ipureintro
      rw [read_writes_whole _ _ z2, View.readAt_eq_ld, ld_whole z2, e4]
  · simp only [segB, dif_neg h, if_neg h]
    iintro H
    sl_step
    iexact H

theorem segD_run (X6 : S256x1024.Idx → Elt F .bf16) (X9 : S7168x256.Idx → Elt F .f32) :
    iprop(ow c M6 X6 ∗ ow c M9 X9)
    ⊢ wp frame (wpE (defs₀ (F := F)) Variants.none (c : Thread nD τ) none) Set.univ (segD (F := F) i M6 h6 M9)
        (fun _ => iprop(ow c M6 (if h : k0_cond3 i = 1#1 then k0_pay8 (View.ld X9 (Rect.unit (k0_off5 i) S1024x256.size (k0_off5_inb i h) : Rect S7168x256)) else X6)
          ∗ ow c M9 X9)) := by
  by_cases h : k0_cond3 i = 1#1
  · simp only [segD, dif_pos h]
    unfold ow owns
    iintro ⟨⟨%f6, %e6, H6⟩, ⟨%f9, %e9, H9⟩⟩
    sl_exec
    sl_step
    isplitl [H6]
    · iexists _; isplitr; swap; · iexact H6
      ipureintro
      rw [read_writes_whole _ _ z2]
      unfold segD_run.sl.v13
      rw [View.readAt_eq_ld, e9]
    · iexists _; isplitr; swap; · iexact H9
      ipureintro; exact e9
  · simp only [segD, dif_neg h]
    iintro H
    sl_step
    iexact H

/-- One strip: the strip of `dw` is the product of the tile of transposed activations with the gradient block, scaled;
    the tile of the accumulator gains the product of the strip of the weight block with the other gradient block. -/
theorem trip_run (k : Fin k0_t1_loop.trips) (u : Unit) (X2 : S1024x1024.Idx → Elt F .bf16) (X8 : S7168x256.Idx → Elt F .bf16)
    (X10 X11 : S256x1024.Idx → Elt F .bf16) (X7 : S1024x1024.Idx → Elt F .f32) (X9 : S7168x256.Idx → Elt F .f32) :
    iprop(ow c M2 X2 ∗ ow c M8 X8 ∗ ow c M10 X10 ∗ ow c M11 X11 ∗ ow c M7 X7 ∗ ow c M9 X9 ∗ (∃ d, ow (F := F) c M12 d))
    ⊢ wp frame (wpE (defs₀ (F := F)) Variants.none (c : Thread nD τ) none) Set.univ
        (k0_t1_body i M2 h2 M3 h3 M4 h4 M5 h5 M6 h6 M7 h7 M8 h8 M9 h9 M10 h10 M11 h11 M12 h12 k u)
        (fun _ => iprop(ow c M2 X2 ∗ ow c M8 X8 ∗ ow c M10 X10 ∗ ow c M11 X11
          ∗ ow c M7 ((rStrip k).overlay X7 (k0_pay5 (View.ld X8 (rTile i k)) X11))
          ∗ ow c M9 ((rTile i k).overlay X9 (k0_pay7 (View.ld X9 (rTile i k)) (k0_pay6 (View.ld X2 (rStrip k))) X10))
          ∗ (∃ d, ow (F := F) c M12 d))) := by
  have hk : k.val < 4 := Nat.lt_of_lt_of_le k.isLt k0_t1_abs.2.1
  unfold k0_t1_body ow owns
  iintro ⟨⟨%f2, %e2, H2⟩, ⟨%f8, %e8, H8⟩, ⟨%f10, %e10, H10⟩, ⟨%f11, %e11, H11⟩, ⟨%f7, %e7, H7⟩, ⟨%f9, %e9, H9⟩, ⟨%d12, %f12, -, H12⟩⟩
  sl_exec
  sl_step
  isplitl [H2]
  · iexists _; isplitr; swap; · iexact H2
    ipureintro; exact e2
  isplitl [H8]
  · iexists _; isplitr; swap; · iexact H8
    ipureintro; exact e8
  isplitl [H10]
  · iexists _; isplitr; swap; · iexact H10
    ipureintro; exact e10
  isplitl [H11]
  · iexists _; isplitr; swap; · iexact H11
    ipureintro; exact e11
  isplitl [H7]
  · iexists _; isplitr; swap; · iexact H7
    ipureintro
    rw [read_writes_cons, View.writes_nil, e7, View.readAt_eq_ld, View.readAt_eq_ld, e8, e11, ld_whole z2]
  isplitl [H9]
  · iexists _; isplitr; swap; · iexact H9
    ipureintro
    rw [read_writes_cons, View.writes_nil, e9]
    unfold trip_run.sl.v30 trip_run.sl.H12_1
    simp only [View.readAt_eq_ld]
    rw [e9, e10, e2, ld_whole z2, readCov_whole z2, ld_whole z2]
  · iexists _, _; isplitr; swap; · iexact H12
    ipureintro; rfl

/-- The loop: four strips. -/
theorem segC_run (X2 : S1024x1024.Idx → Elt F .bf16) (X8 : S7168x256.Idx → Elt F .bf16)
    (X10 X11 : S256x1024.Idx → Elt F .bf16) (X7 : S1024x1024.Idx → Elt F .f32) (X9 : S7168x256.Idx → Elt F .f32) :
    iprop(ow c M2 X2 ∗ ow c M8 X8 ∗ ow c M10 X10 ∗ ow c M11 X11 ∗ ow c M7 X7 ∗ ow c M9 X9 ∗ (∃ d, ow (F := F) c M12 d))
    ⊢ wp frame (wpE (defs₀ (F := F)) Variants.none (c : Thread nD τ) none) Set.univ (segC (F := F) i M2 h2 M3 h3 M4 h4 M5 h5 M6 h6 M7 h7 M8 h8 M9 h9 M10 h10 M11 h11 M12 h12)
        (fun _ => iprop(ow c M2 X2 ∗ ow c M8 X8 ∗ ow c M10 X10 ∗ ow c M11 X11
          ∗ ow c M7 (dwIt i X8 X11 X7 k0_t1_loop.trips) ∗ ow c M9 (accIt i X2 X10 X9 k0_t1_loop.trips) ∗ (∃ d, ow (F := F) c M12 d))) := by
  refine BI.BIBase.Entails.trans ?_ (Scf.wp_for frame (wpE (defs₀ (F := F)) Variants.none (c : Thread nD τ) none) Set.univ
    k0_t1_loop.lb k0_t1_loop.ub k0_t1_loop.st k0_t1_ok ⟨⟩ (k0_t1_body i M2 h2 M3 h3 M4 h4 M5 h5 M6 h6 M7 h7 M8 h8 M9 h9 M10 h10 M11 h11 M12 h12)
    (fun k _ => iprop(ow c M2 X2 ∗ ow c M8 X8 ∗ ow c M10 X10 ∗ ow c M11 X11
          ∗ ow c M7 (dwIt i X8 X11 X7 k) ∗ ow c M9 (accIt i X2 X10 X9 k) ∗ (∃ d, ow (F := F) c M12 d))) ?_)
  · iintro H
    isplitl [H]
    · iexact H
    · iintro %acc H
      iexact H
  · intro k acc
    have := trip_run c i M2 h2 M3 h3 M4 h4 M5 h5 M6 h6 M7 h7 M8 h8 M9 h9 M10 h10 M11 h11 M12 h12 k acc X2 X8 X10 X11 (dwIt i X8 X11 X7 k) (accIt i X2 X10 X9 k)
    have e7 : dwIt i X8 X11 X7 (k.val + 1) = (rStrip k).overlay (dwIt i X8 X11 X7 k) (k0_pay5 (View.ld X8 (rTile i k)) X11) := by
      conv_lhs => unfold dwIt
      exact dif_pos k.isLt
    have e9 : accIt i X2 X10 X9 (k.val + 1) = (rTile i k).overlay (accIt i X2 X10 X9 k)
        (k0_pay7 (View.ld (accIt i X2 X10 X9 k) (rTile i k)) (k0_pay6 (View.ld X2 (rStrip k))) X10) := by
      conv_lhs => unfold accIt
      exact dif_pos k.isLt
    rw [← e7, ← e9] at this
    exact this

end run
end Cert.KernelIdeal.Hand
end
-- ==== Proof.Ideal.Geo.lean ====
/-
  WHERE THE BODY'S ACCESSES FALL. The two large scratch arrays are seven blocks of 1024 rows; a grid point's `k` names
  the block it works on. Each piece's contents (Body.lean) is restated block by block: what the block of this `k` holds
  afterwards, and that every other block is as it was.
-/
module

public import proofs.«01_k».proof.Proof.Ideal.Body
public import Idealize.ShloMosaic.Lib.ValueIdxCore

@[expose] public section

noncomputable section

namespace Cert.KernelIdeal.Hand

open Cert.KernelIdeal Cert.KernelIdeal.Gen
open Idealize.ShloMosaic

variable {F : FTy → Type} [FloatOps F]

/-- An overlay read inside its rectangle. -/
theorem ov_in {s : Shape} {α : Type} (off size : Fin s.rank → ℕ) (inb : ∀ a, off a + size a ≤ s.size a) (X : s.Idx → α)
    (w : (Rect.unit off size inb).shape.Idx → α) (y : s.Idx) (r : (Rect.unit off size inb).shape.Idx)
    {o : Fin s.rank → ℕ} (ho : off = o) (h : ∀ a, (y a).val = o a + (r a).val) : (Rect.unit off size inb).overlay X w y = w r := by
  subst ho
  have e : (Rect.unit off size inb).emb r = y := by
    funext a; apply Fin.ext; rw [h a]; exact ValueKit.rect_emb_unit_val off size inb r a
  rw [← e, Rect.overlay_emb]

/-- An overlay read outside its rectangle. -/
theorem ov_out {s : Shape} {α : Type} (off size : Fin s.rank → ℕ) (inb : ∀ a, off a + size a ≤ s.size a) (X : s.Idx → α)
    (w : (Rect.unit off size inb).shape.Idx → α) (y : s.Idx) (a : Fin s.rank) {o : Fin s.rank → ℕ} (ho : off = o)
    (h : (y a).val < o a ∨ o a + size a ≤ (y a).val) :
    (Rect.unit off size inb).overlay X w y = X y := by
  subst ho
  apply Rect.overlay_of_not_mem
  intro hy
  rw [Rect.mem_set_unit] at hy
  have := hy a
  omega

/-- A load read at an index. -/
theorem ld_at {s : Shape} {e : EltTy} (off size : Fin s.rank → ℕ) (inb : ∀ a, off a + size a ≤ s.size a) (X : s.Idx → Elt F e)
    (r : (Rect.unit off size inb).shape.Idx) (y : s.Idx) {o : Fin s.rank → ℕ} (ho : off = o) (h : ∀ a, (y a).val = o a + (r a).val) :
    View.ld X (Rect.unit off size inb) r = X y := by
  subst ho
  exact  View.ld_unit_apply_of X off size inb r y h

/-- The grid point's `k`. -/
def kk (i : grid0.Coords) : Fin 7 := i 1

theorem trips_eq : k0_t1_loop.trips = 4 := by decide +kernel

theorem off1_eq (i : grid0.Coords) (c : Fin 4) : k0_off1 i (BitVec.ofNat 32 (256 * c.val)) = ![1024 * (kk i).val + 256 * c.val, 0] := by
  have h : ∀ (k : Fin 7) (c : Fin 4), (Scalar.indexCast (Scalar.addi (Scalar.muli (BitVec.ofNat 32 k.val) 1024#32) (BitVec.ofNat 32 (256 * c.val))) : Index).toNat
    = 1024 * k.val + 256 * c.val := by decide +kernel
  unfold k0_off1
  show ![_, _] = _
  rw [← h (kk i) c]; rfl

theorem off2_eq (i : grid0.Coords) : k0_off2 i = ![1024 * (kk i).val, 0] := by
  have h : ∀ (k : Fin 7), (Scalar.indexCast (Scalar.muli (BitVec.ofNat 32 k.val) 1024#32) : Index).toNat = 1024 * k.val := by decide +kernel
  unfold k0_off2
  show ![_, _] = _
  rw [← h (kk i)]; rfl

theorem off5_eq (i : grid0.Coords) : k0_off5 i = ![1024 * (kk i).val, 0] := off2_eq i

theorem off4_eq (c : Fin k0_t1_loop.trips) : k0_off4 c = ![256 * c.val, 0] := by
  revert c; decide +kernel

theorem off3_eq (i : grid0.Coords) (c : Fin k0_t1_loop.trips) : k0_off3 i c = ![1024 * (kk i).val + 256 * c.val, 0] := by
  have h : ∀ (k : Fin 7) (c : Fin k0_t1_loop.trips), (Scalar.indexCast (Scalar.addi (Scalar.muli (BitVec.ofNat 32 k.val) 1024#32)
      (Scalar.muli (Scf.iv 0#32 1#32 c) 256#32)) : Index).toNat = 1024 * k.val + 256 * c.val := by decide +kernel
  unfold k0_off3
  show ![_, _] = _
  rw [← h (kk i) c]; rfl

/-- Block `k` of a scratch array of 7168 rows. -/
def rows {α : Type} (X : S7168x256.Idx → α) (k : Fin 7) : S1024x256.Idx → α :=
  fun y => X (ValueIdx.ix2 ⟨1024 * k.val + (y 0).val, by have h := (y 0).isLt; have h' : (y 0).val < 1024 := h; have := k.isLt; omega⟩ (y 1))

/-- Strip `c` of a block of 1024 rows. -/
def strip {α : Type} {n : ℕ} (X : (⟨2, ![1024, n]⟩ : Shape).Idx → α) (c : Fin 4) : (⟨2, ![256, n]⟩ : Shape).Idx → α :=
  fun y => X (ValueIdx.ix2 ⟨256 * c.val + (y 0).val, by have h' : (y 0).val < 256 := (y 0).isLt; have := c.isLt; omega⟩ (y 1))

/-- The strip an index of a block of 1024 rows lies in, and its index there. -/
def stripOf {n : ℕ} (y : (⟨2, ![1024, n]⟩ : Shape).Idx) : Fin 4 := ⟨(y 0).val / 256, by have h' : (y 0).val < 1024 := (y 0).isLt; omega⟩
def inStrip {n : ℕ} (y : (⟨2, ![1024, n]⟩ : Shape).Idx) : (⟨2, ![256, n]⟩ : Shape).Idx := ValueIdx.ix2 ⟨(y 0).val % 256, Nat.mod_lt _ (by decide)⟩ (y 1)

/-- One step of the accumulator's block: the four strips of products added. -/
def accStep (A : S1024x256.Idx → Elt F .f32) (W : S1024x1024.Idx → Elt F .bf16) (D : S256x1024.Idx → Elt F .bf16) :
    S1024x256.Idx → Elt F .f32 :=
  fun y => k0_pay7 (strip A (stripOf y)) (k0_pay6 (strip W (stripOf y))) D (inStrip y)

/-- The block of `dw`: the four strips of products, scaled. -/
def dwB (T : S1024x256.Idx → Elt F .bf16) (G : S256x1024.Idx → Elt F .bf16) : S1024x1024.Idx → Elt F .f32 :=
  fun y => k0_pay5 (strip T (stripOf y)) G (inStrip y)

theorem ld_strip (X : S1024x1024.Idx → Elt F .bf16) (c : Fin k0_t1_loop.trips) :
    View.ld X (rStrip c) = strip X (c.cast trips_eq) := by
  funext r
  refine ld_at _ _ _ _ _ _ (off4_eq c) fun a => ?_
  match a with
  | ⟨0, _⟩ => rfl
  | ⟨1, _⟩ => exact (Nat.zero_add _).symm

theorem ld_tile {e : EltTy} (X : S7168x256.Idx → Elt F e) (i : grid0.Coords) (c : Fin k0_t1_loop.trips) :
    View.ld X (rTile i c) = strip (rows X (kk i)) (c.cast trips_eq) := by
  funext r
  refine ld_at _ _ _ _ _ _ (off3_eq i c) fun a => ?_
  match a with
  | ⟨0, _⟩ => exact (Nat.add_assoc _ _ _).symm
  | ⟨1, _⟩ => exact (Nat.zero_add _).symm

theorem ld_block (X : S7168x256.Idx → Elt F .f32) (i : grid0.Coords) (h : k0_cond3 i = 1#1) :
    View.ld X (Rect.unit (k0_off5 i) S1024x256.size (k0_off5_inb i h) : Rect S7168x256) = rows X (kk i) := by
  funext r
  refine ld_at _ _ _ _ _ _ (off5_eq i) fun a => ?_
  match a with
  | ⟨0, _⟩ => rfl
  | ⟨1, _⟩ => exact (Nat.zero_add _).symm

theorem dwIt_succ (i : grid0.Coords) (X8 : S7168x256.Idx → Elt F .bf16) (X11 : S256x1024.Idx → Elt F .bf16) (X7 : S1024x1024.Idx → Elt F .f32)
    (n : ℕ) (h : n < k0_t1_loop.trips) : dwIt i X8 X11 X7 (n + 1) =
      (rStrip ⟨n, h⟩).overlay (dwIt i X8 X11 X7 n) (k0_pay5 (View.ld X8 (rTile i ⟨n, h⟩)) X11) := by
  conv_lhs => unfold dwIt
  exact dif_pos h

theorem accIt_succ (i : grid0.Coords) (X2 : S1024x1024.Idx → Elt F .bf16) (X10 : S256x1024.Idx → Elt F .bf16) (X9 : S7168x256.Idx → Elt F .f32)
    (n : ℕ) (h : n < k0_t1_loop.trips) : accIt i X2 X10 X9 (n + 1) =
      (rTile i ⟨n, h⟩).overlay (accIt i X2 X10 X9 n)
        (k0_pay7 (View.ld (accIt i X2 X10 X9 n) (rTile i ⟨n, h⟩)) (k0_pay6 (View.ld X2 (rStrip ⟨n, h⟩))) X10) := by
  conv_lhs => unfold accIt
  exact dif_pos h

/-- After `n` strips, an index in one of them holds its product. -/
theorem dwIt_in (i : grid0.Coords) (X8 : S7168x256.Idx → Elt F .bf16) (X11 : S256x1024.Idx → Elt F .bf16) (X7 : S1024x1024.Idx → Elt F .f32)
    (y : S1024x1024.Idx) : ∀ n, n ≤ 4 → (y 0).val < 256 * n → dwIt i X8 X11 X7 n y = dwB (rows X8 (kk i)) X11 y
  | 0, _, h => absurd h (by omega)
  | n + 1, hn, h => by
    rw [dwIt_succ i X8 X11 X7 n (by rw [trips_eq]; omega)]
    by_cases hy : (y 0).val < 256 * n
    · rw [← dwIt_in i X8 X11 X7 y n (by omega) hy]
      exact ov_out _ _ _ _ _ _ 0 (off4_eq _) (Or.inl hy)
    · refine (ov_in (s := S1024x1024) (k0_off4 ⟨n, by rw [trips_eq]; omega⟩) S256x1024.size _ _ _ y (inStrip y) (off4_eq _) (fun a => by
        match a with
        | ⟨0, _⟩ => show (y 0).val = 256 * n + (y 0).val % 256; omega
        | ⟨1, _⟩ => exact (Nat.zero_add _).symm)).trans ?_
      rw [ld_tile]
      have : (Fin.cast trips_eq ⟨n, by rw [trips_eq]; omega⟩ : Fin 4) = stripOf y := Fin.ext (by show n = (y 0).val / 256; omega)
      rw [this]; rfl

theorem dwIt_all (i : grid0.Coords) (X8 : S7168x256.Idx → Elt F .bf16) (X11 : S256x1024.Idx → Elt F .bf16) (X7 : S1024x1024.Idx → Elt F .f32) :
    dwIt i X8 X11 X7 k0_t1_loop.trips = dwB (rows X8 (kk i)) X11 := by
  funext y
  rw [trips_eq]
  exact dwIt_in i X8 X11 X7 y 4 le_rfl (by have h' : (y 0).val < 1024 := (y 0).isLt; omega)

/-- After `n` strips, an index outside them is as it was. -/
theorem accIt_out (i : grid0.Coords) (X2 : S1024x1024.Idx → Elt F .bf16) (X10 : S256x1024.Idx → Elt F .bf16) (X9 : S7168x256.Idx → Elt F .f32)
    (y : S7168x256.Idx) : ∀ n, n ≤ 4 → ((y 0).val < 1024 * (kk i).val ∨ 1024 * (kk i).val + 256 * n ≤ (y 0).val) → accIt i X2 X10 X9 n y = X9 y
  | 0, _, h => rfl
  | n + 1, hn, h => by
    rw [accIt_succ i X2 X10 X9 n (by rw [trips_eq]; omega), ← accIt_out i X2 X10 X9 y n (by omega) (by omega)]
    refine ov_out _ _ _ _ _ _ 0 (off3_eq _ _) ?_
    show (y 0).val < 1024 * (kk i).val + 256 * n ∨ 1024 * (kk i).val + 256 * n + 256 ≤ (y 0).val
    omega

/-- After `n` strips, an index in one of them has gained its product. -/
theorem accIt_in (i : grid0.Coords) (X2 : S1024x1024.Idx → Elt F .bf16) (X10 : S256x1024.Idx → Elt F .bf16) (X9 : S7168x256.Idx → Elt F .f32)
    (y : S1024x256.Idx) : ∀ n, n ≤ 4 → (y 0).val < 256 * n → rows (accIt i X2 X10 X9 n) (kk i) y = accStep (rows X9 (kk i)) X2 X10 y
  | 0, _, h => absurd h (by omega)
  | n + 1, hn, h => by
    have hlt : n < k0_t1_loop.trips := by rw [trips_eq]; omega
    by_cases hy : (y 0).val < 256 * n
    · rw [← accIt_in i X2 X10 X9 y n (by omega) hy]
      unfold rows
      rw [accIt_succ i X2 X10 X9 n hlt]
      refine ov_out _ _ _ _ _ _ 0 (off3_eq _ _) (Or.inl ?_)
      show 1024 * (kk i).val + (y 0).val < 1024 * (kk i).val + 256 * n
      omega
    · have hld : View.ld (accIt i X2 X10 X9 n) (rTile i ⟨n, hlt⟩) = View.ld X9 (rTile i ⟨n, hlt⟩) := by
        rw [ld_tile, ld_tile]
        funext z
        refine accIt_out i X2 X10 X9 _ n (by omega) (Or.inr ?_)
        show 1024 * (kk i).val + 256 * n ≤ 1024 * (kk i).val + (256 * n + (z 0).val)
        omega
      conv_lhs => unfold rows
      rw [accIt_succ i X2 X10 X9 n hlt, hld]
      refine (ov_in (s := S7168x256) (k0_off3 i ⟨n, hlt⟩) S256x256.size _ _ _ _ (inStrip y) (off3_eq _ _) (fun a => by
        match a with
        | ⟨0, _⟩ => show 1024 * (kk i).val + (y 0).val = 1024 * (kk i).val + 256 * n + (y 0).val % 256; omega
        | ⟨1, _⟩ => exact (Nat.zero_add _).symm)).trans ?_
      rw [ld_tile, ld_strip]
      have : (Fin.cast trips_eq ⟨n, hlt⟩ : Fin 4) = stripOf y := Fin.ext (by show n = (y 0).val / 256; omega)
      rw [this]; rfl

/-- The block the loop works on gains its products; -/
theorem accIt_rows (i : grid0.Coords) (X2 : S1024x1024.Idx → Elt F .bf16) (X10 : S256x1024.Idx → Elt F .bf16) (X9 : S7168x256.Idx → Elt F .f32) :
    rows (accIt i X2 X10 X9 k0_t1_loop.trips) (kk i) = accStep (rows X9 (kk i)) X2 X10 := by
  funext y
  rw [trips_eq]
  exact accIt_in i X2 X10 X9 y 4 le_rfl (by have h' : (y 0).val < 1024 := (y 0).isLt; omega)

/-- every other block is as it was. -/
theorem accIt_rows_ne (i : grid0.Coords) (X2 : S1024x1024.Idx → Elt F .bf16) (X10 : S256x1024.Idx → Elt F .bf16) (X9 : S7168x256.Idx → Elt F .f32)
    (k : Fin 7) (hk : k.val ≠ (kk i).val) : rows (accIt i X2 X10 X9 k0_t1_loop.trips) k = rows X9 k := by
  funext y
  rw [trips_eq]
  have h' : (y 0).val < 1024 := (y 0).isLt
  refine accIt_out i X2 X10 X9 _ 4 le_rfl ?_
  show 1024 * k.val + (y 0).val < 1024 * (kk i).val ∨ 1024 * (kk i).val + 256 * 4 ≤ 1024 * k.val + (y 0).val
  omega

/-- A block laid over the seven, read at its own block and at another. -/
theorem block_in (X9 : S7168x256.Idx → Elt F .f32) (w : S1024x256.Idx → Elt F .f32) (k : Fin 7) (off : Fin 2 → ℕ) (ho : off = ![1024 * k.val, 0])
    (inb : ∀ a, off a + S1024x256.size a ≤ S7168x256.size a) :
    rows ((Rect.unit off S1024x256.size inb : Rect S7168x256).overlay X9 w) k = w := by
  funext y
  unfold rows
  refine ov_in (s := S7168x256) off S1024x256.size inb X9 w _ y ho fun a => ?_
  match a with
  | ⟨0, _⟩ => rfl
  | ⟨1, _⟩ => exact (Nat.zero_add _).symm

theorem block_out (X9 : S7168x256.Idx → Elt F .f32) (w : S1024x256.Idx → Elt F .f32) (k k' : Fin 7) (hk : k'.val ≠ k.val) (off : Fin 2 → ℕ)
    (ho : off = ![1024 * k.val, 0]) (inb : ∀ a, off a + S1024x256.size a ≤ S7168x256.size a) :
    rows ((Rect.unit off S1024x256.size inb : Rect S7168x256).overlay X9 w) k' = rows X9 k' := by
  funext y
  have h' : (y 0).val < 1024 := (y 0).isLt
  unfold rows
  refine ov_out (s := S7168x256) off S1024x256.size inb X9 w _ 0 ho ?_
  show 1024 * k'.val + (y 0).val < 1024 * k.val ∨ 1024 * k.val + 1024 ≤ 1024 * k'.val + (y 0).val
  omega

theorem zeroT_rows (i : grid0.Coords) (h : k0_cond1 i = 1#1) (X9 : S7168x256.Idx → Elt F .f32) :
    rows (zeroT i h X9) (kk i) = k0_pay2 := block_in X9 _ (kk i) _ (off2_eq i) _

theorem zeroT_rows_ne (i : grid0.Coords) (h : k0_cond1 i = 1#1) (X9 : S7168x256.Idx → Elt F .f32) (k : Fin 7) (hk : k.val ≠ (kk i).val) :
    rows (zeroT i h X9) k = rows X9 k := block_out X9 _ (kk i) k hk _ (off2_eq i) _

/-- A block of activations, transposed. -/
def tr (X : S256x1024.Idx → Elt F .bf16) : S1024x256.Idx → Elt F .bf16 := fun y => X (ValueIdx.ix2 (y 1) (y 0))

theorem tile_tr (X : S256x1024.Idx → Elt F .bf16) (off : Fin 2 → ℕ) (o : ℕ) (ho : off = ![0, o])
    (inb : ∀ a, off a + S256x256.size a ≤ S256x1024.size a) (z : S256x256.Idx) (y : S256x1024.Idx)
    (h0 : (y 0).val = (z 1).val) (h1 : (y 1).val = o + (z 0).val) :
    transpose S256x256 [1, 0] (View.ld (k0_pay9 X) (Rect.unit (s := S256x1024) off S256x256.size inb)) transposes_S256x256_p1_0_S256x256 z = X y := by
  have e9 : k0_pay9 X = X := by
    show shapeCast S256x1024 (shapeCast S256x1024 X _) _ = X
    rw [shapeCast_self, shapeCast_self]
  rw [e9]
  refine ld_at _ _ _ _ _ _ ho fun a => ?_
  match a with
  | ⟨0, _⟩ => exact h0.trans (Nat.zero_add _).symm
  | ⟨1, _⟩ => exact h1

/-- A tile of the block of transposed activations laid over, read inside and outside. -/
theorem fill_in (i : grid0.Coords) (X : S256x1024.Idx → Elt F .bf16) (c : Fin 4) (o : Fin 2 → ℕ) (hb : o = ![1024 * (kk i).val + 256 * c.val, 0])
    (inb : ∀ a, o a + S256x256.size a ≤ S7168x256.size a) (off : Fin 2 → ℕ) (ho : off = ![0, 256 * c.val])
    (inb' : ∀ a, off a + S256x256.size a ≤ S256x1024.size a) (Y : S7168x256.Idx → Elt F .bf16) (w : S256x256.Idx → Elt F .bf16)
    (hw : w = transpose S256x256 [1, 0] (View.ld (k0_pay9 X) (Rect.unit (s := S256x1024) off S256x256.size inb')) transposes_S256x256_p1_0_S256x256)
    (y : S1024x256.Idx) (hy : (y 0).val / 256 = c.val) :
    rows ((Rect.unit o S256x256.size inb : Rect S7168x256).overlay Y w) (kk i) y = tr X y := by
  subst hb
  refine (ov_in (s := S7168x256) _ S256x256.size inb Y w _ (inStrip y) rfl fun a => ?_).trans ?_
  · match a with
    | ⟨0, _⟩ => show 1024 * (kk i).val + (y 0).val = 1024 * (kk i).val + 256 * c.val + (y 0).val % 256; omega
    | ⟨1, _⟩ => exact (Nat.zero_add _).symm
  · rw [hw]
    refine tile_tr X off _ ho inb' (inStrip y) _ rfl ?_
    show (y 0).val = 256 * c.val + (y 0).val % 256
    omega

theorem fill_out (i : grid0.Coords) (c : Fin 4) (o : Fin 2 → ℕ) (hb : o = ![1024 * (kk i).val + 256 * c.val, 0])
    (inb : ∀ a, o a + S256x256.size a ≤ S7168x256.size a) (Y : S7168x256.Idx → Elt F .bf16) (w : S256x256.Idx → Elt F .bf16)
    (k : Fin 7) (y : S1024x256.Idx) (hy : k.val ≠ (kk i).val ∨ (y 0).val / 256 ≠ c.val) :
    rows ((Rect.unit o S256x256.size inb : Rect S7168x256).overlay Y w) k y = rows Y k y := by
  subst hb
  have h' : (y 0).val < 1024 := (y 0).isLt
  refine ov_out (s := S7168x256) _ S256x256.size inb Y w _ 0 rfl ?_
  have := c.isLt
  show 1024 * k.val + (y 0).val < 1024 * (kk i).val + 256 * c.val ∨ 1024 * (kk i).val + 256 * c.val + 256 ≤ 1024 * k.val + (y 0).val
  omega

theorem fillT_rows (i : grid0.Coords) (h : k0_cond1 i = 1#1) (X5 : S256x1024.Idx → Elt F .bf16) (X8 : S7168x256.Idx → Elt F .bf16) :
    rows (fillT i h X5 X8) (kk i) = tr X5 := by
  funext y
  have h' : (y 0).val < 1024 := (y 0).isLt
  have e10 : ∀ v : S256x256.Idx → Elt F .bf16, k0_pay10 v = transpose S256x256 [1, 0] v transposes_S256x256_p1_0_S256x256 := fun v => shapeCast_self _ _
  have e11 : ∀ v : S256x256.Idx → Elt F .bf16, k0_pay11 v = transpose S256x256 [1, 0] v transposes_S256x256_p1_0_S256x256 := fun v => shapeCast_self _ _
  have e12 : ∀ v : S256x256.Idx → Elt F .bf16, k0_pay12 v = transpose S256x256 [1, 0] v transposes_S256x256_p1_0_S256x256 := fun v => shapeCast_self _ _
  have e13 : ∀ v : S256x256.Idx → Elt F .bf16, k0_pay1 (k0_pay13 v) = transpose S256x256 [1, 0] v transposes_S256x256_p1_0_S256x256 := fun v => shapeCast_self _ _
  unfold fillT
  by_cases h3 : (y 0).val / 256 = 3
  · exact fill_in i X5 3 (k0_off1 i 768#32) (off1_eq i 3) _ _ rfl _ _ _ (e13 _) y h3
  rw [fill_out i 3 (k0_off1 i 768#32) (off1_eq i 3) _ _ _ _ y (Or.inr h3)]
  by_cases h2 : (y 0).val / 256 = 2
  · exact fill_in i X5 2 (k0_off1 i 512#32) (off1_eq i 2) _ _ rfl _ _ _ (e12 _) y h2
  rw [fill_out i 2 (k0_off1 i 512#32) (off1_eq i 2) _ _ _ _ y (Or.inr h2)]
  by_cases h1 : (y 0).val / 256 = 1
  · exact fill_in i X5 1 (k0_off1 i 256#32) (off1_eq i 1) _ _ rfl _ _ _ (e11 _) y h1
  rw [fill_out i 1 (k0_off1 i 256#32) (off1_eq i 1) _ _ _ _ y (Or.inr h1)]
  exact fill_in i X5 0 (k0_off1 i 0#32) (off1_eq i 0) _ _ rfl _ _ _ (e10 _) y (by show (y 0).val / 256 = 0; omega)

theorem fillT_rows_ne (i : grid0.Coords) (h : k0_cond1 i = 1#1) (X5 : S256x1024.Idx → Elt F .bf16) (X8 : S7168x256.Idx → Elt F .bf16)
    (k : Fin 7) (hk : k.val ≠ (kk i).val) : rows (fillT i h X5 X8) k = rows X8 k := by
  funext y
  unfold fillT
  rw [fill_out i 3 (k0_off1 i 768#32) (off1_eq i 3) _ _ _ _ y (Or.inl hk), fill_out i 2 (k0_off1 i 512#32) (off1_eq i 2) _ _ _ _ y (Or.inl hk),
    fill_out i 1 (k0_off1 i 256#32) (off1_eq i 1) _ _ _ _ y (Or.inl hk), fill_out i 0 (k0_off1 i 0#32) (off1_eq i 0) _ _ _ _ y (Or.inl hk)]

end Cert.KernelIdeal.Hand
end
-- ==== Proof.Ideal.Inv.lean ====
/-
  WHAT THE SCRATCH HOLDS AFTER SO MANY POINTS. Over arbitrary sequences of blocks: the accumulator's blocks as a
  recursion, the invariant, and that one point's body keeps it.
-/
module

public import proofs.«01_k».proof.Proof.Ideal.Geo

@[expose] public section

noncomputable section

namespace Cert.KernelIdeal.Hand

open Cert.KernelIdeal Cert.KernelIdeal.Gen
open Idealize.ShloMosaic

variable {F : FTy → Type} [FloatOps F]

/-! ## A point's coordinates and the branch conditions -/

theorem c0_val (t : Fin grid0.N) : (grid0.coords t 0).val = t.val / 7 := by
  have h := Pipeline.Grid.coords_val (G := grid0) t 0 (S := 7) (B := 18) (by decide) rfl
  have ht : t.val < 126 := lt_of_lt_of_eq t.isLt N_0
  rw [h]; omega

theorem kk_val (t : Fin grid0.N) : (kk (grid0.coords t)).val = t.val % 7 := by
  have h := Pipeline.Grid.coords_val (G := grid0) t 1 (S := 1) (B := 7) (by decide) rfl
  rw [Nat.div_one] at h
  exact h

theorem cond1_iff (t : Fin grid0.N) : k0_cond1 (grid0.coords t) = 1#1 ↔ t.val / 7 = 0 := by
  rw [← c0_val]
  have h : ∀ n : Fin 18, (Scalar.cmpi .ne (Scalar.extui (Scalar.cmpi .eq (BitVec.ofNat 32 n.val) 0#32) : BitVec 32) 0#32 = 1#1) ↔ n.val = 0 := by
    decide +kernel
  exact h (grid0.coords t 0)

theorem cond2_iff (t : Fin grid0.N) : cond2 (grid0.coords t) = 1#1 ↔ t.val % 7 = 0 := by
  rw [← kk_val]
  have h : ∀ n : Fin 7, (Scalar.cmpi .ne (Scalar.extui (Scalar.cmpi .eq (BitVec.ofNat 32 n.val) 0#32) : BitVec 32) 0#32 = 1#1) ↔ n.val = 0 := by
    decide +kernel
  exact h (kk (grid0.coords t))

theorem cond3_iff (t : Fin grid0.N) : k0_cond3 (grid0.coords t) = 1#1 ↔ t.val / 7 = 17 := by
  rw [← c0_val]
  have h : ∀ n : Fin 18, (Scalar.cmpi .ne (Scalar.extui (Scalar.cmpi .eq (BitVec.ofNat 32 n.val) 17#32) : BitVec 32) 0#32 = 1#1) ↔ n.val = 17 := by
    decide +kernel
  exact h (grid0.coords t 0)

/-! ## The contents one point leaves -/

/-- The transposed activations after a point. -/
def n8 (i : grid0.Coords) (X5 : S256x1024.Idx → Elt F .bf16) (X8 : S7168x256.Idx → Elt F .bf16) : S7168x256.Idx → Elt F .bf16 :=
  if h : k0_cond1 i = 1#1 then fillT i h X5 X8 else X8
/-- The accumulator as the loop finds it. -/
def n9 (i : grid0.Coords) (X9 : S7168x256.Idx → Elt F .f32) : S7168x256.Idx → Elt F .f32 :=
  if h : k0_cond1 i = 1#1 then zeroT i h X9 else X9
/-- The first gradient block after a point. -/
def n10 (i : grid0.Coords) (X3 X10 : S256x1024.Idx → Elt F .bf16) : S256x1024.Idx → Elt F .bf16 :=
  if cond2 i = 1#1 then k0_pay4 X3 else X10
/-- The second gradient block after a point. -/
def n11 (i : grid0.Coords) (X4 X11 : S256x1024.Idx → Elt F .bf16) : S256x1024.Idx → Elt F .bf16 :=
  if cond2 i = 1#1 then k0_pay3 X4 else X11

/-! ## The invariant -/

section inv
variable (w : ℕ → S1024x1024.Idx → Elt F .bf16) (d g x : ℕ → S256x1024.Idx → Elt F .bf16)

/-- The accumulator's block `k` after `n` of its steps: zero, then the products of the weight blocks of points
    `7 n + k` and the gradient blocks of points `7 n` added in order. -/
def ACC (k : ℕ) : ℕ → S1024x256.Idx → Elt F .f32
  | 0 => k0_pay2
  | n + 1 => accStep (ACC k n) (w (7 * n + k)) (k0_pay4 (d (7 * n)))

/-- What the four live scratch arrays hold after `t` points. -/
structure Inv (t : ℕ) (X8 : S7168x256.Idx → Elt F .bf16) (X9 : S7168x256.Idx → Elt F .f32) (X10 X11 : S256x1024.Idx → Elt F .bf16) : Prop where
  xt : ∀ k : Fin 7, k.val < t → rows X8 k = tr (x k.val)
  acc : ∀ k : Fin 7, k.val < t → rows X9 k = ACC w d k.val ((t - k.val + 6) / 7)
  dy : 0 < t → X10 = k0_pay4 (d (7 * ((t - 1) / 7)))
  gy : 0 < t → X11 = k0_pay3 (g (7 * ((t - 1) / 7)))

theorem Inv.zero (X8 : S7168x256.Idx → Elt F .bf16) (X9 : S7168x256.Idx → Elt F .f32) (X10 X11 : S256x1024.Idx → Elt F .bf16) :
    Inv w d g x 0 X8 X9 X10 X11 :=
  ⟨fun _ h => absurd h (Nat.not_lt_zero _), fun _ h => absurd h (Nat.not_lt_zero _), fun h => absurd h (lt_irrefl _),
    fun h => absurd h (lt_irrefl _)⟩

variable {w d g x}
variable {t : Fin grid0.N} {X8 : S7168x256.Idx → Elt F .bf16} {X9 : S7168x256.Idx → Elt F .f32} {X10 X11 : S256x1024.Idx → Elt F .bf16}

theorem n8_rows (h : Inv w d g x t.val X8 X9 X10 X11) (k : Fin 7) (hk : k.val < t.val + 1) :
    rows (n8 (grid0.coords t) (x t.val) X8) k = tr (x k.val) := by
  unfold n8
  by_cases h1 : k0_cond1 (grid0.coords t) = 1#1
  · rw [dif_pos h1]
    have hn := (cond1_iff t).1 h1
    have hkv := kk_val t
    by_cases e : k.val = t.val
    · have ek : k = kk (grid0.coords t) := Fin.ext (by rw [hkv]; omega)
      rw [e]; rw [ek]; exact fillT_rows _ h1 _ _
    · rw [fillT_rows_ne _ h1 _ _ k (by rw [hkv]; omega)]
      exact h.xt k (by omega)
  · rw [dif_neg h1]
    have hn : ¬ t.val / 7 = 0 := fun e => h1 ((cond1_iff t).2 e)
    have := k.isLt
    exact h.xt k (by omega)

theorem n10_eq (h : Inv w d g x t.val X8 X9 X10 X11) : n10 (grid0.coords t) (d t.val) X10 = k0_pay4 (d (7 * (t.val / 7))) := by
  unfold n10
  by_cases h2 : cond2 (grid0.coords t) = 1#1
  · rw [if_pos h2]
    have := (cond2_iff t).1 h2
    rw [show 7 * (t.val / 7) = t.val by omega]
  · rw [if_neg h2]
    have : ¬ t.val % 7 = 0 := fun e => h2 ((cond2_iff t).2 e)
    rw [h.dy (by omega), show (t.val - 1) / 7 = t.val / 7 by omega]

theorem n11_eq (h : Inv w d g x t.val X8 X9 X10 X11) : n11 (grid0.coords t) (g t.val) X11 = k0_pay3 (g (7 * (t.val / 7))) := by
  unfold n11
  by_cases h2 : cond2 (grid0.coords t) = 1#1
  · rw [if_pos h2]
    have := (cond2_iff t).1 h2
    rw [show 7 * (t.val / 7) = t.val by omega]
  · rw [if_neg h2]
    have : ¬ t.val % 7 = 0 := fun e => h2 ((cond2_iff t).2 e)
    rw [h.gy (by omega), show (t.val - 1) / 7 = t.val / 7 by omega]

theorem n9_rows (h : Inv w d g x t.val X8 X9 X10 X11) :
    rows (n9 (grid0.coords t) X9) (kk (grid0.coords t)) = ACC w d (t.val % 7) (t.val / 7) := by
  unfold n9
  by_cases h1 : k0_cond1 (grid0.coords t) = 1#1
  · rw [dif_pos h1, zeroT_rows, (cond1_iff t).1 h1]; rfl
  · rw [dif_neg h1]
    have hn : ¬ t.val / 7 = 0 := fun e => h1 ((cond1_iff t).2 e)
    have hkv := kk_val t
    rw [h.acc _ (by rw [hkv]; omega), hkv, show (t.val - t.val % 7 + 6) / 7 = t.val / 7 by omega]

theorem n9_rows_ne (k : Fin 7) (hk : k.val ≠ (kk (grid0.coords t)).val) : rows (n9 (grid0.coords t) X9) k = rows X9 k := by
  unfold n9
  by_cases h1 : k0_cond1 (grid0.coords t) = 1#1
  · rw [dif_pos h1]; exact zeroT_rows_ne _ h1 _ k hk
  · rw [dif_neg h1]

/-- The accumulator after a point. -/
abbrev a9 (w : ℕ → S1024x1024.Idx → Elt F .bf16) (d : ℕ → S256x1024.Idx → Elt F .bf16) (t : Fin grid0.N)
    (X9 : S7168x256.Idx → Elt F .f32) (X10 : S256x1024.Idx → Elt F .bf16) : S7168x256.Idx → Elt F .f32 :=
  accIt (grid0.coords t) (w t.val) (n10 (grid0.coords t) (d t.val) X10) (n9 (grid0.coords t) X9) k0_t1_loop.trips

theorem a9_rows (h : Inv w d g x t.val X8 X9 X10 X11) :
    rows (a9 w d t X9 X10) (kk (grid0.coords t)) = ACC w d (t.val % 7) (t.val / 7 + 1) := by
  unfold a9
  rw [accIt_rows, n9_rows h, n10_eq h, ACC, show 7 * (t.val / 7) + t.val % 7 = t.val by omega]

/-- One point's body keeps the invariant. -/
theorem Inv.step (h : Inv w d g x t.val X8 X9 X10 X11) :
    Inv w d g x (t.val + 1) (n8 (grid0.coords t) (x t.val) X8) (a9 w d t X9 X10)
      (n10 (grid0.coords t) (d t.val) X10) (n11 (grid0.coords t) (g t.val) X11) where
  xt k hk := n8_rows h k hk
  acc k hk := by
    have hkv := kk_val t
    by_cases e : k.val = t.val % 7
    · have ek : k = kk (grid0.coords t) := Fin.ext (by rw [hkv]; exact e)
      rw [e, show (t.val + 1 - t.val % 7 + 6) / 7 = t.val / 7 + 1 by omega]
      subst ek
      exact a9_rows h
    · have := k.isLt
      unfold a9
      rw [accIt_rows_ne _ _ _ _ k (by rw [hkv]; exact e), n9_rows_ne k (by rw [hkv]; exact e), h.acc k (by omega),
        show (t.val + 1 - k.val + 6) / 7 = (t.val - k.val + 6) / 7 by omega]
  dy _ := by rw [Nat.add_sub_cancel]; exact n10_eq h
  gy _ := by rw [Nat.add_sub_cancel]; exact n11_eq h

/-- What a point writes to the block of `dw`. -/
theorem dw_at (h : Inv w d g x t.val X8 X9 X10 X11) (X7 : S1024x1024.Idx → Elt F .f32) :
    dwIt (grid0.coords t) (n8 (grid0.coords t) (x t.val) X8) (n11 (grid0.coords t) (g t.val) X11) X7 k0_t1_loop.trips
      = dwB (tr (x (t.val % 7))) (k0_pay3 (g (7 * (t.val / 7)))) := by
  rw [dwIt_all, n11_eq h, n8_rows h _ (by rw [kk_val]; omega), kk_val]

/-- What a point of the last `n` writes to the block of `dx`. -/
theorem dx_at (h : Inv w d g x t.val X8 X9 X10 X11) (h3 : k0_cond3 (grid0.coords t) = 1#1) :
    k0_pay8 (View.ld (a9 w d t X9 X10) (Rect.unit (k0_off5 (grid0.coords t)) S1024x256.size (k0_off5_inb (grid0.coords t) h3) : Rect S7168x256))
      = k0_pay8 (ACC w d (t.val % 7) 18) := by
  rw [ld_block _ _ h3, a9_rows h, (cond3_iff t).1 h3]

end inv

end Cert.KernelIdeal.Hand

end
-- ==== Proof.Ideal.Run.lean ====
/-
  THE WHOLE RUN. The four pieces of the body chained at arbitrary contents; the proof data of the grid's pipeline with
  the invariant of Inv.lean on the scratch; the body's obligation; the run and the frame.
-/
module

public import proofs.«01_k».proof.Proof.Ideal.Inv

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The body at arbitrary contents -/

section body
variable (c : Dev nD) (i : grid0.Coords)
  (M2 : Memref sig .tc .vmem S1024x1024 .bf16) (h2 : M2.IsWhole) (M3 : Memref sig .tc .vmem S256x1024 .bf16) (h3 : M3.IsWhole)
  (M4 : Memref sig .tc .vmem S256x1024 .bf16) (h4 : M4.IsWhole) (M5 : Memref sig .tc .vmem S256x1024 .bf16) (h5 : M5.IsWhole)
  (M6 : Memref sig .tc .vmem S256x1024 .bf16) (h6 : M6.IsWhole) (M7 : Memref sig .tc .vmem S1024x1024 .f32) (h7 : M7.IsWhole)
  (M8 : Memref sig .tc .vmem S7168x256 .bf16) (h8 : M8.IsWhole) (M9 : Memref sig .tc .vmem S7168x256 .f32) (h9 : M9.IsWhole)
  (M10 : Memref sig .tc .vmem S256x1024 .bf16) (h10 : M10.IsWhole) (M11 : Memref sig .tc .vmem S256x1024 .bf16) (h11 : M11.IsWhole)
  (M12 : Memref sig .tc .vmem S256x1024 .bf16) (h12 : M12.IsWhole)

/-- The block of `dx` after a point. -/
def n6 (i : grid0.Coords) (X9 : S7168x256.Idx → Elt F .f32) (X6 : S256x1024.Idx → Elt F .bf16) : S256x1024.Idx → Elt F .bf16 :=
  if h : k0_cond3 i = 1#1 then k0_pay8 (View.ld X9 (Rect.unit (k0_off5 i) S1024x256.size (k0_off5_inb i h) : Rect S7168x256)) else X6

/-- The whole body at arbitrary contents. -/
theorem body_run (X2 : S1024x1024.Idx → Elt F .bf16) (X3 X4 X5 X6 : S256x1024.Idx → Elt F .bf16) (X7 : S1024x1024.Idx → Elt F .f32)
    (X8 : S7168x256.Idx → Elt F .bf16) (X9 : S7168x256.Idx → Elt F .f32) (X10 X11 : S256x1024.Idx → Elt F .bf16) :
    iprop(ow c M2 X2 ∗ ow c M3 X3 ∗ ow c M4 X4 ∗ ow c M5 X5 ∗ ow c M6 X6 ∗ ow c M7 X7 ∗ ow c M8 X8 ∗ ow c M9 X9 ∗ ow c M10 X10
      ∗ ow c M11 X11 ∗ (∃ d, ow (F := F) c M12 d))
    ⊢ wp frame (wpE (defs₀ (F := F)) Variants.none (c : Thread nD τ) none) Set.univ
        (cc0_mxfp4_bwd i M2 h2 M3 h3 M4 h4 M5 h5 M6 h6 M7 h7 M8 h8 M9 h9 M10 h10 M11 h11 M12 h12)
        (fun _ => iprop(ow c M2 X2 ∗ ow c M3 X3 ∗ ow c M4 X4 ∗ ow c M5 X5
          ∗ ow c M6 (n6 i (accIt i X2 (n10 i X3 X10) (n9 i X9) k0_t1_loop.trips) X6)
          ∗ ow c M7 (dwIt i (n8 i X5 X8) (n11 i X4 X11) X7 k0_t1_loop.trips)
          ∗ ow c M8 (n8 i X5 X8) ∗ ow c M9 (accIt i X2 (n10 i X3 X10) (n9 i X9) k0_t1_loop.trips) ∗ ow c M10 (n10 i X3 X10)
          ∗ ow c M11 (n11 i X4 X11) ∗ (∃ d, ow (F := F) c M12 d))) := by
  rw [body_eq]
  simp only [wp_bind]
  iintro ⟨H2, H3, H4, H5, H6, H7, H8, H9, H10, H11, H12⟩
  iapply wp_wand_r
  isplitl [H5 H8 H9 H12]
  · iapply (segA_run c i M2 h2 M3 h3 M4 h4 M5 h5 M6 h6 M7 h7 M8 h8 M9 h9 M10 h10 M11 h11 M12 h12 X5 X8 X9)
    isplitl [H5]; · iexact H5
    isplitl [H8]; · iexact H8
    isplitl [H9]; · iexact H9
    iexact H12
  iintro %_ ⟨H5, H8, H9, H12⟩
  iapply wp_wand_r
  isplitl [H3 H4 H10 H11]
  · iapply (segB_run c i M3 M4 M10 h10 M11 h11 X3 X4 X10 X11)
    isplitl [H3]; · iexact H3
    isplitl [H4]; · iexact H4
    isplitl [H10]; · iexact H10
    iexact H11
  iintro %_ ⟨H3, H4, H10, H11⟩
  iapply wp_wand_r
  isplitl [H2 H8 H10 H11 H7 H9 H12]
  · iapply (segC_run c i M2 h2 M3 h3 M4 h4 M5 h5 M6 h6 M7 h7 M8 h8 M9 h9 M10 h10 M11 h11 M12 h12 X2 (n8 i X5 X8) (n10 i X3 X10) (n11 i X4 X11) X7 (n9 i X9))
    isplitl [H2]; · iexact H2
    isplitl [H8]; · iexact H8
    isplitl [H10]; · iexact H10
    isplitl [H11]; · iexact H11
    isplitl [H7]; · iexact H7
    isplitl [H9]; · iexact H9
    iexact H12
  iintro %_ ⟨H2, H8, H10, H11, H7, H9, H12⟩
  iapply wp_wand_r
  isplitl [H6 H9]
  · iapply (segD_run c i M6 h6 M9 X6 (accIt i X2 (n10 i X3 X10) (n9 i X9) k0_t1_loop.trips))
    isplitl [H6]; · iexact H6
    iexact H9
  iintro %_ ⟨H6, H9⟩
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end body

/-! ## The pipeline's proof data -/

variable (m : (ℓ : Loc nD τ sig) → Buf (Elt F) ℓ) (ρ : Dev nD → PrngReg)

/-- Point `n`, for any `n`. -/
def pt (n : ℕ) : Fin cfg0.N := ⟨n % 126, lt_of_lt_of_eq (Nat.mod_lt n (by decide)) N_0.symm⟩

theorem pt_val (t : Fin cfg0.N) : pt t.val = t := Fin.ext (Nat.mod_eq_of_lt (lt_of_lt_of_eq t.isLt N_0))

/-- The block of weights at point `n`. -/
def wB (c : Dev nD) (n : ℕ) : S1024x1024.Idx → Elt F .bf16 := iblk m c 0 (pt n)
/-- The block of the first gradient at point `n`. -/
def dB (c : Dev nD) (n : ℕ) : S256x1024.Idx → Elt F .bf16 := iblk m c 1 (pt n)
/-- The block of the second gradient at point `n`. -/
def gB (c : Dev nD) (n : ℕ) : S256x1024.Idx → Elt F .bf16 := iblk m c 2 (pt n)
/-- The block of activations at point `n`. -/
def xB (c : Dev nD) (n : ℕ) : S256x1024.Idx → Elt F .bf16 := iblk m c 3 (pt n)

theorem wB_val (c : Dev nD) (t : Fin cfg0.N) : wB m c t.val = iblk m c 0 t := by unfold wB; rw [pt_val]
theorem dB_val (c : Dev nD) (t : Fin cfg0.N) : dB m c t.val = iblk m c 1 t := by unfold dB; rw [pt_val]
theorem gB_val (c : Dev nD) (t : Fin cfg0.N) : gB m c t.val = iblk m c 2 t := by unfold gB; rw [pt_val]
theorem xB_val (c : Dev nD) (t : Fin cfg0.N) : xB m c t.val = iblk m c 3 t := by unfold xB; rw [pt_val]

/-- The block of `dx` written at point `t` of the last `n`. -/
def dxBlk (c : Dev nD) (t : ℕ) : S256x1024.Idx → Elt F .bf16 := k0_pay8 (ACC (wB m c) (dB m c) (t % 7) 18)
/-- The block of `dw` written at point `t`. -/
def dwBlk (c : Dev nD) (t : ℕ) : S1024x1024.Idx → Elt F .f32 := dwB (tr (xB m c (t % 7))) (k0_pay3 (gB m c (7 * (t / 7))))

/-- The scratch after `t` points: the four live arrays at contents satisfying the invariant, the fifth at any. -/
def PhiS (c : Dev nD) (t : ℕ) : sProp 𝕄 :=
  iprop((∃ X8 X9 X10 X11, ⌜Inv (wB m c) (dB m c) (gB m c) (xB m c) t X8 X9 X10 X11⌝
      ∗ ow c (Memref.whole cc0_scratch0) X8 ∗ ow c (Memref.whole cc0_scratch1) X9 ∗ ow c (Memref.whole cc0_scratch2) X10
      ∗ ow c (Memref.whole cc0_scratch3) X11 ∗ (∃ d, ow (F := F) c (Memref.whole cc0_scratch4) d))
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => dxBlk m c t.val
    | ⟨5, _⟩ => dwBlk m c t.val
    | ⟨_ + 6, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = dxBlk m c t.val := by dsimp only [dats]
theorem after0_5 (c : Dev nD) (t : Fin cfg0.N) : (dats m 0 c).after 5 t = dwBlk m c t.val := by dsimp only [dats]

theorem Phi_pre (c : Dev nD) (t : Fin cfg0.N) : (dats m 0 c).Φ t.castSucc = PhiS m c t.val := by
  dsimp only [dats]; exact Pipeline.Dat.Φ_castSucc (fun n _ => PhiS m c n) t
theorem Phi_post (c : Dev nD) (t : Fin cfg0.N) : (dats m 0 c).Φ t.succ = PhiS m c (t.val + 1) := by
  dsimp only [dats]; rfl

theorem before0_0 (c : Dev nD) (t : Fin cfg0.N) (d) : (dats m 0 c).before 0 t d = wB m c t.val :=
  (before0_0_of m (dats m 0 c) (A_eq m c 0) (after0_0 m c) t d).trans (wB_val m c t).symm
theorem before0_1 (c : Dev nD) (t : Fin cfg0.N) (d) : (dats m 0 c).before 1 t d = dB m c t.val :=
  (before0_1_of m (dats m 0 c) (A_eq m c 1) (after0_1 m c) t d).trans (dB_val m c t).symm
theorem before0_2 (c : Dev nD) (t : Fin cfg0.N) (d) : (dats m 0 c).before 2 t d = gB m c t.val :=
  (before0_2_of m (dats m 0 c) (A_eq m c 2) (after0_2 m c) t d).trans (gB_val m c t).symm
theorem before0_3 (c : Dev nD) (t : Fin cfg0.N) (d) : (dats m 0 c).before 3 t d = xB m c t.val :=
  (before0_3_of m (dats m 0 c) (A_eq m c 3) (after0_3 m c) t d).trans (xB_val m c t).symm

/-- Window 4 is not written back before the last `n`. -/
theorem flush0_4 : ∀ t : Fin cfg0.N, t.val / 7 ≠ 17 → (cfg0.win 4).flush t = false := by
  have h : ∀ t : Fin grid0.N, t.val / 7 ≠ 17 → win0_4.flush t = false := by decide +kernel
  exact h

/-- What a point leaves in window 4's staging buffer: written on the last `n`, in place before it. -/
def post4 (c : Dev nD) (t : Fin cfg0.N) : sProp 𝕄 :=
  if t.val / 7 = 17 then owns (c : Thread nD τ) (st0_4 t) fullShare ((dats m 0 c).after 4 t)
  else iprop(∃ d, owns (c : Thread nD τ) (st0_4 t) fullShare ((dats m 0 c).before 4 t d))

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ post4 m c t
    ∗ owns (c : Thread nD τ) (st0_5 t) fullShare ((dats m 0 c).after 5 t))

theorem n6_post (c : Dev nD) (t : Fin cfg0.N) (X8 : S7168x256.Idx → Elt F .bf16) (X9 : S7168x256.Idx → Elt F .f32) (X10 X11 : S256x1024.Idx → Elt F .bf16)
    (h : Inv (wB m c) (dB m c) (gB m c) (xB m c) t.val X8 X9 X10 X11) (d) :
    owns (c : Thread nD τ) (st0_4 t) fullShare (n6 (grid0.coords t) (a9 (wB m c) (dB m c) t X9 X10) ((dats m 0 c).before 4 t d))
      ⊢ post4 m c t := by
  unfold post4 n6
  by_cases h3 : k0_cond3 (grid0.coords t) = 1#1
  · rw [dif_pos h3, if_pos ((cond3_iff t).1 h3), after0_4, dx_at h h3]
    exact .rfl
  · rw [dif_neg h3, if_neg fun e => h3 ((cond3_iff t).2 e)]
    iintro H; iexists d; iexact H

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_pre, Phi_post, after0_0, after0_1, after0_2, after0_3, after0_5]
  simp only [before0_0, before0_1, before0_2, before0_3]
  unfold PhiS Dat.owesAt Pipeline.owesWithin
  rw [show (dats m 0 c).owed t.castSucc = 0 from rfl, show (dats m 0 c).owed t.succ = 0 from rfl]
  iintro ⟨⟨⟨%X8, %X9, %X10, %X11, %hI, HS0, HS1, HS2, HS3, HS4⟩, Hg⟩, ⟨%W, -, HW⟩, ⟨%d0, H0⟩, ⟨%d1, H1⟩, ⟨%d2, H2⟩, ⟨%d3, H3⟩, ⟨%d4, H4⟩, ⟨%d5, H5⟩⟩
  iapply wp_wand_r
  isplitl [HS0 HS1 HS2 HS3 HS4 H0 H1 H2 H3 H4 H5]
  · iapply (body_run c (grid0.coords t) _ _ _ _ _ _ _ _ _ _ _ _ _ _ _ _ _ _ _ _ _ _ (wB m c t.val) (dB m c t.val) (gB m c t.val) (xB m c t.val)
      ((dats m 0 c).before 4 t d4) ((dats m 0 c).before 5 t d5) X8 X9 X10 X11)
    isplitl [H0]; · iexact H0
    isplitl [H1]; · iexact H1
    isplitl [H2]; · iexact H2
    isplitl [H3]; · iexact H3
    isplitl [H4]; · iexact H4
    isplitl [H5]; · iexact H5
    isplitl [HS0]; · iexact HS0
    isplitl [HS1]; · iexact HS1
    isplitl [HS2]; · iexact HS2
    isplitl [HS3]; · iexact HS3
    iexact HS4
  iintro %_ ⟨H0, H1, H2, H3, H4, H5, HS0, HS1, HS2, HS3, HS4⟩
  isplitl [HS0 HS1 HS2 HS3 HS4 Hg]
  · isplitl [HS0 HS1 HS2 HS3 HS4]
    · iexists _, _, _, _
      isplitr
      · ipureintro; exact hI.step
      isplitl [HS0]; · iexact HS0
      isplitl [HS1]; · iexact HS1
      isplitl [HS2]; · iexact HS2
      isplitl [HS3]; · iexact HS3
      iexact HS4
    iexact Hg
  isplitl [HW]
  · iexists W; isplitr; · ipureintro; exact fun _ _ => Or.inl trivial
    iexact HW
  isplitl [H0]; · rw [← wB_val]; iexact H0
  isplitl [H1]; · rw [← dB_val]; iexact H1
  isplitl [H2]; · rw [← gB_val]; iexact H2
  isplitl [H3]; · rw [← xB_val]; iexact H3
  isplitl [H4]; · iapply (n6_post m c t X8 X9 X10 X11 hI d4); iexact H4
  rw [show dwBlk m c t.val = _ from (dw_at hI ((dats m 0 c).before 5 t d5)).symm]
  iexact H5

theorem defs₀_row (t : Fin cfg0.N) :
    defs₀ (F := F) .tc cfg0.body (cfg0.bodyArgs t (cfg0.slots t)) = bodyAt0 t := by
  unfold defs₀; rw [Defs.onTc_tc]

/-- Window 4's clause of the body's post, at its two kinds of points. -/
theorem post4_eq (c : Dev nD) (t : Fin cfg0.N) :
    (match cfg0.idle 4 (cfg0.grid.coords t) with
      | true => (match (cfg0.win 4).flush t with
        | false => iprop(∃ d, owns (c : Thread nD τ) (st0_4 t) fullShare ((dats m 0 c).before 4 t d))
        | true => owns (c : Thread nD τ) (st0_4 t) fullShare ((dats m 0 c).after 4 t))
      | false => owns (c : Thread nD τ) (st0_4 t) fullShare ((dats m 0 c).after 4 t) : sProp 𝕄) = post4 m c t := by
  unfold post4
  by_cases h : t.val / 7 = 17
  · rw [show cfg0.idle 4 (cfg0.grid.coords t) = false from by
      show (!(k0_cond3 (grid0.coords t) == 1#1)) = false
      rw [(cond3_iff t).2 h]; rfl, if_pos h]
  · rw [show cfg0.idle 4 (cfg0.grid.coords t) = true from by
      show (!(k0_cond3 (grid0.coords t) == 1#1)) = true
      have : ¬ k0_cond3 (grid0.coords t) = 1#1 := fun e => h ((cond3_iff t).1 e)
      simp [this], flush0_4 t h, if_neg h]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost
  rw [← post4_eq]
  exact .rfl

/-! ## The run and the frame -/

theorem scratch_eq (c : Dev nD) :
    (Pipeline.scopedRest (Ix := Unit) (Name := ℕ) (U := UR sig nD τ) (Lvl := ℕ) (Val := Elt F) spec0 c : sProp 𝕄)
      = iprop((∃ d, ow (F := F) c (Memref.whole cc0_scratch0) d) ∗ (∃ d, ow (F := F) c (Memref.whole cc0_scratch1) d)
        ∗ (∃ d, ow (F := F) c (Memref.whole cc0_scratch2) d) ∗ (∃ d, ow (F := F) c (Memref.whole cc0_scratch3) d)
        ∗ (∃ d, ow (F := F) c (Memref.whole cc0_scratch4) d)) := by
  rw [scopedRest0_eq]
  unfold ow
  simp only [owns_whole]; try rfl

theorem Phi_in (c : Dev nD) : (Pipeline.ΦA spec0 c : sProp 𝕄) ⊢ (dats m 0 c).Φ 0 := by
  show (Pipeline.ΦA spec0 c : sProp 𝕄) ⊢ PhiS m c 0
  unfold Pipeline.ΦA PhiS
  rw [scratch_eq]
  iintro ⟨⟨⟨%X8, H0⟩, ⟨%X9, H1⟩, ⟨%X10, H2⟩, ⟨%X11, H3⟩, H4⟩, Hg⟩
  isplitl [H0 H1 H2 H3 H4]
  · iexists X8, X9, X10, X11
    isplitr
    · ipureintro; exact Inv.zero _ _ _ _ X8 X9 X10 X11
    isplitl [H0]; · iexact H0
    isplitl [H1]; · iexact H1
    isplitl [H2]; · iexact H2
    isplitl [H3]; · iexact H3
    iexact H4
  iexact Hg

theorem Phi_out (c : Dev nD) : (dats m 0 c).Φ (Fin.last cfg0.N) ⊢ (Pipeline.ΦA spec0 c : sProp 𝕄) := by
  show PhiS m c _ ⊢ (Pipeline.ΦA spec0 c : sProp 𝕄)
  unfold Pipeline.ΦA PhiS
  rw [scratch_eq]
  iintro ⟨⟨%X8, %X9, %X10, %X11, %_, H0, H1, H2, H3, H4⟩, Hg⟩
  isplitl [H0 H1 H2 H3 H4]
  · isplitl [H0]; · iexists X8; iexact H0
    isplitl [H1]; · iexists X9; iexact H1
    isplitl [H2]; · iexists X10; iexact H2
    isplitl [H3]; · iexists X11; iexact H3
    iexact H4
  iexact Hg

set_option backward.isDefEq.respectTransparency.types false in
/-- The kernel's run ends, every array as the pipeline's data says and every semaphore back at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := Phi_in m) (hout := Phi_out m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  frame_of m ρ (dats m) (A_eq m) ((θ_run defs _ _).mono (fun _ h => h.1) (run_main m ρ))

end Cert.KernelIdeal.Hand

end
-- ==== Proof.Ideal.Blocks.lean ====
/-
  THE BLOCKS AT COORDINATES. Each input window's block at a grid point, read off the array it is staged from.
-/
module

public import proofs.«01_k».proof.Proof.Ideal.Run
public import Idealize.ShloMosaic.Lib.Pointwise

@[expose] public section

noncomputable section

namespace Cert.KernelIdeal.Hand

open Cert.KernelIdeal Cert.KernelIdeal.Gen
open Idealize.ShloMosaic Idealize.ShloMosaic.TcCoe
open Idealize.ShloMosaic.Pipeline (Dat Cfg Window)

variable {F : FTy → Type} [FloatOps F]
variable (m : (ℓ : Loc nD τ sig) → Buf (Elt F) ℓ)

theorem index0 : ∀ t : Fin cfg0.N, win0_0.index t = ![t.val % 7, t.val / 7] := by
  have h : ∀ t : Fin grid0.N, win0_0.index t = ![t.val % 7, t.val / 7] := by decide +kernel
  exact h
theorem index1 : ∀ t : Fin cfg0.N, win0_1.index t = ![0, t.val / 7] := by
  have h : ∀ t : Fin grid0.N, win0_1.index t = ![0, t.val / 7] := by decide +kernel
  exact h
theorem index2 : ∀ t : Fin cfg0.N, win0_2.index t = ![0, t.val / 7] := by
  have h : ∀ t : Fin grid0.N, win0_2.index t = ![0, t.val / 7] := by decide +kernel
  exact h
theorem index3 : ∀ t : Fin cfg0.N, win0_3.index t = ![0, if t.val < 7 then t.val else 6] := by
  have h : ∀ t : Fin grid0.N, win0_3.index t = ![0, if t.val < 7 then t.val else 6] := by decide +kernel
  exact h
theorem index4 : ∀ t : Fin cfg0.N, win0_4.index t = ![0, if t.val / 7 = 17 then t.val % 7 else 0] := by
  have h : ∀ t : Fin grid0.N, win0_4.index t = ![0, if t.val / 7 = 17 then t.val % 7 else 0] := by decide +kernel
  exact h
theorem index5 : ∀ t : Fin cfg0.N, win0_5.index t = ![t.val % 7, t.val / 7] := by
  have h : ∀ t : Fin grid0.N, win0_5.index t = ![t.val % 7, t.val / 7] := by decide +kernel
  exact h

theorem pt_mod (n : ℕ) (h : n < 126) : (pt n).val = n := Nat.mod_eq_of_lt h

theorem wB_at (c : Dev nD) (n : ℕ) (h : n < 126) (y : S1024x1024.Idx) (z : S7168x18432.Idx)
    (h0 : (z 0).val = 1024 * (n % 7) + (y 0).val) (h1 : (z 1).val = 1024 * (n / 7) + (y 1).val) :
    wB m c n y = m ((c : Thread nD τ).loc main_arg3) z := by
  have e := pt_mod n h
  unfold wB
  blk_simp [iblk, index0]
  rw [V_main_arg3]
  congr 1
  blk_ext [index0] <;> simp [index0, e] <;> omega

theorem dB_at (c : Dev nD) (n : ℕ) (h : n < 126) (y : S256x1024.Idx) (z : S256x18432.Idx)
    (h0 : (z 0).val = (y 0).val) (h1 : (z 1).val = 1024 * (n / 7) + (y 1).val) :
    dB m c n y = V m c main_v0 z := by
  have e := pt_mod n h
  unfold dB
  blk_simp [iblk, index1]
  congr 1
  blk_ext [index1] <;> simp [index1, e] <;> omega

theorem gB_at (c : Dev nD) (n : ℕ) (h : n < 126) (y : S256x1024.Idx) (z : S256x18432.Idx)
    (h0 : (z 0).val = (y 0).val) (h1 : (z 1).val = 1024 * (n / 7) + (y 1).val) :
    gB m c n y = V m c main_v1 z := by
  have e := pt_mod n h
  unfold gB
  blk_simp [iblk, index2]
  congr 1
  blk_ext [index2] <;> simp [index2, e] <;> omega

theorem xB_at (c : Dev nD) (n : ℕ) (h : n < 7) (y : S256x1024.Idx) (z : S256x7168.Idx)
    (h0 : (z 0).val = (y 0).val) (h1 : (z 1).val = 1024 * n + (y 1).val) :
    xB m c n y = V m c main_v2 z := by
  have e := pt_mod n (by omega)
  unfold xB
  blk_simp [iblk, index3]
  congr 1
  blk_ext [index3] <;> simp [index3, e, h] <;> omega

theorem V_main_v0 (c : Dev nD) : V m c main_v0 = shapeCast S256x18432 (m ((c : Thread nD τ).loc main_arg2)) shapeCasts_S2x128x18432_S256x18432 := by
  unfold V hostOps0; after_results <;> rfl
theorem V_main_v1 (c : Dev nD) : V m c main_v1 = shapeCast S256x18432 (m ((c : Thread nD τ).loc main_arg1)) shapeCasts_S2x128x18432_S256x18432 := by
  unfold V hostOps0; after_results <;> rfl
theorem V_main_v2 (c : Dev nD) : V m c main_v2 = shapeCast S256x7168 (m ((c : Thread nD τ).loc main_arg0)) shapeCasts_S2x128x7168_S256x7168 := by
  unfold V hostOps0; after_results <;> rfl

end Cert.KernelIdeal.Hand

end
-- ==== Proof.Ideal.Value.lean ====
/-
  WHAT THE TWO RESULTS HOLD, over the extended reals: `dx` and `dw` as sums of products over the arguments.
-/
module

public import proofs.«01_k».proof.Proof.Ideal.Blocks

@[expose] public section

noncomputable section

namespace Cert.KernelIdeal.Hand

open Cert.KernelIdeal Cert.KernelIdeal.Gen
open Idealize.ShloMosaic Idealize.ShloMosaic.TcCoe
open Idealize.ShloMosaic.Pipeline (Dat Cfg Window)

/-- The scale `1 / 0.75²` as the programs' constant reads over the extended reals. -/
def usc : EReal := (Scalar.ofBits .f32 0x3FE38E39#32 : Ideal .f32)

/-! ## The payloads at an index -/

theorem pay2_at (y : S1024x256.Idx) : (k0_pay2 (F := Ideal)) y = 0 := by
  unfold k0_pay2
  rw [shapeCast_self]
  exact Ideal.ofBits_zero_f32

theorem pay3_eq (v : S256x1024.Idx → EReal) : k0_pay3 (F := Ideal) v = v := by
  unfold k0_pay3; dsimp only; rw [shapeCast_self, shapeCast_self]
theorem pay4_eq (v : S256x1024.Idx → EReal) : k0_pay4 (F := Ideal) v = v := by
  unfold k0_pay4; dsimp only; rw [shapeCast_self, shapeCast_self]
theorem pay6_eq (v : S256x1024.Idx → EReal) : k0_pay6 (F := Ideal) v = v := by
  unfold k0_pay6; rw [shapeCast_self]

theorem pay5_at (T : S256x256.Idx → EReal) (G : S256x1024.Idx → EReal) (y : S256x1024.Idx) :
    k0_pay5 (F := Ideal) T G y = (∑ j : Fin 256, T (ValueIdx.ix2 (y 0) j) * G (ValueIdx.ix2 j (y 1))) * usc := by
  unfold k0_pay5
  simp only [pointwise]
  rw [zero_add]
  rfl

theorem pay7_at (A : S256x256.Idx → EReal) (W D : S256x1024.Idx → EReal) (y : S256x256.Idx) :
    k0_pay7 (F := Ideal) A W D y = A y + ∑ j : Fin 1024, W (ValueIdx.ix2 (y 0) j) * D (ValueIdx.ix2 (y 1) j) := by
  unfold k0_pay7
  simp only [pointwise]
  rw [zero_add]
  rfl

theorem pay8_at (A : S1024x256.Idx → EReal) (y : S256x1024.Idx) :
    k0_pay8 (F := Ideal) A y = A (ValueIdx.ix2 (y 1) (y 0)) * usc := by
  unfold k0_pay8
  simp only [pointwise]
  rfl

/-! ## The accumulator's block in closed form -/

theorem accStep_at (A : S1024x256.Idx → EReal) (W : S1024x1024.Idx → EReal) (D : S256x1024.Idx → EReal) (y : S1024x256.Idx) :
    accStep (F := Ideal) A W D y = A y + ∑ j : Fin 1024, W (ValueIdx.ix2 (y 0) j) * D (ValueIdx.ix2 (y 1) j) := by
  have e0 : ∀ {n : ℕ} (h : 256 * ((y 0).val / 256) + (y 0).val % 256 < n), (⟨256 * ((y 0).val / 256) + (y 0).val % 256, h⟩ : Fin n).val = (y 0).val :=
    fun _ => Nat.div_add_mod _ _
  unfold accStep
  rw [pay7_at, pay6_eq]
  congr 1
  · unfold strip stripOf inStrip
    congr 1
    funext a
    match a with
    | 0 => exact Fin.ext (e0 _)
    | 1 => rfl
  · refine Finset.sum_congr rfl fun j _ => ?_
    congr 1
    unfold strip stripOf inStrip
    congr 1
    funext a
    match a with
    | 0 => exact Fin.ext (e0 _)
    | 1 => rfl

theorem ACC_at (w : ℕ → S1024x1024.Idx → EReal) (d : ℕ → S256x1024.Idx → EReal) (k : ℕ) (y : S1024x256.Idx) :
    ∀ n, ACC (F := Ideal) w d k n y
      = ∑ i ∈ Finset.range n, ∑ j : Fin 1024, w (7 * i + k) (ValueIdx.ix2 (y 0) j) * d (7 * i) (ValueIdx.ix2 (y 1) j)
  | 0 => pay2_at y
  | n + 1 => by
    rw [Finset.sum_range_succ, ← ACC_at w d k y n, ACC, accStep_at, pay4_eq]

theorem dwB_at (T : S1024x256.Idx → EReal) (G : S256x1024.Idx → EReal) (y : S1024x1024.Idx) :
    dwB (F := Ideal) T G y = (∑ j : Fin 256, T (ValueIdx.ix2 (y 0) j) * G (ValueIdx.ix2 j (y 1))) * usc := by
  unfold dwB
  rw [pay5_at]
  congr 1
  refine Finset.sum_congr rfl fun j _ => ?_
  congr 1
  unfold strip stripOf inStrip
  congr 1
  funext a
  match a with
  | 0 => exact Fin.ext (Nat.div_add_mod _ _)
  | 1 => rfl

/-- A sum over 18432 in eighteen runs of 1024. -/
theorem sum_blocks (f : Fin 18432 → EReal) :
    ∑ n : Fin 18432, f n = ∑ i : Fin 18, ∑ j : Fin 1024, f ⟨1024 * i.val + j.val, by have := i.isLt; have := j.isLt; omega⟩ := by
  rw [← Fintype.sum_prod_type']
  refine (Fintype.sum_equiv (finProdFinEquiv (m := 18) (n := 1024)) _ f fun p => ?_).symm
  congr 1
  exact Fin.ext (Nat.add_comm _ _)

/-! ## The two results -/

variable (m : (ℓ : Loc nD τ sig) → Buf (Elt Ideal) ℓ)

/-- The weight, the two gradients and the activations as the region finds them. -/
def wV (c : Dev nD) : S7168x18432.Idx → EReal := m ((c : Thread nD τ).loc main_arg3)
def dV (c : Dev nD) : S256x18432.Idx → EReal := V m c main_v0
def gV (c : Dev nD) : S256x18432.Idx → EReal := V m c main_v1
def xV (c : Dev nD) : S256x7168.Idx → EReal := V m c main_v2

/-- `dx` at a token and a feature: the products of the weight's row and the gradient's, summed over all 18432, scaled. -/
def dxK (c : Dev nD) : S256x7168.Idx → EReal := fun z =>
  (∑ n : Fin 18432, wV m c (ValueIdx.ix2 (z 1) n) * dV m c (ValueIdx.ix2 (z 0) n)) * usc
/-- `dw` at a row and a column: the products of activations and gradients, summed over the 256 tokens, scaled. -/
def dwK (c : Dev nD) : S7168x18432.Idx → EReal := fun z =>
  (∑ j : Fin 256, xV m c (ValueIdx.ix2 j (z 0)) * gV m c (ValueIdx.ix2 j (z 1))) * usc

theorem dxBlk_at (c : Dev nD) (t : ℕ) (ht : t < 126) (y : S256x1024.Idx) (z : S256x7168.Idx) (h0 : (z 0).val = (y 0).val)
    (h1 : (z 1).val = 1024 * (t % 7) + (y 1).val) : dxBlk m c t y = dxK m c z := by
  unfold dxBlk dxK
  rw [pay8_at, ACC_at, sum_blocks, Finset.sum_range]
  congr 1
  refine Finset.sum_congr rfl fun i _ => Finset.sum_congr rfl fun j _ => ?_
  have hi := i.isLt
  have hw : wB m c (7 * i.val + t % 7) (ValueIdx.ix2 (y 1) j) = wV m c (ValueIdx.ix2 (z 1) ⟨1024 * i.val + j.val, by have := j.isLt; omega⟩) :=
    wB_at m c _ (by omega) _ _
      (by show (z 1).val = 1024 * ((7 * i.val + t % 7) % 7) + (y 1).val; omega)
      (by show 1024 * i.val + j.val = 1024 * ((7 * i.val + t % 7) / 7) + j.val; omega)
  have hd : dB m c (7 * i.val) (ValueIdx.ix2 (y 0) j) = dV m c (ValueIdx.ix2 (z 0) ⟨1024 * i.val + j.val, by have := j.isLt; omega⟩) :=
    dB_at m c _ (by omega) _ _ h0 (by show 1024 * i.val + j.val = 1024 * (7 * i.val / 7) + j.val; omega)
  exact congrArg₂ (· * ·) hw hd

theorem dwBlk_at (c : Dev nD) (t : ℕ) (ht : t < 126) (y : S1024x1024.Idx) (z : S7168x18432.Idx)
    (h0 : (z 0).val = 1024 * (t % 7) + (y 0).val) (h1 : (z 1).val = 1024 * (t / 7) + (y 1).val) : dwBlk m c t y = dwK m c z := by
  unfold dwBlk dwK
  rw [dwB_at, pay3_eq]
  refine congrArg (· * usc) (Finset.sum_congr rfl fun j _ => congrArg₂ (· * ·) ?_ ?_)
  · exact xB_at m c _ (by omega) _ _ rfl h0
  · exact gB_at m c _ (by omega) _ _ rfl (by show (z 1).val = 1024 * (7 * (t / 7) / 7) + (y 1).val; omega)

theorem final_dx (c : Dev nD) : (dats m 0 c).arrAt 4 cfg0.N = dxK m c := by
  refine (dats m 0 c).arrAt_eq_of_covers 4 _ (by decide +kernel) fun t hf y => ?_
  have h17 : t.val / 7 = 17 := by
    by_contra h
    rw [flush0_4 t h] at hf
    exact absurd hf (by decide)
  blk_simp
  rw [after0_4]
  refine dxBlk_at m c t.val (lt_of_lt_of_eq t.isLt N_0) _ _ ?_ ?_
  · blk_simp [index4]
  · blk_simp [index4]; simp [index4, h17] <;> omega

theorem final_dw (c : Dev nD) : (dats m 0 c).arrAt 5 cfg0.N = dwK m c := by
  refine (dats m 0 c).arrAt_eq_of_covers 5 _ (by decide +kernel) fun t hf y => ?_
  blk_simp
  rw [after0_5]
  refine dwBlk_at m c t.val (lt_of_lt_of_eq t.isLt N_0) _ _ ?_ ?_
  · blk_simp [index5]; simp [index5] <;> omega
  · blk_simp [index5]; simp [index5] <;> omega

end Cert.KernelIdeal.Hand

end
-- ==== Proof.Reference.lean ====
/-
  WHAT THE REFERENCE'S TWO RESULTS HOLD, over the extended reals, read at an index.
-/
module

public import proofs.«01_k».proof.Proof.Gen.ReferenceIdeal.Run
public import Idealize.ShloMosaic.Lib.Pointwise

@[expose] public section

noncomputable section

namespace Cert.ReferenceIdeal.Hand

open Cert.ReferenceIdeal Cert.ReferenceIdeal.Gen
open Idealize.ShloMosaic Idealize.ShloMosaic.TcCoe

/-- The scale `1 / 0.75²` as the reference's constant reads over the extended reals. -/
def usc : EReal := (Scalar.ofBits .f32 0x3FE38E39#32 : Ideal .f32)

/-- The reference's first result, before it is laid out as rows, as a term of the gradient `d` and the weight `w`. -/
def refDx (d : FVec Ideal S2x128x18432 .bf16) (w : FVec Ideal S7168x18432 .bf16) : FVec Ideal S2x128x7168 .bf16 :=
  truncf .bf16 (mulf (Host.dotGeneral dot_S2x128x18432_S7168x18432_S2x128x7168_2_1_01_0_n_n none d w)
    (broadcastInDim S2x128x7168 ![] bcast_S_S2x128x7168 (constant S_ .f32 0x3FE38E39#32))) bitsLt_bf16_f32

/-- The reference's second result as a term of the activations `x` and the gradient `g`. -/
def refDw (x : FVec Ideal S2x128x7168 .bf16) (g : FVec Ideal S2x128x18432 .bf16) : FVec Ideal S7168x18432 .f32 :=
  mulf (Host.dotGeneral dot_S2x128x7168_S2x128x18432_S7168x18432_01_01_2_2_n_n none x g)
    (broadcastInDim S7168x18432 ![] bcast_S_S7168x18432 (constant S_ .f32 0x3FE38E39#32))

/-- At a sequence, a token and a feature: the products of gradient and weight, summed over the 18432 outputs, scaled. -/
theorem refDx_at (d : S2x128x18432.Idx → EReal) (w : S7168x18432.Idx → EReal) (y : S2x128x7168.Idx) :
    refDx d w y = (∑ n : Fin 18432, d (ValueIdx.ix3 (y 0) (y 1) n) * w (ValueIdx.ix2 (y 2) n)) * usc := by
  unfold refDx
  simp only [pointwise]
  rw [zero_add]
  rfl

/-- At a row and a column: the products of activation and gradient, summed over sequences and tokens, scaled. -/
theorem refDw_at (x : S2x128x7168.Idx → EReal) (g : S2x128x18432.Idx → EReal) (y : S7168x18432.Idx) :
    refDw x g y = (∑ b : Fin 2, ∑ s : Fin 128, x (ValueIdx.ix3 b s (y 0)) * g (ValueIdx.ix3 b s (y 1))) * usc := by
  unfold refDw
  simp only [pointwise]
  rw [zero_add]
  rfl

end Cert.ReferenceIdeal.Hand

end
-- ==== Proof.Equation.lean ====
/-
  THE EQUATION. The kernel's two arrays are the reference's two results, over the extended reals.
-/
module

public import proofs.«01_k».proof.Proof.Ideal.Value
public import proofs.«01_k».proof.Proof.Reference
public import Idealize.ShloMosaic.Lib.Pointwise.Reshape

@[expose] public section

noncomputable section

namespace Cert.Equation

open Idealize.ShloMosaic Idealize.ShloMosaic.TcCoe
open Cert.KernelIdeal Cert.KernelIdeal.Gen Cert.KernelIdeal.Hand
open Cert.ReferenceIdeal.Hand (refDx refDw refDx_at refDw_at)

/-- The rows of the two sequences laid one after the other: row `t` is token `t % 128` of sequence `t / 128`. -/
theorem rows_f (X : S2x128x18432.Idx → EReal) (h : S2x128x18432.ShapeCasts S256x18432) (t : Fin 256) (n : Fin 18432)
    (b : Fin 2) (s : Fin 128) (e : t.val = 128 * b.val + s.val) :
    shapeCast S256x18432 X h (ValueIdx.ix2 t n) = X (ValueIdx.ix3 b s n) := by
  refine Idealize.ShloMosaic.shapeCast_apply X h _ _ ?_
  rw [Idealize.ShloMosaic.rowMajor_val2 _ 18432 rfl, Idealize.ShloMosaic.rowMajor_val3 _ (128 * 18432) 18432 rfl rfl]
  show b.val * (128 * 18432) + s.val * 18432 + n.val = t.val * 18432 + n.val
  omega

/-- The same for the activations and for `dx`, of 7168 columns. -/
theorem rows_d (X : S2x128x7168.Idx → EReal) (h : S2x128x7168.ShapeCasts S256x7168) (t : Fin 256) (n : Fin 7168)
    (b : Fin 2) (s : Fin 128) (e : t.val = 128 * b.val + s.val) :
    shapeCast S256x7168 X h (ValueIdx.ix2 t n) = X (ValueIdx.ix3 b s n) := by
  refine Idealize.ShloMosaic.shapeCast_apply X h _ _ ?_
  rw [Idealize.ShloMosaic.rowMajor_val2 _ 7168 rfl, Idealize.ShloMosaic.rowMajor_val3 _ (128 * 7168) 7168 rfl rfl]
  show b.val * (128 * 7168) + s.val * 7168 + n.val = t.val * 7168 + n.val
  omega

/-- A sum over the 256 rows, by sequence and token. -/
theorem sum_rows (f : Fin 256 → EReal) :
    ∑ t : Fin 256, f t = ∑ b : Fin 2, ∑ s : Fin 128, f ⟨128 * b.val + s.val, by have := b.isLt; have := s.isLt; omega⟩ := by
  rw [← Fintype.sum_prod_type']
  refine (Fintype.sum_equiv (finProdFinEquiv (m := 2) (n := 128)) _ f fun p => ?_).symm
  congr 1
  exact Fin.ext (Nat.add_comm _ _)

variable (m : (ℓ : Loc nD τ sig) → Buf (Elt Ideal) ℓ)

/-- The kernel's `dx` is the reference's: the products commuted, the sum in another order. -/
theorem dx_eq (c : Dev nD) : dxK m c
    = shapeCast S256x7168 (refDx (m ((c : Thread nD τ).loc main_arg2)) (m ((c : Thread nD τ).loc main_arg3)))
        Cert.ReferenceIdeal.Gen.facts.shapeCasts_S2x128x7168_S256x7168 := by
  funext z
  have hz := (z 0).isLt
  have e : (z 0).val = 128 * ((z 0).val / 128) + (z 0).val % 128 := (Nat.div_add_mod _ _).symm
  obtain ⟨b, hb⟩ : ∃ b : Fin 2, b.val = (z 0).val / 128 := ⟨⟨(z 0).val / 128, by change (z 0).val < 256 at hz; omega⟩, rfl⟩
  obtain ⟨s, hs⟩ : ∃ s : Fin 128, s.val = (z 0).val % 128 := ⟨⟨(z 0).val % 128, by omega⟩, rfl⟩
  rw [← hb, ← hs] at e
  refine Eq.trans ?_ (Eq.symm (Eq.trans (congrArg _ (ValueIdx.eq_ix2 z)) ((rows_d _ _ (z 0) (z 1) b s e).trans (refDx_at _ _ _))))
  refine congrArg (· * usc) (Finset.sum_congr rfl fun n _ => ?_)
  refine (mul_comm _ _).trans (congrArg₂ (· * ·) ?_ rfl)
  exact (congrFun (V_main_v0 m c) _).trans (rows_f _ _ _ n b s e)

/-- The kernel's `dw` is the reference's: the sum over rows taken by sequence and token. -/
theorem dw_eq (c : Dev nD) : dwK m c
    = refDw (m ((c : Thread nD τ).loc main_arg0)) (m ((c : Thread nD τ).loc main_arg1)) := by
  funext z
  refine Eq.trans ?_ (refDw_at _ _ z).symm
  refine congrArg (· * usc) ((sum_rows _).trans (Finset.sum_congr rfl fun b _ => Finset.sum_congr rfl fun s _ => ?_))
  exact congrArg₂ (· * ·) ((congrFun (V_main_v2 m c) _).trans (rows_d _ _ _ _ b s rfl))
    ((congrFun (V_main_v1 m c) _).trans (rows_f _ _ _ _ b s rfl))

end Cert.Equation

end
-- ==== Proof.ViewFacts.lean ====
/-
  READS AFTER WRITES, for any kernel: a view read after a write of part of it, and contents read or overlaid through a
  rectangle, at an index.
-/
module

public import Idealize.ShloMosaic.Lib.Tactic
public import Idealize.ShloMosaic.Lib.Pipeline.Kit
public import Idealize.ShloMosaic.Lib.WritesUnit
public import Idealize.ShloMosaic.Lib.Pipeline.ValueKit
public import Idealize.ShloMosaic.Lib.ValueIdxCore

@[expose] public section

noncomputable section

namespace Cert.ViewFacts

open Idealize.ShloMosaic

variable {F : FTy → Type} [FloatOps F] {sig : RefSig}

/-- What a view reads after one more write is the write's payload laid over what it read before. -/
theorem read_writes_cons {sp : Space} {s : Shape} {e : EltTy} (v : View sig .tc sp s e) (f : v.ty.Contents (Elt F))
    (r : Rect s) (w : r.shape.Idx → Elt F e) (L : List (View.Piece (Elt F) s e)) :
    v.read (Elt F) (v.writes (Elt F) f (⟨r, w⟩ :: L)) = r.overlay (v.read (Elt F) (v.writes (Elt F) f L)) w := by
  funext y
  by_cases hy : y ∈ r.set
  · obtain ⟨x, rfl⟩ : ∃ x, r.emb x = y := r.exists_idx_of_mem hy
    rw [View.read_writes_cons_emb, Rect.overlay_emb]
  · have hy' : y ∉ Finset.univ.map r.emb := by rwa [Rect.map_emb_univ]
    rw [View.writes_cons, View.read_slice_write_of_not_mem r _ _ _ hy', Rect.overlay_of_not_mem _ _ _ hy]

/-- What a view reads after one write of its whole shape. -/
theorem read_writes_whole {sp : Space} {s : Shape} {e : EltTy} (v : View sig .tc sp s e) (f : v.ty.Contents (Elt F))
    {off : Fin s.rank → ℕ} (h : ∀ a, off a = 0) (inb : ∀ a, off a + s.size a ≤ s.size a) (w : s.Idx → Elt F e)
    (L : List (View.Piece (Elt F) s e)) :
    v.read (Elt F) (v.writes (Elt F) f (⟨Rect.unit off s.size inb, w⟩ :: L)) = w := by
  obtain rfl : off = fun _ => 0 := funext h
  rw [read_writes_cons]
  funext y
  have hy : (Rect.unit (fun _ => 0) s.size inb).emb y = y := by
    funext a; exact Fin.ext (by simp [Rect.emb, Rect.unit])
  conv_lhs => rw [← hy]
  exact Rect.overlay_emb _ _ _ _

/-- Reading all of a contents through the rectangle of its whole shape. -/
theorem ld_whole {s : Shape} {e : EltTy} {off : Fin s.rank → ℕ} (h : ∀ a, off a = 0) (inb : ∀ a, off a + s.size a ≤ s.size a)
    (X : s.Idx → Elt F e) : View.ld X (Rect.unit off s.size inb) = X := View.ld_unit_lit inb X h

theorem z2 : ∀ a, (![0, 0] : Fin 2 → ℕ) a = 0 := by decide

/-- An overlay read inside its rectangle. -/
theorem ov_in {s : Shape} {α : Type} (off size : Fin s.rank → ℕ) (inb : ∀ a, off a + size a ≤ s.size a) (X : s.Idx → α)
    (w : (Rect.unit off size inb).shape.Idx → α) (y : s.Idx) (r : (Rect.unit off size inb).shape.Idx)
    (h : ∀ a, (y a).val = off a + (r a).val) : (Rect.unit off size inb).overlay X w y = w r := by
  have e : (Rect.unit off size inb).emb r = y := by
    funext a; apply Fin.ext; rw [h a]; exact ValueKit.rect_emb_unit_val off size inb r a
  rw [← e, Rect.overlay_emb]

/-- An overlay read outside its rectangle. -/
theorem ov_out {s : Shape} {α : Type} (off size : Fin s.rank → ℕ) (inb : ∀ a, off a + size a ≤ s.size a) (X : s.Idx → α)
    (w : (Rect.unit off size inb).shape.Idx → α) (y : s.Idx) (a : Fin s.rank)
    (h : (y a).val < off a ∨ off a + size a ≤ (y a).val) :
    (Rect.unit off size inb).overlay X w y = X y := by
  apply Rect.overlay_of_not_mem
  intro hy
  rw [Rect.mem_set_unit] at hy
  have := hy a
  omega

/-- A load read at an index. -/
theorem ld_at {s : Shape} {e : EltTy} (off size : Fin s.rank → ℕ) (inb : ∀ a, off a + size a ≤ s.size a) (X : s.Idx → Elt F e)
    (r : (Rect.unit off size inb).shape.Idx) (y : s.Idx) (h : ∀ a, (y a).val = off a + (r a).val) :
    View.ld X (Rect.unit off size inb) r = X y := by
  have e : (Rect.unit off size inb).emb r = y := by
    funext a; apply Fin.ext; rw [h a]; exact ValueKit.rect_emb_unit_val off size inb r a
  rw [← e]; rfl

end Cert.ViewFacts

end
-- ==== Proof.ScBits.Chain.lean ====
/-
  THE TOKEN-SCALE KERNEL'S BODY AS TILES. The printed body writes its eight tiles out in line, cut into parts that do
  not fall on the tiles. Here a tile is stated once, for every column block, and the printed section is shown to be
  the eight tiles in order.
-/
module

public import proofs.«01_k».proof.Proof.Gen.Scales.Frame
public import proofs.«01_k».proof.Proof.Gen.Scales.Skeleton

@[expose] public section

noncomputable section

namespace Cert.Scales.Hand

open Cert.Scales Cert.Scales.Gen
open Idealize.ShloMosaic Idealize.ShloMosaic.TcCoe
open Idealize.SL Idealize.SL.Sem

variable {F : FTy → Type} [FloatOps F]

theorem inbRow (t : ℕ) (ht : t < 32) (h : ℕ) (hh : h < 2) :
    ∀ a, (![8 * t, 128 * h] : Fin 2 → Nat) a + S8x128.size a ≤ S256x1024.size a := by
  intro a; fin_cases a
  · show 8 * t + 8 ≤ 256; omega
  · show 128 * h + 128 ≤ 1024; omega

theorem inbCol (c : ℕ) (hc : c < 4) :
    ∀ a, (![0, 256 * c] : Fin 2 → Nat) a + S256x256.size a ≤ S256x1024.size a := by
  intro a; fin_cases a
  · show 0 + 256 ≤ 256; omega
  · show 256 * c + 256 ≤ 1024; omega

theorem inbOut (j : ℕ) (hj : j < 8) :
    ∀ a, (![0, 128 * j] : Fin 2 → Nat) a + S8x128.size a ≤ S8x1024.size a := by
  intro a; fin_cases a
  · show 0 + 8 ≤ 8; omega
  · show 128 * j + 128 ≤ 1024; omega

/-- One step of the search for the exponent: the bit `b` is set if the float with that exponent is still at most `v`. -/
def estep (v : FVec F S8x128 .f32) (b : BitVec 32) (e : IVec S8x128 32) : IVec S8x128 32 :=
  select (cmpf .oge v (bitcastToFloat .f32 (shli (addi e (broadcast S8x128 b)) (broadcast S8x128 23#32))))
    (addi e (broadcast S8x128 b)) e

/-- The eight steps, from the top bit down. -/
def eall (v : FVec F S8x128 .f32) : IVec S8x128 32 :=
  estep v 1#32 (estep v 2#32 (estep v 4#32 (estep v 8#32 (estep v 16#32 (estep v 32#32 (estep v 64#32
    (estep v 128#32 (broadcast S8x128 0#32))))))))

/-- The scale's exponent from the largest magnitude. -/
def expo (m : FVec F S8x128 .f32) : IVec S8x128 32 :=
  let e := eall (mulf m (broadcast S8x128 (Scalar.ofBits .f32 0x3DB504F3#32)))
  select (cmpi .eq e (broadcast S8x128 0#32)) (broadcast S8x128 0#32) (subi e (broadcast S8x128 129#32))

/-- The rectangle of eight rows of the rotated tile. -/
abbrev rRow (t : ℕ) (ht : t < 32) (h : ℕ) (hh : h < 2) : Rect S256x1024 := Rect.unit ![8 * t, 128 * h] S8x128.size (inbRow t ht h hh)
abbrev rCol (c : ℕ) (hc : c < 4) : Rect S256x1024 := Rect.unit ![0, 256 * c] S256x256.size (inbCol c hc)
abbrev rOut (j : ℕ) (hj : j < 8) : Rect S8x1024 := Rect.unit ![0, 128 * j] S8x128.size (inbOut j hj)

section
/-- Eight rows of the rotated tile, read. -/
def ldr (M9 : Memref sig .tc .vmem S256x1024 .f32) (t : ℕ) (ht : t < 32) (h : ℕ) (hh : h < 2) : Prog (TpuEff nD τ sig (Elt F) Λ₀ .tc) (Vec F S8x128 .f32) :=
  Prog.lift (.load M9 (rRow t ht h hh).toLoadRect (View.loadsAt_vmem h_S8x128))

/-- Half a tile's scales, written. -/
def sto (MO : Memref sig .tc .vmem S8x1024 .i32) (j : ℕ) (hj : j < 8) (v : IVec S8x128 32) : Prog (TpuEff nD τ sig (Elt F) Λ₀ .tc) PUnit := do
  let _ : Vec F S8x128 .i32 ← Prog.lift (.load MO (rOut j hj).toLoadRect (View.loadsAt_vmem h_S8x128))
  Prog.lift (.store MO (rOut j hj) v Finset.univ (View.stores_vmem_bits_univ h_S8x128 rfl) (.inl rfl))

variable (MA : Memref sig .tc .vmem S256x1024 .bf16) (MO : Memref sig .tc .vmem S8x1024 .i32)
  (M8 : Memref sig .tc .vmem S256x256 .bf16) (M9 : Memref sig .tc .vmem S256x1024 .f32)

/-- The rotation of one tile into scratch. -/
def rot (c : ℕ) (hc : c < 4) : Prog (TpuEff nD τ sig (Elt F) Λ₀ .tc) PUnit := do
  let v11 : Vec F S256x256 .bf16 ← Prog.lift (.load M8 (Rect.unit (s := S256x256) ![0, 0] S256x256.size inb_S256x256_S256x256_0_0).toLoadRect (View.loadsAt_vmem h_S256x256))
  let v12 : Vec F S256x256 .bf16 ← Prog.lift (.load MA (rCol c hc).toLoadRect (View.loadsAt_vmem h_S256x256))
  let v15 : Vec F S256x256 .f32 ← Prog.lift (.load M9 (Rect.unit (s := S256x1024) ![0, 0] S256x256.size inb_S256x1024_S256x256_0_0).toLoadRect (View.loadsAt_vmem h_S256x256))
  Prog.lift (.store M9 (Rect.unit (s := S256x1024) ![0, 0] S256x256.size inb_S256x1024_S256x256_0_0) (k0_pay4 v11 v12) Finset.univ (View.stores_vmem_bits_univ h_S256x256 rfl) (.inl rfl))

/-- The largest magnitude over further groups of eight rows. -/
def more (h : ℕ) (hh : h < 2) : (n t : ℕ) → t + n ≤ 32 → FVec F S8x128 .f32 → Prog (TpuEff nD τ sig (Elt F) Λ₀ .tc) (FVec F S8x128 .f32)
  | 0, _, _, m => pure m
  | n + 1, t, ht, m => do
    let v ← ldr M9 t (by omega) h hh
    more h hh n (t + 1) (by omega) (maximumf m (absf v))

/-- One half of a tile: the largest magnitude of each group, its exponent, stored. -/
def half (h : ℕ) (hh : h < 2) (j : ℕ) (hj : j < 8) : Prog (TpuEff nD τ sig (Elt F) Λ₀ .tc) PUnit := do
  let v ← ldr M9 0 (by omega) h hh
  let m ← more M9 h hh 31 1 (by omega) (absf v)
  sto MO j hj (expo m)

/-- One tile. -/
def tile (c : ℕ) (hc : c < 4) : Prog (TpuEff nD τ sig (Elt F) Λ₀ .tc) PUnit := do
  rot MA M8 M9 c hc
  half MO M9 0 (by omega) (2 * c) (by omega)
  half MO M9 1 (by omega) (2 * c + 1) (by omega)

/-- The section: the four tiles. -/
def section4 : Prog (TpuEff nD τ sig (Elt F) Λ₀ .tc) PUnit := do
  tile MA MO M8 M9 0 (by omega)
  tile MA MO M8 M9 1 (by omega)
  tile MA MO M8 M9 2 (by omega)
  tile MA MO M8 M9 3 (by omega)

end

end Cert.Scales.Hand
end
-- ==== Proof.ScBits.Parts.lean ====
/-
  THE PRINTED PARTS AS PIECES OF TILES. Each printed part, stated with the tile's own reads and writes: a run of reads
  and maxima, some steps of the search for an exponent, or a write. The two printed sections are the same parts at
  different blocks.
-/
module

public import proofs.«01_k».proof.Proof.ScBits.Chain

@[expose] public section

noncomputable section

namespace Cert.Scales.Hand

open Cert.Scales Cert.Scales.Gen
open Idealize.ShloMosaic Idealize.ShloMosaic.TcCoe
open Idealize.SL Idealize.SL.Sem

variable {F : FTy → Type} [FloatOps F]

/-- One step of the search, as the parts write it when they end inside it. -/
theorem estep_fold (v : FVec F S8x128 .f32) (b : BitVec 32) (e : IVec S8x128 32) :
    select (cmpf .oge v (bitcastToFloat .f32 (shli (addi e (broadcast S8x128 b)) (broadcast S8x128 23#32))))
      (addi e (broadcast S8x128 b)) e = estep v b e := rfl

def p1 (MA : Memref sig .tc .vmem S256x1024 .bf16) (MO : Memref sig .tc .vmem S8x1024 .i32) (M8 : Memref sig .tc .vmem S256x256 .bf16) (M9 : Memref sig .tc .vmem S256x1024 .f32) : Prog (TpuEff nD τ sig (Elt F) Λ₀ .tc) (FVec F S8x128 .f32) := do
  rot MA M8 M9 0 (by omega)
  let v18 ← ldr M9 0 (by omega) 0 (by omega)
  let v20 ← ldr M9 1 (by omega) 0 (by omega)
  let v23 ← ldr M9 2 (by omega) 0 (by omega)
  let v26 ← ldr M9 3 (by omega) 0 (by omega)
  let v29 ← ldr M9 4 (by omega) 0 (by omega)
  let v32 ← ldr M9 5 (by omega) 0 (by omega)
  let v35 ← ldr M9 6 (by omega) 0 (by omega)
  let v38 ← ldr M9 7 (by omega) 0 (by omega)
  let v41 ← ldr M9 8 (by omega) 0 (by omega)
  pure (maximumf (maximumf (maximumf (maximumf (maximumf (maximumf (maximumf (maximumf (absf v18) (absf v20)) (absf v23)) (absf v26)) (absf v29)) (absf v32)) (absf v35)) (absf v38)) (absf v41))

def p2 (MA : Memref sig .tc .vmem S256x1024 .bf16) (MO : Memref sig .tc .vmem S8x1024 .i32) (M8 : Memref sig .tc .vmem S256x256 .bf16) (M9 : Memref sig .tc .vmem S256x1024 .f32) (v43 : FVec F S8x128 .f32) : Prog (TpuEff nD τ sig (Elt F) Λ₀ .tc) (FVec F S8x128 .f32) := do
  let v44 ← ldr M9 9 (by omega) 0 (by omega)
  let v47 ← ldr M9 10 (by omega) 0 (by omega)
  let v50 ← ldr M9 11 (by omega) 0 (by omega)
  let v53 ← ldr M9 12 (by omega) 0 (by omega)
  let v56 ← ldr M9 13 (by omega) 0 (by omega)
  let v59 ← ldr M9 14 (by omega) 0 (by omega)
  let v62 ← ldr M9 15 (by omega) 0 (by omega)
  let v65 ← ldr M9 16 (by omega) 0 (by omega)
  let v68 ← ldr M9 17 (by omega) 0 (by omega)
  let v71 ← ldr M9 18 (by omega) 0 (by omega)
  let v74 ← ldr M9 19 (by omega) 0 (by omega)
  let v77 ← ldr M9 20 (by omega) 0 (by omega)
  pure (maximumf (maximumf (maximumf (maximumf (maximumf (maximumf (maximumf (maximumf (maximumf (maximumf (maximumf (maximumf v43 (absf v44)) (absf v47)) (absf v50)) (absf v53)) (absf v56)) (absf v59)) (absf v62)) (absf v65)) (absf v68)) (absf v71)) (absf v74)) (absf v77))

def p3 (MA : Memref sig .tc .vmem S256x1024 .bf16) (MO : Memref sig .tc .vmem S8x1024 .i32) (M8 : Memref sig .tc .vmem S256x256 .bf16) (M9 : Memref sig .tc .vmem S256x1024 .f32) (v79 : FVec F S8x128 .f32) : Prog (TpuEff nD τ sig (Elt F) Λ₀ .tc) (Σ' (v114 : FVec F S8x128 .f32) (v115 : IVec S8x128 32), BitVec 32) := do
  let v80 ← ldr M9 21 (by omega) 0 (by omega)
  let v83 ← ldr M9 22 (by omega) 0 (by omega)
  let v86 ← ldr M9 23 (by omega) 0 (by omega)
  let v89 ← ldr M9 24 (by omega) 0 (by omega)
  let v92 ← ldr M9 25 (by omega) 0 (by omega)
  let v95 ← ldr M9 26 (by omega) 0 (by omega)
  let v98 ← ldr M9 27 (by omega) 0 (by omega)
  let v101 ← ldr M9 28 (by omega) 0 (by omega)
  let v104 ← ldr M9 29 (by omega) 0 (by omega)
  let v107 ← ldr M9 30 (by omega) 0 (by omega)
  let v110 ← ldr M9 31 (by omega) 0 (by omega)
  pure ⟨(mulf (maximumf (maximumf (maximumf (maximumf (maximumf (maximumf (maximumf (maximumf (maximumf (maximumf (maximumf v79 (absf v80)) (absf v83)) (absf v86)) (absf v89)) (absf v92)) (absf v95)) (absf v98)) (absf v101)) (absf v104)) (absf v107)) (absf v110)) (broadcast S8x128 (Scalar.ofBits .f32 0x3DB504F3#32))), (broadcast S8x128 0#32), 128#32⟩

def p4 (MA : Memref sig .tc .vmem S256x1024 .bf16) (MO : Memref sig .tc .vmem S8x1024 .i32) (M8 : Memref sig .tc .vmem S256x256 .bf16) (M9 : Memref sig .tc .vmem S256x1024 .f32) (v114 : FVec F S8x128 .f32) (v115 : IVec S8x128 32) (c128_i32 : BitVec 32) : Prog (TpuEff nD τ sig (Elt F) Λ₀ .tc) (Σ' (v157 : IVec S8x128 32) (v159 : IVec S8x128 32), FVec F S8x128 .f32) := do
  pure ⟨(estep v114 4#32 (estep v114 8#32 (estep v114 16#32 (estep v114 32#32 (estep v114 64#32 (estep v114 c128_i32 v115)))))), (addi (estep v114 4#32 (estep v114 8#32 (estep v114 16#32 (estep v114 32#32 (estep v114 64#32 (estep v114 c128_i32 v115)))))) (broadcast S8x128 2#32)), (bitcastToFloat .f32 (shli (addi (estep v114 4#32 (estep v114 8#32 (estep v114 16#32 (estep v114 32#32 (estep v114 64#32 (estep v114 c128_i32 v115)))))) (broadcast S8x128 2#32)) (broadcast S8x128 23#32)))⟩

def p5 (MA : Memref sig .tc .vmem S256x1024 .bf16) (MO : Memref sig .tc .vmem S8x1024 .i32) (M8 : Memref sig .tc .vmem S256x256 .bf16) (M9 : Memref sig .tc .vmem S256x1024 .f32) (v114 : FVec F S8x128 .f32) (v157 : IVec S8x128 32) (v159 : IVec S8x128 32) (v162 : FVec F S8x128 .f32) : Prog (TpuEff nD τ sig (Elt F) Λ₀ .tc) (FVec F S8x128 .f32) := do
  sto MO 0 (by omega) (select (cmpi .eq (estep v114 1#32 (select (cmpf .oge v114 v162) v159 v157)) (broadcast S8x128 0#32)) (broadcast S8x128 0#32) (subi (estep v114 1#32 (select (cmpf .oge v114 v162) v159 v157)) (broadcast S8x128 129#32)))
  let v179 ← ldr M9 0 (by omega) 1 (by omega)
  let v181 ← ldr M9 1 (by omega) 1 (by omega)
  let v184 ← ldr M9 2 (by omega) 1 (by omega)
  let v187 ← ldr M9 3 (by omega) 1 (by omega)
  let v190 ← ldr M9 4 (by omega) 1 (by omega)
  let v193 ← ldr M9 5 (by omega) 1 (by omega)
  let v196 ← ldr M9 6 (by omega) 1 (by omega)
  pure (maximumf (maximumf (maximumf (maximumf (maximumf (maximumf (absf v179) (absf v181)) (absf v184)) (absf v187)) (absf v190)) (absf v193)) (absf v196))

def p6 (MA : Memref sig .tc .vmem S256x1024 .bf16) (MO : Memref sig .tc .vmem S8x1024 .i32) (M8 : Memref sig .tc .vmem S256x256 .bf16) (M9 : Memref sig .tc .vmem S256x1024 .f32) (v198 : FVec F S8x128 .f32) : Prog (TpuEff nD τ sig (Elt F) Λ₀ .tc) (FVec F S8x128 .f32) := do
  let v199 ← ldr M9 7 (by omega) 1 (by omega)
  let v202 ← ldr M9 8 (by omega) 1 (by omega)
  let v205 ← ldr M9 9 (by omega) 1 (by omega)
  let v208 ← ldr M9 10 (by omega) 1 (by omega)
  let v211 ← ldr M9 11 (by omega) 1 (by omega)
  let v214 ← ldr M9 12 (by omega) 1 (by omega)
  let v217 ← ldr M9 13 (by omega) 1 (by omega)
  let v220 ← ldr M9 14 (by omega) 1 (by omega)
  let v223 ← ldr M9 15 (by omega) 1 (by omega)
  let v226 ← ldr M9 16 (by omega) 1 (by omega)
  let v229 ← ldr M9 17 (by omega) 1 (by omega)
  let v232 ← ldr M9 18 (by omega) 1 (by omega)
  pure (maximumf (maximumf (maximumf (maximumf (maximumf (maximumf (maximumf (maximumf (maximumf (maximumf (maximumf (maximumf v198 (absf v199)) (absf v202)) (absf v205)) (absf v208)) (absf v211)) (absf v214)) (absf v217)) (absf v220)) (absf v223)) (absf v226)) (absf v229)) (absf v232))

def p7 (MA : Memref sig .tc .vmem S256x1024 .bf16) (MO : Memref sig .tc .vmem S8x1024 .i32) (M8 : Memref sig .tc .vmem S256x256 .bf16) (M9 : Memref sig .tc .vmem S256x1024 .f32) (v234 : FVec F S8x128 .f32) : Prog (TpuEff nD τ sig (Elt F) Λ₀ .tc) (FVec F S8x128 .f32) := do
  let v235 ← ldr M9 19 (by omega) 1 (by omega)
  let v238 ← ldr M9 20 (by omega) 1 (by omega)
  let v241 ← ldr M9 21 (by omega) 1 (by omega)
  let v244 ← ldr M9 22 (by omega) 1 (by omega)
  let v247 ← ldr M9 23 (by omega) 1 (by omega)
  let v250 ← ldr M9 24 (by omega) 1 (by omega)
  let v253 ← ldr M9 25 (by omega) 1 (by omega)
  let v256 ← ldr M9 26 (by omega) 1 (by omega)
  let v259 ← ldr M9 27 (by omega) 1 (by omega)
  let v262 ← ldr M9 28 (by omega) 1 (by omega)
  let v265 ← ldr M9 29 (by omega) 1 (by omega)
  let v268 ← ldr M9 30 (by omega) 1 (by omega)
  pure (maximumf (maximumf (maximumf (maximumf (maximumf (maximumf (maximumf (maximumf (maximumf (maximumf (maximumf (maximumf v234 (absf v235)) (absf v238)) (absf v241)) (absf v244)) (absf v247)) (absf v250)) (absf v253)) (absf v256)) (absf v259)) (absf v262)) (absf v265)) (absf v268))

def p8 (MA : Memref sig .tc .vmem S256x1024 .bf16) (MO : Memref sig .tc .vmem S8x1024 .i32) (M8 : Memref sig .tc .vmem S256x256 .bf16) (M9 : Memref sig .tc .vmem S256x1024 .f32) (v270 : FVec F S8x128 .f32) : Prog (TpuEff nD τ sig (Elt F) Λ₀ .tc) (Σ' (v275 : FVec F S8x128 .f32) (v311 : IVec S8x128 32) (v313 : IVec S8x128 32), FVec F S8x128 .f32) := do
  let v271 ← ldr M9 31 (by omega) 1 (by omega)
  pure ⟨(mulf (maximumf v270 (absf v271)) (broadcast S8x128 (Scalar.ofBits .f32 0x3DB504F3#32))), (estep (mulf (maximumf v270 (absf v271)) (broadcast S8x128 (Scalar.ofBits .f32 0x3DB504F3#32))) 8#32 (estep (mulf (maximumf v270 (absf v271)) (broadcast S8x128 (Scalar.ofBits .f32 0x3DB504F3#32))) 16#32 (estep (mulf (maximumf v270 (absf v271)) (broadcast S8x128 (Scalar.ofBits .f32 0x3DB504F3#32))) 32#32 (estep (mulf (maximumf v270 (absf v271)) (broadcast S8x128 (Scalar.ofBits .f32 0x3DB504F3#32))) 64#32 (estep (mulf (maximumf v270 (absf v271)) (broadcast S8x128 (Scalar.ofBits .f32 0x3DB504F3#32))) 128#32 (broadcast S8x128 0#32)))))), (addi (estep (mulf (maximumf v270 (absf v271)) (broadcast S8x128 (Scalar.ofBits .f32 0x3DB504F3#32))) 8#32 (estep (mulf (maximumf v270 (absf v271)) (broadcast S8x128 (Scalar.ofBits .f32 0x3DB504F3#32))) 16#32 (estep (mulf (maximumf v270 (absf v271)) (broadcast S8x128 (Scalar.ofBits .f32 0x3DB504F3#32))) 32#32 (estep (mulf (maximumf v270 (absf v271)) (broadcast S8x128 (Scalar.ofBits .f32 0x3DB504F3#32))) 64#32 (estep (mulf (maximumf v270 (absf v271)) (broadcast S8x128 (Scalar.ofBits .f32 0x3DB504F3#32))) 128#32 (broadcast S8x128 0#32)))))) (broadcast S8x128 4#32)), (bitcastToFloat .f32 (shli (addi (estep (mulf (maximumf v270 (absf v271)) (broadcast S8x128 (Scalar.ofBits .f32 0x3DB504F3#32))) 8#32 (estep (mulf (maximumf v270 (absf v271)) (broadcast S8x128 (Scalar.ofBits .f32 0x3DB504F3#32))) 16#32 (estep (mulf (maximumf v270 (absf v271)) (broadcast S8x128 (Scalar.ofBits .f32 0x3DB504F3#32))) 32#32 (estep (mulf (maximumf v270 (absf v271)) (broadcast S8x128 (Scalar.ofBits .f32 0x3DB504F3#32))) 64#32 (estep (mulf (maximumf v270 (absf v271)) (broadcast S8x128 (Scalar.ofBits .f32 0x3DB504F3#32))) 128#32 (broadcast S8x128 0#32)))))) (broadcast S8x128 4#32)) (broadcast S8x128 23#32)))⟩

def p9 (MA : Memref sig .tc .vmem S256x1024 .bf16) (MO : Memref sig .tc .vmem S8x1024 .i32) (M8 : Memref sig .tc .vmem S256x256 .bf16) (M9 : Memref sig .tc .vmem S256x1024 .f32) (v275 : FVec F S8x128 .f32) (v311 : IVec S8x128 32) (v313 : IVec S8x128 32) (v316 : FVec F S8x128 .f32) : Prog (TpuEff nD τ sig (Elt F) Λ₀ .tc) (Σ' (v351 : FVec F S8x128 .f32), Vec F S8x128 .f32) := do
  sto MO 1 (by omega) (select (cmpi .eq (estep v275 1#32 (estep v275 2#32 (select (cmpf .oge v275 v316) v313 v311))) (broadcast S8x128 0#32)) (broadcast S8x128 0#32) (subi (estep v275 1#32 (estep v275 2#32 (select (cmpf .oge v275 v316) v313 v311))) (broadcast S8x128 129#32)))
  rot MA M8 M9 1 (by omega)
  let v347 ← ldr M9 0 (by omega) 0 (by omega)
  let v349 ← ldr M9 1 (by omega) 0 (by omega)
  let v352 ← ldr M9 2 (by omega) 0 (by omega)
  pure ⟨(maximumf (absf v347) (absf v349)), v352⟩

def p10 (MA : Memref sig .tc .vmem S256x1024 .bf16) (MO : Memref sig .tc .vmem S8x1024 .i32) (M8 : Memref sig .tc .vmem S256x256 .bf16) (M9 : Memref sig .tc .vmem S256x1024 .f32) (v351 : FVec F S8x128 .f32) (v352 : Vec F S8x128 .f32) : Prog (TpuEff nD τ sig (Elt F) Λ₀ .tc) (Σ' (v387 : FVec F S8x128 .f32), Vec F S8x128 .f32) := do
  let v355 ← ldr M9 3 (by omega) 0 (by omega)
  let v358 ← ldr M9 4 (by omega) 0 (by omega)
  let v361 ← ldr M9 5 (by omega) 0 (by omega)
  let v364 ← ldr M9 6 (by omega) 0 (by omega)
  let v367 ← ldr M9 7 (by omega) 0 (by omega)
  let v370 ← ldr M9 8 (by omega) 0 (by omega)
  let v373 ← ldr M9 9 (by omega) 0 (by omega)
  let v376 ← ldr M9 10 (by omega) 0 (by omega)
  let v379 ← ldr M9 11 (by omega) 0 (by omega)
  let v382 ← ldr M9 12 (by omega) 0 (by omega)
  let v385 ← ldr M9 13 (by omega) 0 (by omega)
  let v388 ← ldr M9 14 (by omega) 0 (by omega)
  pure ⟨(maximumf (maximumf (maximumf (maximumf (maximumf (maximumf (maximumf (maximumf (maximumf (maximumf (maximumf (maximumf v351 (absf v352)) (absf v355)) (absf v358)) (absf v361)) (absf v364)) (absf v367)) (absf v370)) (absf v373)) (absf v376)) (absf v379)) (absf v382)) (absf v385)), v388⟩

def p11 (MA : Memref sig .tc .vmem S256x1024 .bf16) (MO : Memref sig .tc .vmem S8x1024 .i32) (M8 : Memref sig .tc .vmem S256x256 .bf16) (M9 : Memref sig .tc .vmem S256x1024 .f32) (v387 : FVec F S8x128 .f32) (v388 : Vec F S8x128 .f32) : Prog (TpuEff nD τ sig (Elt F) Λ₀ .tc) (Σ' (v423 : FVec F S8x128 .f32), Vec F S8x128 .f32) := do
  let v391 ← ldr M9 15 (by omega) 0 (by omega)
  let v394 ← ldr M9 16 (by omega) 0 (by omega)
  let v397 ← ldr M9 17 (by omega) 0 (by omega)
  let v400 ← ldr M9 18 (by omega) 0 (by omega)
  let v403 ← ldr M9 19 (by omega) 0 (by omega)
  let v406 ← ldr M9 20 (by omega) 0 (by omega)
  let v409 ← ldr M9 21 (by omega) 0 (by omega)
  let v412 ← ldr M9 22 (by omega) 0 (by omega)
  let v415 ← ldr M9 23 (by omega) 0 (by omega)
  let v418 ← ldr M9 24 (by omega) 0 (by omega)
  let v421 ← ldr M9 25 (by omega) 0 (by omega)
  let v424 ← ldr M9 26 (by omega) 0 (by omega)
  pure ⟨(maximumf (maximumf (maximumf (maximumf (maximumf (maximumf (maximumf (maximumf (maximumf (maximumf (maximumf (maximumf v387 (absf v388)) (absf v391)) (absf v394)) (absf v397)) (absf v400)) (absf v403)) (absf v406)) (absf v409)) (absf v412)) (absf v415)) (absf v418)) (absf v421)), v424⟩

def p12 (MA : Memref sig .tc .vmem S256x1024 .bf16) (MO : Memref sig .tc .vmem S8x1024 .i32) (M8 : Memref sig .tc .vmem S256x256 .bf16) (M9 : Memref sig .tc .vmem S256x1024 .f32) (v423 : FVec F S8x128 .f32) (v424 : Vec F S8x128 .f32) : Prog (TpuEff nD τ sig (Elt F) Λ₀ .tc) (Σ' (v443 : FVec F S8x128 .f32) (v465 : IVec S8x128 32), BitVec 32) := do
  let v427 ← ldr M9 27 (by omega) 0 (by omega)
  let v430 ← ldr M9 28 (by omega) 0 (by omega)
  let v433 ← ldr M9 29 (by omega) 0 (by omega)
  let v436 ← ldr M9 30 (by omega) 0 (by omega)
  let v439 ← ldr M9 31 (by omega) 0 (by omega)
  pure ⟨(mulf (maximumf (maximumf (maximumf (maximumf (maximumf (maximumf v423 (absf v424)) (absf v427)) (absf v430)) (absf v433)) (absf v436)) (absf v439)) (broadcast S8x128 (Scalar.ofBits .f32 0x3DB504F3#32))), (estep (mulf (maximumf (maximumf (maximumf (maximumf (maximumf (maximumf v423 (absf v424)) (absf v427)) (absf v430)) (absf v433)) (absf v436)) (absf v439)) (broadcast S8x128 (Scalar.ofBits .f32 0x3DB504F3#32))) 32#32 (estep (mulf (maximumf (maximumf (maximumf (maximumf (maximumf (maximumf v423 (absf v424)) (absf v427)) (absf v430)) (absf v433)) (absf v436)) (absf v439)) (broadcast S8x128 (Scalar.ofBits .f32 0x3DB504F3#32))) 64#32 (estep (mulf (maximumf (maximumf (maximumf (maximumf (maximumf (maximumf v423 (absf v424)) (absf v427)) (absf v430)) (absf v433)) (absf v436)) (absf v439)) (broadcast S8x128 (Scalar.ofBits .f32 0x3DB504F3#32))) 128#32 (broadcast S8x128 0#32)))), 16#32⟩

def p13 (MA : Memref sig .tc .vmem S256x1024 .bf16) (MO : Memref sig .tc .vmem S8x1024 .i32) (M8 : Memref sig .tc .vmem S256x256 .bf16) (M9 : Memref sig .tc .vmem S256x1024 .f32) (v443 : FVec F S8x128 .f32) (v465 : IVec S8x128 32) (c16_i32_222 : BitVec 32) : Prog (TpuEff nD τ sig (Elt F) Λ₀ .tc) (Vec F S8x128 .f32) := do
  sto MO 2 (by omega) (select (cmpi .eq (estep v443 1#32 (estep v443 2#32 (estep v443 4#32 (estep v443 8#32 (estep v443 c16_i32_222 v465))))) (broadcast S8x128 0#32)) (broadcast S8x128 0#32) (subi (estep v443 1#32 (estep v443 2#32 (estep v443 4#32 (estep v443 8#32 (estep v443 c16_i32_222 v465))))) (broadcast S8x128 129#32)))
  let v508 ← ldr M9 0 (by omega) 1 (by omega)
  pure v508

def p14 (MA : Memref sig .tc .vmem S256x1024 .bf16) (MO : Memref sig .tc .vmem S8x1024 .i32) (M8 : Memref sig .tc .vmem S256x256 .bf16) (M9 : Memref sig .tc .vmem S256x1024 .f32) (v508 : Vec F S8x128 .f32) : Prog (TpuEff nD τ sig (Elt F) Λ₀ .tc) (Σ' (v542 : FVec F S8x128 .f32), FVec F S8x128 .f32) := do
  let v510 ← ldr M9 1 (by omega) 1 (by omega)
  let v513 ← ldr M9 2 (by omega) 1 (by omega)
  let v516 ← ldr M9 3 (by omega) 1 (by omega)
  let v519 ← ldr M9 4 (by omega) 1 (by omega)
  let v522 ← ldr M9 5 (by omega) 1 (by omega)
  let v525 ← ldr M9 6 (by omega) 1 (by omega)
  let v528 ← ldr M9 7 (by omega) 1 (by omega)
  let v531 ← ldr M9 8 (by omega) 1 (by omega)
  let v534 ← ldr M9 9 (by omega) 1 (by omega)
  let v537 ← ldr M9 10 (by omega) 1 (by omega)
  let v540 ← ldr M9 11 (by omega) 1 (by omega)
  let v543 ← ldr M9 12 (by omega) 1 (by omega)
  pure ⟨(maximumf (maximumf (maximumf (maximumf (maximumf (maximumf (maximumf (maximumf (maximumf (maximumf (maximumf (absf v508) (absf v510)) (absf v513)) (absf v516)) (absf v519)) (absf v522)) (absf v525)) (absf v528)) (absf v531)) (absf v534)) (absf v537)) (absf v540)), (absf v543)⟩

def p15 (MA : Memref sig .tc .vmem S256x1024 .bf16) (MO : Memref sig .tc .vmem S8x1024 .i32) (M8 : Memref sig .tc .vmem S256x256 .bf16) (M9 : Memref sig .tc .vmem S256x1024 .f32) (v542 : FVec F S8x128 .f32) (v544 : FVec F S8x128 .f32) : Prog (TpuEff nD τ sig (Elt F) Λ₀ .tc) (Σ' (v578 : FVec F S8x128 .f32), FVec F S8x128 .f32) := do
  let v546 ← ldr M9 13 (by omega) 1 (by omega)
  let v549 ← ldr M9 14 (by omega) 1 (by omega)
  let v552 ← ldr M9 15 (by omega) 1 (by omega)
  let v555 ← ldr M9 16 (by omega) 1 (by omega)
  let v558 ← ldr M9 17 (by omega) 1 (by omega)
  let v561 ← ldr M9 18 (by omega) 1 (by omega)
  let v564 ← ldr M9 19 (by omega) 1 (by omega)
  let v567 ← ldr M9 20 (by omega) 1 (by omega)
  let v570 ← ldr M9 21 (by omega) 1 (by omega)
  let v573 ← ldr M9 22 (by omega) 1 (by omega)
  let v576 ← ldr M9 23 (by omega) 1 (by omega)
  let v579 ← ldr M9 24 (by omega) 1 (by omega)
  pure ⟨(maximumf (maximumf (maximumf (maximumf (maximumf (maximumf (maximumf (maximumf (maximumf (maximumf (maximumf (maximumf v542 v544) (absf v546)) (absf v549)) (absf v552)) (absf v555)) (absf v558)) (absf v561)) (absf v564)) (absf v567)) (absf v570)) (absf v573)) (absf v576)), (absf v579)⟩

def p16 (MA : Memref sig .tc .vmem S256x1024 .bf16) (MO : Memref sig .tc .vmem S8x1024 .i32) (M8 : Memref sig .tc .vmem S256x256 .bf16) (M9 : Memref sig .tc .vmem S256x1024 .f32) (v578 : FVec F S8x128 .f32) (v580 : FVec F S8x128 .f32) : Prog (TpuEff nD τ sig (Elt F) Λ₀ .tc) (Σ' (v604 : FVec F S8x128 .f32) (v619 : IVec S8x128 32), BitVec 32) := do
  let v582 ← ldr M9 25 (by omega) 1 (by omega)
  let v585 ← ldr M9 26 (by omega) 1 (by omega)
  let v588 ← ldr M9 27 (by omega) 1 (by omega)
  let v591 ← ldr M9 28 (by omega) 1 (by omega)
  let v594 ← ldr M9 29 (by omega) 1 (by omega)
  let v597 ← ldr M9 30 (by omega) 1 (by omega)
  let v600 ← ldr M9 31 (by omega) 1 (by omega)
  pure ⟨(mulf (maximumf (maximumf (maximumf (maximumf (maximumf (maximumf (maximumf (maximumf v578 v580) (absf v582)) (absf v585)) (absf v588)) (absf v591)) (absf v594)) (absf v597)) (absf v600)) (broadcast S8x128 (Scalar.ofBits .f32 0x3DB504F3#32))), (estep (mulf (maximumf (maximumf (maximumf (maximumf (maximumf (maximumf (maximumf (maximumf v578 v580) (absf v582)) (absf v585)) (absf v588)) (absf v591)) (absf v594)) (absf v597)) (absf v600)) (broadcast S8x128 (Scalar.ofBits .f32 0x3DB504F3#32))) 64#32 (estep (mulf (maximumf (maximumf (maximumf (maximumf (maximumf (maximumf (maximumf (maximumf v578 v580) (absf v582)) (absf v585)) (absf v588)) (absf v591)) (absf v594)) (absf v597)) (absf v600)) (broadcast S8x128 (Scalar.ofBits .f32 0x3DB504F3#32))) 128#32 (broadcast S8x128 0#32))), 32#32⟩

def p17 (MA : Memref sig .tc .vmem S256x1024 .bf16) (MO : Memref sig .tc .vmem S8x1024 .i32) (M8 : Memref sig .tc .vmem S256x256 .bf16) (M9 : Memref sig .tc .vmem S256x1024 .f32) (v604 : FVec F S8x128 .f32) (v619 : IVec S8x128 32) (c32_i32_307 : BitVec 32) : Prog (TpuEff nD τ sig (Elt F) Λ₀ .tc) (Σ' (v663 : IVec S8x128 1) (v665 : IVec S8x128 32), BitVec 32) := do
  pure ⟨(cmpi .eq (estep v604 1#32 (estep v604 2#32 (estep v604 4#32 (estep v604 8#32 (estep v604 16#32 (estep v604 c32_i32_307 v619)))))) (broadcast S8x128 0#32)), (subi (estep v604 1#32 (estep v604 2#32 (estep v604 4#32 (estep v604 8#32 (estep v604 16#32 (estep v604 c32_i32_307 v619)))))) (broadcast S8x128 129#32)), 0#32⟩

def p18 (MA : Memref sig .tc .vmem S256x1024 .bf16) (MO : Memref sig .tc .vmem S8x1024 .i32) (M8 : Memref sig .tc .vmem S256x256 .bf16) (M9 : Memref sig .tc .vmem S256x1024 .f32) (v663 : IVec S8x128 1) (v665 : IVec S8x128 32) (c0_i32_321 : BitVec 32) : Prog (TpuEff nD τ sig (Elt F) Λ₀ .tc) (FVec F S8x128 .f32) := do
  sto MO 3 (by omega) (select v663 (broadcast S8x128 c0_i32_321) v665)
  rot MA M8 M9 2 (by omega)
  let v676 ← ldr M9 0 (by omega) 0 (by omega)
  let v678 ← ldr M9 1 (by omega) 0 (by omega)
  let v681 ← ldr M9 2 (by omega) 0 (by omega)
  let v684 ← ldr M9 3 (by omega) 0 (by omega)
  let v687 ← ldr M9 4 (by omega) 0 (by omega)
  let v690 ← ldr M9 5 (by omega) 0 (by omega)
  let v693 ← ldr M9 6 (by omega) 0 (by omega)
  let v696 ← ldr M9 7 (by omega) 0 (by omega)
  pure (maximumf (maximumf (maximumf (maximumf (maximumf (maximumf (maximumf (absf v676) (absf v678)) (absf v681)) (absf v684)) (absf v687)) (absf v690)) (absf v693)) (absf v696))

def p19 (MA : Memref sig .tc .vmem S256x1024 .bf16) (MO : Memref sig .tc .vmem S8x1024 .i32) (M8 : Memref sig .tc .vmem S256x256 .bf16) (M9 : Memref sig .tc .vmem S256x1024 .f32) (v698 : FVec F S8x128 .f32) : Prog (TpuEff nD τ sig (Elt F) Λ₀ .tc) (FVec F S8x128 .f32) := do
  let v699 ← ldr M9 8 (by omega) 0 (by omega)
  let v702 ← ldr M9 9 (by omega) 0 (by omega)
  let v705 ← ldr M9 10 (by omega) 0 (by omega)
  let v708 ← ldr M9 11 (by omega) 0 (by omega)
  let v711 ← ldr M9 12 (by omega) 0 (by omega)
  let v714 ← ldr M9 13 (by omega) 0 (by omega)
  let v717 ← ldr M9 14 (by omega) 0 (by omega)
  let v720 ← ldr M9 15 (by omega) 0 (by omega)
  let v723 ← ldr M9 16 (by omega) 0 (by omega)
  let v726 ← ldr M9 17 (by omega) 0 (by omega)
  let v729 ← ldr M9 18 (by omega) 0 (by omega)
  let v732 ← ldr M9 19 (by omega) 0 (by omega)
  pure (maximumf (maximumf (maximumf (maximumf (maximumf (maximumf (maximumf (maximumf (maximumf (maximumf (maximumf (maximumf v698 (absf v699)) (absf v702)) (absf v705)) (absf v708)) (absf v711)) (absf v714)) (absf v717)) (absf v720)) (absf v723)) (absf v726)) (absf v729)) (absf v732))

def p20 (MA : Memref sig .tc .vmem S256x1024 .bf16) (MO : Memref sig .tc .vmem S8x1024 .i32) (M8 : Memref sig .tc .vmem S256x256 .bf16) (M9 : Memref sig .tc .vmem S256x1024 .f32) (v734 : FVec F S8x128 .f32) : Prog (TpuEff nD τ sig (Elt F) Λ₀ .tc) (FVec F S8x128 .f32) := do
  let v735 ← ldr M9 20 (by omega) 0 (by omega)
  let v738 ← ldr M9 21 (by omega) 0 (by omega)
  let v741 ← ldr M9 22 (by omega) 0 (by omega)
  let v744 ← ldr M9 23 (by omega) 0 (by omega)
  let v747 ← ldr M9 24 (by omega) 0 (by omega)
  let v750 ← ldr M9 25 (by omega) 0 (by omega)
  let v753 ← ldr M9 26 (by omega) 0 (by omega)
  let v756 ← ldr M9 27 (by omega) 0 (by omega)
  let v759 ← ldr M9 28 (by omega) 0 (by omega)
  let v762 ← ldr M9 29 (by omega) 0 (by omega)
  let v765 ← ldr M9 30 (by omega) 0 (by omega)
  let v768 ← ldr M9 31 (by omega) 0 (by omega)
  pure (maximumf (maximumf (maximumf (maximumf (maximumf (maximumf (maximumf (maximumf (maximumf (maximumf (maximumf (maximumf v734 (absf v735)) (absf v738)) (absf v741)) (absf v744)) (absf v747)) (absf v750)) (absf v753)) (absf v756)) (absf v759)) (absf v762)) (absf v765)) (absf v768))

def p21 (MA : Memref sig .tc .vmem S256x1024 .bf16) (MO : Memref sig .tc .vmem S8x1024 .i32) (M8 : Memref sig .tc .vmem S256x256 .bf16) (M9 : Memref sig .tc .vmem S256x1024 .f32) (v770 : FVec F S8x128 .f32) : Prog (TpuEff nD τ sig (Elt F) Λ₀ .tc) (Σ' (v772 : FVec F S8x128 .f32) (v815 : IVec S8x128 32), BitVec 32) := do
  pure ⟨(mulf v770 (broadcast S8x128 (Scalar.ofBits .f32 0x3DB504F3#32))), (estep (mulf v770 (broadcast S8x128 (Scalar.ofBits .f32 0x3DB504F3#32))) 4#32 (estep (mulf v770 (broadcast S8x128 (Scalar.ofBits .f32 0x3DB504F3#32))) 8#32 (estep (mulf v770 (broadcast S8x128 (Scalar.ofBits .f32 0x3DB504F3#32))) 16#32 (estep (mulf v770 (broadcast S8x128 (Scalar.ofBits .f32 0x3DB504F3#32))) 32#32 (estep (mulf v770 (broadcast S8x128 (Scalar.ofBits .f32 0x3DB504F3#32))) 64#32 (estep (mulf v770 (broadcast S8x128 (Scalar.ofBits .f32 0x3DB504F3#32))) 128#32 (broadcast S8x128 0#32))))))), 2#32⟩

def p22 (MA : Memref sig .tc .vmem S256x1024 .bf16) (MO : Memref sig .tc .vmem S8x1024 .i32) (M8 : Memref sig .tc .vmem S256x256 .bf16) (M9 : Memref sig .tc .vmem S256x1024 .f32) (v772 : FVec F S8x128 .f32) (v815 : IVec S8x128 32) (c2_i32_407 : BitVec 32) : Prog (TpuEff nD τ sig (Elt F) Λ₀ .tc) (FVec F S8x128 .f32) := do
  sto MO 4 (by omega) (select (cmpi .eq (estep v772 1#32 (estep v772 c2_i32_407 v815)) (broadcast S8x128 0#32)) (broadcast S8x128 0#32) (subi (estep v772 1#32 (estep v772 c2_i32_407 v815)) (broadcast S8x128 129#32)))
  let v837 ← ldr M9 0 (by omega) 1 (by omega)
  let v839 ← ldr M9 1 (by omega) 1 (by omega)
  let v842 ← ldr M9 2 (by omega) 1 (by omega)
  let v845 ← ldr M9 3 (by omega) 1 (by omega)
  let v848 ← ldr M9 4 (by omega) 1 (by omega)
  let v851 ← ldr M9 5 (by omega) 1 (by omega)
  pure (maximumf (maximumf (maximumf (maximumf (maximumf (absf v837) (absf v839)) (absf v842)) (absf v845)) (absf v848)) (absf v851))

def p23 (MA : Memref sig .tc .vmem S256x1024 .bf16) (MO : Memref sig .tc .vmem S8x1024 .i32) (M8 : Memref sig .tc .vmem S256x256 .bf16) (M9 : Memref sig .tc .vmem S256x1024 .f32) (v853 : FVec F S8x128 .f32) : Prog (TpuEff nD τ sig (Elt F) Λ₀ .tc) (FVec F S8x128 .f32) := do
  let v854 ← ldr M9 6 (by omega) 1 (by omega)
  let v857 ← ldr M9 7 (by omega) 1 (by omega)
  let v860 ← ldr M9 8 (by omega) 1 (by omega)
  let v863 ← ldr M9 9 (by omega) 1 (by omega)
  let v866 ← ldr M9 10 (by omega) 1 (by omega)
  let v869 ← ldr M9 11 (by omega) 1 (by omega)
  let v872 ← ldr M9 12 (by omega) 1 (by omega)
  let v875 ← ldr M9 13 (by omega) 1 (by omega)
  let v878 ← ldr M9 14 (by omega) 1 (by omega)
  let v881 ← ldr M9 15 (by omega) 1 (by omega)
  let v884 ← ldr M9 16 (by omega) 1 (by omega)
  let v887 ← ldr M9 17 (by omega) 1 (by omega)
  pure (maximumf (maximumf (maximumf (maximumf (maximumf (maximumf (maximumf (maximumf (maximumf (maximumf (maximumf (maximumf v853 (absf v854)) (absf v857)) (absf v860)) (absf v863)) (absf v866)) (absf v869)) (absf v872)) (absf v875)) (absf v878)) (absf v881)) (absf v884)) (absf v887))

def p24 (MA : Memref sig .tc .vmem S256x1024 .bf16) (MO : Memref sig .tc .vmem S8x1024 .i32) (M8 : Memref sig .tc .vmem S256x256 .bf16) (M9 : Memref sig .tc .vmem S256x1024 .f32) (v889 : FVec F S8x128 .f32) : Prog (TpuEff nD τ sig (Elt F) Λ₀ .tc) (FVec F S8x128 .f32) := do
  let v890 ← ldr M9 18 (by omega) 1 (by omega)
  let v893 ← ldr M9 19 (by omega) 1 (by omega)
  let v896 ← ldr M9 20 (by omega) 1 (by omega)
  let v899 ← ldr M9 21 (by omega) 1 (by omega)
  let v902 ← ldr M9 22 (by omega) 1 (by omega)
  let v905 ← ldr M9 23 (by omega) 1 (by omega)
  let v908 ← ldr M9 24 (by omega) 1 (by omega)
  let v911 ← ldr M9 25 (by omega) 1 (by omega)
  let v914 ← ldr M9 26 (by omega) 1 (by omega)
  let v917 ← ldr M9 27 (by omega) 1 (by omega)
  let v920 ← ldr M9 28 (by omega) 1 (by omega)
  let v923 ← ldr M9 29 (by omega) 1 (by omega)
  pure (maximumf (maximumf (maximumf (maximumf (maximumf (maximumf (maximumf (maximumf (maximumf (maximumf (maximumf (maximumf v889 (absf v890)) (absf v893)) (absf v896)) (absf v899)) (absf v902)) (absf v905)) (absf v908)) (absf v911)) (absf v914)) (absf v917)) (absf v920)) (absf v923))

def p25 (MA : Memref sig .tc .vmem S256x1024 .bf16) (MO : Memref sig .tc .vmem S8x1024 .i32) (M8 : Memref sig .tc .vmem S256x256 .bf16) (M9 : Memref sig .tc .vmem S256x1024 .f32) (v925 : FVec F S8x128 .f32) : Prog (TpuEff nD τ sig (Elt F) Λ₀ .tc) (Σ' (v933 : FVec F S8x128 .f32) (v969 : IVec S8x128 32), BitVec 32) := do
  let v926 ← ldr M9 30 (by omega) 1 (by omega)
  let v929 ← ldr M9 31 (by omega) 1 (by omega)
  pure ⟨(mulf (maximumf (maximumf v925 (absf v926)) (absf v929)) (broadcast S8x128 (Scalar.ofBits .f32 0x3DB504F3#32))), (estep (mulf (maximumf (maximumf v925 (absf v926)) (absf v929)) (broadcast S8x128 (Scalar.ofBits .f32 0x3DB504F3#32))) 8#32 (estep (mulf (maximumf (maximumf v925 (absf v926)) (absf v929)) (broadcast S8x128 (Scalar.ofBits .f32 0x3DB504F3#32))) 16#32 (estep (mulf (maximumf (maximumf v925 (absf v926)) (absf v929)) (broadcast S8x128 (Scalar.ofBits .f32 0x3DB504F3#32))) 32#32 (estep (mulf (maximumf (maximumf v925 (absf v926)) (absf v929)) (broadcast S8x128 (Scalar.ofBits .f32 0x3DB504F3#32))) 64#32 (estep (mulf (maximumf (maximumf v925 (absf v926)) (absf v929)) (broadcast S8x128 (Scalar.ofBits .f32 0x3DB504F3#32))) 128#32 (broadcast S8x128 0#32)))))), 4#32⟩

def p26 (MA : Memref sig .tc .vmem S256x1024 .bf16) (MO : Memref sig .tc .vmem S8x1024 .i32) (M8 : Memref sig .tc .vmem S256x256 .bf16) (M9 : Memref sig .tc .vmem S256x1024 .f32) (v933 : FVec F S8x128 .f32) (v969 : IVec S8x128 32) (c4_i32_492 : BitVec 32) : Prog (TpuEff nD τ sig (Elt F) Λ₀ .tc) (FVec F S8x128 .f32) := do
  sto MO 5 (by omega) (select (cmpi .eq (estep v933 1#32 (estep v933 2#32 (estep v933 c4_i32_492 v969))) (broadcast S8x128 0#32)) (broadcast S8x128 0#32) (subi (estep v933 1#32 (estep v933 2#32 (estep v933 c4_i32_492 v969))) (broadcast S8x128 129#32)))
  rot MA M8 M9 3 (by omega)
  let v1005 ← ldr M9 0 (by omega) 0 (by omega)
  pure (absf v1005)

def p27 (MA : Memref sig .tc .vmem S256x1024 .bf16) (MO : Memref sig .tc .vmem S8x1024 .i32) (M8 : Memref sig .tc .vmem S256x256 .bf16) (M9 : Memref sig .tc .vmem S256x1024 .f32) (v1006 : FVec F S8x128 .f32) : Prog (TpuEff nD τ sig (Elt F) Λ₀ .tc) (FVec F S8x128 .f32) := do
  let v1007 ← ldr M9 1 (by omega) 0 (by omega)
  let v1010 ← ldr M9 2 (by omega) 0 (by omega)
  let v1013 ← ldr M9 3 (by omega) 0 (by omega)
  let v1016 ← ldr M9 4 (by omega) 0 (by omega)
  let v1019 ← ldr M9 5 (by omega) 0 (by omega)
  let v1022 ← ldr M9 6 (by omega) 0 (by omega)
  let v1025 ← ldr M9 7 (by omega) 0 (by omega)
  let v1028 ← ldr M9 8 (by omega) 0 (by omega)
  let v1031 ← ldr M9 9 (by omega) 0 (by omega)
  let v1034 ← ldr M9 10 (by omega) 0 (by omega)
  let v1037 ← ldr M9 11 (by omega) 0 (by omega)
  let v1040 ← ldr M9 12 (by omega) 0 (by omega)
  pure (maximumf (maximumf (maximumf (maximumf (maximumf (maximumf (maximumf (maximumf (maximumf (maximumf (maximumf (maximumf v1006 (absf v1007)) (absf v1010)) (absf v1013)) (absf v1016)) (absf v1019)) (absf v1022)) (absf v1025)) (absf v1028)) (absf v1031)) (absf v1034)) (absf v1037)) (absf v1040))

def p28 (MA : Memref sig .tc .vmem S256x1024 .bf16) (MO : Memref sig .tc .vmem S8x1024 .i32) (M8 : Memref sig .tc .vmem S256x256 .bf16) (M9 : Memref sig .tc .vmem S256x1024 .f32) (v1042 : FVec F S8x128 .f32) : Prog (TpuEff nD τ sig (Elt F) Λ₀ .tc) (FVec F S8x128 .f32) := do
  let v1043 ← ldr M9 13 (by omega) 0 (by omega)
  let v1046 ← ldr M9 14 (by omega) 0 (by omega)
  let v1049 ← ldr M9 15 (by omega) 0 (by omega)
  let v1052 ← ldr M9 16 (by omega) 0 (by omega)
  let v1055 ← ldr M9 17 (by omega) 0 (by omega)
  let v1058 ← ldr M9 18 (by omega) 0 (by omega)
  let v1061 ← ldr M9 19 (by omega) 0 (by omega)
  let v1064 ← ldr M9 20 (by omega) 0 (by omega)
  let v1067 ← ldr M9 21 (by omega) 0 (by omega)
  let v1070 ← ldr M9 22 (by omega) 0 (by omega)
  let v1073 ← ldr M9 23 (by omega) 0 (by omega)
  let v1076 ← ldr M9 24 (by omega) 0 (by omega)
  pure (maximumf (maximumf (maximumf (maximumf (maximumf (maximumf (maximumf (maximumf (maximumf (maximumf (maximumf (maximumf v1042 (absf v1043)) (absf v1046)) (absf v1049)) (absf v1052)) (absf v1055)) (absf v1058)) (absf v1061)) (absf v1064)) (absf v1067)) (absf v1070)) (absf v1073)) (absf v1076))

def p29 (MA : Memref sig .tc .vmem S256x1024 .bf16) (MO : Memref sig .tc .vmem S8x1024 .i32) (M8 : Memref sig .tc .vmem S256x256 .bf16) (M9 : Memref sig .tc .vmem S256x1024 .f32) (v1078 : FVec F S8x128 .f32) : Prog (TpuEff nD τ sig (Elt F) Λ₀ .tc) (Σ' (v1101 : FVec F S8x128 .f32) (v1116 : IVec S8x128 32) (v1118 : IVec S8x128 32), BitVec 32) := do
  let v1079 ← ldr M9 25 (by omega) 0 (by omega)
  let v1082 ← ldr M9 26 (by omega) 0 (by omega)
  let v1085 ← ldr M9 27 (by omega) 0 (by omega)
  let v1088 ← ldr M9 28 (by omega) 0 (by omega)
  let v1091 ← ldr M9 29 (by omega) 0 (by omega)
  let v1094 ← ldr M9 30 (by omega) 0 (by omega)
  let v1097 ← ldr M9 31 (by omega) 0 (by omega)
  pure ⟨(mulf (maximumf (maximumf (maximumf (maximumf (maximumf (maximumf (maximumf v1078 (absf v1079)) (absf v1082)) (absf v1085)) (absf v1088)) (absf v1091)) (absf v1094)) (absf v1097)) (broadcast S8x128 (Scalar.ofBits .f32 0x3DB504F3#32))), (estep (mulf (maximumf (maximumf (maximumf (maximumf (maximumf (maximumf (maximumf v1078 (absf v1079)) (absf v1082)) (absf v1085)) (absf v1088)) (absf v1091)) (absf v1094)) (absf v1097)) (broadcast S8x128 (Scalar.ofBits .f32 0x3DB504F3#32))) 64#32 (estep (mulf (maximumf (maximumf (maximumf (maximumf (maximumf (maximumf (maximumf v1078 (absf v1079)) (absf v1082)) (absf v1085)) (absf v1088)) (absf v1091)) (absf v1094)) (absf v1097)) (broadcast S8x128 (Scalar.ofBits .f32 0x3DB504F3#32))) 128#32 (broadcast S8x128 0#32))), (addi (estep (mulf (maximumf (maximumf (maximumf (maximumf (maximumf (maximumf (maximumf v1078 (absf v1079)) (absf v1082)) (absf v1085)) (absf v1088)) (absf v1091)) (absf v1094)) (absf v1097)) (broadcast S8x128 (Scalar.ofBits .f32 0x3DB504F3#32))) 64#32 (estep (mulf (maximumf (maximumf (maximumf (maximumf (maximumf (maximumf (maximumf v1078 (absf v1079)) (absf v1082)) (absf v1085)) (absf v1088)) (absf v1091)) (absf v1094)) (absf v1097)) (broadcast S8x128 (Scalar.ofBits .f32 0x3DB504F3#32))) 128#32 (broadcast S8x128 0#32))) (broadcast S8x128 32#32)), 23#32⟩

def p30 (MA : Memref sig .tc .vmem S256x1024 .bf16) (MO : Memref sig .tc .vmem S8x1024 .i32) (M8 : Memref sig .tc .vmem S256x256 .bf16) (M9 : Memref sig .tc .vmem S256x1024 .f32) (v1101 : FVec F S8x128 .f32) (v1116 : IVec S8x128 32) (v1118 : IVec S8x128 32) (c23_i32_579 : BitVec 32) : Prog (TpuEff nD τ sig (Elt F) Λ₀ .tc) (IVec S8x128 32) := do
  pure (select (cmpi .eq (estep v1101 1#32 (estep v1101 2#32 (estep v1101 4#32 (estep v1101 8#32 (estep v1101 16#32 (select (cmpf .oge v1101 (bitcastToFloat .f32 (shli v1118 (broadcast S8x128 c23_i32_579)))) v1118 v1116)))))) (broadcast S8x128 0#32)) (broadcast S8x128 0#32) (subi (estep v1101 1#32 (estep v1101 2#32 (estep v1101 4#32 (estep v1101 8#32 (estep v1101 16#32 (select (cmpf .oge v1101 (bitcastToFloat .f32 (shli v1118 (broadcast S8x128 c23_i32_579)))) v1118 v1116)))))) (broadcast S8x128 129#32)))

def p31 (MA : Memref sig .tc .vmem S256x1024 .bf16) (MO : Memref sig .tc .vmem S8x1024 .i32) (M8 : Memref sig .tc .vmem S256x256 .bf16) (M9 : Memref sig .tc .vmem S256x1024 .f32) (v1164 : IVec S8x128 32) : Prog (TpuEff nD τ sig (Elt F) Λ₀ .tc) (Σ' (v1197 : FVec F S8x128 .f32), Vec F S8x128 .f32) := do
  sto MO 6 (by omega) v1164
  let v1166 ← ldr M9 0 (by omega) 1 (by omega)
  let v1168 ← ldr M9 1 (by omega) 1 (by omega)
  let v1171 ← ldr M9 2 (by omega) 1 (by omega)
  let v1174 ← ldr M9 3 (by omega) 1 (by omega)
  let v1177 ← ldr M9 4 (by omega) 1 (by omega)
  let v1180 ← ldr M9 5 (by omega) 1 (by omega)
  let v1183 ← ldr M9 6 (by omega) 1 (by omega)
  let v1186 ← ldr M9 7 (by omega) 1 (by omega)
  let v1189 ← ldr M9 8 (by omega) 1 (by omega)
  let v1192 ← ldr M9 9 (by omega) 1 (by omega)
  let v1195 ← ldr M9 10 (by omega) 1 (by omega)
  let v1198 ← ldr M9 11 (by omega) 1 (by omega)
  pure ⟨(maximumf (maximumf (maximumf (maximumf (maximumf (maximumf (maximumf (maximumf (maximumf (maximumf (absf v1166) (absf v1168)) (absf v1171)) (absf v1174)) (absf v1177)) (absf v1180)) (absf v1183)) (absf v1186)) (absf v1189)) (absf v1192)) (absf v1195)), v1198⟩

def p32 (MA : Memref sig .tc .vmem S256x1024 .bf16) (MO : Memref sig .tc .vmem S8x1024 .i32) (M8 : Memref sig .tc .vmem S256x256 .bf16) (M9 : Memref sig .tc .vmem S256x1024 .f32) (v1197 : FVec F S8x128 .f32) (v1198 : Vec F S8x128 .f32) : Prog (TpuEff nD τ sig (Elt F) Λ₀ .tc) (Σ' (v1233 : FVec F S8x128 .f32), Vec F S8x128 .f32) := do
  let v1201 ← ldr M9 12 (by omega) 1 (by omega)
  let v1204 ← ldr M9 13 (by omega) 1 (by omega)
  let v1207 ← ldr M9 14 (by omega) 1 (by omega)
  let v1210 ← ldr M9 15 (by omega) 1 (by omega)
  let v1213 ← ldr M9 16 (by omega) 1 (by omega)
  let v1216 ← ldr M9 17 (by omega) 1 (by omega)
  let v1219 ← ldr M9 18 (by omega) 1 (by omega)
  let v1222 ← ldr M9 19 (by omega) 1 (by omega)
  let v1225 ← ldr M9 20 (by omega) 1 (by omega)
  let v1228 ← ldr M9 21 (by omega) 1 (by omega)
  let v1231 ← ldr M9 22 (by omega) 1 (by omega)
  let v1234 ← ldr M9 23 (by omega) 1 (by omega)
  pure ⟨(maximumf (maximumf (maximumf (maximumf (maximumf (maximumf (maximumf (maximumf (maximumf (maximumf (maximumf (maximumf v1197 (absf v1198)) (absf v1201)) (absf v1204)) (absf v1207)) (absf v1210)) (absf v1213)) (absf v1216)) (absf v1219)) (absf v1222)) (absf v1225)) (absf v1228)) (absf v1231)), v1234⟩

def p33 (MA : Memref sig .tc .vmem S256x1024 .bf16) (MO : Memref sig .tc .vmem S8x1024 .i32) (M8 : Memref sig .tc .vmem S256x256 .bf16) (M9 : Memref sig .tc .vmem S256x1024 .f32) (v1233 : FVec F S8x128 .f32) (v1234 : Vec F S8x128 .f32) : Prog (TpuEff nD τ sig (Elt F) Λ₀ .tc) (Σ' (v1262 : FVec F S8x128 .f32) (v1270 : IVec S8x128 32) (v1272 : IVec S8x128 32), BitVec 32) := do
  let v1237 ← ldr M9 24 (by omega) 1 (by omega)
  let v1240 ← ldr M9 25 (by omega) 1 (by omega)
  let v1243 ← ldr M9 26 (by omega) 1 (by omega)
  let v1246 ← ldr M9 27 (by omega) 1 (by omega)
  let v1249 ← ldr M9 28 (by omega) 1 (by omega)
  let v1252 ← ldr M9 29 (by omega) 1 (by omega)
  let v1255 ← ldr M9 30 (by omega) 1 (by omega)
  let v1258 ← ldr M9 31 (by omega) 1 (by omega)
  pure ⟨(mulf (maximumf (maximumf (maximumf (maximumf (maximumf (maximumf (maximumf (maximumf (maximumf v1233 (absf v1234)) (absf v1237)) (absf v1240)) (absf v1243)) (absf v1246)) (absf v1249)) (absf v1252)) (absf v1255)) (absf v1258)) (broadcast S8x128 (Scalar.ofBits .f32 0x3DB504F3#32))), (estep (mulf (maximumf (maximumf (maximumf (maximumf (maximumf (maximumf (maximumf (maximumf (maximumf v1233 (absf v1234)) (absf v1237)) (absf v1240)) (absf v1243)) (absf v1246)) (absf v1249)) (absf v1252)) (absf v1255)) (absf v1258)) (broadcast S8x128 (Scalar.ofBits .f32 0x3DB504F3#32))) 128#32 (broadcast S8x128 0#32)), (addi (estep (mulf (maximumf (maximumf (maximumf (maximumf (maximumf (maximumf (maximumf (maximumf (maximumf v1233 (absf v1234)) (absf v1237)) (absf v1240)) (absf v1243)) (absf v1246)) (absf v1249)) (absf v1252)) (absf v1255)) (absf v1258)) (broadcast S8x128 (Scalar.ofBits .f32 0x3DB504F3#32))) 128#32 (broadcast S8x128 0#32)) (broadcast S8x128 64#32)), 23#32⟩

def p34 (MA : Memref sig .tc .vmem S256x1024 .bf16) (MO : Memref sig .tc .vmem S8x1024 .i32) (M8 : Memref sig .tc .vmem S256x256 .bf16) (M9 : Memref sig .tc .vmem S256x1024 .f32) (v1262 : FVec F S8x128 .f32) (v1270 : IVec S8x128 32) (v1272 : IVec S8x128 32) (c23_i32_664 : BitVec 32) : Prog (TpuEff nD τ sig (Elt F) Λ₀ .tc) (Σ' (v1319 : IVec S8x128 32), BitVec 32) := do
  pure ⟨(estep v1262 1#32 (estep v1262 2#32 (estep v1262 4#32 (estep v1262 8#32 (estep v1262 16#32 (estep v1262 32#32 (select (cmpf .oge v1262 (bitcastToFloat .f32 (shli v1272 (broadcast S8x128 c23_i32_664)))) v1272 v1270))))))), 0#32⟩

section
variable (i : grid0.Coords) (arg2 : Memref sig .tc .vmem S256x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S8x1024 .i32) (harg6 : arg6.IsWhole) (arg7 : Memref sig .tc .vmem S8x1024 .i32) (harg7 : arg7.IsWhole) (arg8 : Memref sig .tc .vmem S256x256 .bf16) (harg8 : arg8.IsWhole) (arg9 : Memref sig .tc .vmem S256x1024 .f32) (harg9 : arg9.IsWhole)

theorem part1_x : k0_part1 (F := F) i arg2 harg2 arg3 harg3 arg4 harg4 arg5 harg5 arg6 harg6 arg7 harg7 arg8 harg8 arg9 harg9 = p1 arg3 arg6 arg8 arg9 := rfl
theorem part1_d : k0_part35 (F := F) i arg2 harg2 arg3 harg3 arg4 harg4 arg5 harg5 arg6 harg6 arg7 harg7 arg8 harg8 arg9 harg9 = p1 arg2 arg7 arg8 arg9 := rfl
theorem part2_x (v43 : FVec F S8x128 .f32) : k0_part2 (F := F) i arg2 harg2 arg3 harg3 arg4 harg4 arg5 harg5 arg6 harg6 arg7 harg7 arg8 harg8 arg9 harg9 v43 = p2 arg3 arg6 arg8 arg9 v43 := rfl
theorem part2_d (v43 : FVec F S8x128 .f32) : k0_part36 (F := F) i arg2 harg2 arg3 harg3 arg4 harg4 arg5 harg5 arg6 harg6 arg7 harg7 arg8 harg8 arg9 harg9 v43 = p2 arg2 arg7 arg8 arg9 v43 := rfl
theorem part3_x (v79 : FVec F S8x128 .f32) : k0_part3 (F := F) i arg2 harg2 arg3 harg3 arg4 harg4 arg5 harg5 arg6 harg6 arg7 harg7 arg8 harg8 arg9 harg9 v79 = p3 arg3 arg6 arg8 arg9 v79 := rfl
theorem part3_d (v79 : FVec F S8x128 .f32) : k0_part37 (F := F) i arg2 harg2 arg3 harg3 arg4 harg4 arg5 harg5 arg6 harg6 arg7 harg7 arg8 harg8 arg9 harg9 v79 = p3 arg2 arg7 arg8 arg9 v79 := rfl
theorem part4_x (v114 : FVec F S8x128 .f32) (v115 : IVec S8x128 32) (c128_i32 : BitVec 32) : k0_part4 (F := F) i arg2 harg2 arg3 harg3 arg4 harg4 arg5 harg5 arg6 harg6 arg7 harg7 arg8 harg8 arg9 harg9 v114 v115 c128_i32 = p4 arg3 arg6 arg8 arg9 v114 v115 c128_i32 := rfl
theorem part4_d (v114 : FVec F S8x128 .f32) (v115 : IVec S8x128 32) (c128_i32 : BitVec 32) : k0_part38 (F := F) i arg2 harg2 arg3 harg3 arg4 harg4 arg5 harg5 arg6 harg6 arg7 harg7 arg8 harg8 arg9 harg9 v114 v115 c128_i32 = p4 arg2 arg7 arg8 arg9 v114 v115 c128_i32 := rfl
theorem part5_x (v114 : FVec F S8x128 .f32) (v157 : IVec S8x128 32) (v159 : IVec S8x128 32) (v162 : FVec F S8x128 .f32) : k0_part5 (F := F) i arg2 harg2 arg3 harg3 arg4 harg4 arg5 harg5 arg6 harg6 arg7 harg7 arg8 harg8 arg9 harg9 v114 v157 v159 v162 = p5 arg3 arg6 arg8 arg9 v114 v157 v159 v162 := rfl
theorem part5_d (v114 : FVec F S8x128 .f32) (v157 : IVec S8x128 32) (v159 : IVec S8x128 32) (v162 : FVec F S8x128 .f32) : k0_part39 (F := F) i arg2 harg2 arg3 harg3 arg4 harg4 arg5 harg5 arg6 harg6 arg7 harg7 arg8 harg8 arg9 harg9 v114 v157 v159 v162 = p5 arg2 arg7 arg8 arg9 v114 v157 v159 v162 := rfl
theorem part6_x (v198 : FVec F S8x128 .f32) : k0_part6 (F := F) i arg2 harg2 arg3 harg3 arg4 harg4 arg5 harg5 arg6 harg6 arg7 harg7 arg8 harg8 arg9 harg9 v198 = p6 arg3 arg6 arg8 arg9 v198 := rfl
theorem part6_d (v198 : FVec F S8x128 .f32) : k0_part40 (F := F) i arg2 harg2 arg3 harg3 arg4 harg4 arg5 harg5 arg6 harg6 arg7 harg7 arg8 harg8 arg9 harg9 v198 = p6 arg2 arg7 arg8 arg9 v198 := rfl
theorem part7_x (v234 : FVec F S8x128 .f32) : k0_part7 (F := F) i arg2 harg2 arg3 harg3 arg4 harg4 arg5 harg5 arg6 harg6 arg7 harg7 arg8 harg8 arg9 harg9 v234 = p7 arg3 arg6 arg8 arg9 v234 := rfl
theorem part7_d (v234 : FVec F S8x128 .f32) : k0_part41 (F := F) i arg2 harg2 arg3 harg3 arg4 harg4 arg5 harg5 arg6 harg6 arg7 harg7 arg8 harg8 arg9 harg9 v234 = p7 arg2 arg7 arg8 arg9 v234 := rfl
theorem part8_x (v270 : FVec F S8x128 .f32) : k0_part8 (F := F) i arg2 harg2 arg3 harg3 arg4 harg4 arg5 harg5 arg6 harg6 arg7 harg7 arg8 harg8 arg9 harg9 v270 = p8 arg3 arg6 arg8 arg9 v270 := rfl
theorem part8_d (v270 : FVec F S8x128 .f32) : k0_part42 (F := F) i arg2 harg2 arg3 harg3 arg4 harg4 arg5 harg5 arg6 harg6 arg7 harg7 arg8 harg8 arg9 harg9 v270 = p8 arg2 arg7 arg8 arg9 v270 := rfl
theorem part9_x (v275 : FVec F S8x128 .f32) (v311 : IVec S8x128 32) (v313 : IVec S8x128 32) (v316 : FVec F S8x128 .f32) : k0_part9 (F := F) i arg2 harg2 arg3 harg3 arg4 harg4 arg5 harg5 arg6 harg6 arg7 harg7 arg8 harg8 arg9 harg9 v275 v311 v313 v316 = p9 arg3 arg6 arg8 arg9 v275 v311 v313 v316 := rfl
theorem part9_d (v275 : FVec F S8x128 .f32) (v311 : IVec S8x128 32) (v313 : IVec S8x128 32) (v316 : FVec F S8x128 .f32) : k0_part43 (F := F) i arg2 harg2 arg3 harg3 arg4 harg4 arg5 harg5 arg6 harg6 arg7 harg7 arg8 harg8 arg9 harg9 v275 v311 v313 v316 = p9 arg2 arg7 arg8 arg9 v275 v311 v313 v316 := rfl
theorem part10_x (v351 : FVec F S8x128 .f32) (v352 : Vec F S8x128 .f32) : k0_part10 (F := F) i arg2 harg2 arg3 harg3 arg4 harg4 arg5 harg5 arg6 harg6 arg7 harg7 arg8 harg8 arg9 harg9 v351 v352 = p10 arg3 arg6 arg8 arg9 v351 v352 := rfl
theorem part10_d (v351 : FVec F S8x128 .f32) (v352 : Vec F S8x128 .f32) : k0_part44 (F := F) i arg2 harg2 arg3 harg3 arg4 harg4 arg5 harg5 arg6 harg6 arg7 harg7 arg8 harg8 arg9 harg9 v351 v352 = p10 arg2 arg7 arg8 arg9 v351 v352 := rfl
theorem part11_x (v387 : FVec F S8x128 .f32) (v388 : Vec F S8x128 .f32) : k0_part11 (F := F) i arg2 harg2 arg3 harg3 arg4 harg4 arg5 harg5 arg6 harg6 arg7 harg7 arg8 harg8 arg9 harg9 v387 v388 = p11 arg3 arg6 arg8 arg9 v387 v388 := rfl
theorem part11_d (v387 : FVec F S8x128 .f32) (v388 : Vec F S8x128 .f32) : k0_part45 (F := F) i arg2 harg2 arg3 harg3 arg4 harg4 arg5 harg5 arg6 harg6 arg7 harg7 arg8 harg8 arg9 harg9 v387 v388 = p11 arg2 arg7 arg8 arg9 v387 v388 := rfl
theorem part12_x (v423 : FVec F S8x128 .f32) (v424 : Vec F S8x128 .f32) : k0_part12 (F := F) i arg2 harg2 arg3 harg3 arg4 harg4 arg5 harg5 arg6 harg6 arg7 harg7 arg8 harg8 arg9 harg9 v423 v424 = p12 arg3 arg6 arg8 arg9 v423 v424 := rfl
theorem part12_d (v423 : FVec F S8x128 .f32) (v424 : Vec F S8x128 .f32) : k0_part46 (F := F) i arg2 harg2 arg3 harg3 arg4 harg4 arg5 harg5 arg6 harg6 arg7 harg7 arg8 harg8 arg9 harg9 v423 v424 = p12 arg2 arg7 arg8 arg9 v423 v424 := rfl
theorem part13_x (v443 : FVec F S8x128 .f32) (v465 : IVec S8x128 32) (c16_i32_222 : BitVec 32) : k0_part13 (F := F) i arg2 harg2 arg3 harg3 arg4 harg4 arg5 harg5 arg6 harg6 arg7 harg7 arg8 harg8 arg9 harg9 v443 v465 c16_i32_222 = p13 arg3 arg6 arg8 arg9 v443 v465 c16_i32_222 := rfl
theorem part13_d (v443 : FVec F S8x128 .f32) (v465 : IVec S8x128 32) (c16_i32_222 : BitVec 32) : k0_part47 (F := F) i arg2 harg2 arg3 harg3 arg4 harg4 arg5 harg5 arg6 harg6 arg7 harg7 arg8 harg8 arg9 harg9 v443 v465 c16_i32_222 = p13 arg2 arg7 arg8 arg9 v443 v465 c16_i32_222 := rfl
theorem part14_x (v508 : Vec F S8x128 .f32) : k0_part14 (F := F) i arg2 harg2 arg3 harg3 arg4 harg4 arg5 harg5 arg6 harg6 arg7 harg7 arg8 harg8 arg9 harg9 v508 = p14 arg3 arg6 arg8 arg9 v508 := rfl
theorem part14_d (v508 : Vec F S8x128 .f32) : k0_part48 (F := F) i arg2 harg2 arg3 harg3 arg4 harg4 arg5 harg5 arg6 harg6 arg7 harg7 arg8 harg8 arg9 harg9 v508 = p14 arg2 arg7 arg8 arg9 v508 := rfl
theorem part15_x (v542 : FVec F S8x128 .f32) (v544 : FVec F S8x128 .f32) : k0_part15 (F := F) i arg2 harg2 arg3 harg3 arg4 harg4 arg5 harg5 arg6 harg6 arg7 harg7 arg8 harg8 arg9 harg9 v542 v544 = p15 arg3 arg6 arg8 arg9 v542 v544 := rfl
theorem part15_d (v542 : FVec F S8x128 .f32) (v544 : FVec F S8x128 .f32) : k0_part49 (F := F) i arg2 harg2 arg3 harg3 arg4 harg4 arg5 harg5 arg6 harg6 arg7 harg7 arg8 harg8 arg9 harg9 v542 v544 = p15 arg2 arg7 arg8 arg9 v542 v544 := rfl
theorem part16_x (v578 : FVec F S8x128 .f32) (v580 : FVec F S8x128 .f32) : k0_part16 (F := F) i arg2 harg2 arg3 harg3 arg4 harg4 arg5 harg5 arg6 harg6 arg7 harg7 arg8 harg8 arg9 harg9 v578 v580 = p16 arg3 arg6 arg8 arg9 v578 v580 := rfl
theorem part16_d (v578 : FVec F S8x128 .f32) (v580 : FVec F S8x128 .f32) : k0_part50 (F := F) i arg2 harg2 arg3 harg3 arg4 harg4 arg5 harg5 arg6 harg6 arg7 harg7 arg8 harg8 arg9 harg9 v578 v580 = p16 arg2 arg7 arg8 arg9 v578 v580 := rfl
theorem part17_x (v604 : FVec F S8x128 .f32) (v619 : IVec S8x128 32) (c32_i32_307 : BitVec 32) : k0_part17 (F := F) i arg2 harg2 arg3 harg3 arg4 harg4 arg5 harg5 arg6 harg6 arg7 harg7 arg8 harg8 arg9 harg9 v604 v619 c32_i32_307 = p17 arg3 arg6 arg8 arg9 v604 v619 c32_i32_307 := rfl
theorem part17_d (v604 : FVec F S8x128 .f32) (v619 : IVec S8x128 32) (c32_i32_307 : BitVec 32) : k0_part51 (F := F) i arg2 harg2 arg3 harg3 arg4 harg4 arg5 harg5 arg6 harg6 arg7 harg7 arg8 harg8 arg9 harg9 v604 v619 c32_i32_307 = p17 arg2 arg7 arg8 arg9 v604 v619 c32_i32_307 := rfl
theorem part18_x (v663 : IVec S8x128 1) (v665 : IVec S8x128 32) (c0_i32_321 : BitVec 32) : k0_part18 (F := F) i arg2 harg2 arg3 harg3 arg4 harg4 arg5 harg5 arg6 harg6 arg7 harg7 arg8 harg8 arg9 harg9 v663 v665 c0_i32_321 = p18 arg3 arg6 arg8 arg9 v663 v665 c0_i32_321 := rfl
theorem part18_d (v663 : IVec S8x128 1) (v665 : IVec S8x128 32) (c0_i32_321 : BitVec 32) : k0_part52 (F := F) i arg2 harg2 arg3 harg3 arg4 harg4 arg5 harg5 arg6 harg6 arg7 harg7 arg8 harg8 arg9 harg9 v663 v665 c0_i32_321 = p18 arg2 arg7 arg8 arg9 v663 v665 c0_i32_321 := rfl
theorem part19_x (v698 : FVec F S8x128 .f32) : k0_part19 (F := F) i arg2 harg2 arg3 harg3 arg4 harg4 arg5 harg5 arg6 harg6 arg7 harg7 arg8 harg8 arg9 harg9 v698 = p19 arg3 arg6 arg8 arg9 v698 := rfl
theorem part19_d (v698 : FVec F S8x128 .f32) : k0_part53 (F := F) i arg2 harg2 arg3 harg3 arg4 harg4 arg5 harg5 arg6 harg6 arg7 harg7 arg8 harg8 arg9 harg9 v698 = p19 arg2 arg7 arg8 arg9 v698 := rfl
theorem part20_x (v734 : FVec F S8x128 .f32) : k0_part20 (F := F) i arg2 harg2 arg3 harg3 arg4 harg4 arg5 harg5 arg6 harg6 arg7 harg7 arg8 harg8 arg9 harg9 v734 = p20 arg3 arg6 arg8 arg9 v734 := rfl
theorem part20_d (v734 : FVec F S8x128 .f32) : k0_part54 (F := F) i arg2 harg2 arg3 harg3 arg4 harg4 arg5 harg5 arg6 harg6 arg7 harg7 arg8 harg8 arg9 harg9 v734 = p20 arg2 arg7 arg8 arg9 v734 := rfl
theorem part21_x (v770 : FVec F S8x128 .f32) : k0_part21 (F := F) i arg2 harg2 arg3 harg3 arg4 harg4 arg5 harg5 arg6 harg6 arg7 harg7 arg8 harg8 arg9 harg9 v770 = p21 arg3 arg6 arg8 arg9 v770 := rfl
theorem part21_d (v770 : FVec F S8x128 .f32) : k0_part55 (F := F) i arg2 harg2 arg3 harg3 arg4 harg4 arg5 harg5 arg6 harg6 arg7 harg7 arg8 harg8 arg9 harg9 v770 = p21 arg2 arg7 arg8 arg9 v770 := rfl
theorem part22_x (v772 : FVec F S8x128 .f32) (v815 : IVec S8x128 32) (c2_i32_407 : BitVec 32) : k0_part22 (F := F) i arg2 harg2 arg3 harg3 arg4 harg4 arg5 harg5 arg6 harg6 arg7 harg7 arg8 harg8 arg9 harg9 v772 v815 c2_i32_407 = p22 arg3 arg6 arg8 arg9 v772 v815 c2_i32_407 := rfl
theorem part22_d (v772 : FVec F S8x128 .f32) (v815 : IVec S8x128 32) (c2_i32_407 : BitVec 32) : k0_part56 (F := F) i arg2 harg2 arg3 harg3 arg4 harg4 arg5 harg5 arg6 harg6 arg7 harg7 arg8 harg8 arg9 harg9 v772 v815 c2_i32_407 = p22 arg2 arg7 arg8 arg9 v772 v815 c2_i32_407 := rfl
theorem part23_x (v853 : FVec F S8x128 .f32) : k0_part23 (F := F) i arg2 harg2 arg3 harg3 arg4 harg4 arg5 harg5 arg6 harg6 arg7 harg7 arg8 harg8 arg9 harg9 v853 = p23 arg3 arg6 arg8 arg9 v853 := rfl
theorem part23_d (v853 : FVec F S8x128 .f32) : k0_part57 (F := F) i arg2 harg2 arg3 harg3 arg4 harg4 arg5 harg5 arg6 harg6 arg7 harg7 arg8 harg8 arg9 harg9 v853 = p23 arg2 arg7 arg8 arg9 v853 := rfl
theorem part24_x (v889 : FVec F S8x128 .f32) : k0_part24 (F := F) i arg2 harg2 arg3 harg3 arg4 harg4 arg5 harg5 arg6 harg6 arg7 harg7 arg8 harg8 arg9 harg9 v889 = p24 arg3 arg6 arg8 arg9 v889 := rfl
theorem part24_d (v889 : FVec F S8x128 .f32) : k0_part58 (F := F) i arg2 harg2 arg3 harg3 arg4 harg4 arg5 harg5 arg6 harg6 arg7 harg7 arg8 harg8 arg9 harg9 v889 = p24 arg2 arg7 arg8 arg9 v889 := rfl
theorem part25_x (v925 : FVec F S8x128 .f32) : k0_part25 (F := F) i arg2 harg2 arg3 harg3 arg4 harg4 arg5 harg5 arg6 harg6 arg7 harg7 arg8 harg8 arg9 harg9 v925 = p25 arg3 arg6 arg8 arg9 v925 := rfl
theorem part25_d (v925 : FVec F S8x128 .f32) : k0_part59 (F := F) i arg2 harg2 arg3 harg3 arg4 harg4 arg5 harg5 arg6 harg6 arg7 harg7 arg8 harg8 arg9 harg9 v925 = p25 arg2 arg7 arg8 arg9 v925 := rfl
theorem part26_x (v933 : FVec F S8x128 .f32) (v969 : IVec S8x128 32) (c4_i32_492 : BitVec 32) : k0_part26 (F := F) i arg2 harg2 arg3 harg3 arg4 harg4 arg5 harg5 arg6 harg6 arg7 harg7 arg8 harg8 arg9 harg9 v933 v969 c4_i32_492 = p26 arg3 arg6 arg8 arg9 v933 v969 c4_i32_492 := rfl
theorem part26_d (v933 : FVec F S8x128 .f32) (v969 : IVec S8x128 32) (c4_i32_492 : BitVec 32) : k0_part60 (F := F) i arg2 harg2 arg3 harg3 arg4 harg4 arg5 harg5 arg6 harg6 arg7 harg7 arg8 harg8 arg9 harg9 v933 v969 c4_i32_492 = p26 arg2 arg7 arg8 arg9 v933 v969 c4_i32_492 := rfl
theorem part27_x (v1006 : FVec F S8x128 .f32) : k0_part27 (F := F) i arg2 harg2 arg3 harg3 arg4 harg4 arg5 harg5 arg6 harg6 arg7 harg7 arg8 harg8 arg9 harg9 v1006 = p27 arg3 arg6 arg8 arg9 v1006 := rfl
theorem part27_d (v1006 : FVec F S8x128 .f32) : k0_part61 (F := F) i arg2 harg2 arg3 harg3 arg4 harg4 arg5 harg5 arg6 harg6 arg7 harg7 arg8 harg8 arg9 harg9 v1006 = p27 arg2 arg7 arg8 arg9 v1006 := rfl
theorem part28_x (v1042 : FVec F S8x128 .f32) : k0_part28 (F := F) i arg2 harg2 arg3 harg3 arg4 harg4 arg5 harg5 arg6 harg6 arg7 harg7 arg8 harg8 arg9 harg9 v1042 = p28 arg3 arg6 arg8 arg9 v1042 := rfl
theorem part28_d (v1042 : FVec F S8x128 .f32) : k0_part62 (F := F) i arg2 harg2 arg3 harg3 arg4 harg4 arg5 harg5 arg6 harg6 arg7 harg7 arg8 harg8 arg9 harg9 v1042 = p28 arg2 arg7 arg8 arg9 v1042 := rfl
theorem part29_x (v1078 : FVec F S8x128 .f32) : k0_part29 (F := F) i arg2 harg2 arg3 harg3 arg4 harg4 arg5 harg5 arg6 harg6 arg7 harg7 arg8 harg8 arg9 harg9 v1078 = p29 arg3 arg6 arg8 arg9 v1078 := rfl
theorem part29_d (v1078 : FVec F S8x128 .f32) : k0_part63 (F := F) i arg2 harg2 arg3 harg3 arg4 harg4 arg5 harg5 arg6 harg6 arg7 harg7 arg8 harg8 arg9 harg9 v1078 = p29 arg2 arg7 arg8 arg9 v1078 := rfl
theorem part30_x (v1101 : FVec F S8x128 .f32) (v1116 : IVec S8x128 32) (v1118 : IVec S8x128 32) (c23_i32_579 : BitVec 32) : k0_part30 (F := F) i arg2 harg2 arg3 harg3 arg4 harg4 arg5 harg5 arg6 harg6 arg7 harg7 arg8 harg8 arg9 harg9 v1101 v1116 v1118 c23_i32_579 = p30 arg3 arg6 arg8 arg9 v1101 v1116 v1118 c23_i32_579 := rfl
theorem part30_d (v1101 : FVec F S8x128 .f32) (v1116 : IVec S8x128 32) (v1118 : IVec S8x128 32) (c23_i32_579 : BitVec 32) : k0_part64 (F := F) i arg2 harg2 arg3 harg3 arg4 harg4 arg5 harg5 arg6 harg6 arg7 harg7 arg8 harg8 arg9 harg9 v1101 v1116 v1118 c23_i32_579 = p30 arg2 arg7 arg8 arg9 v1101 v1116 v1118 c23_i32_579 := rfl
theorem part31_x (v1164 : IVec S8x128 32) : k0_part31 (F := F) i arg2 harg2 arg3 harg3 arg4 harg4 arg5 harg5 arg6 harg6 arg7 harg7 arg8 harg8 arg9 harg9 v1164 = p31 arg3 arg6 arg8 arg9 v1164 := rfl
theorem part31_d (v1164 : IVec S8x128 32) : k0_part65 (F := F) i arg2 harg2 arg3 harg3 arg4 harg4 arg5 harg5 arg6 harg6 arg7 harg7 arg8 harg8 arg9 harg9 v1164 = p31 arg2 arg7 arg8 arg9 v1164 := rfl
theorem part32_x (v1197 : FVec F S8x128 .f32) (v1198 : Vec F S8x128 .f32) : k0_part32 (F := F) i arg2 harg2 arg3 harg3 arg4 harg4 arg5 harg5 arg6 harg6 arg7 harg7 arg8 harg8 arg9 harg9 v1197 v1198 = p32 arg3 arg6 arg8 arg9 v1197 v1198 := rfl
theorem part32_d (v1197 : FVec F S8x128 .f32) (v1198 : Vec F S8x128 .f32) : k0_part66 (F := F) i arg2 harg2 arg3 harg3 arg4 harg4 arg5 harg5 arg6 harg6 arg7 harg7 arg8 harg8 arg9 harg9 v1197 v1198 = p32 arg2 arg7 arg8 arg9 v1197 v1198 := rfl
theorem part33_x (v1233 : FVec F S8x128 .f32) (v1234 : Vec F S8x128 .f32) : k0_part33 (F := F) i arg2 harg2 arg3 harg3 arg4 harg4 arg5 harg5 arg6 harg6 arg7 harg7 arg8 harg8 arg9 harg9 v1233 v1234 = p33 arg3 arg6 arg8 arg9 v1233 v1234 := rfl
theorem part33_d (v1233 : FVec F S8x128 .f32) (v1234 : Vec F S8x128 .f32) : k0_part67 (F := F) i arg2 harg2 arg3 harg3 arg4 harg4 arg5 harg5 arg6 harg6 arg7 harg7 arg8 harg8 arg9 harg9 v1233 v1234 = p33 arg2 arg7 arg8 arg9 v1233 v1234 := rfl
theorem part34_x (v1262 : FVec F S8x128 .f32) (v1270 : IVec S8x128 32) (v1272 : IVec S8x128 32) (c23_i32_664 : BitVec 32) : k0_part34 (F := F) i arg2 harg2 arg3 harg3 arg4 harg4 arg5 harg5 arg6 harg6 arg7 harg7 arg8 harg8 arg9 harg9 v1262 v1270 v1272 c23_i32_664 = p34 arg3 arg6 arg8 arg9 v1262 v1270 v1272 c23_i32_664 := rfl
theorem part34_d (v1262 : FVec F S8x128 .f32) (v1270 : IVec S8x128 32) (v1272 : IVec S8x128 32) (c23_i32_664 : BitVec 32) : k0_part68 (F := F) i arg2 harg2 arg3 harg3 arg4 harg4 arg5 harg5 arg6 harg6 arg7 harg7 arg8 harg8 arg9 harg9 v1262 v1270 v1272 c23_i32_664 = p34 arg2 arg7 arg8 arg9 v1262 v1270 v1272 c23_i32_664 := rfl

/-- The printed section on the first row of the grid. -/
def secX (k : Prog (TpuEff nD τ sig (Elt F) Λ₀ .tc) PUnit) : Prog (TpuEff nD τ sig (Elt F) Λ₀ .tc) PUnit := do
  let v43 : FVec F S8x128 .f32 ← k0_part1 i arg2 harg2 arg3 harg3 arg4 harg4 arg5 harg5 arg6 harg6 arg7 harg7 arg8 harg8 arg9 harg9
  let v79 : FVec F S8x128 .f32 ← k0_part2 i arg2 harg2 arg3 harg3 arg4 harg4 arg5 harg5 arg6 harg6 arg7 harg7 arg8 harg8 arg9 harg9 v43
  let ⟨v114, v115, c128_i32⟩ : Σ' (v114 : FVec F S8x128 .f32) (v115 : IVec S8x128 32), BitVec 32 ← k0_part3 i arg2 harg2 arg3 harg3 arg4 harg4 arg5 harg5 arg6 harg6 arg7 harg7 arg8 harg8 arg9 harg9 v79
  let ⟨v157, v159, v162⟩ : Σ' (v157 : IVec S8x128 32) (v159 : IVec S8x128 32), FVec F S8x128 .f32 ← k0_part4 i arg2 harg2 arg3 harg3 arg4 harg4 arg5 harg5 arg6 harg6 arg7 harg7 arg8 harg8 arg9 harg9 v114 v115 c128_i32
  let v198 : FVec F S8x128 .f32 ← k0_part5 i arg2 harg2 arg3 harg3 arg4 harg4 arg5 harg5 arg6 harg6 arg7 harg7 arg8 harg8 arg9 harg9 v114 v157 v159 v162
  let v234 : FVec F S8x128 .f32 ← k0_part6 i arg2 harg2 arg3 harg3 arg4 harg4 arg5 harg5 arg6 harg6 arg7 harg7 arg8 harg8 arg9 harg9 v198
  let v270 : FVec F S8x128 .f32 ← k0_part7 i arg2 harg2 arg3 harg3 arg4 harg4 arg5 harg5 arg6 harg6 arg7 harg7 arg8 harg8 arg9 harg9 v234
  let ⟨v275, v311, v313, v316⟩ : Σ' (v275 : FVec F S8x128 .f32) (v311 : IVec S8x128 32) (v313 : IVec S8x128 32), FVec F S8x128 .f32 ← k0_part8 i arg2 harg2 arg3 harg3 arg4 harg4 arg5 harg5 arg6 harg6 arg7 harg7 arg8 harg8 arg9 harg9 v270
  let ⟨v351, v352⟩ : Σ' (v351 : FVec F S8x128 .f32), Vec F S8x128 .f32 ← k0_part9 i arg2 harg2 arg3 harg3 arg4 harg4 arg5 harg5 arg6 harg6 arg7 harg7 arg8 harg8 arg9 harg9 v275 v311 v313 v316
  let ⟨v387, v388⟩ : Σ' (v387 : FVec F S8x128 .f32), Vec F S8x128 .f32 ← k0_part10 i arg2 harg2 arg3 harg3 arg4 harg4 arg5 harg5 arg6 harg6 arg7 harg7 arg8 harg8 arg9 harg9 v351 v352
  let ⟨v423, v424⟩ : Σ' (v423 : FVec F S8x128 .f32), Vec F S8x128 .f32 ← k0_part11 i arg2 harg2 arg3 harg3 arg4 harg4 arg5 harg5 arg6 harg6 arg7 harg7 arg8 harg8 arg9 harg9 v387 v388
  let ⟨v443, v465, c16_i32_222⟩ : Σ' (v443 : FVec F S8x128 .f32) (v465 : IVec S8x128 32), BitVec 32 ← k0_part12 i arg2 harg2 arg3 harg3 arg4 harg4 arg5 harg5 arg6 harg6 arg7 harg7 arg8 harg8 arg9 harg9 v423 v424
  let v508 : Vec F S8x128 .f32 ← k0_part13 i arg2 harg2 arg3 harg3 arg4 harg4 arg5 harg5 arg6 harg6 arg7 harg7 arg8 harg8 arg9 harg9 v443 v465 c16_i32_222
  let ⟨v542, v544⟩ : Σ' (v542 : FVec F S8x128 .f32), FVec F S8x128 .f32 ← k0_part14 i arg2 harg2 arg3 harg3 arg4 harg4 arg5 harg5 arg6 harg6 arg7 harg7 arg8 harg8 arg9 harg9 v508
  let ⟨v578, v580⟩ : Σ' (v578 : FVec F S8x128 .f32), FVec F S8x128 .f32 ← k0_part15 i arg2 harg2 arg3 harg3 arg4 harg4 arg5 harg5 arg6 harg6 arg7 harg7 arg8 harg8 arg9 harg9 v542 v544
  let ⟨v604, v619, c32_i32_307⟩ : Σ' (v604 : FVec F S8x128 .f32) (v619 : IVec S8x128 32), BitVec 32 ← k0_part16 i arg2 harg2 arg3 harg3 arg4 harg4 arg5 harg5 arg6 harg6 arg7 harg7 arg8 harg8 arg9 harg9 v578 v580
  let ⟨v663, v665, c0_i32_321⟩ : Σ' (v663 : IVec S8x128 1) (v665 : IVec S8x128 32), BitVec 32 ← k0_part17 i arg2 harg2 arg3 harg3 arg4 harg4 arg5 harg5 arg6 harg6 arg7 harg7 arg8 harg8 arg9 harg9 v604 v619 c32_i32_307
  let v698 : FVec F S8x128 .f32 ← k0_part18 i arg2 harg2 arg3 harg3 arg4 harg4 arg5 harg5 arg6 harg6 arg7 harg7 arg8 harg8 arg9 harg9 v663 v665 c0_i32_321
  let v734 : FVec F S8x128 .f32 ← k0_part19 i arg2 harg2 arg3 harg3 arg4 harg4 arg5 harg5 arg6 harg6 arg7 harg7 arg8 harg8 arg9 harg9 v698
  let v770 : FVec F S8x128 .f32 ← k0_part20 i arg2 harg2 arg3 harg3 arg4 harg4 arg5 harg5 arg6 harg6 arg7 harg7 arg8 harg8 arg9 harg9 v734
  let ⟨v772, v815, c2_i32_407⟩ : Σ' (v772 : FVec F S8x128 .f32) (v815 : IVec S8x128 32), BitVec 32 ← k0_part21 i arg2 harg2 arg3 harg3 arg4 harg4 arg5 harg5 arg6 harg6 arg7 harg7 arg8 harg8 arg9 harg9 v770
  let v853 : FVec F S8x128 .f32 ← k0_part22 i arg2 harg2 arg3 harg3 arg4 harg4 arg5 harg5 arg6 harg6 arg7 harg7 arg8 harg8 arg9 harg9 v772 v815 c2_i32_407
  let v889 : FVec F S8x128 .f32 ← k0_part23 i arg2 harg2 arg3 harg3 arg4 harg4 arg5 harg5 arg6 harg6 arg7 harg7 arg8 harg8 arg9 harg9 v853
  let v925 : FVec F S8x128 .f32 ← k0_part24 i arg2 harg2 arg3 harg3 arg4 harg4 arg5 harg5 arg6 harg6 arg7 harg7 arg8 harg8 arg9 harg9 v889
  let ⟨v933, v969, c4_i32_492⟩ : Σ' (v933 : FVec F S8x128 .f32) (v969 : IVec S8x128 32), BitVec 32 ← k0_part25 i arg2 harg2 arg3 harg3 arg4 harg4 arg5 harg5 arg6 harg6 arg7 harg7 arg8 harg8 arg9 harg9 v925
  let v1006 : FVec F S8x128 .f32 ← k0_part26 i arg2 harg2 arg3 harg3 arg4 harg4 arg5 harg5 arg6 harg6 arg7 harg7 arg8 harg8 arg9 harg9 v933 v969 c4_i32_492
  let v1042 : FVec F S8x128 .f32 ← k0_part27 i arg2 harg2 arg3 harg3 arg4 harg4 arg5 harg5 arg6 harg6 arg7 harg7 arg8 harg8 arg9 harg9 v1006
  let v1078 : FVec F S8x128 .f32 ← k0_part28 i arg2 harg2 arg3 harg3 arg4 harg4 arg5 harg5 arg6 harg6 arg7 harg7 arg8 harg8 arg9 harg9 v1042
  let ⟨v1101, v1116, v1118, c23_i32_579⟩ : Σ' (v1101 : FVec F S8x128 .f32) (v1116 : IVec S8x128 32) (v1118 : IVec S8x128 32), BitVec 32 ← k0_part29 i arg2 harg2 arg3 harg3 arg4 harg4 arg5 harg5 arg6 harg6 arg7 harg7 arg8 harg8 arg9 harg9 v1078
  let v1164 : IVec S8x128 32 ← k0_part30 i arg2 harg2 arg3 harg3 arg4 harg4 arg5 harg5 arg6 harg6 arg7 harg7 arg8 harg8 arg9 harg9 v1101 v1116 v1118 c23_i32_579
  let ⟨v1197, v1198⟩ : Σ' (v1197 : FVec F S8x128 .f32), Vec F S8x128 .f32 ← k0_part31 i arg2 harg2 arg3 harg3 arg4 harg4 arg5 harg5 arg6 harg6 arg7 harg7 arg8 harg8 arg9 harg9 v1164
  let ⟨v1233, v1234⟩ : Σ' (v1233 : FVec F S8x128 .f32), Vec F S8x128 .f32 ← k0_part32 i arg2 harg2 arg3 harg3 arg4 harg4 arg5 harg5 arg6 harg6 arg7 harg7 arg8 harg8 arg9 harg9 v1197 v1198
  let ⟨v1262, v1270, v1272, c23_i32_664⟩ : Σ' (v1262 : FVec F S8x128 .f32) (v1270 : IVec S8x128 32) (v1272 : IVec S8x128 32), BitVec 32 ← k0_part33 i arg2 harg2 arg3 harg3 arg4 harg4 arg5 harg5 arg6 harg6 arg7 harg7 arg8 harg8 arg9 harg9 v1233 v1234
  let ⟨v1319, c0_i32_677⟩ : Σ' (v1319 : IVec S8x128 32), BitVec 32 ← k0_part34 i arg2 harg2 arg3 harg3 arg4 harg4 arg5 harg5 arg6 harg6 arg7 harg7 arg8 harg8 arg9 harg9 v1262 v1270 v1272 c23_i32_664
  let v1326 : Vec F S8x128 .i32 ← Prog.lift (.load arg6 (Rect.unit (s := S8x1024) ![0, 896] S8x128.size inb_S8x1024_S8x128_0_896).toLoadRect (View.loadsAt_vmem h_S8x128))
  Prog.lift (.store arg6 (Rect.unit (s := S8x1024) ![0, 896] S8x128.size inb_S8x1024_S8x128_0_896) (k0_pay2 v1319 c0_i32_677) Finset.univ (View.stores_vmem_bits_univ h_S8x128 rfl) (.inl rfl))
  k

/-- The printed section on the first column of the grid, continued by `k`. -/
def secD (k : Prog (TpuEff nD τ sig (Elt F) Λ₀ .tc) PUnit) : Prog (TpuEff nD τ sig (Elt F) Λ₀ .tc) PUnit := do
  let v43 : FVec F S8x128 .f32 ← k0_part35 i arg2 harg2 arg3 harg3 arg4 harg4 arg5 harg5 arg6 harg6 arg7 harg7 arg8 harg8 arg9 harg9
  let v79 : FVec F S8x128 .f32 ← k0_part36 i arg2 harg2 arg3 harg3 arg4 harg4 arg5 harg5 arg6 harg6 arg7 harg7 arg8 harg8 arg9 harg9 v43
  let ⟨v114, v115, c128_i32⟩ : Σ' (v114 : FVec F S8x128 .f32) (v115 : IVec S8x128 32), BitVec 32 ← k0_part37 i arg2 harg2 arg3 harg3 arg4 harg4 arg5 harg5 arg6 harg6 arg7 harg7 arg8 harg8 arg9 harg9 v79
  let ⟨v157, v159, v162⟩ : Σ' (v157 : IVec S8x128 32) (v159 : IVec S8x128 32), FVec F S8x128 .f32 ← k0_part38 i arg2 harg2 arg3 harg3 arg4 harg4 arg5 harg5 arg6 harg6 arg7 harg7 arg8 harg8 arg9 harg9 v114 v115 c128_i32
  let v198 : FVec F S8x128 .f32 ← k0_part39 i arg2 harg2 arg3 harg3 arg4 harg4 arg5 harg5 arg6 harg6 arg7 harg7 arg8 harg8 arg9 harg9 v114 v157 v159 v162
  let v234 : FVec F S8x128 .f32 ← k0_part40 i arg2 harg2 arg3 harg3 arg4 harg4 arg5 harg5 arg6 harg6 arg7 harg7 arg8 harg8 arg9 harg9 v198
  let v270 : FVec F S8x128 .f32 ← k0_part41 i arg2 harg2 arg3 harg3 arg4 harg4 arg5 harg5 arg6 harg6 arg7 harg7 arg8 harg8 arg9 harg9 v234
  let ⟨v275, v311, v313, v316⟩ : Σ' (v275 : FVec F S8x128 .f32) (v311 : IVec S8x128 32) (v313 : IVec S8x128 32), FVec F S8x128 .f32 ← k0_part42 i arg2 harg2 arg3 harg3 arg4 harg4 arg5 harg5 arg6 harg6 arg7 harg7 arg8 harg8 arg9 harg9 v270
  let ⟨v351, v352⟩ : Σ' (v351 : FVec F S8x128 .f32), Vec F S8x128 .f32 ← k0_part43 i arg2 harg2 arg3 harg3 arg4 harg4 arg5 harg5 arg6 harg6 arg7 harg7 arg8 harg8 arg9 harg9 v275 v311 v313 v316
  let ⟨v387, v388⟩ : Σ' (v387 : FVec F S8x128 .f32), Vec F S8x128 .f32 ← k0_part44 i arg2 harg2 arg3 harg3 arg4 harg4 arg5 harg5 arg6 harg6 arg7 harg7 arg8 harg8 arg9 harg9 v351 v352
  let ⟨v423, v424⟩ : Σ' (v423 : FVec F S8x128 .f32), Vec F S8x128 .f32 ← k0_part45 i arg2 harg2 arg3 harg3 arg4 harg4 arg5 harg5 arg6 harg6 arg7 harg7 arg8 harg8 arg9 harg9 v387 v388
  let ⟨v443, v465, c16_i32_222⟩ : Σ' (v443 : FVec F S8x128 .f32) (v465 : IVec S8x128 32), BitVec 32 ← k0_part46 i arg2 harg2 arg3 harg3 arg4 harg4 arg5 harg5 arg6 harg6 arg7 harg7 arg8 harg8 arg9 harg9 v423 v424
  let v508 : Vec F S8x128 .f32 ← k0_part47 i arg2 harg2 arg3 harg3 arg4 harg4 arg5 harg5 arg6 harg6 arg7 harg7 arg8 harg8 arg9 harg9 v443 v465 c16_i32_222
  let ⟨v542, v544⟩ : Σ' (v542 : FVec F S8x128 .f32), FVec F S8x128 .f32 ← k0_part48 i arg2 harg2 arg3 harg3 arg4 harg4 arg5 harg5 arg6 harg6 arg7 harg7 arg8 harg8 arg9 harg9 v508
  let ⟨v578, v580⟩ : Σ' (v578 : FVec F S8x128 .f32), FVec F S8x128 .f32 ← k0_part49 i arg2 harg2 arg3 harg3 arg4 harg4 arg5 harg5 arg6 harg6 arg7 harg7 arg8 harg8 arg9 harg9 v542 v544
  let ⟨v604, v619, c32_i32_307⟩ : Σ' (v604 : FVec F S8x128 .f32) (v619 : IVec S8x128 32), BitVec 32 ← k0_part50 i arg2 harg2 arg3 harg3 arg4 harg4 arg5 harg5 arg6 harg6 arg7 harg7 arg8 harg8 arg9 harg9 v578 v580
  let ⟨v663, v665, c0_i32_321⟩ : Σ' (v663 : IVec S8x128 1) (v665 : IVec S8x128 32), BitVec 32 ← k0_part51 i arg2 harg2 arg3 harg3 arg4 harg4 arg5 harg5 arg6 harg6 arg7 harg7 arg8 harg8 arg9 harg9 v604 v619 c32_i32_307
  let v698 : FVec F S8x128 .f32 ← k0_part52 i arg2 harg2 arg3 harg3 arg4 harg4 arg5 harg5 arg6 harg6 arg7 harg7 arg8 harg8 arg9 harg9 v663 v665 c0_i32_321
  let v734 : FVec F S8x128 .f32 ← k0_part53 i arg2 harg2 arg3 harg3 arg4 harg4 arg5 harg5 arg6 harg6 arg7 harg7 arg8 harg8 arg9 harg9 v698
  let v770 : FVec F S8x128 .f32 ← k0_part54 i arg2 harg2 arg3 harg3 arg4 harg4 arg5 harg5 arg6 harg6 arg7 harg7 arg8 harg8 arg9 harg9 v734
  let ⟨v772, v815, c2_i32_407⟩ : Σ' (v772 : FVec F S8x128 .f32) (v815 : IVec S8x128 32), BitVec 32 ← k0_part55 i arg2 harg2 arg3 harg3 arg4 harg4 arg5 harg5 arg6 harg6 arg7 harg7 arg8 harg8 arg9 harg9 v770
  let v853 : FVec F S8x128 .f32 ← k0_part56 i arg2 harg2 arg3 harg3 arg4 harg4 arg5 harg5 arg6 harg6 arg7 harg7 arg8 harg8 arg9 harg9 v772 v815 c2_i32_407
  let v889 : FVec F S8x128 .f32 ← k0_part57 i arg2 harg2 arg3 harg3 arg4 harg4 arg5 harg5 arg6 harg6 arg7 harg7 arg8 harg8 arg9 harg9 v853
  let v925 : FVec F S8x128 .f32 ← k0_part58 i arg2 harg2 arg3 harg3 arg4 harg4 arg5 harg5 arg6 harg6 arg7 harg7 arg8 harg8 arg9 harg9 v889
  let ⟨v933, v969, c4_i32_492⟩ : Σ' (v933 : FVec F S8x128 .f32) (v969 : IVec S8x128 32), BitVec 32 ← k0_part59 i arg2 harg2 arg3 harg3 arg4 harg4 arg5 harg5 arg6 harg6 arg7 harg7 arg8 harg8 arg9 harg9 v925
  let v1006 : FVec F S8x128 .f32 ← k0_part60 i arg2 harg2 arg3 harg3 arg4 harg4 arg5 harg5 arg6 harg6 arg7 harg7 arg8 harg8 arg9 harg9 v933 v969 c4_i32_492
  let v1042 : FVec F S8x128 .f32 ← k0_part61 i arg2 harg2 arg3 harg3 arg4 harg4 arg5 harg5 arg6 harg6 arg7 harg7 arg8 harg8 arg9 harg9 v1006
  let v1078 : FVec F S8x128 .f32 ← k0_part62 i arg2 harg2 arg3 harg3 arg4 harg4 arg5 harg5 arg6 harg6 arg7 harg7 arg8 harg8 arg9 harg9 v1042
  let ⟨v1101, v1116, v1118, c23_i32_579⟩ : Σ' (v1101 : FVec F S8x128 .f32) (v1116 : IVec S8x128 32) (v1118 : IVec S8x128 32), BitVec 32 ← k0_part63 i arg2 harg2 arg3 harg3 arg4 harg4 arg5 harg5 arg6 harg6 arg7 harg7 arg8 harg8 arg9 harg9 v1078
  let v1164 : IVec S8x128 32 ← k0_part64 i arg2 harg2 arg3 harg3 arg4 harg4 arg5 harg5 arg6 harg6 arg7 harg7 arg8 harg8 arg9 harg9 v1101 v1116 v1118 c23_i32_579
  let ⟨v1197, v1198⟩ : Σ' (v1197 : FVec F S8x128 .f32), Vec F S8x128 .f32 ← k0_part65 i arg2 harg2 arg3 harg3 arg4 harg4 arg5 harg5 arg6 harg6 arg7 harg7 arg8 harg8 arg9 harg9 v1164
  let ⟨v1233, v1234⟩ : Σ' (v1233 : FVec F S8x128 .f32), Vec F S8x128 .f32 ← k0_part66 i arg2 harg2 arg3 harg3 arg4 harg4 arg5 harg5 arg6 harg6 arg7 harg7 arg8 harg8 arg9 harg9 v1197 v1198
  let ⟨v1262, v1270, v1272, c23_i32_664⟩ : Σ' (v1262 : FVec F S8x128 .f32) (v1270 : IVec S8x128 32) (v1272 : IVec S8x128 32), BitVec 32 ← k0_part67 i arg2 harg2 arg3 harg3 arg4 harg4 arg5 harg5 arg6 harg6 arg7 harg7 arg8 harg8 arg9 harg9 v1233 v1234
  let ⟨v1319, c0_i32_677⟩ : Σ' (v1319 : IVec S8x128 32), BitVec 32 ← k0_part68 i arg2 harg2 arg3 harg3 arg4 harg4 arg5 harg5 arg6 harg6 arg7 harg7 arg8 harg8 arg9 harg9 v1262 v1270 v1272 c23_i32_664
  let v1326 : Vec F S8x128 .i32 ← Prog.lift (.load arg7 (Rect.unit (s := S8x1024) ![0, 896] S8x128.size inb_S8x1024_S8x128_0_896).toLoadRect (View.loadsAt_vmem h_S8x128))
  Prog.lift (.store arg7 (Rect.unit (s := S8x1024) ![0, 896] S8x128.size inb_S8x1024_S8x128_0_896) (k0_pay3 v1319 c0_i32_677) Finset.univ (View.stores_vmem_bits_univ h_S8x128 rfl) (.inl rfl))
  k

set_option maxHeartbeats 0 in
set_option maxRecDepth 100000 in
/-- The printed section, continued, is the four tiles in order. -/
theorem secX_eq (k : Prog (TpuEff nD τ sig (Elt F) Λ₀ .tc) PUnit) : secX (F := F) i arg2 harg2 arg3 harg3 arg4 harg4 arg5 harg5 arg6 harg6 arg7 harg7 arg8 harg8 arg9 harg9 k = (section4 arg3 arg6 arg8 arg9 >>= fun _ => k) := by
  unfold secX
  simp only [part1_x, part2_x, part3_x, part4_x, part5_x, part6_x, part7_x, part8_x, part9_x, part10_x, part11_x, part12_x, part13_x, part14_x, part15_x, part16_x, part17_x, part18_x, part19_x, part20_x, part21_x, part22_x, part23_x, part24_x, part25_x, part26_x, part27_x, part28_x, part29_x, part30_x, part31_x, part32_x, part33_x, part34_x]
  simp (maxSteps := 100000000) only [p1, p2, p3, p4, p5, p6, p7, p8, p9, p10, p11, p12, p13, p14, p15, p16, p17, p18, p19, p20, p21, p22, p23, p24, p25, p26, p27, p28, p29, p30, p31, p32, p33, p34, section4, tile, half, more, bind_assoc, pure_bind, estep_fold, expo, eall]
  rfl

set_option maxHeartbeats 0 in
set_option maxRecDepth 100000 in
/-- The same for the other section. -/
theorem secD_eq (k : Prog (TpuEff nD τ sig (Elt F) Λ₀ .tc) PUnit) : secD (F := F) i arg2 harg2 arg3 harg3 arg4 harg4 arg5 harg5 arg6 harg6 arg7 harg7 arg8 harg8 arg9 harg9 k = (section4 arg2 arg7 arg8 arg9 >>= fun _ => k) := by
  unfold secD
  simp only [part1_d, part2_d, part3_d, part4_d, part5_d, part6_d, part7_d, part8_d, part9_d, part10_d, part11_d, part12_d, part13_d, part14_d, part15_d, part16_d, part17_d, part18_d, part19_d, part20_d, part21_d, part22_d, part23_d, part24_d, part25_d, part26_d, part27_d, part28_d, part29_d, part30_d, part31_d, part32_d, part33_d, part34_d]
  simp (maxSteps := 100000000) only [p1, p2, p3, p4, p5, p6, p7, p8, p9, p10, p11, p12, p13, p14, p15, p16, p17, p18, p19, p20, p21, p22, p23, p24, p25, p26, p27, p28, p29, p30, p31, p32, p33, p34, section4, tile, half, more, bind_assoc, pure_bind, estep_fold, expo, eall]
  rfl

end
end Cert.Scales.Hand
end
-- ==== Proof.ScBits.Body.lean ====
/-
  THE TOKEN-SCALE KERNEL'S BODY, RUN ONCE. A tile is run at arbitrary contents: the rotation into scratch, then for each
  half the largest magnitude of its 32 groups and the exponent written. A section is four tiles, and leaves its whole
  block of exponents whatever the block held before. The body is the signed rotation matrix on the first point, a
  section of `x` on the first row of the grid, and a section of `dy` on the first column.
-/
module

public import proofs.«01_k».proof.Proof.ViewFacts
public import proofs.«01_k».proof.Proof.ScBits.Parts

@[expose] public section

noncomputable section

namespace Cert.Scales.Hand

open Cert.Scales Cert.Scales.Gen Cert.ViewFacts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle of the rotated tile within scratch. -/
abbrev rRot : Rect S256x1024 := Rect.unit ![0, 0] S256x256.size inb_S256x1024_S256x256_0_0

/-- The largest magnitude over `n` further groups from group `t`, begun at `m`, of contents `Y`. -/
def mx (Y : S256x1024.Idx → Elt F .f32) (h : ℕ) (hh : h < 2) : (n t : ℕ) → t + n ≤ 32 → FVec F S8x128 .f32 → FVec F S8x128 .f32
  | 0, _, _, m => m
  | n + 1, t, ht, m => mx Y h hh n (t + 1) (by omega) (maximumf m (absf (View.ld Y (rRow t (by omega) h hh))))

/-- The largest magnitude over the 32 groups of half `h`. -/
def amx (Y : S256x1024.Idx → Elt F .f32) (h : ℕ) (hh : h < 2) : FVec F S8x128 .f32 :=
  mx Y h hh 31 1 (by omega) (absf (View.ld Y (rRow 0 (by omega) h hh)))

/-- Scratch with one tile rotated into it. -/
def rotd (X8 : S256x256.Idx → Elt F .bf16) (XA : S256x1024.Idx → Elt F .bf16) (c : ℕ) (hc : c < 4) (X9 : S256x1024.Idx → Elt F .f32) :
    S256x1024.Idx → Elt F .f32 := rRot.overlay X9 (k0_pay4 X8 (View.ld XA (rCol c hc)))

/-- The block of exponents after one tile. -/
def outT (X8 : S256x256.Idx → Elt F .bf16) (XA : S256x1024.Idx → Elt F .bf16) (c : ℕ) (hc : c < 4) (X9 : S256x1024.Idx → Elt F .f32)
    (XO : S8x1024.Idx → BitVec 32) : S8x1024.Idx → BitVec 32 :=
  (rOut (2 * c + 1) (by omega)).overlay ((rOut (2 * c) (by omega)).overlay XO (expo (amx (rotd X8 XA c hc X9) 0 (by omega))))
    (expo (amx (rotd X8 XA c hc X9) 1 (by omega)))

section run
variable (c : Dev nD) (MA : Memref sig .tc .vmem S256x1024 .bf16) (MO : Memref sig .tc .vmem S8x1024 .i32)
  (M8 : Memref sig .tc .vmem S256x256 .bf16) (M9 : Memref sig .tc .vmem S256x1024 .f32)

/-- A memref held whole at contents that read `X`. -/
abbrev ow {sp : Space} {s : Shape} {e : EltTy} (M : Memref sig .tc sp s e) (X : s.Idx → Elt F e) : sProp 𝕄 :=
  owns (c : Thread nD τ) M fullShare X

/-- A program run on core `c`. -/
abbrev runs {α : Type} (p : Prog (TpuEff nD τ sig (Elt F) Λ₀ .tc) α) (Q : α → sProp 𝕄) : sProp 𝕄 :=
  wp frame (wpE (defs₀ (F := F)) Variants.none (c : Thread nD τ) none) Set.univ p Q

theorem ldr_run (Y : S256x1024.Idx → Elt F .f32) (t : ℕ) (ht : t < 32) (h : ℕ) (hh : h < 2) :
    ow c M9 Y ⊢ runs c (ldr M9 t ht h hh) (fun v => iprop(⌜v = View.ld Y (rRow t ht h hh)⌝ ∗ ow c M9 Y)) := by
  unfold runs ldr ow owns
  iintro ⟨%f, %e, H⟩
  sl_exec
  sl_step
  isplitr
  · ipureintro; rw [View.readAt_eq_ld, e]
  iexists _; isplitr; swap; · iexact H
  ipureintro; exact e

theorem sto_run (XO : S8x1024.Idx → BitVec 32) (j : ℕ) (hj : j < 8) (v : IVec S8x128 32) :
    ow (F := F) (e := .i32) c MO XO ⊢ runs c (sto MO j hj v) (fun _ => ow (F := F) (e := .i32) c MO ((rOut j hj).overlay XO v)) := by
  unfold runs sto ow owns
  iintro ⟨%f, %e, H⟩
  sl_exec
  sl_step
  iexists _; isplitr; swap; · iexact H
  ipureintro
  rw [read_writes_cons, View.writes_nil, e]

theorem rot_run (X8 : S256x256.Idx → Elt F .bf16) (XA : S256x1024.Idx → Elt F .bf16) (X9 : S256x1024.Idx → Elt F .f32) (k : ℕ) (hk : k < 4) :
    iprop(ow c M8 X8 ∗ ow c MA XA ∗ ow c M9 X9) ⊢ runs c (rot MA M8 M9 k hk)
      (fun _ => iprop(ow c M8 X8 ∗ ow c MA XA ∗ ow c M9 (rotd X8 XA k hk X9))) := by
  unfold runs rot ow owns
  iintro ⟨⟨%f8, %e8, H8⟩, ⟨%fA, %eA, HA⟩, ⟨%f9, %e9, H9⟩⟩
  sl_exec
  sl_step
  isplitl [H8]
  · iexists _; isplitr; swap; · iexact H8
    ipureintro; exact e8
  isplitl [HA]
  · iexists _; isplitr; swap; · iexact HA
    ipureintro; exact eA
  iexists _; isplitr; swap; · iexact H9
  ipureintro
  rw [read_writes_cons, View.writes_nil, e9, View.readAt_eq_ld, View.readAt_eq_ld, eA, e8, ld_whole z2]
  rfl

theorem more_run (Y : S256x1024.Idx → Elt F .f32) (h : ℕ) (hh : h < 2) : ∀ (n t : ℕ) (ht : t + n ≤ 32) (m : FVec F S8x128 .f32),
    ow c M9 Y ⊢ runs c (more M9 h hh n t ht m) (fun v => iprop(⌜v = mx Y h hh n t ht m⌝ ∗ ow c M9 Y))
  | 0, t, ht, m => by
    unfold more mx runs
    iintro H
    sl_step
    isplitr
    · ipureintro; rfl
    iexact H
  | n + 1, t, ht, m => by
    unfold more mx
    simp only [runs, wp_bind]
    iintro H
    iapply wp_wand_r
    isplitl [H]
    · iapply (ldr_run c M9 Y t _ h hh); iexact H
    iintro %v ⟨%e, H⟩
    subst e
    iapply (more_run Y h hh n (t + 1) _ _); iexact H

theorem half_run (Y : S256x1024.Idx → Elt F .f32) (XO : S8x1024.Idx → BitVec 32) (h : ℕ) (hh : h < 2) (j : ℕ) (hj : j < 8) :
    iprop(ow c M9 Y ∗ ow (F := F) (e := .i32) c MO XO) ⊢ runs c (half MO M9 h hh j hj)
      (fun _ => iprop(ow c M9 Y ∗ ow (F := F) (e := .i32) c MO ((rOut j hj).overlay XO (expo (amx Y h hh))))) := by
  unfold half amx
  simp only [runs, wp_bind]
  iintro ⟨H, HO⟩
  iapply wp_wand_r
  isplitl [H]
  · iapply (ldr_run c M9 Y 0 _ h hh); iexact H
  iintro %v ⟨%e, H⟩
  subst e
  iapply wp_wand_r
  isplitl [H]
  · iapply (more_run c M9 Y h hh 31 1 _ _); iexact H
  iintro %v ⟨%e, H⟩
  subst e
  iapply wp_wand_r
  isplitl [HO]
  · iapply (sto_run c MO XO j hj _); iexact HO
  iintro %_ HO
  isplitl [H]; · iexact H
  iexact HO

theorem tile_run (X8 : S256x256.Idx → Elt F .bf16) (XA : S256x1024.Idx → Elt F .bf16) (X9 : S256x1024.Idx → Elt F .f32)
    (XO : S8x1024.Idx → BitVec 32) (k : ℕ) (hk : k < 4) :
    iprop(ow c M8 X8 ∗ ow c MA XA ∗ ow c M9 X9 ∗ ow (F := F) (e := .i32) c MO XO) ⊢ runs c (tile MA MO M8 M9 k hk)
      (fun _ => iprop(ow c M8 X8 ∗ ow c MA XA ∗ ow c M9 (rotd X8 XA k hk X9) ∗ ow (F := F) (e := .i32) c MO (outT X8 XA k hk X9 XO))) := by
  unfold tile outT
  simp only [runs, wp_bind]
  iintro ⟨H8, HA, H9, HO⟩
  iapply wp_wand_r
  isplitl [H8 HA H9]
  · iapply (rot_run c MA M8 M9 X8 XA X9 k hk)
    isplitl [H8]; · iexact H8
    isplitl [HA]; · iexact HA
    iexact H9
  iintro %_ ⟨H8, HA, H9⟩
  iapply wp_wand_r
  isplitl [H9 HO]
  · iapply (half_run c MO M9 _ XO 0 _ (2 * k) _)
    isplitl [H9]; · iexact H9
    iexact HO
  iintro %_ ⟨H9, HO⟩
  iapply wp_wand_r
  isplitl [H9 HO]
  · iapply (half_run c MO M9 _ _ 1 _ (2 * k + 1) _)
    isplitl [H9]; · iexact H9
    iexact HO
  iintro %_ ⟨H9, HO⟩
  isplitl [H8]; · iexact H8
  isplitl [HA]; · iexact HA
  isplitl [H9]; · iexact H9
  iexact HO

end run

/-! ## The block a section leaves -/

/-- Eight rows of a rotated tile: group `t` of half `h`. -/
abbrev inbT (t : ℕ) (ht : t < 32) (h : ℕ) (hh : h < 2) :
    ∀ a, (![8 * t, 128 * h] : Fin 2 → Nat) a + S8x128.size a ≤ S256x256.size a := by
  intro a; fin_cases a
  · show 8 * t + 8 ≤ 256; omega
  · show 128 * h + 128 ≤ 256; omega

/-- The largest magnitude over groups of a rotated tile `T`. -/
def mxT (T : S256x256.Idx → Elt F .f32) (h : ℕ) (hh : h < 2) : (n t : ℕ) → t + n ≤ 32 → FVec F S8x128 .f32 → FVec F S8x128 .f32
  | 0, _, _, m => m
  | n + 1, t, ht, m => mxT T h hh n (t + 1) (by omega)
      (maximumf m (absf (View.ld T (Rect.unit ![8 * t, 128 * h] S8x128.size (inbT t (by omega) h hh) : Rect S256x256))))

/-- The largest magnitude over the 32 groups of half `h` of a rotated tile. -/
def amxT (T : S256x256.Idx → Elt F .f32) (h : ℕ) (hh : h < 2) : FVec F S8x128 .f32 :=
  mxT T h hh 31 1 (by omega) (absf (View.ld T (Rect.unit ![8 * 0, 128 * h] S8x128.size (inbT 0 (by omega) h hh) : Rect S256x256)))

theorem amxT_congr (T : S256x256.Idx → Elt F .f32) {h h' : ℕ} (e : h = h') (hh : h < 2) (hh' : h' < 2) : amxT T h hh = amxT T h' hh' := by
  subst e; rfl

/-- A group read from scratch is the group of the tile rotated into it. -/
theorem ld_rotd (X8 : S256x256.Idx → Elt F .bf16) (XA : S256x1024.Idx → Elt F .bf16) (k : ℕ) (hk : k < 4) (X9 : S256x1024.Idx → Elt F .f32)
    (t : ℕ) (ht : t < 32) (h : ℕ) (hh : h < 2) : View.ld (rotd X8 XA k hk X9) (rRow t ht h hh)
      = View.ld (k0_pay4 X8 (View.ld XA (rCol k hk)) : S256x256.Idx → Elt F .f32) (Rect.unit ![8 * t, 128 * h] S8x128.size (inbT t ht h hh) : Rect S256x256) := by
  funext r
  have h0 : (r 0).val < 8 := (r 0).isLt
  have h1 : (r 1).val < 128 := (r 1).isLt
  rw [ld_at (s := S256x1024) ![8 * t, 128 * h] S8x128.size (inbRow t ht h hh) _ r (ValueIdx.ix2 (n0 := 256) (n1 := 1024) ⟨8 * t + (r 0).val, by show _ < 256; omega⟩ ⟨128 * h + (r 1).val, by show _ < 1024; omega⟩)
      (by intro a; fin_cases a <;> rfl),
    ld_at (s := S256x256) ![8 * t, 128 * h] S8x128.size (inbT t ht h hh) _ r (ValueIdx.ix2 (n0 := 256) (n1 := 256) ⟨8 * t + (r 0).val, by show _ < 256; omega⟩ ⟨128 * h + (r 1).val, by show _ < 256; omega⟩)
      (by intro a; fin_cases a <;> rfl)]
  unfold rotd
  exact ov_in (s := S256x1024) ![0, 0] S256x256.size inb_S256x1024_S256x256_0_0 _ _ _
    (ValueIdx.ix2 (n0 := 256) (n1 := 256) ⟨8 * t + (r 0).val, by show _ < 256; omega⟩ ⟨128 * h + (r 1).val, by show _ < 256; omega⟩)
    (by intro a; fin_cases a
        · show _ = 0 + _; rw [Nat.zero_add]
        · show _ = 0 + _; rw [Nat.zero_add])

theorem mx_rotd (X8 : S256x256.Idx → Elt F .bf16) (XA : S256x1024.Idx → Elt F .bf16) (k : ℕ) (hk : k < 4) (X9 : S256x1024.Idx → Elt F .f32)
    (h : ℕ) (hh : h < 2) : ∀ (n t : ℕ) (ht : t + n ≤ 32) (m : FVec F S8x128 .f32),
    mx (rotd X8 XA k hk X9) h hh n t ht m = mxT (k0_pay4 X8 (View.ld XA (rCol k hk))) h hh n t ht m
  | 0, _, _, _ => rfl
  | n + 1, t, ht, m => by rw [mx, mxT, ld_rotd, mx_rotd]

theorem amx_rotd (X8 : S256x256.Idx → Elt F .bf16) (XA : S256x1024.Idx → Elt F .bf16) (k : ℕ) (hk : k < 4) (X9 : S256x1024.Idx → Elt F .f32)
    (h : ℕ) (hh : h < 2) : amx (rotd X8 XA k hk X9) h hh = amxT (k0_pay4 X8 (View.ld XA (rCol k hk))) h hh := by
  unfold amx amxT; rw [mx_rotd, ld_rotd]

/-- The block of exponents of a block `XA`: at column `q`, the exponent of half `q / 128` of the tile `q / 256`. -/
def outBlk (X8 : S256x256.Idx → Elt F .bf16) (XA : S256x1024.Idx → Elt F .bf16) : S8x1024.Idx → BitVec 32 := fun y =>
  expo (amxT (k0_pay4 X8 (View.ld XA (rCol ((y 1).val / 256) (by have h : (y 1).val < 1024 := (y 1).isLt; omega)))) ((y 1).val / 128 % 2) (by omega))
    (ValueIdx.ix2 (n0 := 8) (n1 := 128) (y 0) ⟨(y 1).val % 128, Nat.mod_lt _ (by decide)⟩)

/-- After a tile the columns of that tile hold its exponents and the others are as they were. -/
theorem outT_at (X8 : S256x256.Idx → Elt F .bf16) (XA : S256x1024.Idx → Elt F .bf16) (k : ℕ) (hk : k < 4) (X9 : S256x1024.Idx → Elt F .f32)
    (XO : S8x1024.Idx → BitVec 32) (y : S8x1024.Idx) :
    outT X8 XA k hk X9 XO y = if (y 1).val / 256 = k then outBlk X8 XA y else XO y := by
  have hy : (y 1).val < 1024 := (y 1).isLt
  unfold outT
  rw [amx_rotd, amx_rotd]
  by_cases e : (y 1).val / 256 = k
  · rw [if_pos e]
    subst e
    unfold outBlk
    by_cases e1 : (y 1).val / 128 % 2 = 1
    · rw [ov_in (s := S8x1024) ![0, 128 * (2 * ((y 1).val / 256) + 1)] S8x128.size _ _ _ y (ValueIdx.ix2 (n0 := 8) (n1 := 128) (y 0) ⟨(y 1).val % 128, Nat.mod_lt _ (by decide)⟩)
        (by intro a; fin_cases a
            · show _ = 0 + _; rw [Nat.zero_add]; rfl
            · show (y 1).val = 128 * (2 * ((y 1).val / 256) + 1) + (y 1).val % 128; omega)]
      exact congrFun (congrArg expo (amxT_congr _ e1.symm _ _)) _
    · have e0 : (y 1).val / 128 % 2 = 0 := by omega
      rw [ov_out (s := S8x1024) ![0, 128 * (2 * ((y 1).val / 256) + 1)] S8x128.size _ _ _ y 1
          (.inl (by show (y 1).val < 128 * (2 * ((y 1).val / 256) + 1); omega)),
        ov_in (s := S8x1024) ![0, 128 * (2 * ((y 1).val / 256))] S8x128.size _ _ _ y (ValueIdx.ix2 (n0 := 8) (n1 := 128) (y 0) ⟨(y 1).val % 128, Nat.mod_lt _ (by decide)⟩)
        (by intro a; fin_cases a
            · show _ = 0 + _; rw [Nat.zero_add]; rfl
            · show (y 1).val = 128 * (2 * ((y 1).val / 256)) + (y 1).val % 128; omega)]
      exact congrFun (congrArg expo (amxT_congr _ e0.symm _ _)) _
  · rw [if_neg e]
    rw [ov_out (s := S8x1024) ![0, 128 * (2 * k + 1)] S8x128.size _ _ _ y 1
          (by show (y 1).val < 128 * (2 * k + 1) ∨ 128 * (2 * k + 1) + 128 ≤ (y 1).val; omega),
      ov_out (s := S8x1024) ![0, 128 * (2 * k)] S8x128.size _ _ _ y 1
          (by show (y 1).val < 128 * (2 * k) ∨ 128 * (2 * k) + 128 ≤ (y 1).val; omega)]

/-- Four tiles leave the whole block of exponents, whatever the block and the scratch held. -/
theorem outT_all (X8 : S256x256.Idx → Elt F .bf16) (XA : S256x1024.Idx → Elt F .bf16) (Y0 Y1 Y2 Y3 : S256x1024.Idx → Elt F .f32)
    (XO : S8x1024.Idx → BitVec 32) :
    outT X8 XA 3 (by omega) Y3 (outT X8 XA 2 (by omega) Y2 (outT X8 XA 1 (by omega) Y1 (outT X8 XA 0 (by omega) Y0 XO))) = outBlk X8 XA := by
  funext y
  have hy : (y 1).val < 1024 := (y 1).isLt
  simp only [outT_at]
  split_ifs <;> first | rfl | omega

section run
variable (c : Dev nD) (MA : Memref sig .tc .vmem S256x1024 .bf16) (MO : Memref sig .tc .vmem S8x1024 .i32)
  (M8 : Memref sig .tc .vmem S256x256 .bf16) (M9 : Memref sig .tc .vmem S256x1024 .f32)

/-- A section leaves its block of exponents. -/
theorem section_run (X8 : S256x256.Idx → Elt F .bf16) (XA : S256x1024.Idx → Elt F .bf16) (XO : S8x1024.Idx → BitVec 32) :
    iprop(ow c M8 X8 ∗ ow c MA XA ∗ (∃ d, ow c M9 d) ∗ ow (F := F) (e := .i32) c MO XO) ⊢ runs c (section4 MA MO M8 M9)
      (fun _ => iprop(ow c M8 X8 ∗ ow c MA XA ∗ (∃ d, ow c M9 d) ∗ ow (F := F) (e := .i32) c MO (outBlk X8 XA))) := by
  unfold section4
  simp only [runs, wp_bind]
  iintro ⟨H8, HA, ⟨%X9, H9⟩, HO⟩
  iapply wp_wand_r
  isplitl [H8 HA H9 HO]
  · iapply (tile_run c MA MO M8 M9 X8 XA _ _ 0 _)
    isplitl [H8]; · iexact H8
    isplitl [HA]; · iexact HA
    isplitl [H9]; · iexact H9
    iexact HO
  iintro %_ ⟨H8, HA, H9, HO⟩
  iapply wp_wand_r
  isplitl [H8 HA H9 HO]
  · iapply (tile_run c MA MO M8 M9 X8 XA _ _ 1 _)
    isplitl [H8]; · iexact H8
    isplitl [HA]; · iexact HA
    isplitl [H9]; · iexact H9
    iexact HO
  iintro %_ ⟨H8, HA, H9, HO⟩
  iapply wp_wand_r
  isplitl [H8 HA H9 HO]
  · iapply (tile_run c MA MO M8 M9 X8 XA _ _ 2 _)
    isplitl [H8]; · iexact H8
    isplitl [HA]; · iexact HA
    isplitl [H9]; · iexact H9
    iexact HO
  iintro %_ ⟨H8, HA, H9, HO⟩
  iapply wp_wand_r
  isplitl [H8 HA H9 HO]
  · iapply (tile_run c MA MO M8 M9 X8 XA _ _ 3 _)
    isplitl [H8]; · iexact H8
    isplitl [HA]; · iexact HA
    isplitl [H9]; · iexact H9
    iexact HO
  iintro %_ ⟨H8, HA, H9, HO⟩
  rw [outT_all]
  isplitl [H8]; · iexact H8
  isplitl [HA]; · iexact HA
  isplitl [H9]; · iexists _; iexact H9
  iexact HO

end run

/-! ## The body -/

/-- The first condition: both coordinates are zero. -/
def cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

section body
variable (c : Dev nD) (i : grid0.Coords)
  (M2 : Memref sig .tc .vmem S256x1024 .bf16) (h2 : M2.IsWhole) (M3 : Memref sig .tc .vmem S256x1024 .bf16) (h3 : M3.IsWhole)
  (M4 : Memref sig .tc .vmem S1x256 .f32) (h4 : M4.IsWhole) (M5 : Memref sig .tc .vmem S256x256 .bf16) (h5 : M5.IsWhole)
  (M6 : Memref sig .tc .vmem S8x1024 .i32) (h6 : M6.IsWhole) (M7 : Memref sig .tc .vmem S8x1024 .i32) (h7 : M7.IsWhole)
  (M8 : Memref sig .tc .vmem S256x256 .bf16) (h8 : M8.IsWhole) (M9 : Memref sig .tc .vmem S256x1024 .f32) (h9 : M9.IsWhole)

/-- The first piece: on the first point, the rotation matrix with the signs in it. -/
def segA : Prog (TpuEff nD τ sig (Elt F) Λ₀ .tc) PUnit :=
  if k0_h1 : cond1 i = 1#1 then do
    let v11 : Vec F S256x256 .bf16 ← Prog.lift (.load M5 (Rect.unit (s := S256x256) ![0, 0] S256x256.size inb_S256x256_S256x256_0_0).toLoadRect (View.loadsAt_vmem h_S256x256))
    let v14 : Vec F S1x256 .f32 ← Prog.lift (.load M4 (Rect.unit (s := S1x256) ![0, 0] S1x256.size inb_S1x256_S1x256_0_0).toLoadRect (View.loadsAt_vmem h_S1x256))
    let v19 : Vec F S256x256 .bf16 ← Prog.lift (.load M8 (Rect.unit (s := S256x256) ![0, 0] S256x256.size inb_S256x256_S256x256_0_0).toLoadRect (View.loadsAt_vmem h_S256x256))
    Prog.lift (.store M8 (Rect.unit (s := S256x256) ![0, 0] S256x256.size inb_S256x256_S256x256_0_0) (k0_pay1 v11 v14) Finset.univ (View.stores_vmem h_S256x256 (h8.storeExact_slice rfl _ packedbf16_S256x256_S256x256_0_0) (fun _ => rfl)) (.inl rfl))
    pure ⟨⟩
  else pure ⟨⟩

/-- The second piece: on the first row of the grid, the section of `x`. -/
def segX : Prog (TpuEff nD τ sig (Elt F) Λ₀ .tc) PUnit :=
  if k0_cond2 i = 1#1 then section4 M3 M6 M8 M9 else pure ⟨⟩

/-- The third piece: on the first column of the grid, the section of `dy`. -/
def segD : Prog (TpuEff nD τ sig (Elt F) Λ₀ .tc) PUnit :=
  if k0_cond3 i = 1#1 then section4 M2 M7 M8 M9 else pure ⟨⟩

/-- A program followed by nothing. -/
theorem bind_pure_unit (p : Prog (TpuEff nD τ sig (Elt F) Λ₀ .tc) PUnit) : (p >>= fun _ => pure ⟨⟩) = p := bind_pure p

set_option maxHeartbeats 0 in
set_option maxRecDepth 100000 in
/-- The body is its three pieces in order. -/
theorem body_eq : cc0_mxfp4_bwd i M2 h2 M3 h3 M4 h4 M5 h5 M6 h6 M7 h7 M8 h8 M9 h9
    = (segA (F := F) i M4 M5 M8 h8 >>= fun _ => segX (F := F) i M3 M6 M8 M9 >>= fun _ => segD (F := F) i M2 M7 M8 M9) := by
  rw [cc0_mxfp4_bwd_eq_skeleton]
  unfold segX segD
  unfold cc0_mxfp4_bwd_skel segA
  have eX := secX_eq (F := F) i M2 h2 M3 h3 M4 h4 M5 h5 M6 h6 M7 h7 M8 h8 M9 h9
  have eD := secD_eq (F := F) i M2 h2 M3 h3 M4 h4 M5 h5 M6 h6 M7 h7 M8 h8 M9 h9 (pure ⟨⟩)
  rw [bind_pure_unit] at eD
  by_cases q1 : cond1 i = 1#1 <;> by_cases q2 : k0_cond2 i = 1#1 <;> by_cases q3 : k0_cond3 i = 1#1 <;>
    unfold cond1 at q1 <;>
    simp only [cond1, q1, q2, q3, dite_true, dite_false, if_true, if_false, ↓reduceDIte, ↓reduceIte, bind_assoc, pure_bind, ← eX, ← eD] <;>
    rfl

theorem segA_run (X4 : S1x256.Idx → Elt F .f32) (X5 X8 : S256x256.Idx → Elt F .bf16) :
    iprop(ow c M4 X4 ∗ ow c M5 X5 ∗ ow c M8 X8) ⊢ runs c (segA (F := F) i M4 M5 M8 h8)
      (fun _ => iprop(ow c M4 X4 ∗ ow c M5 X5 ∗ ow c M8 (if cond1 i = 1#1 then k0_pay1 X5 X4 else X8))) := by
  by_cases h : cond1 i = 1#1
  · simp only [segA, dif_pos h, if_pos h]
    unfold runs ow owns
    iintro ⟨⟨%f4, %e4, H4⟩, ⟨%f5, %e5, H5⟩, ⟨%f8, %e8, H8⟩⟩
    sl_exec
    sl_step
    isplitl [H4]
    · iexists _; isplitr; swap; · iexact H4
      ipureintro; exact e4
    isplitl [H5]
    · iexists _; isplitr; swap; · iexact H5
      ipureintro; exact e5
    iexists _; isplitr; swap; · iexact H8
    ipureintro
    rw [read_writes_whole _ _ z2, View.readAt_eq_ld, View.readAt_eq_ld, e4, e5, ld_whole z2, ld_whole z2]
  · simp only [segA, dif_neg h, if_neg h, runs]
    iintro H
    sl_step
    iexact H

/-- A section under a condition. -/
theorem cond_section (b : Prop) [Decidable b] (MA : Memref sig .tc .vmem S256x1024 .bf16) (MO : Memref sig .tc .vmem S8x1024 .i32)
    (X8 : S256x256.Idx → Elt F .bf16) (XA : S256x1024.Idx → Elt F .bf16) (XO : S8x1024.Idx → BitVec 32) :
    iprop(ow c M8 X8 ∗ ow c MA XA ∗ (∃ d, ow c M9 d) ∗ ow (F := F) (e := .i32) c MO XO)
    ⊢ runs c (if b then section4 MA MO M8 M9 else pure ⟨⟩)
      (fun _ => iprop(ow c M8 X8 ∗ ow c MA XA ∗ (∃ d, ow c M9 d) ∗ ow (F := F) (e := .i32) c MO (if b then outBlk X8 XA else XO))) := by
  by_cases h : b
  · rw [if_pos h, if_pos h]; exact section_run c MA MO M8 M9 X8 XA XO
  · rw [if_neg h, if_neg h]
    unfold runs
    iintro H
    sl_step
    iexact H

/-- The whole body at arbitrary contents. -/
theorem body_run (X2 X3 : S256x1024.Idx → Elt F .bf16) (X4 : S1x256.Idx → Elt F .f32) (X5 X8 : S256x256.Idx → Elt F .bf16)
    (X6 X7 : S8x1024.Idx → BitVec 32) :
    iprop(ow c M2 X2 ∗ ow c M3 X3 ∗ ow c M4 X4 ∗ ow c M5 X5 ∗ ow (F := F) (e := .i32) c M6 X6 ∗ ow (F := F) (e := .i32) c M7 X7
      ∗ ow c M8 X8 ∗ (∃ d, ow c M9 d))
    ⊢ runs c (cc0_mxfp4_bwd i M2 h2 M3 h3 M4 h4 M5 h5 M6 h6 M7 h7 M8 h8 M9 h9)
        (fun _ => iprop(ow c M2 X2 ∗ ow c M3 X3 ∗ ow c M4 X4 ∗ ow c M5 X5
          ∗ ow (F := F) (e := .i32) c M6 (if k0_cond2 i = 1#1 then outBlk (if cond1 i = 1#1 then k0_pay1 X5 X4 else X8) X3 else X6)
          ∗ ow (F := F) (e := .i32) c M7 (if k0_cond3 i = 1#1 then outBlk (if cond1 i = 1#1 then k0_pay1 X5 X4 else X8) X2 else X7)
          ∗ ow c M8 (if cond1 i = 1#1 then k0_pay1 X5 X4 else X8) ∗ (∃ d, ow c M9 d))) := by
  rw [body_eq]
  simp only [runs, wp_bind]
  iintro ⟨H2, H3, H4, H5, H6, H7, H8, H9⟩
  iapply wp_wand_r
  isplitl [H4 H5 H8]
  · iapply (segA_run c i M4 M5 M8 h8 X4 X5 X8)
    isplitl [H4]; · iexact H4
    isplitl [H5]; · iexact H5
    iexact H8
  iintro %_ ⟨H4, H5, H8⟩
  unfold segX segD
  iapply wp_wand_r
  isplitl [H3 H6 H8 H9]
  · iapply (cond_section c M8 M9 (k0_cond2 i = 1#1) M3 M6 _ X3 X6)
    isplitl [H8]; · iexact H8
    isplitl [H3]; · iexact H3
    isplitl [H9]; · iexact H9
    iexact H6
  iintro %_ ⟨H8, H3, H9, H6⟩
  iapply wp_wand_r
  isplitl [H2 H7 H8 H9]
  · iapply (cond_section c M8 M9 (k0_cond3 i = 1#1) M2 M7 _ X2 X7)
    isplitl [H8]; · iexact H8
    isplitl [H2]; · iexact H2
    isplitl [H9]; · iexact H9
    iexact H7
  iintro %_ ⟨H8, H2, H9, H7⟩
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end body

end Cert.Scales.Hand

end
-- ==== Proof.ScBits.Run.lean ====
/-
  THE WHOLE RUN OF THE TOKEN-SCALE KERNEL. The rotation matrix stays in scratch from the first point on. Each output
  block is written once, at the first row or first column of the grid, and then left where it is until the pipeline
  writes it back, possibly many points later: what the buffer holds in between is what the write left.
-/
module

public import proofs.«01_k».proof.Proof.ScBits.Body
public import Idealize.ShloMosaic.Lib.Pipeline.TableIdle

@[expose] public section

noncomputable section

namespace Cert.Scales.Hand

open Cert.Scales Cert.Scales.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A point's coordinates and the branch conditions -/

theorem c0_val (t : Fin grid0.N) : (grid0.coords t 0).val = t.val / 7 := by
  have h := Pipeline.Grid.coords_val (G := grid0) t 0 (S := 7) (B := 18) (by decide) rfl
  have ht : t.val < 126 := lt_of_lt_of_eq t.isLt N_0
  rw [h]; omega

theorem c1_val (t : Fin grid0.N) : (grid0.coords t 1).val = t.val % 7 := by
  have h := Pipeline.Grid.coords_val (G := grid0) t 1 (S := 1) (B := 7) (by decide) rfl
  rw [Nat.div_one] at h
  exact h

theorem cond1_iff (t : Fin grid0.N) : cond1 (grid0.coords t) = 1#1 ↔ t.val = 0 := by
  have h : ∀ (n : Fin 18) (k : Fin 7), (Scalar.cmpi .ne (Scalar.extui (Scalar.andi (Scalar.cmpi .eq (BitVec.ofNat 32 n.val) 0#32)
      (Scalar.cmpi .eq (BitVec.ofNat 32 k.val) 0#32)) : BitVec 32) 0#32 = 1#1) ↔ n.val = 0 ∧ k.val = 0 := by decide +kernel
  refine (h (grid0.coords t 0) (grid0.coords t 1)).trans ?_
  rw [c0_val, c1_val]; omega

theorem cond2_iff (t : Fin grid0.N) : k0_cond2 (grid0.coords t) = 1#1 ↔ t.val < 7 := by
  have h : ∀ n : Fin 18, (Scalar.cmpi .ne (Scalar.extui (Scalar.cmpi .eq (BitVec.ofNat 32 n.val) 0#32) : BitVec 32) 0#32 = 1#1) ↔ n.val = 0 := by
    decide +kernel
  refine (h (grid0.coords t 0)).trans ?_
  rw [c0_val]; omega

theorem cond3_iff (t : Fin grid0.N) : k0_cond3 (grid0.coords t) = 1#1 ↔ t.val % 7 = 0 := by
  have h : ∀ n : Fin 7, (Scalar.cmpi .ne (Scalar.extui (Scalar.cmpi .eq (BitVec.ofNat 32 n.val) 0#32) : BitVec 32) 0#32 = 1#1) ↔ n.val = 0 := by
    decide +kernel
  refine (h (grid0.coords t 1)).trans ?_
  rw [c1_val]

/-! ## The pipeline's proof data -/

variable (m : (ℓ : Loc nD τ sig) → Buf (Elt F) ℓ) (ρ : Dev nD → PrngReg)

/-- Point `n`, for any `n`. -/
def pt (n : ℕ) : Fin cfg0.N := ⟨n % 126, lt_of_lt_of_eq (Nat.mod_lt n (by decide)) N_0.symm⟩

theorem pt_val (t : Fin cfg0.N) : pt t.val = t := Fin.ext (Nat.mod_eq_of_lt (lt_of_lt_of_eq t.isLt N_0))

/-- The rotation matrix with the signs in it, as the first point makes it. -/
def rotM (c : Dev nD) : S256x256.Idx → Elt F .bf16 := k0_pay1 (iblk m c 3 (pt 0)) (iblk m c 2 (pt 0))
/-- The exponents of the block of `x` of point `n`. -/
def xsBlk (c : Dev nD) (n : ℕ) : S8x1024.Idx → Elt F .i32 := outBlk (rotM m c) (iblk m c 1 (pt n))
/-- The exponents of the block of `dy` of point `n`. -/
def dtsBlk (c : Dev nD) (n : ℕ) : S8x1024.Idx → Elt F .i32 := outBlk (rotM m c) (iblk m c 0 (pt n))

/-- The scratch after `t` points: the rotation matrix once made, and the rotated tile at any contents. -/
def PhiS (c : Dev nD) (t : ℕ) : sProp 𝕄 :=
  iprop((∃ X8, ⌜0 < t → X8 = rotM m c⌝ ∗ ow c (Memref.whole cc0_scratch0) X8 ∗ (∃ d, ow (F := F) c (Memref.whole cc0_scratch1) d))
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => xsBlk m c (min t.val 6)
    | ⟨5, _⟩ => dtsBlk m c (7 * (t.val / 7))
    | ⟨_ + 6, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = xsBlk m c (min t.val 6) := by dsimp only [dats]
theorem after0_5 (c : Dev nD) (t : Fin cfg0.N) : (dats m 0 c).after 5 t = dtsBlk m c (7 * (t.val / 7)) := by dsimp only [dats]

theorem Phi_pre (c : Dev nD) (t : Fin cfg0.N) : (dats m 0 c).Φ t.castSucc = PhiS m c t.val := by
  dsimp only [dats]; exact Pipeline.Dat.Φ_castSucc (fun n _ => PhiS m c n) t
theorem Phi_post (c : Dev nD) (t : Fin cfg0.N) : (dats m 0 c).Φ t.succ = PhiS m c (t.val + 1) := by
  dsimp only [dats]; rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The two output buffers between write and write-back -/

theorem idle4 (t : Fin cfg0.N) : cfg0.idle 4 (cfg0.grid.coords t) = decide (7 ≤ t.val) := by
  show (!(k0_cond2 (grid0.coords t) == 1#1)) = _
  by_cases h : t.val < 7
  · rw [(cond2_iff t).2 h]; simp; omega
  · have h' : ¬ k0_cond2 (grid0.coords t) = 1#1 := fun e => h ((cond2_iff t).1 e)
    rw [show (k0_cond2 (grid0.coords t) == 1#1) = false from beq_eq_false_iff_ne.2 h']
    exact (decide_eq_true (by omega)).symm

theorem idle5 (t : Fin cfg0.N) : cfg0.idle 5 (cfg0.grid.coords t) = decide (t.val % 7 ≠ 0) := by
  show (!(k0_cond3 (grid0.coords t) == 1#1)) = _
  by_cases h : t.val % 7 = 0
  · rw [(cond3_iff t).2 h]; simp; omega
  · have h' : ¬ k0_cond3 (grid0.coords t) = 1#1 := fun e => h ((cond3_iff t).1 e)
    rw [show (k0_cond3 (grid0.coords t) == 1#1) = false from beq_eq_false_iff_ne.2 h']
    exact (decide_eq_true (by omega)).symm

theorem flush4 : ∀ t : Fin cfg0.N, (cfg0.win 4).flush t = decide (t.val < 6 ∨ t.val = 125) := by
  have h : ∀ t : Fin grid0.N, win0_4.flush t = decide (t.val < 6 ∨ t.val = 125) := by decide +kernel
  exact h

theorem flush5 (t : Fin cfg0.N) : (cfg0.win 5).flush t = decide (t.val % 7 = 6) := by
  rw [Bool.eq_iff_iff, flush0_5, decide_eq_true_iff]

/-- Before the body runs at a point, window 4's buffer holds nothing the body wrote exactly at the first seven points. -/
theorem fresh4 : ∀ n, n ≤ cfg0.N → cfg0.fresh 4 n = decide (n ≤ 6 ∨ n = 126) :=
  cfg0.fresh_tab 4 _ rfl fun t => by
    have ht : t.val < 126 := lt_of_lt_of_eq t.isLt N_0
    rw [flush4, idle4, Bool.eq_iff_iff]
    simp only [decide_eq_true_iff, Bool.or_eq_true, Bool.and_eq_true]
    omega

/-- Window 5's exactly at the first column. -/
theorem fresh5 : ∀ n, n ≤ cfg0.N → cfg0.fresh 5 n = decide (n % 7 = 0) :=
  cfg0.fresh_tab 5 _ rfl fun t => by
    rw [flush5, idle5, Bool.eq_iff_iff]
    simp only [decide_eq_true_iff, Bool.or_eq_true, Bool.and_eq_true]
    omega

/-- Where the body writes nothing to window 4, its buffer holds the last block of the first row. -/
theorem before4 (c : Dev nD) (t : Fin cfg0.N) (ht : 7 ≤ t.val) (d) : (dats m 0 c).before 4 t d = (dats m 0 c).after 4 t := by
  have hN : t.val < 126 := lt_of_lt_of_eq t.isLt N_0
  have carry : ∀ s : Fin cfg0.N, s.val ≠ 0 → cfg0.idle 4 (cfg0.grid.coords s) = true → cfg0.fresh 4 s.val = false →
      (dats m 0 c).after 4 s = (dats m 0 c).after 4 ⟨s.val - 1, by omega⟩ := fun s _ hi _ => by
    rw [idle4, decide_eq_true_iff] at hi
    rw [after0_4, after0_4, show min s.val 6 = 6 by omega, show min (s.val - 1) 6 = 6 by omega]
  rw [(dats m 0 c).before_out_traj 4 rfl (fun _ _ => rfl) carry t.val t rfl d, fresh4 _ t.isLt.le, if_neg (by simp; omega),
    after0_4, after0_4, show min t.val 6 = 6 by omega, show min (t.val - 1) 6 = 6 by omega]

/-- Where the body writes nothing to window 5, its buffer holds the block of its row. -/
theorem before5 (c : Dev nD) (t : Fin cfg0.N) (ht : t.val % 7 ≠ 0) (d) : (dats m 0 c).before 5 t d = (dats m 0 c).after 5 t := by
  have hN : t.val < 126 := lt_of_lt_of_eq t.isLt N_0
  have carry : ∀ s : Fin cfg0.N, s.val ≠ 0 → cfg0.idle 5 (cfg0.grid.coords s) = true → cfg0.fresh 5 s.val = false →
      (dats m 0 c).after 5 s = (dats m 0 c).after 5 ⟨s.val - 1, by omega⟩ := fun s _ hi _ => by
    rw [idle5, decide_eq_true_iff] at hi
    rw [after0_5, after0_5, show (s.val - 1) / 7 = s.val / 7 by omega]
  rw [(dats m 0 c).before_out_traj 5 rfl (fun _ _ => rfl) carry t.val t rfl d, fresh5 _ t.isLt.le, if_neg (by simpa using ht),
    after0_5, after0_5, show (t.val - 1) / 7 = t.val / 7 by omega]

/-- What the pipeline asks of an output window's buffer after the body. -/
def postOf (c : Dev nD) (w : Fin cfg0.W) (t : Fin cfg0.N) : sProp 𝕄 :=
  match cfg0.idle w (cfg0.grid.coords t) with
  | true => (match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t))
  | false => owns (c : Thread nD τ) ((cfg0.win w).stage (cfg0.slots t w)) fullShare ((dats m 0 c).after w t)

/-- A buffer that holds the block at every point, written there or not, is as the pipeline asks. -/
theorem postOf_intro (c : Dev nD) (w : Fin cfg0.W) (t : Fin cfg0.N)
    (h : cfg0.idle w (cfg0.grid.coords t) = true → ∀ d, (dats m 0 c).before w t d = (dats m 0 c).after w t) :
    owns (c : Thread nD τ) ((cfg0.win w).stage (cfg0.slots t w)) fullShare ((dats m 0 c).after w t) ⊢ postOf m c w t := by
  unfold postOf
  cases hi : cfg0.idle w (cfg0.grid.coords t)
  · exact .rfl
  · cases hf : (cfg0.win w).flush t
    · dsimp only
      iintro H
      iexists ((dats m 0 c).after w t)
      rw [h hi]
      iexact H
    · exact .rfl

/-! ## One point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ postOf m c 4 t
    ∗ postOf m c 5 t)

/-- The rotation matrix after a point. -/
theorem rotM_after (c : Dev nD) (t : Fin cfg0.N) (X8 : S256x256.Idx → Elt F .bf16) (h : 0 < t.val → X8 = rotM m c) :
    (if cond1 (grid0.coords t) = 1#1 then k0_pay1 (iblk m c 3 t) (iblk m c 2 t) else X8) = rotM m c := by
  by_cases e : t.val = 0
  · rw [if_pos ((cond1_iff t).2 e)]
    have : t = pt 0 := Fin.ext e
    subst this; rfl
  · rw [if_neg fun q => e ((cond1_iff t).1 q), h (by omega)]

theorem post4 (c : Dev nD) (t : Fin cfg0.N) (d) :
    (if k0_cond2 (grid0.coords t) = 1#1 then outBlk (rotM m c) (iblk m c 1 t) else (dats m 0 c).before 4 t d) = (dats m 0 c).after 4 t := by
  by_cases e : t.val < 7
  · rw [if_pos ((cond2_iff t).2 e), after0_4, show min t.val 6 = t.val by omega]; unfold xsBlk; rw [pt_val]
  · rw [if_neg fun q => e ((cond2_iff t).1 q), before4 m c t (by omega)]

theorem post5 (c : Dev nD) (t : Fin cfg0.N) (d) :
    (if k0_cond3 (grid0.coords t) = 1#1 then outBlk (rotM m c) (iblk m c 0 t) else (dats m 0 c).before 5 t d) = (dats m 0 c).after 5 t := by
  by_cases e : t.val % 7 = 0
  · rw [if_pos ((cond3_iff t).2 e), after0_5, show 7 * (t.val / 7) = t.val by omega]; unfold dtsBlk; rw [pt_val]
  · rw [if_neg fun q => e ((cond3_iff t).1 q), before5 m c t e]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_pre, Phi_post, after0_0, after0_1, after0_2, after0_3]
  simp only [before0_0, before0_1, before0_2, before0_3]
  unfold PhiS Dat.owesAt Pipeline.owesWithin
  rw [show (dats m 0 c).owed t.castSucc = 0 from rfl, show (dats m 0 c).owed t.succ = 0 from rfl]
  iintro ⟨⟨⟨%X8, %hI, HS0, HS1⟩, Hg⟩, ⟨%W, -, HW⟩, ⟨%d0, H0⟩, ⟨%d1, H1⟩, ⟨%d2, H2⟩, ⟨%d3, H3⟩, ⟨%d4, H4⟩, ⟨%d5, H5⟩⟩
  iapply wp_wand_r
  isplitl [HS0 HS1 H0 H1 H2 H3 H4 H5]
  · iapply (body_run c (grid0.coords t) _ _ _ _ _ _ _ _ _ _ _ _ _ _ _ _ (iblk m c 0 t) (iblk m c 1 t) (iblk m c 2 t) (iblk m c 3 t) X8
      ((dats m 0 c).before 4 t d4) ((dats m 0 c).before 5 t d5))
    isplitl [H0]; · iexact H0
    isplitl [H1]; · iexact H1
    isplitl [H2]; · iexact H2
    isplitl [H3]; · iexact H3
    isplitl [H4]; · iexact H4
    isplitl [H5]; · iexact H5
    isplitl [HS0]; · iexact HS0
    iexact HS1
  rw [rotM_after m c t X8 hI, post4, post5]
  iintro %_ ⟨H0, H1, H2, H3, H4, H5, HS0, HS1⟩
  isplitl [HS0 HS1 Hg]
  · isplitl [HS0 HS1]
    · iexists _
      isplitr
      · ipureintro; exact fun _ => rfl
      isplitl [HS0]; · iexact HS0
      iexact HS1
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]
  · iapply (postOf_intro m c 4 t fun h d => before4 m c t (by rw [idle4, decide_eq_true_iff] at h; exact h) d); iexact H4
  iapply (postOf_intro m c 5 t fun h d => before5 m c t (by rw [idle5, decide_eq_true_iff] at h; exact h) d); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost postOf
  exact .rfl

/-! ## The run and the frame -/

theorem scratch_eq (c : Dev nD) :
    (Pipeline.scopedRest (Ix := Unit) (Name := ℕ) (U := UR sig nD τ) (Lvl := ℕ) (Val := Elt F) spec0 c : sProp 𝕄)
      = iprop((∃ d, ow (F := F) c (Memref.whole cc0_scratch0) d) ∗ (∃ d, ow (F := F) c (Memref.whole cc0_scratch1) d)) := by
  rw [scopedRest0_eq]
  unfold ow
  simp only [owns_whole]; try rfl

theorem Phi_in (c : Dev nD) : (Pipeline.ΦA spec0 c : sProp 𝕄) ⊢ (dats m 0 c).Φ 0 := by
  show (Pipeline.ΦA spec0 c : sProp 𝕄) ⊢ PhiS m c 0
  unfold Pipeline.ΦA PhiS
  rw [scratch_eq]
  iintro ⟨⟨⟨%X8, H0⟩, H1⟩, Hg⟩
  isplitl [H0 H1]
  · iexists X8
    isplitr
    · ipureintro; exact fun h => absurd h (lt_irrefl _)
    isplitl [H0]; · iexact H0
    iexact H1
  iexact Hg

theorem Phi_out (c : Dev nD) : (dats m 0 c).Φ (Fin.last cfg0.N) ⊢ (Pipeline.ΦA spec0 c : sProp 𝕄) := by
  show PhiS m c _ ⊢ (Pipeline.ΦA spec0 c : sProp 𝕄)
  unfold Pipeline.ΦA PhiS
  rw [scratch_eq]
  iintro ⟨⟨%X8, %_, H0, H1⟩, Hg⟩
  isplitl [H0 H1]
  · isplitl [H0]; · iexists X8; iexact H0
    iexact H1
  iexact Hg

set_option backward.isDefEq.respectTransparency.types false in
/-- The kernel's run ends, every array as the pipeline's data says and every semaphore back at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := Phi_in m) (hout := Phi_out m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_main m ρ))

end Cert.Scales.Hand

end
-- ==== Proof.ScIdeal.Chain.lean ====
/-
  THE TOKEN-SCALE KERNEL'S BODY AS TILES. The printed body writes its eight tiles out in line, cut into parts that do
  not fall on the tiles. Here a tile is stated once, for every column block, and the printed section is shown to be
  the eight tiles in order.
-/
module

public import proofs.«01_k».proof.Proof.Gen.ScalesIdeal.Frame
public import proofs.«01_k».proof.Proof.Gen.ScalesIdeal.Skeleton

@[expose] public section

noncomputable section

namespace Cert.ScalesIdeal.Hand

open Cert.ScalesIdeal Cert.ScalesIdeal.Gen
open Idealize.ShloMosaic Idealize.ShloMosaic.TcCoe
open Idealize.SL Idealize.SL.Sem

variable {F : FTy → Type} [FloatOps F]

theorem inbRow (t : ℕ) (ht : t < 32) (h : ℕ) (hh : h < 2) :
    ∀ a, (![8 * t, 128 * h] : Fin 2 → Nat) a + S8x128.size a ≤ S256x1024.size a := by
  intro a; fin_cases a
  · show 8 * t + 8 ≤ 256; omega
  · show 128 * h + 128 ≤ 1024; omega

theorem inbCol (c : ℕ) (hc : c < 4) :
    ∀ a, (![0, 256 * c] : Fin 2 → Nat) a + S256x256.size a ≤ S256x1024.size a := by
  intro a; fin_cases a
  · show 0 + 256 ≤ 256; omega
  · show 256 * c + 256 ≤ 1024; omega

theorem inbOut (j : ℕ) (hj : j < 8) :
    ∀ a, (![0, 128 * j] : Fin 2 → Nat) a + S8x128.size a ≤ S8x1024.size a := by
  intro a; fin_cases a
  · show 0 + 8 ≤ 8; omega
  · show 128 * j + 128 ≤ 1024; omega

/-- One step of the search for the exponent: the bit `b` is set if the float with that exponent is still at most `v`. -/
def estep (v : FVec F S8x128 .f32) (b : BitVec 32) (e : IVec S8x128 32) : IVec S8x128 32 :=
  select (cmpf .oge v (bitcastToFloat .f32 (shli (addi e (broadcast S8x128 b)) (broadcast S8x128 23#32))))
    (addi e (broadcast S8x128 b)) e

/-- The eight steps, from the top bit down. -/
def eall (v : FVec F S8x128 .f32) : IVec S8x128 32 :=
  estep v 1#32 (estep v 2#32 (estep v 4#32 (estep v 8#32 (estep v 16#32 (estep v 32#32 (estep v 64#32
    (estep v 128#32 (broadcast S8x128 0#32))))))))

/-- The scale's exponent from the largest magnitude. -/
def expo (m : FVec F S8x128 .f32) : IVec S8x128 32 :=
  let e := eall (mulf m (broadcast S8x128 (Scalar.ofBits .f32 0x3DB504F3#32)))
  select (cmpi .eq e (broadcast S8x128 0#32)) (broadcast S8x128 0#32) (subi e (broadcast S8x128 129#32))

/-- The rectangle of eight rows of the rotated tile. -/
abbrev rRow (t : ℕ) (ht : t < 32) (h : ℕ) (hh : h < 2) : Rect S256x1024 := Rect.unit ![8 * t, 128 * h] S8x128.size (inbRow t ht h hh)
abbrev rCol (c : ℕ) (hc : c < 4) : Rect S256x1024 := Rect.unit ![0, 256 * c] S256x256.size (inbCol c hc)
abbrev rOut (j : ℕ) (hj : j < 8) : Rect S8x1024 := Rect.unit ![0, 128 * j] S8x128.size (inbOut j hj)

section
/-- Eight rows of the rotated tile, read. -/
def ldr (M9 : Memref sig .tc .vmem S256x1024 .f32) (t : ℕ) (ht : t < 32) (h : ℕ) (hh : h < 2) : Prog (TpuEff nD τ sig (Elt F) Λ₀ .tc) (Vec F S8x128 .f32) :=
  Prog.lift (.load M9 (rRow t ht h hh).toLoadRect (View.loadsAt_vmem h_S8x128))

/-- Half a tile's scales, written. -/
def sto (MO : Memref sig .tc .vmem S8x1024 .i32) (j : ℕ) (hj : j < 8) (v : IVec S8x128 32) : Prog (TpuEff nD τ sig (Elt F) Λ₀ .tc) PUnit := do
  let _ : Vec F S8x128 .i32 ← Prog.lift (.load MO (rOut j hj).toLoadRect (View.loadsAt_vmem h_S8x128))
  Prog.lift (.store MO (rOut j hj) v Finset.univ (View.stores_vmem_bits_univ h_S8x128 rfl) (.inl rfl))

variable (MA : Memref sig .tc .vmem S256x1024 .bf16) (MO : Memref sig .tc .vmem S8x1024 .i32)
  (M8 : Memref sig .tc .vmem S256x256 .bf16) (M9 : Memref sig .tc .vmem S256x1024 .f32)

/-- The rotation of one tile into scratch. -/
def rot (c : ℕ) (hc : c < 4) : Prog (TpuEff nD τ sig (Elt F) Λ₀ .tc) PUnit := do
  let v11 : Vec F S256x256 .bf16 ← Prog.lift (.load M8 (Rect.unit (s := S256x256) ![0, 0] S256x256.size inb_S256x256_S256x256_0_0).toLoadRect (View.loadsAt_vmem h_S256x256))
  let v12 : Vec F S256x256 .bf16 ← Prog.lift (.load MA (rCol c hc).toLoadRect (View.loadsAt_vmem h_S256x256))
  let v15 : Vec F S256x256 .f32 ← Prog.lift (.load M9 (Rect.unit (s := S256x1024) ![0, 0] S256x256.size inb_S256x1024_S256x256_0_0).toLoadRect (View.loadsAt_vmem h_S256x256))
  Prog.lift (.store M9 (Rect.unit (s := S256x1024) ![0, 0] S256x256.size inb_S256x1024_S256x256_0_0) (k0_pay4 v11 v12) Finset.univ (View.stores_vmem_bits_univ h_S256x256 rfl) (.inl rfl))

/-- The largest magnitude over further groups of eight rows. -/
def more (h : ℕ) (hh : h < 2) : (n t : ℕ) → t + n ≤ 32 → FVec F S8x128 .f32 → Prog (TpuEff nD τ sig (Elt F) Λ₀ .tc) (FVec F S8x128 .f32)
  | 0, _, _, m => pure m
  | n + 1, t, ht, m => do
    let v ← ldr M9 t (by omega) h hh
    more h hh n (t + 1) (by omega) (maximumf m (absf v))

/-- One half of a tile: the largest magnitude of each group, its exponent, stored. -/
def half (h : ℕ) (hh : h < 2) (j : ℕ) (hj : j < 8) : Prog (TpuEff nD τ sig (Elt F) Λ₀ .tc) PUnit := do
  let v ← ldr M9 0 (by omega) h hh
  let m ← more M9 h hh 31 1 (by omega) (absf v)
  sto MO j hj (expo m)

/-- One tile. -/
def tile (c : ℕ) (hc : c < 4) : Prog (TpuEff nD τ sig (Elt F) Λ₀ .tc) PUnit := do
  rot MA M8 M9 c hc
  half MO M9 0 (by omega) (2 * c) (by omega)
  half MO M9 1 (by omega) (2 * c + 1) (by omega)

/-- The section: the four tiles. -/
def section4 : Prog (TpuEff nD τ sig (Elt F) Λ₀ .tc) PUnit := do
  tile MA MO M8 M9 0 (by omega)
  tile MA MO M8 M9 1 (by omega)
  tile MA MO M8 M9 2 (by omega)
  tile MA MO M8 M9 3 (by omega)

end

end Cert.ScalesIdeal.Hand
end
-- ==== Proof.ScIdeal.Parts.lean ====
/-
  THE PRINTED PARTS AS PIECES OF TILES. Each printed part, stated with the tile's own reads and writes: a run of reads
  and maxima, some steps of the search for an exponent, or a write. The two printed sections are the same parts at
  different blocks.
-/
module

public import proofs.«01_k».proof.Proof.ScIdeal.Chain

@[expose] public section

noncomputable section

namespace Cert.ScalesIdeal.Hand

open Cert.ScalesIdeal Cert.ScalesIdeal.Gen
open Idealize.ShloMosaic Idealize.ShloMosaic.TcCoe
open Idealize.SL Idealize.SL.Sem

variable {F : FTy → Type} [FloatOps F]

/-- One step of the search, as the parts write it when they end inside it. -/
theorem estep_fold (v : FVec F S8x128 .f32) (b : BitVec 32) (e : IVec S8x128 32) :
    select (cmpf .oge v (bitcastToFloat .f32 (shli (addi e (broadcast S8x128 b)) (broadcast S8x128 23#32))))
      (addi e (broadcast S8x128 b)) e = estep v b e := rfl

def p1 (MA : Memref sig .tc .vmem S256x1024 .bf16) (MO : Memref sig .tc .vmem S8x1024 .i32) (M8 : Memref sig .tc .vmem S256x256 .bf16) (M9 : Memref sig .tc .vmem S256x1024 .f32) : Prog (TpuEff nD τ sig (Elt F) Λ₀ .tc) (FVec F S8x128 .f32) := do
  rot MA M8 M9 0 (by omega)
  let v18 ← ldr M9 0 (by omega) 0 (by omega)
  let v20 ← ldr M9 1 (by omega) 0 (by omega)
  let v23 ← ldr M9 2 (by omega) 0 (by omega)
  let v26 ← ldr M9 3 (by omega) 0 (by omega)
  let v29 ← ldr M9 4 (by omega) 0 (by omega)
  let v32 ← ldr M9 5 (by omega) 0 (by omega)
  let v35 ← ldr M9 6 (by omega) 0 (by omega)
  let v38 ← ldr M9 7 (by omega) 0 (by omega)
  let v41 ← ldr M9 8 (by omega) 0 (by omega)
  pure (maximumf (maximumf (maximumf (maximumf (maximumf (maximumf (maximumf (maximumf (absf v18) (absf v20)) (absf v23)) (absf v26)) (absf v29)) (absf v32)) (absf v35)) (absf v38)) (absf v41))

def p2 (MA : Memref sig .tc .vmem S256x1024 .bf16) (MO : Memref sig .tc .vmem S8x1024 .i32) (M8 : Memref sig .tc .vmem S256x256 .bf16) (M9 : Memref sig .tc .vmem S256x1024 .f32) (v43 : FVec F S8x128 .f32) : Prog (TpuEff nD τ sig (Elt F) Λ₀ .tc) (FVec F S8x128 .f32) := do
  let v44 ← ldr M9 9 (by omega) 0 (by omega)
  let v47 ← ldr M9 10 (by omega) 0 (by omega)
  let v50 ← ldr M9 11 (by omega) 0 (by omega)
  let v53 ← ldr M9 12 (by omega) 0 (by omega)
  let v56 ← ldr M9 13 (by omega) 0 (by omega)
  let v59 ← ldr M9 14 (by omega) 0 (by omega)
  let v62 ← ldr M9 15 (by omega) 0 (by omega)
  let v65 ← ldr M9 16 (by omega) 0 (by omega)
  let v68 ← ldr M9 17 (by omega) 0 (by omega)
  let v71 ← ldr M9 18 (by omega) 0 (by omega)
  let v74 ← ldr M9 19 (by omega) 0 (by omega)
  let v77 ← ldr M9 20 (by omega) 0 (by omega)
  pure (maximumf (maximumf (maximumf (maximumf (maximumf (maximumf (maximumf (maximumf (maximumf (maximumf (maximumf (maximumf v43 (absf v44)) (absf v47)) (absf v50)) (absf v53)) (absf v56)) (absf v59)) (absf v62)) (absf v65)) (absf v68)) (absf v71)) (absf v74)) (absf v77))

def p3 (MA : Memref sig .tc .vmem S256x1024 .bf16) (MO : Memref sig .tc .vmem S8x1024 .i32) (M8 : Memref sig .tc .vmem S256x256 .bf16) (M9 : Memref sig .tc .vmem S256x1024 .f32) (v79 : FVec F S8x128 .f32) : Prog (TpuEff nD τ sig (Elt F) Λ₀ .tc) (Σ' (v114 : FVec F S8x128 .f32) (v115 : IVec S8x128 32), BitVec 32) := do
  let v80 ← ldr M9 21 (by omega) 0 (by omega)
  let v83 ← ldr M9 22 (by omega) 0 (by omega)
  let v86 ← ldr M9 23 (by omega) 0 (by omega)
  let v89 ← ldr M9 24 (by omega) 0 (by omega)
  let v92 ← ldr M9 25 (by omega) 0 (by omega)
  let v95 ← ldr M9 26 (by omega) 0 (by omega)
  let v98 ← ldr M9 27 (by omega) 0 (by omega)
  let v101 ← ldr M9 28 (by omega) 0 (by omega)
  let v104 ← ldr M9 29 (by omega) 0 (by omega)
  let v107 ← ldr M9 30 (by omega) 0 (by omega)
  let v110 ← ldr M9 31 (by omega) 0 (by omega)
  pure ⟨(mulf (maximumf (maximumf (maximumf (maximumf (maximumf (maximumf (maximumf (maximumf (maximumf (maximumf (maximumf v79 (absf v80)) (absf v83)) (absf v86)) (absf v89)) (absf v92)) (absf v95)) (absf v98)) (absf v101)) (absf v104)) (absf v107)) (absf v110)) (broadcast S8x128 (Scalar.ofBits .f32 0x3DB504F3#32))), (broadcast S8x128 0#32), 128#32⟩

def p4 (MA : Memref sig .tc .vmem S256x1024 .bf16) (MO : Memref sig .tc .vmem S8x1024 .i32) (M8 : Memref sig .tc .vmem S256x256 .bf16) (M9 : Memref sig .tc .vmem S256x1024 .f32) (v114 : FVec F S8x128 .f32) (v115 : IVec S8x128 32) (c128_i32 : BitVec 32) : Prog (TpuEff nD τ sig (Elt F) Λ₀ .tc) (Σ' (v157 : IVec S8x128 32) (v159 : IVec S8x128 32), FVec F S8x128 .f32) := do
  pure ⟨(estep v114 4#32 (estep v114 8#32 (estep v114 16#32 (estep v114 32#32 (estep v114 64#32 (estep v114 c128_i32 v115)))))), (addi (estep v114 4#32 (estep v114 8#32 (estep v114 16#32 (estep v114 32#32 (estep v114 64#32 (estep v114 c128_i32 v115)))))) (broadcast S8x128 2#32)), (bitcastToFloat .f32 (shli (addi (estep v114 4#32 (estep v114 8#32 (estep v114 16#32 (estep v114 32#32 (estep v114 64#32 (estep v114 c128_i32 v115)))))) (broadcast S8x128 2#32)) (broadcast S8x128 23#32)))⟩

def p5 (MA : Memref sig .tc .vmem S256x1024 .bf16) (MO : Memref sig .tc .vmem S8x1024 .i32) (M8 : Memref sig .tc .vmem S256x256 .bf16) (M9 : Memref sig .tc .vmem S256x1024 .f32) (v114 : FVec F S8x128 .f32) (v157 : IVec S8x128 32) (v159 : IVec S8x128 32) (v162 : FVec F S8x128 .f32) : Prog (TpuEff nD τ sig (Elt F) Λ₀ .tc) (FVec F S8x128 .f32) := do
  sto MO 0 (by omega) (select (cmpi .eq (estep v114 1#32 (select (cmpf .oge v114 v162) v159 v157)) (broadcast S8x128 0#32)) (broadcast S8x128 0#32) (subi (estep v114 1#32 (select (cmpf .oge v114 v162) v159 v157)) (broadcast S8x128 129#32)))
  let v179 ← ldr M9 0 (by omega) 1 (by omega)
  let v181 ← ldr M9 1 (by omega) 1 (by omega)
  let v184 ← ldr M9 2 (by omega) 1 (by omega)
  let v187 ← ldr M9 3 (by omega) 1 (by omega)
  let v190 ← ldr M9 4 (by omega) 1 (by omega)
  let v193 ← ldr M9 5 (by omega) 1 (by omega)
  let v196 ← ldr M9 6 (by omega) 1 (by omega)
  pure (maximumf (maximumf (maximumf (maximumf (maximumf (maximumf (absf v179) (absf v181)) (absf v184)) (absf v187)) (absf v190)) (absf v193)) (absf v196))

def p6 (MA : Memref sig .tc .vmem S256x1024 .bf16) (MO : Memref sig .tc .vmem S8x1024 .i32) (M8 : Memref sig .tc .vmem S256x256 .bf16) (M9 : Memref sig .tc .vmem S256x1024 .f32) (v198 : FVec F S8x128 .f32) : Prog (TpuEff nD τ sig (Elt F) Λ₀ .tc) (FVec F S8x128 .f32) := do
  let v199 ← ldr M9 7 (by omega) 1 (by omega)
  let v202 ← ldr M9 8 (by omega) 1 (by omega)
  let v205 ← ldr M9 9 (by omega) 1 (by omega)
  let v208 ← ldr M9 10 (by omega) 1 (by omega)
  let v211 ← ldr M9 11 (by omega) 1 (by omega)
  let v214 ← ldr M9 12 (by omega) 1 (by omega)
  let v217 ← ldr M9 13 (by omega) 1 (by omega)
  let v220 ← ldr M9 14 (by omega) 1 (by omega)
  let v223 ← ldr M9 15 (by omega) 1 (by omega)
  let v226 ← ldr M9 16 (by omega) 1 (by omega)
  let v229 ← ldr M9 17 (by omega) 1 (by omega)
  let v232 ← ldr M9 18 (by omega) 1 (by omega)
  pure (maximumf (maximumf (maximumf (maximumf (maximumf (maximumf (maximumf (maximumf (maximumf (maximumf (maximumf (maximumf v198 (absf v199)) (absf v202)) (absf v205)) (absf v208)) (absf v211)) (absf v214)) (absf v217)) (absf v220)) (absf v223)) (absf v226)) (absf v229)) (absf v232))

def p7 (MA : Memref sig .tc .vmem S256x1024 .bf16) (MO : Memref sig .tc .vmem S8x1024 .i32) (M8 : Memref sig .tc .vmem S256x256 .bf16) (M9 : Memref sig .tc .vmem S256x1024 .f32) (v234 : FVec F S8x128 .f32) : Prog (TpuEff nD τ sig (Elt F) Λ₀ .tc) (FVec F S8x128 .f32) := do
  let v235 ← ldr M9 19 (by omega) 1 (by omega)
  let v238 ← ldr M9 20 (by omega) 1 (by omega)
  let v241 ← ldr M9 21 (by omega) 1 (by omega)
  let v244 ← ldr M9 22 (by omega) 1 (by omega)
  let v247 ← ldr M9 23 (by omega) 1 (by omega)
  let v250 ← ldr M9 24 (by omega) 1 (by omega)
  let v253 ← ldr M9 25 (by omega) 1 (by omega)
  let v256 ← ldr M9 26 (by omega) 1 (by omega)
  let v259 ← ldr M9 27 (by omega) 1 (by omega)
  let v262 ← ldr M9 28 (by omega) 1 (by omega)
  let v265 ← ldr M9 29 (by omega) 1 (by omega)
  let v268 ← ldr M9 30 (by omega) 1 (by omega)
  pure (maximumf (maximumf (maximumf (maximumf (maximumf (maximumf (maximumf (maximumf (maximumf (maximumf (maximumf (maximumf v234 (absf v235)) (absf v238)) (absf v241)) (absf v244)) (absf v247)) (absf v250)) (absf v253)) (absf v256)) (absf v259)) (absf v262)) (absf v265)) (absf v268))

def p8 (MA : Memref sig .tc .vmem S256x1024 .bf16) (MO : Memref sig .tc .vmem S8x1024 .i32) (M8 : Memref sig .tc .vmem S256x256 .bf16) (M9 : Memref sig .tc .vmem S256x1024 .f32) (v270 : FVec F S8x128 .f32) : Prog (TpuEff nD τ sig (Elt F) Λ₀ .tc) (Σ' (v275 : FVec F S8x128 .f32) (v311 : IVec S8x128 32) (v313 : IVec S8x128 32), FVec F S8x128 .f32) := do
  let v271 ← ldr M9 31 (by omega) 1 (by omega)
  pure ⟨(mulf (maximumf v270 (absf v271)) (broadcast S8x128 (Scalar.ofBits .f32 0x3DB504F3#32))), (estep (mulf (maximumf v270 (absf v271)) (broadcast S8x128 (Scalar.ofBits .f32 0x3DB504F3#32))) 8#32 (estep (mulf (maximumf v270 (absf v271)) (broadcast S8x128 (Scalar.ofBits .f32 0x3DB504F3#32))) 16#32 (estep (mulf (maximumf v270 (absf v271)) (broadcast S8x128 (Scalar.ofBits .f32 0x3DB504F3#32))) 32#32 (estep (mulf (maximumf v270 (absf v271)) (broadcast S8x128 (Scalar.ofBits .f32 0x3DB504F3#32))) 64#32 (estep (mulf (maximumf v270 (absf v271)) (broadcast S8x128 (Scalar.ofBits .f32 0x3DB504F3#32))) 128#32 (broadcast S8x128 0#32)))))), (addi (estep (mulf (maximumf v270 (absf v271)) (broadcast S8x128 (Scalar.ofBits .f32 0x3DB504F3#32))) 8#32 (estep (mulf (maximumf v270 (absf v271)) (broadcast S8x128 (Scalar.ofBits .f32 0x3DB504F3#32))) 16#32 (estep (mulf (maximumf v270 (absf v271)) (broadcast S8x128 (Scalar.ofBits .f32 0x3DB504F3#32))) 32#32 (estep (mulf (maximumf v270 (absf v271)) (broadcast S8x128 (Scalar.ofBits .f32 0x3DB504F3#32))) 64#32 (estep (mulf (maximumf v270 (absf v271)) (broadcast S8x128 (Scalar.ofBits .f32 0x3DB504F3#32))) 128#32 (broadcast S8x128 0#32)))))) (broadcast S8x128 4#32)), (bitcastToFloat .f32 (shli (addi (estep (mulf (maximumf v270 (absf v271)) (broadcast S8x128 (Scalar.ofBits .f32 0x3DB504F3#32))) 8#32 (estep (mulf (maximumf v270 (absf v271)) (broadcast S8x128 (Scalar.ofBits .f32 0x3DB504F3#32))) 16#32 (estep (mulf (maximumf v270 (absf v271)) (broadcast S8x128 (Scalar.ofBits .f32 0x3DB504F3#32))) 32#32 (estep (mulf (maximumf v270 (absf v271)) (broadcast S8x128 (Scalar.ofBits .f32 0x3DB504F3#32))) 64#32 (estep (mulf (maximumf v270 (absf v271)) (broadcast S8x128 (Scalar.ofBits .f32 0x3DB504F3#32))) 128#32 (broadcast S8x128 0#32)))))) (broadcast S8x128 4#32)) (broadcast S8x128 23#32)))⟩

def p9 (MA : Memref sig .tc .vmem S256x1024 .bf16) (MO : Memref sig .tc .vmem S8x1024 .i32) (M8 : Memref sig .tc .vmem S256x256 .bf16) (M9 : Memref sig .tc .vmem S256x1024 .f32) (v275 : FVec F S8x128 .f32) (v311 : IVec S8x128 32) (v313 : IVec S8x128 32) (v316 : FVec F S8x128 .f32) : Prog (TpuEff nD τ sig (Elt F) Λ₀ .tc) (Σ' (v351 : FVec F S8x128 .f32), Vec F S8x128 .f32) := do
  sto MO 1 (by omega) (select (cmpi .eq (estep v275 1#32 (estep v275 2#32 (select (cmpf .oge v275 v316) v313 v311))) (broadcast S8x128 0#32)) (broadcast S8x128 0#32) (subi (estep v275 1#32 (estep v275 2#32 (select (cmpf .oge v275 v316) v313 v311))) (broadcast S8x128 129#32)))
  rot MA M8 M9 1 (by omega)
  let v347 ← ldr M9 0 (by omega) 0 (by omega)
  let v349 ← ldr M9 1 (by omega) 0 (by omega)
  let v352 ← ldr M9 2 (by omega) 0 (by omega)
  pure ⟨(maximumf (absf v347) (absf v349)), v352⟩

def p10 (MA : Memref sig .tc .vmem S256x1024 .bf16) (MO : Memref sig .tc .vmem S8x1024 .i32) (M8 : Memref sig .tc .vmem S256x256 .bf16) (M9 : Memref sig .tc .vmem S256x1024 .f32) (v351 : FVec F S8x128 .f32) (v352 : Vec F S8x128 .f32) : Prog (TpuEff nD τ sig (Elt F) Λ₀ .tc) (Σ' (v387 : FVec F S8x128 .f32), Vec F S8x128 .f32) := do
  let v355 ← ldr M9 3 (by omega) 0 (by omega)
  let v358 ← ldr M9 4 (by omega) 0 (by omega)
  let v361 ← ldr M9 5 (by omega) 0 (by omega)
  let v364 ← ldr M9 6 (by omega) 0 (by omega)
  let v367 ← ldr M9 7 (by omega) 0 (by omega)
  let v370 ← ldr M9 8 (by omega) 0 (by omega)
  let v373 ← ldr M9 9 (by omega) 0 (by omega)
  let v376 ← ldr M9 10 (by omega) 0 (by omega)
  let v379 ← ldr M9 11 (by omega) 0 (by omega)
  let v382 ← ldr M9 12 (by omega) 0 (by omega)
  let v385 ← ldr M9 13 (by omega) 0 (by omega)
  let v388 ← ldr M9 14 (by omega) 0 (by omega)
  pure ⟨(maximumf (maximumf (maximumf (maximumf (maximumf (maximumf (maximumf (maximumf (maximumf (maximumf (maximumf (maximumf v351 (absf v352)) (absf v355)) (absf v358)) (absf v361)) (absf v364)) (absf v367)) (absf v370)) (absf v373)) (absf v376)) (absf v379)) (absf v382)) (absf v385)), v388⟩

def p11 (MA : Memref sig .tc .vmem S256x1024 .bf16) (MO : Memref sig .tc .vmem S8x1024 .i32) (M8 : Memref sig .tc .vmem S256x256 .bf16) (M9 : Memref sig .tc .vmem S256x1024 .f32) (v387 : FVec F S8x128 .f32) (v388 : Vec F S8x128 .f32) : Prog (TpuEff nD τ sig (Elt F) Λ₀ .tc) (Σ' (v423 : FVec F S8x128 .f32), Vec F S8x128 .f32) := do
  let v391 ← ldr M9 15 (by omega) 0 (by omega)
  let v394 ← ldr M9 16 (by omega) 0 (by omega)
  let v397 ← ldr M9 17 (by omega) 0 (by omega)
  let v400 ← ldr M9 18 (by omega) 0 (by omega)
  let v403 ← ldr M9 19 (by omega) 0 (by omega)
  let v406 ← ldr M9 20 (by omega) 0 (by omega)
  let v409 ← ldr M9 21 (by omega) 0 (by omega)
  let v412 ← ldr M9 22 (by omega) 0 (by omega)
  let v415 ← ldr M9 23 (by omega) 0 (by omega)
  let v418 ← ldr M9 24 (by omega) 0 (by omega)
  let v421 ← ldr M9 25 (by omega) 0 (by omega)
  let v424 ← ldr M9 26 (by omega) 0 (by omega)
  pure ⟨(maximumf (maximumf (maximumf (maximumf (maximumf (maximumf (maximumf (maximumf (maximumf (maximumf (maximumf (maximumf v387 (absf v388)) (absf v391)) (absf v394)) (absf v397)) (absf v400)) (absf v403)) (absf v406)) (absf v409)) (absf v412)) (absf v415)) (absf v418)) (absf v421)), v424⟩

def p12 (MA : Memref sig .tc .vmem S256x1024 .bf16) (MO : Memref sig .tc .vmem S8x1024 .i32) (M8 : Memref sig .tc .vmem S256x256 .bf16) (M9 : Memref sig .tc .vmem S256x1024 .f32) (v423 : FVec F S8x128 .f32) (v424 : Vec F S8x128 .f32) : Prog (TpuEff nD τ sig (Elt F) Λ₀ .tc) (Σ' (v443 : FVec F S8x128 .f32) (v465 : IVec S8x128 32), BitVec 32) := do
  let v427 ← ldr M9 27 (by omega) 0 (by omega)
  let v430 ← ldr M9 28 (by omega) 0 (by omega)
  let v433 ← ldr M9 29 (by omega) 0 (by omega)
  let v436 ← ldr M9 30 (by omega) 0 (by omega)
  let v439 ← ldr M9 31 (by omega) 0 (by omega)
  pure ⟨(mulf (maximumf (maximumf (maximumf (maximumf (maximumf (maximumf v423 (absf v424)) (absf v427)) (absf v430)) (absf v433)) (absf v436)) (absf v439)) (broadcast S8x128 (Scalar.ofBits .f32 0x3DB504F3#32))), (estep (mulf (maximumf (maximumf (maximumf (maximumf (maximumf (maximumf v423 (absf v424)) (absf v427)) (absf v430)) (absf v433)) (absf v436)) (absf v439)) (broadcast S8x128 (Scalar.ofBits .f32 0x3DB504F3#32))) 32#32 (estep (mulf (maximumf (maximumf (maximumf (maximumf (maximumf (maximumf v423 (absf v424)) (absf v427)) (absf v430)) (absf v433)) (absf v436)) (absf v439)) (broadcast S8x128 (Scalar.ofBits .f32 0x3DB504F3#32))) 64#32 (estep (mulf (maximumf (maximumf (maximumf (maximumf (maximumf (maximumf v423 (absf v424)) (absf v427)) (absf v430)) (absf v433)) (absf v436)) (absf v439)) (broadcast S8x128 (Scalar.ofBits .f32 0x3DB504F3#32))) 128#32 (broadcast S8x128 0#32)))), 16#32⟩

def p13 (MA : Memref sig .tc .vmem S256x1024 .bf16) (MO : Memref sig .tc .vmem S8x1024 .i32) (M8 : Memref sig .tc .vmem S256x256 .bf16) (M9 : Memref sig .tc .vmem S256x1024 .f32) (v443 : FVec F S8x128 .f32) (v465 : IVec S8x128 32) (c16_i32_222 : BitVec 32) : Prog (TpuEff nD τ sig (Elt F) Λ₀ .tc) (Vec F S8x128 .f32) := do
  sto MO 2 (by omega) (select (cmpi .eq (estep v443 1#32 (estep v443 2#32 (estep v443 4#32 (estep v443 8#32 (estep v443 c16_i32_222 v465))))) (broadcast S8x128 0#32)) (broadcast S8x128 0#32) (subi (estep v443 1#32 (estep v443 2#32 (estep v443 4#32 (estep v443 8#32 (estep v443 c16_i32_222 v465))))) (broadcast S8x128 129#32)))
  let v508 ← ldr M9 0 (by omega) 1 (by omega)
  pure v508

def p14 (MA : Memref sig .tc .vmem S256x1024 .bf16) (MO : Memref sig .tc .vmem S8x1024 .i32) (M8 : Memref sig .tc .vmem S256x256 .bf16) (M9 : Memref sig .tc .vmem S256x1024 .f32) (v508 : Vec F S8x128 .f32) : Prog (TpuEff nD τ sig (Elt F) Λ₀ .tc) (Σ' (v542 : FVec F S8x128 .f32), FVec F S8x128 .f32) := do
  let v510 ← ldr M9 1 (by omega) 1 (by omega)
  let v513 ← ldr M9 2 (by omega) 1 (by omega)
  let v516 ← ldr M9 3 (by omega) 1 (by omega)
  let v519 ← ldr M9 4 (by omega) 1 (by omega)
  let v522 ← ldr M9 5 (by omega) 1 (by omega)
  let v525 ← ldr M9 6 (by omega) 1 (by omega)
  let v528 ← ldr M9 7 (by omega) 1 (by omega)
  let v531 ← ldr M9 8 (by omega) 1 (by omega)
  let v534 ← ldr M9 9 (by omega) 1 (by omega)
  let v537 ← ldr M9 10 (by omega) 1 (by omega)
  let v540 ← ldr M9 11 (by omega) 1 (by omega)
  let v543 ← ldr M9 12 (by omega) 1 (by omega)
  pure ⟨(maximumf (maximumf (maximumf (maximumf (maximumf (maximumf (maximumf (maximumf (maximumf (maximumf (maximumf (absf v508) (absf v510)) (absf v513)) (absf v516)) (absf v519)) (absf v522)) (absf v525)) (absf v528)) (absf v531)) (absf v534)) (absf v537)) (absf v540)), (absf v543)⟩

def p15 (MA : Memref sig .tc .vmem S256x1024 .bf16) (MO : Memref sig .tc .vmem S8x1024 .i32) (M8 : Memref sig .tc .vmem S256x256 .bf16) (M9 : Memref sig .tc .vmem S256x1024 .f32) (v542 : FVec F S8x128 .f32) (v544 : FVec F S8x128 .f32) : Prog (TpuEff nD τ sig (Elt F) Λ₀ .tc) (Σ' (v578 : FVec F S8x128 .f32), FVec F S8x128 .f32) := do
  let v546 ← ldr M9 13 (by omega) 1 (by omega)
  let v549 ← ldr M9 14 (by omega) 1 (by omega)
  let v552 ← ldr M9 15 (by omega) 1 (by omega)
  let v555 ← ldr M9 16 (by omega) 1 (by omega)
  let v558 ← ldr M9 17 (by omega) 1 (by omega)
  let v561 ← ldr M9 18 (by omega) 1 (by omega)
  let v564 ← ldr M9 19 (by omega) 1 (by omega)
  let v567 ← ldr M9 20 (by omega) 1 (by omega)
  let v570 ← ldr M9 21 (by omega) 1 (by omega)
  let v573 ← ldr M9 22 (by omega) 1 (by omega)
  let v576 ← ldr M9 23 (by omega) 1 (by omega)
  let v579 ← ldr M9 24 (by omega) 1 (by omega)
  pure ⟨(maximumf (maximumf (maximumf (maximumf (maximumf (maximumf (maximumf (maximumf (maximumf (maximumf (maximumf (maximumf v542 v544) (absf v546)) (absf v549)) (absf v552)) (absf v555)) (absf v558)) (absf v561)) (absf v564)) (absf v567)) (absf v570)) (absf v573)) (absf v576)), (absf v579)⟩

def p16 (MA : Memref sig .tc .vmem S256x1024 .bf16) (MO : Memref sig .tc .vmem S8x1024 .i32) (M8 : Memref sig .tc .vmem S256x256 .bf16) (M9 : Memref sig .tc .vmem S256x1024 .f32) (v578 : FVec F S8x128 .f32) (v580 : FVec F S8x128 .f32) : Prog (TpuEff nD τ sig (Elt F) Λ₀ .tc) (Σ' (v604 : FVec F S8x128 .f32) (v619 : IVec S8x128 32), BitVec 32) := do
  let v582 ← ldr M9 25 (by omega) 1 (by omega)
  let v585 ← ldr M9 26 (by omega) 1 (by omega)
  let v588 ← ldr M9 27 (by omega) 1 (by omega)
  let v591 ← ldr M9 28 (by omega) 1 (by omega)
  let v594 ← ldr M9 29 (by omega) 1 (by omega)
  let v597 ← ldr M9 30 (by omega) 1 (by omega)
  let v600 ← ldr M9 31 (by omega) 1 (by omega)
  pure ⟨(mulf (maximumf (maximumf (maximumf (maximumf (maximumf (maximumf (maximumf (maximumf v578 v580) (absf v582)) (absf v585)) (absf v588)) (absf v591)) (absf v594)) (absf v597)) (absf v600)) (broadcast S8x128 (Scalar.ofBits .f32 0x3DB504F3#32))), (estep (mulf (maximumf (maximumf (maximumf (maximumf (maximumf (maximumf (maximumf (maximumf v578 v580) (absf v582)) (absf v585)) (absf v588)) (absf v591)) (absf v594)) (absf v597)) (absf v600)) (broadcast S8x128 (Scalar.ofBits .f32 0x3DB504F3#32))) 64#32 (estep (mulf (maximumf (maximumf (maximumf (maximumf (maximumf (maximumf (maximumf (maximumf v578 v580) (absf v582)) (absf v585)) (absf v588)) (absf v591)) (absf v594)) (absf v597)) (absf v600)) (broadcast S8x128 (Scalar.ofBits .f32 0x3DB504F3#32))) 128#32 (broadcast S8x128 0#32))), 32#32⟩

def p17 (MA : Memref sig .tc .vmem S256x1024 .bf16) (MO : Memref sig .tc .vmem S8x1024 .i32) (M8 : Memref sig .tc .vmem S256x256 .bf16) (M9 : Memref sig .tc .vmem S256x1024 .f32) (v604 : FVec F S8x128 .f32) (v619 : IVec S8x128 32) (c32_i32_307 : BitVec 32) : Prog (TpuEff nD τ sig (Elt F) Λ₀ .tc) (Σ' (v663 : IVec S8x128 1) (v665 : IVec S8x128 32), BitVec 32) := do
  pure ⟨(cmpi .eq (estep v604 1#32 (estep v604 2#32 (estep v604 4#32 (estep v604 8#32 (estep v604 16#32 (estep v604 c32_i32_307 v619)))))) (broadcast S8x128 0#32)), (subi (estep v604 1#32 (estep v604 2#32 (estep v604 4#32 (estep v604 8#32 (estep v604 16#32 (estep v604 c32_i32_307 v619)))))) (broadcast S8x128 129#32)), 0#32⟩

def p18 (MA : Memref sig .tc .vmem S256x1024 .bf16) (MO : Memref sig .tc .vmem S8x1024 .i32) (M8 : Memref sig .tc .vmem S256x256 .bf16) (M9 : Memref sig .tc .vmem S256x1024 .f32) (v663 : IVec S8x128 1) (v665 : IVec S8x128 32) (c0_i32_321 : BitVec 32) : Prog (TpuEff nD τ sig (Elt F) Λ₀ .tc) (FVec F S8x128 .f32) := do
  sto MO 3 (by omega) (select v663 (broadcast S8x128 c0_i32_321) v665)
  rot MA M8 M9 2 (by omega)
  let v676 ← ldr M9 0 (by omega) 0 (by omega)
  let v678 ← ldr M9 1 (by omega) 0 (by omega)
  let v681 ← ldr M9 2 (by omega) 0 (by omega)
  let v684 ← ldr M9 3 (by omega) 0 (by omega)
  let v687 ← ldr M9 4 (by omega) 0 (by omega)
  let v690 ← ldr M9 5 (by omega) 0 (by omega)
  let v693 ← ldr M9 6 (by omega) 0 (by omega)
  let v696 ← ldr M9 7 (by omega) 0 (by omega)
  pure (maximumf (maximumf (maximumf (maximumf (maximumf (maximumf (maximumf (absf v676) (absf v678)) (absf v681)) (absf v684)) (absf v687)) (absf v690)) (absf v693)) (absf v696))

def p19 (MA : Memref sig .tc .vmem S256x1024 .bf16) (MO : Memref sig .tc .vmem S8x1024 .i32) (M8 : Memref sig .tc .vmem S256x256 .bf16) (M9 : Memref sig .tc .vmem S256x1024 .f32) (v698 : FVec F S8x128 .f32) : Prog (TpuEff nD τ sig (Elt F) Λ₀ .tc) (FVec F S8x128 .f32) := do
  let v699 ← ldr M9 8 (by omega) 0 (by omega)
  let v702 ← ldr M9 9 (by omega) 0 (by omega)
  let v705 ← ldr M9 10 (by omega) 0 (by omega)
  let v708 ← ldr M9 11 (by omega) 0 (by omega)
  let v711 ← ldr M9 12 (by omega) 0 (by omega)
  let v714 ← ldr M9 13 (by omega) 0 (by omega)
  let v717 ← ldr M9 14 (by omega) 0 (by omega)
  let v720 ← ldr M9 15 (by omega) 0 (by omega)
  let v723 ← ldr M9 16 (by omega) 0 (by omega)
  let v726 ← ldr M9 17 (by omega) 0 (by omega)
  let v729 ← ldr M9 18 (by omega) 0 (by omega)
  let v732 ← ldr M9 19 (by omega) 0 (by omega)
  pure (maximumf (maximumf (maximumf (maximumf (maximumf (maximumf (maximumf (maximumf (maximumf (maximumf (maximumf (maximumf v698 (absf v699)) (absf v702)) (absf v705)) (absf v708)) (absf v711)) (absf v714)) (absf v717)) (absf v720)) (absf v723)) (absf v726)) (absf v729)) (absf v732))

def p20 (MA : Memref sig .tc .vmem S256x1024 .bf16) (MO : Memref sig .tc .vmem S8x1024 .i32) (M8 : Memref sig .tc .vmem S256x256 .bf16) (M9 : Memref sig .tc .vmem S256x1024 .f32) (v734 : FVec F S8x128 .f32) : Prog (TpuEff nD τ sig (Elt F) Λ₀ .tc) (FVec F S8x128 .f32) := do
  let v735 ← ldr M9 20 (by omega) 0 (by omega)
  let v738 ← ldr M9 21 (by omega) 0 (by omega)
  let v741 ← ldr M9 22 (by omega) 0 (by omega)
  let v744 ← ldr M9 23 (by omega) 0 (by omega)
  let v747 ← ldr M9 24 (by omega) 0 (by omega)
  let v750 ← ldr M9 25 (by omega) 0 (by omega)
  let v753 ← ldr M9 26 (by omega) 0 (by omega)
  let v756 ← ldr M9 27 (by omega) 0 (by omega)
  let v759 ← ldr M9 28 (by omega) 0 (by omega)
  let v762 ← ldr M9 29 (by omega) 0 (by omega)
  let v765 ← ldr M9 30 (by omega) 0 (by omega)
  let v768 ← ldr M9 31 (by omega) 0 (by omega)
  pure (maximumf (maximumf (maximumf (maximumf (maximumf (maximumf (maximumf (maximumf (maximumf (maximumf (maximumf (maximumf v734 (absf v735)) (absf v738)) (absf v741)) (absf v744)) (absf v747)) (absf v750)) (absf v753)) (absf v756)) (absf v759)) (absf v762)) (absf v765)) (absf v768))

def p21 (MA : Memref sig .tc .vmem S256x1024 .bf16) (MO : Memref sig .tc .vmem S8x1024 .i32) (M8 : Memref sig .tc .vmem S256x256 .bf16) (M9 : Memref sig .tc .vmem S256x1024 .f32) (v770 : FVec F S8x128 .f32) : Prog (TpuEff nD τ sig (Elt F) Λ₀ .tc) (Σ' (v772 : FVec F S8x128 .f32) (v815 : IVec S8x128 32), BitVec 32) := do
  pure ⟨(mulf v770 (broadcast S8x128 (Scalar.ofBits .f32 0x3DB504F3#32))), (estep (mulf v770 (broadcast S8x128 (Scalar.ofBits .f32 0x3DB504F3#32))) 4#32 (estep (mulf v770 (broadcast S8x128 (Scalar.ofBits .f32 0x3DB504F3#32))) 8#32 (estep (mulf v770 (broadcast S8x128 (Scalar.ofBits .f32 0x3DB504F3#32))) 16#32 (estep (mulf v770 (broadcast S8x128 (Scalar.ofBits .f32 0x3DB504F3#32))) 32#32 (estep (mulf v770 (broadcast S8x128 (Scalar.ofBits .f32 0x3DB504F3#32))) 64#32 (estep (mulf v770 (broadcast S8x128 (Scalar.ofBits .f32 0x3DB504F3#32))) 128#32 (broadcast S8x128 0#32))))))), 2#32⟩

def p22 (MA : Memref sig .tc .vmem S256x1024 .bf16) (MO : Memref sig .tc .vmem S8x1024 .i32) (M8 : Memref sig .tc .vmem S256x256 .bf16) (M9 : Memref sig .tc .vmem S256x1024 .f32) (v772 : FVec F S8x128 .f32) (v815 : IVec S8x128 32) (c2_i32_407 : BitVec 32) : Prog (TpuEff nD τ sig (Elt F) Λ₀ .tc) (FVec F S8x128 .f32) := do
  sto MO 4 (by omega) (select (cmpi .eq (estep v772 1#32 (estep v772 c2_i32_407 v815)) (broadcast S8x128 0#32)) (broadcast S8x128 0#32) (subi (estep v772 1#32 (estep v772 c2_i32_407 v815)) (broadcast S8x128 129#32)))
  let v837 ← ldr M9 0 (by omega) 1 (by omega)
  let v839 ← ldr M9 1 (by omega) 1 (by omega)
  let v842 ← ldr M9 2 (by omega) 1 (by omega)
  let v845 ← ldr M9 3 (by omega) 1 (by omega)
  let v848 ← ldr M9 4 (by omega) 1 (by omega)
  let v851 ← ldr M9 5 (by omega) 1 (by omega)
  pure (maximumf (maximumf (maximumf (maximumf (maximumf (absf v837) (absf v839)) (absf v842)) (absf v845)) (absf v848)) (absf v851))

def p23 (MA : Memref sig .tc .vmem S256x1024 .bf16) (MO : Memref sig .tc .vmem S8x1024 .i32) (M8 : Memref sig .tc .vmem S256x256 .bf16) (M9 : Memref sig .tc .vmem S256x1024 .f32) (v853 : FVec F S8x128 .f32) : Prog (TpuEff nD τ sig (Elt F) Λ₀ .tc) (FVec F S8x128 .f32) := do
  let v854 ← ldr M9 6 (by omega) 1 (by omega)
  let v857 ← ldr M9 7 (by omega) 1 (by omega)
  let v860 ← ldr M9 8 (by omega) 1 (by omega)
  let v863 ← ldr M9 9 (by omega) 1 (by omega)
  let v866 ← ldr M9 10 (by omega) 1 (by omega)
  let v869 ← ldr M9 11 (by omega) 1 (by omega)
  let v872 ← ldr M9 12 (by omega) 1 (by omega)
  let v875 ← ldr M9 13 (by omega) 1 (by omega)
  let v878 ← ldr M9 14 (by omega) 1 (by omega)
  let v881 ← ldr M9 15 (by omega) 1 (by omega)
  let v884 ← ldr M9 16 (by omega) 1 (by omega)
  let v887 ← ldr M9 17 (by omega) 1 (by omega)
  pure (maximumf (maximumf (maximumf (maximumf (maximumf (maximumf (maximumf (maximumf (maximumf (maximumf (maximumf (maximumf v853 (absf v854)) (absf v857)) (absf v860)) (absf v863)) (absf v866)) (absf v869)) (absf v872)) (absf v875)) (absf v878)) (absf v881)) (absf v884)) (absf v887))

def p24 (MA : Memref sig .tc .vmem S256x1024 .bf16) (MO : Memref sig .tc .vmem S8x1024 .i32) (M8 : Memref sig .tc .vmem S256x256 .bf16) (M9 : Memref sig .tc .vmem S256x1024 .f32) (v889 : FVec F S8x128 .f32) : Prog (TpuEff nD τ sig (Elt F) Λ₀ .tc) (FVec F S8x128 .f32) := do
  let v890 ← ldr M9 18 (by omega) 1 (by omega)
  let v893 ← ldr M9 19 (by omega) 1 (by omega)
  let v896 ← ldr M9 20 (by omega) 1 (by omega)
  let v899 ← ldr M9 21 (by omega) 1 (by omega)
  let v902 ← ldr M9 22 (by omega) 1 (by omega)
  let v905 ← ldr M9 23 (by omega) 1 (by omega)
  let v908 ← ldr M9 24 (by omega) 1 (by omega)
  let v911 ← ldr M9 25 (by omega) 1 (by omega)
  let v914 ← ldr M9 26 (by omega) 1 (by omega)
  let v917 ← ldr M9 27 (by omega) 1 (by omega)
  let v920 ← ldr M9 28 (by omega) 1 (by omega)
  let v923 ← ldr M9 29 (by omega) 1 (by omega)
  pure (maximumf (maximumf (maximumf (maximumf (maximumf (maximumf (maximumf (maximumf (maximumf (maximumf (maximumf (maximumf v889 (absf v890)) (absf v893)) (absf v896)) (absf v899)) (absf v902)) (absf v905)) (absf v908)) (absf v911)) (absf v914)) (absf v917)) (absf v920)) (absf v923))

def p25 (MA : Memref sig .tc .vmem S256x1024 .bf16) (MO : Memref sig .tc .vmem S8x1024 .i32) (M8 : Memref sig .tc .vmem S256x256 .bf16) (M9 : Memref sig .tc .vmem S256x1024 .f32) (v925 : FVec F S8x128 .f32) : Prog (TpuEff nD τ sig (Elt F) Λ₀ .tc) (Σ' (v933 : FVec F S8x128 .f32) (v969 : IVec S8x128 32), BitVec 32) := do
  let v926 ← ldr M9 30 (by omega) 1 (by omega)
  let v929 ← ldr M9 31 (by omega) 1 (by omega)
  pure ⟨(mulf (maximumf (maximumf v925 (absf v926)) (absf v929)) (broadcast S8x128 (Scalar.ofBits .f32 0x3DB504F3#32))), (estep (mulf (maximumf (maximumf v925 (absf v926)) (absf v929)) (broadcast S8x128 (Scalar.ofBits .f32 0x3DB504F3#32))) 8#32 (estep (mulf (maximumf (maximumf v925 (absf v926)) (absf v929)) (broadcast S8x128 (Scalar.ofBits .f32 0x3DB504F3#32))) 16#32 (estep (mulf (maximumf (maximumf v925 (absf v926)) (absf v929)) (broadcast S8x128 (Scalar.ofBits .f32 0x3DB504F3#32))) 32#32 (estep (mulf (maximumf (maximumf v925 (absf v926)) (absf v929)) (broadcast S8x128 (Scalar.ofBits .f32 0x3DB504F3#32))) 64#32 (estep (mulf (maximumf (maximumf v925 (absf v926)) (absf v929)) (broadcast S8x128 (Scalar.ofBits .f32 0x3DB504F3#32))) 128#32 (broadcast S8x128 0#32)))))), 4#32⟩

def p26 (MA : Memref sig .tc .vmem S256x1024 .bf16) (MO : Memref sig .tc .vmem S8x1024 .i32) (M8 : Memref sig .tc .vmem S256x256 .bf16) (M9 : Memref sig .tc .vmem S256x1024 .f32) (v933 : FVec F S8x128 .f32) (v969 : IVec S8x128 32) (c4_i32_492 : BitVec 32) : Prog (TpuEff nD τ sig (Elt F) Λ₀ .tc) (FVec F S8x128 .f32) := do
  sto MO 5 (by omega) (select (cmpi .eq (estep v933 1#32 (estep v933 2#32 (estep v933 c4_i32_492 v969))) (broadcast S8x128 0#32)) (broadcast S8x128 0#32) (subi (estep v933 1#32 (estep v933 2#32 (estep v933 c4_i32_492 v969))) (broadcast S8x128 129#32)))
  rot MA M8 M9 3 (by omega)
  let v1005 ← ldr M9 0 (by omega) 0 (by omega)
  pure (absf v1005)

def p27 (MA : Memref sig .tc .vmem S256x1024 .bf16) (MO : Memref sig .tc .vmem S8x1024 .i32) (M8 : Memref sig .tc .vmem S256x256 .bf16) (M9 : Memref sig .tc .vmem S256x1024 .f32) (v1006 : FVec F S8x128 .f32) : Prog (TpuEff nD τ sig (Elt F) Λ₀ .tc) (FVec F S8x128 .f32) := do
  let v1007 ← ldr M9 1 (by omega) 0 (by omega)
  let v1010 ← ldr M9 2 (by omega) 0 (by omega)
  let v1013 ← ldr M9 3 (by omega) 0 (by omega)
  let v1016 ← ldr M9 4 (by omega) 0 (by omega)
  let v1019 ← ldr M9 5 (by omega) 0 (by omega)
  let v1022 ← ldr M9 6 (by omega) 0 (by omega)
  let v1025 ← ldr M9 7 (by omega) 0 (by omega)
  let v1028 ← ldr M9 8 (by omega) 0 (by omega)
  let v1031 ← ldr M9 9 (by omega) 0 (by omega)
  let v1034 ← ldr M9 10 (by omega) 0 (by omega)
  let v1037 ← ldr M9 11 (by omega) 0 (by omega)
  let v1040 ← ldr M9 12 (by omega) 0 (by omega)
  pure (maximumf (maximumf (maximumf (maximumf (maximumf (maximumf (maximumf (maximumf (maximumf (maximumf (maximumf (maximumf v1006 (absf v1007)) (absf v1010)) (absf v1013)) (absf v1016)) (absf v1019)) (absf v1022)) (absf v1025)) (absf v1028)) (absf v1031)) (absf v1034)) (absf v1037)) (absf v1040))

def p28 (MA : Memref sig .tc .vmem S256x1024 .bf16) (MO : Memref sig .tc .vmem S8x1024 .i32) (M8 : Memref sig .tc .vmem S256x256 .bf16) (M9 : Memref sig .tc .vmem S256x1024 .f32) (v1042 : FVec F S8x128 .f32) : Prog (TpuEff nD τ sig (Elt F) Λ₀ .tc) (FVec F S8x128 .f32) := do
  let v1043 ← ldr M9 13 (by omega) 0 (by omega)
  let v1046 ← ldr M9 14 (by omega) 0 (by omega)
  let v1049 ← ldr M9 15 (by omega) 0 (by omega)
  let v1052 ← ldr M9 16 (by omega) 0 (by omega)
  let v1055 ← ldr M9 17 (by omega) 0 (by omega)
  let v1058 ← ldr M9 18 (by omega) 0 (by omega)
  let v1061 ← ldr M9 19 (by omega) 0 (by omega)
  let v1064 ← ldr M9 20 (by omega) 0 (by omega)
  let v1067 ← ldr M9 21 (by omega) 0 (by omega)
  let v1070 ← ldr M9 22 (by omega) 0 (by omega)
  let v1073 ← ldr M9 23 (by omega) 0 (by omega)
  let v1076 ← ldr M9 24 (by omega) 0 (by omega)
  pure (maximumf (maximumf (maximumf (maximumf (maximumf (maximumf (maximumf (maximumf (maximumf (maximumf (maximumf (maximumf v1042 (absf v1043)) (absf v1046)) (absf v1049)) (absf v1052)) (absf v1055)) (absf v1058)) (absf v1061)) (absf v1064)) (absf v1067)) (absf v1070)) (absf v1073)) (absf v1076))

def p29 (MA : Memref sig .tc .vmem S256x1024 .bf16) (MO : Memref sig .tc .vmem S8x1024 .i32) (M8 : Memref sig .tc .vmem S256x256 .bf16) (M9 : Memref sig .tc .vmem S256x1024 .f32) (v1078 : FVec F S8x128 .f32) : Prog (TpuEff nD τ sig (Elt F) Λ₀ .tc) (Σ' (v1101 : FVec F S8x128 .f32) (v1116 : IVec S8x128 32) (v1118 : IVec S8x128 32), BitVec 32) := do
  let v1079 ← ldr M9 25 (by omega) 0 (by omega)
  let v1082 ← ldr M9 26 (by omega) 0 (by omega)
  let v1085 ← ldr M9 27 (by omega) 0 (by omega)
  let v1088 ← ldr M9 28 (by omega) 0 (by omega)
  let v1091 ← ldr M9 29 (by omega) 0 (by omega)
  let v1094 ← ldr M9 30 (by omega) 0 (by omega)
  let v1097 ← ldr M9 31 (by omega) 0 (by omega)
  pure ⟨(mulf (maximumf (maximumf (maximumf (maximumf (maximumf (maximumf (maximumf v1078 (absf v1079)) (absf v1082)) (absf v1085)) (absf v1088)) (absf v1091)) (absf v1094)) (absf v1097)) (broadcast S8x128 (Scalar.ofBits .f32 0x3DB504F3#32))), (estep (mulf (maximumf (maximumf (maximumf (maximumf (maximumf (maximumf (maximumf v1078 (absf v1079)) (absf v1082)) (absf v1085)) (absf v1088)) (absf v1091)) (absf v1094)) (absf v1097)) (broadcast S8x128 (Scalar.ofBits .f32 0x3DB504F3#32))) 64#32 (estep (mulf (maximumf (maximumf (maximumf (maximumf (maximumf (maximumf (maximumf v1078 (absf v1079)) (absf v1082)) (absf v1085)) (absf v1088)) (absf v1091)) (absf v1094)) (absf v1097)) (broadcast S8x128 (Scalar.ofBits .f32 0x3DB504F3#32))) 128#32 (broadcast S8x128 0#32))), (addi (estep (mulf (maximumf (maximumf (maximumf (maximumf (maximumf (maximumf (maximumf v1078 (absf v1079)) (absf v1082)) (absf v1085)) (absf v1088)) (absf v1091)) (absf v1094)) (absf v1097)) (broadcast S8x128 (Scalar.ofBits .f32 0x3DB504F3#32))) 64#32 (estep (mulf (maximumf (maximumf (maximumf (maximumf (maximumf (maximumf (maximumf v1078 (absf v1079)) (absf v1082)) (absf v1085)) (absf v1088)) (absf v1091)) (absf v1094)) (absf v1097)) (broadcast S8x128 (Scalar.ofBits .f32 0x3DB504F3#32))) 128#32 (broadcast S8x128 0#32))) (broadcast S8x128 32#32)), 23#32⟩

def p30 (MA : Memref sig .tc .vmem S256x1024 .bf16) (MO : Memref sig .tc .vmem S8x1024 .i32) (M8 : Memref sig .tc .vmem S256x256 .bf16) (M9 : Memref sig .tc .vmem S256x1024 .f32) (v1101 : FVec F S8x128 .f32) (v1116 : IVec S8x128 32) (v1118 : IVec S8x128 32) (c23_i32_579 : BitVec 32) : Prog (TpuEff nD τ sig (Elt F) Λ₀ .tc) (IVec S8x128 32) := do
  pure (select (cmpi .eq (estep v1101 1#32 (estep v1101 2#32 (estep v1101 4#32 (estep v1101 8#32 (estep v1101 16#32 (select (cmpf .oge v1101 (bitcastToFloat .f32 (shli v1118 (broadcast S8x128 c23_i32_579)))) v1118 v1116)))))) (broadcast S8x128 0#32)) (broadcast S8x128 0#32) (subi (estep v1101 1#32 (estep v1101 2#32 (estep v1101 4#32 (estep v1101 8#32 (estep v1101 16#32 (select (cmpf .oge v1101 (bitcastToFloat .f32 (shli v1118 (broadcast S8x128 c23_i32_579)))) v1118 v1116)))))) (broadcast S8x128 129#32)))

def p31 (MA : Memref sig .tc .vmem S256x1024 .bf16) (MO : Memref sig .tc .vmem S8x1024 .i32) (M8 : Memref sig .tc .vmem S256x256 .bf16) (M9 : Memref sig .tc .vmem S256x1024 .f32) (v1164 : IVec S8x128 32) : Prog (TpuEff nD τ sig (Elt F) Λ₀ .tc) (Σ' (v1197 : FVec F S8x128 .f32), Vec F S8x128 .f32) := do
  sto MO 6 (by omega) v1164
  let v1166 ← ldr M9 0 (by omega) 1 (by omega)
  let v1168 ← ldr M9 1 (by omega) 1 (by omega)
  let v1171 ← ldr M9 2 (by omega) 1 (by omega)
  let v1174 ← ldr M9 3 (by omega) 1 (by omega)
  let v1177 ← ldr M9 4 (by omega) 1 (by omega)
  let v1180 ← ldr M9 5 (by omega) 1 (by omega)
  let v1183 ← ldr M9 6 (by omega) 1 (by omega)
  let v1186 ← ldr M9 7 (by omega) 1 (by omega)
  let v1189 ← ldr M9 8 (by omega) 1 (by omega)
  let v1192 ← ldr M9 9 (by omega) 1 (by omega)
  let v1195 ← ldr M9 10 (by omega) 1 (by omega)
  let v1198 ← ldr M9 11 (by omega) 1 (by omega)
  pure ⟨(maximumf (maximumf (maximumf (maximumf (maximumf (maximumf (maximumf (maximumf (maximumf (maximumf (absf v1166) (absf v1168)) (absf v1171)) (absf v1174)) (absf v1177)) (absf v1180)) (absf v1183)) (absf v1186)) (absf v1189)) (absf v1192)) (absf v1195)), v1198⟩

def p32 (MA : Memref sig .tc .vmem S256x1024 .bf16) (MO : Memref sig .tc .vmem S8x1024 .i32) (M8 : Memref sig .tc .vmem S256x256 .bf16) (M9 : Memref sig .tc .vmem S256x1024 .f32) (v1197 : FVec F S8x128 .f32) (v1198 : Vec F S8x128 .f32) : Prog (TpuEff nD τ sig (Elt F) Λ₀ .tc) (Σ' (v1233 : FVec F S8x128 .f32), Vec F S8x128 .f32) := do
  let v1201 ← ldr M9 12 (by omega) 1 (by omega)
  let v1204 ← ldr M9 13 (by omega) 1 (by omega)
  let v1207 ← ldr M9 14 (by omega) 1 (by omega)
  let v1210 ← ldr M9 15 (by omega) 1 (by omega)
  let v1213 ← ldr M9 16 (by omega) 1 (by omega)
  let v1216 ← ldr M9 17 (by omega) 1 (by omega)
  let v1219 ← ldr M9 18 (by omega) 1 (by omega)
  let v1222 ← ldr M9 19 (by omega) 1 (by omega)
  let v1225 ← ldr M9 20 (by omega) 1 (by omega)
  let v1228 ← ldr M9 21 (by omega) 1 (by omega)
  let v1231 ← ldr M9 22 (by omega) 1 (by omega)
  let v1234 ← ldr M9 23 (by omega) 1 (by omega)
  pure ⟨(maximumf (maximumf (maximumf (maximumf (maximumf (maximumf (maximumf (maximumf (maximumf (maximumf (maximumf (maximumf v1197 (absf v1198)) (absf v1201)) (absf v1204)) (absf v1207)) (absf v1210)) (absf v1213)) (absf v1216)) (absf v1219)) (absf v1222)) (absf v1225)) (absf v1228)) (absf v1231)), v1234⟩

def p33 (MA : Memref sig .tc .vmem S256x1024 .bf16) (MO : Memref sig .tc .vmem S8x1024 .i32) (M8 : Memref sig .tc .vmem S256x256 .bf16) (M9 : Memref sig .tc .vmem S256x1024 .f32) (v1233 : FVec F S8x128 .f32) (v1234 : Vec F S8x128 .f32) : Prog (TpuEff nD τ sig (Elt F) Λ₀ .tc) (Σ' (v1262 : FVec F S8x128 .f32) (v1270 : IVec S8x128 32) (v1272 : IVec S8x128 32), BitVec 32) := do
  let v1237 ← ldr M9 24 (by omega) 1 (by omega)
  let v1240 ← ldr M9 25 (by omega) 1 (by omega)
  let v1243 ← ldr M9 26 (by omega) 1 (by omega)
  let v1246 ← ldr M9 27 (by omega) 1 (by omega)
  let v1249 ← ldr M9 28 (by omega) 1 (by omega)
  let v1252 ← ldr M9 29 (by omega) 1 (by omega)
  let v1255 ← ldr M9 30 (by omega) 1 (by omega)
  let v1258 ← ldr M9 31 (by omega) 1 (by omega)
  pure ⟨(mulf (maximumf (maximumf (maximumf (maximumf (maximumf (maximumf (maximumf (maximumf (maximumf v1233 (absf v1234)) (absf v1237)) (absf v1240)) (absf v1243)) (absf v1246)) (absf v1249)) (absf v1252)) (absf v1255)) (absf v1258)) (broadcast S8x128 (Scalar.ofBits .f32 0x3DB504F3#32))), (estep (mulf (maximumf (maximumf (maximumf (maximumf (maximumf (maximumf (maximumf (maximumf (maximumf v1233 (absf v1234)) (absf v1237)) (absf v1240)) (absf v1243)) (absf v1246)) (absf v1249)) (absf v1252)) (absf v1255)) (absf v1258)) (broadcast S8x128 (Scalar.ofBits .f32 0x3DB504F3#32))) 128#32 (broadcast S8x128 0#32)), (addi (estep (mulf (maximumf (maximumf (maximumf (maximumf (maximumf (maximumf (maximumf (maximumf (maximumf v1233 (absf v1234)) (absf v1237)) (absf v1240)) (absf v1243)) (absf v1246)) (absf v1249)) (absf v1252)) (absf v1255)) (absf v1258)) (broadcast S8x128 (Scalar.ofBits .f32 0x3DB504F3#32))) 128#32 (broadcast S8x128 0#32)) (broadcast S8x128 64#32)), 23#32⟩

def p34 (MA : Memref sig .tc .vmem S256x1024 .bf16) (MO : Memref sig .tc .vmem S8x1024 .i32) (M8 : Memref sig .tc .vmem S256x256 .bf16) (M9 : Memref sig .tc .vmem S256x1024 .f32) (v1262 : FVec F S8x128 .f32) (v1270 : IVec S8x128 32) (v1272 : IVec S8x128 32) (c23_i32_664 : BitVec 32) : Prog (TpuEff nD τ sig (Elt F) Λ₀ .tc) (Σ' (v1319 : IVec S8x128 32), BitVec 32) := do
  pure ⟨(estep v1262 1#32 (estep v1262 2#32 (estep v1262 4#32 (estep v1262 8#32 (estep v1262 16#32 (estep v1262 32#32 (select (cmpf .oge v1262 (bitcastToFloat .f32 (shli v1272 (broadcast S8x128 c23_i32_664)))) v1272 v1270))))))), 0#32⟩

section
variable (i : grid0.Coords) (arg2 : Memref sig .tc .vmem S256x1024 .bf16) (harg2 : arg2.IsWhole) (arg3 : Memref sig .tc .vmem S256x1024 .bf16) (harg3 : arg3.IsWhole) (arg4 : Memref sig .tc .vmem S1x256 .f32) (harg4 : arg4.IsWhole) (arg5 : Memref sig .tc .vmem S256x256 .bf16) (harg5 : arg5.IsWhole) (arg6 : Memref sig .tc .vmem S8x1024 .i32) (harg6 : arg6.IsWhole) (arg7 : Memref sig .tc .vmem S8x1024 .i32) (harg7 : arg7.IsWhole) (arg8 : Memref sig .tc .vmem S256x256 .bf16) (harg8 : arg8.IsWhole) (arg9 : Memref sig .tc .vmem S256x1024 .f32) (harg9 : arg9.IsWhole)

theorem part1_x : k0_part1 (F := F) i arg2 harg2 arg3 harg3 arg4 harg4 arg5 harg5 arg6 harg6 arg7 harg7 arg8 harg8 arg9 harg9 = p1 arg3 arg6 arg8 arg9 := rfl
theorem part1_d : k0_part35 (F := F) i arg2 harg2 arg3 harg3 arg4 harg4 arg5 harg5 arg6 harg6 arg7 harg7 arg8 harg8 arg9 harg9 = p1 arg2 arg7 arg8 arg9 := rfl
theorem part2_x (v43 : FVec F S8x128 .f32) : k0_part2 (F := F) i arg2 harg2 arg3 harg3 arg4 harg4 arg5 harg5 arg6 harg6 arg7 harg7 arg8 harg8 arg9 harg9 v43 = p2 arg3 arg6 arg8 arg9 v43 := rfl
theorem part2_d (v43 : FVec F S8x128 .f32) : k0_part36 (F := F) i arg2 harg2 arg3 harg3 arg4 harg4 arg5 harg5 arg6 harg6 arg7 harg7 arg8 harg8 arg9 harg9 v43 = p2 arg2 arg7 arg8 arg9 v43 := rfl
theorem part3_x (v79 : FVec F S8x128 .f32) : k0_part3 (F := F) i arg2 harg2 arg3 harg3 arg4 harg4 arg5 harg5 arg6 harg6 arg7 harg7 arg8 harg8 arg9 harg9 v79 = p3 arg3 arg6 arg8 arg9 v79 := rfl
theorem part3_d (v79 : FVec F S8x128 .f32) : k0_part37 (F := F) i arg2 harg2 arg3 harg3 arg4 harg4 arg5 harg5 arg6 harg6 arg7 harg7 arg8 harg8 arg9 harg9 v79 = p3 arg2 arg7 arg8 arg9 v79 := rfl
theorem part4_x (v114 : FVec F S8x128 .f32) (v115 : IVec S8x128 32) (c128_i32 : BitVec 32) : k0_part4 (F := F) i arg2 harg2 arg3 harg3 arg4 harg4 arg5 harg5 arg6 harg6 arg7 harg7 arg8 harg8 arg9 harg9 v114 v115 c128_i32 = p4 arg3 arg6 arg8 arg9 v114 v115 c128_i32 := rfl
theorem part4_d (v114 : FVec F S8x128 .f32) (v115 : IVec S8x128 32) (c128_i32 : BitVec 32) : k0_part38 (F := F) i arg2 harg2 arg3 harg3 arg4 harg4 arg5 harg5 arg6 harg6 arg7 harg7 arg8 harg8 arg9 harg9 v114 v115 c128_i32 = p4 arg2 arg7 arg8 arg9 v114 v115 c128_i32 := rfl
theorem part5_x (v114 : FVec F S8x128 .f32) (v157 : IVec S8x128 32) (v159 : IVec S8x128 32) (v162 : FVec F S8x128 .f32) : k0_part5 (F := F) i arg2 harg2 arg3 harg3 arg4 harg4 arg5 harg5 arg6 harg6 arg7 harg7 arg8 harg8 arg9 harg9 v114 v157 v159 v162 = p5 arg3 arg6 arg8 arg9 v114 v157 v159 v162 := rfl
theorem part5_d (v114 : FVec F S8x128 .f32) (v157 : IVec S8x128 32) (v159 : IVec S8x128 32) (v162 : FVec F S8x128 .f32) : k0_part39 (F := F) i arg2 harg2 arg3 harg3 arg4 harg4 arg5 harg5 arg6 harg6 arg7 harg7 arg8 harg8 arg9 harg9 v114 v157 v159 v162 = p5 arg2 arg7 arg8 arg9 v114 v157 v159 v162 := rfl
theorem part6_x (v198 : FVec F S8x128 .f32) : k0_part6 (F := F) i arg2 harg2 arg3 harg3 arg4 harg4 arg5 harg5 arg6 harg6 arg7 harg7 arg8 harg8 arg9 harg9 v198 = p6 arg3 arg6 arg8 arg9 v198 := rfl
theorem part6_d (v198 : FVec F S8x128 .f32) : k0_part40 (F := F) i arg2 harg2 arg3 harg3 arg4 harg4 arg5 harg5 arg6 harg6 arg7 harg7 arg8 harg8 arg9 harg9 v198 = p6 arg2 arg7 arg8 arg9 v198 := rfl
theorem part7_x (v234 : FVec F S8x128 .f32) : k0_part7 (F := F) i arg2 harg2 arg3 harg3 arg4 harg4 arg5 harg5 arg6 harg6 arg7 harg7 arg8 harg8 arg9 harg9 v234 = p7 arg3 arg6 arg8 arg9 v234 := rfl
theorem part7_d (v234 : FVec F S8x128 .f32) : k0_part41 (F := F) i arg2 harg2 arg3 harg3 arg4 harg4 arg5 harg5 arg6 harg6 arg7 harg7 arg8 harg8 arg9 harg9 v234 = p7 arg2 arg7 arg8 arg9 v234 := rfl
theorem part8_x (v270 : FVec F S8x128 .f32) : k0_part8 (F := F) i arg2 harg2 arg3 harg3 arg4 harg4 arg5 harg5 arg6 harg6 arg7 harg7 arg8 harg8 arg9 harg9 v270 = p8 arg3 arg6 arg8 arg9 v270 := rfl
theorem part8_d (v270 : FVec F S8x128 .f32) : k0_part42 (F := F) i arg2 harg2 arg3 harg3 arg4 harg4 arg5 harg5 arg6 harg6 arg7 harg7 arg8 harg8 arg9 harg9 v270 = p8 arg2 arg7 arg8 arg9 v270 := rfl
theorem part9_x (v275 : FVec F S8x128 .f32) (v311 : IVec S8x128 32) (v313 : IVec S8x128 32) (v316 : FVec F S8x128 .f32) : k0_part9 (F := F) i arg2 harg2 arg3 harg3 arg4 harg4 arg5 harg5 arg6 harg6 arg7 harg7 arg8 harg8 arg9 harg9 v275 v311 v313 v316 = p9 arg3 arg6 arg8 arg9 v275 v311 v313 v316 := rfl
theorem part9_d (v275 : FVec F S8x128 .f32) (v311 : IVec S8x128 32) (v313 : IVec S8x128 32) (v316 : FVec F S8x128 .f32) : k0_part43 (F := F) i arg2 harg2 arg3 harg3 arg4 harg4 arg5 harg5 arg6 harg6 arg7 harg7 arg8 harg8 arg9 harg9 v275 v311 v313 v316 = p9 arg2 arg7 arg8 arg9 v275 v311 v313 v316 := rfl
theorem part10_x (v351 : FVec F S8x128 .f32) (v352 : Vec F S8x128 .f32) : k0_part10 (F := F) i arg2 harg2 arg3 harg3 arg4 harg4 arg5 harg5 arg6 harg6 arg7 harg7 arg8 harg8 arg9 harg9 v351 v352 = p10 arg3 arg6 arg8 arg9 v351 v352 := rfl
theorem part10_d (v351 : FVec F S8x128 .f32) (v352 : Vec F S8x128 .f32) : k0_part44 (F := F) i arg2 harg2 arg3 harg3 arg4 harg4 arg5 harg5 arg6 harg6 arg7 harg7 arg8 harg8 arg9 harg9 v351 v352 = p10 arg2 arg7 arg8 arg9 v351 v352 := rfl
theorem part11_x (v387 : FVec F S8x128 .f32) (v388 : Vec F S8x128 .f32) : k0_part11 (F := F) i arg2 harg2 arg3 harg3 arg4 harg4 arg5 harg5 arg6 harg6 arg7 harg7 arg8 harg8 arg9 harg9 v387 v388 = p11 arg3 arg6 arg8 arg9 v387 v388 := rfl
theorem part11_d (v387 : FVec F S8x128 .f32) (v388 : Vec F S8x128 .f32) : k0_part45 (F := F) i arg2 harg2 arg3 harg3 arg4 harg4 arg5 harg5 arg6 harg6 arg7 harg7 arg8 harg8 arg9 harg9 v387 v388 = p11 arg2 arg7 arg8 arg9 v387 v388 := rfl
theorem part12_x (v423 : FVec F S8x128 .f32) (v424 : Vec F S8x128 .f32) : k0_part12 (F := F) i arg2 harg2 arg3 harg3 arg4 harg4 arg5 harg5 arg6 harg6 arg7 harg7 arg8 harg8 arg9 harg9 v423 v424 = p12 arg3 arg6 arg8 arg9 v423 v424 := rfl
theorem part12_d (v423 : FVec F S8x128 .f32) (v424 : Vec F S8x128 .f32) : k0_part46 (F := F) i arg2 harg2 arg3 harg3 arg4 harg4 arg5 harg5 arg6 harg6 arg7 harg7 arg8 harg8 arg9 harg9 v423 v424 = p12 arg2 arg7 arg8 arg9 v423 v424 := rfl
theorem part13_x (v443 : FVec F S8x128 .f32) (v465 : IVec S8x128 32) (c16_i32_222 : BitVec 32) : k0_part13 (F := F) i arg2 harg2 arg3 harg3 arg4 harg4 arg5 harg5 arg6 harg6 arg7 harg7 arg8 harg8 arg9 harg9 v443 v465 c16_i32_222 = p13 arg3 arg6 arg8 arg9 v443 v465 c16_i32_222 := rfl
theorem part13_d (v443 : FVec F S8x128 .f32) (v465 : IVec S8x128 32) (c16_i32_222 : BitVec 32) : k0_part47 (F := F) i arg2 harg2 arg3 harg3 arg4 harg4 arg5 harg5 arg6 harg6 arg7 harg7 arg8 harg8 arg9 harg9 v443 v465 c16_i32_222 = p13 arg2 arg7 arg8 arg9 v443 v465 c16_i32_222 := rfl
theorem part14_x (v508 : Vec F S8x128 .f32) : k0_part14 (F := F) i arg2 harg2 arg3 harg3 arg4 harg4 arg5 harg5 arg6 harg6 arg7 harg7 arg8 harg8 arg9 harg9 v508 = p14 arg3 arg6 arg8 arg9 v508 := rfl
theorem part14_d (v508 : Vec F S8x128 .f32) : k0_part48 (F := F) i arg2 harg2 arg3 harg3 arg4 harg4 arg5 harg5 arg6 harg6 arg7 harg7 arg8 harg8 arg9 harg9 v508 = p14 arg2 arg7 arg8 arg9 v508 := rfl
theorem part15_x (v542 : FVec F S8x128 .f32) (v544 : FVec F S8x128 .f32) : k0_part15 (F := F) i arg2 harg2 arg3 harg3 arg4 harg4 arg5 harg5 arg6 harg6 arg7 harg7 arg8 harg8 arg9 harg9 v542 v544 = p15 arg3 arg6 arg8 arg9 v542 v544 := rfl
theorem part15_d (v542 : FVec F S8x128 .f32) (v544 : FVec F S8x128 .f32) : k0_part49 (F := F) i arg2 harg2 arg3 harg3 arg4 harg4 arg5 harg5 arg6 harg6 arg7 harg7 arg8 harg8 arg9 harg9 v542 v544 = p15 arg2 arg7 arg8 arg9 v542 v544 := rfl
theorem part16_x (v578 : FVec F S8x128 .f32) (v580 : FVec F S8x128 .f32) : k0_part16 (F := F) i arg2 harg2 arg3 harg3 arg4 harg4 arg5 harg5 arg6 harg6 arg7 harg7 arg8 harg8 arg9 harg9 v578 v580 = p16 arg3 arg6 arg8 arg9 v578 v580 := rfl
theorem part16_d (v578 : FVec F S8x128 .f32) (v580 : FVec F S8x128 .f32) : k0_part50 (F := F) i arg2 harg2 arg3 harg3 arg4 harg4 arg5 harg5 arg6 harg6 arg7 harg7 arg8 harg8 arg9 harg9 v578 v580 = p16 arg2 arg7 arg8 arg9 v578 v580 := rfl
theorem part17_x (v604 : FVec F S8x128 .f32) (v619 : IVec S8x128 32) (c32_i32_307 : BitVec 32) : k0_part17 (F := F) i arg2 harg2 arg3 harg3 arg4 harg4 arg5 harg5 arg6 harg6 arg7 harg7 arg8 harg8 arg9 harg9 v604 v619 c32_i32_307 = p17 arg3 arg6 arg8 arg9 v604 v619 c32_i32_307 := rfl
theorem part17_d (v604 : FVec F S8x128 .f32) (v619 : IVec S8x128 32) (c32_i32_307 : BitVec 32) : k0_part51 (F := F) i arg2 harg2 arg3 harg3 arg4 harg4 arg5 harg5 arg6 harg6 arg7 harg7 arg8 harg8 arg9 harg9 v604 v619 c32_i32_307 = p17 arg2 arg7 arg8 arg9 v604 v619 c32_i32_307 := rfl
theorem part18_x (v663 : IVec S8x128 1) (v665 : IVec S8x128 32) (c0_i32_321 : BitVec 32) : k0_part18 (F := F) i arg2 harg2 arg3 harg3 arg4 harg4 arg5 harg5 arg6 harg6 arg7 harg7 arg8 harg8 arg9 harg9 v663 v665 c0_i32_321 = p18 arg3 arg6 arg8 arg9 v663 v665 c0_i32_321 := rfl
theorem part18_d (v663 : IVec S8x128 1) (v665 : IVec S8x128 32) (c0_i32_321 : BitVec 32) : k0_part52 (F := F) i arg2 harg2 arg3 harg3 arg4 harg4 arg5 harg5 arg6 harg6 arg7 harg7 arg8 harg8 arg9 harg9 v663 v665 c0_i32_321 = p18 arg2 arg7 arg8 arg9 v663 v665 c0_i32_321 := rfl
theorem part19_x (v698 : FVec F S8x128 .f32) : k0_part19 (F := F) i arg2 harg2 arg3 harg3 arg4 harg4 arg5 harg5 arg6 harg6 arg7 harg7 arg8 harg8 arg9 harg9 v698 = p19 arg3 arg6 arg8 arg9 v698 := rfl
theorem part19_d (v698 : FVec F S8x128 .f32) : k0_part53 (F := F) i arg2 harg2 arg3 harg3 arg4 harg4 arg5 harg5 arg6 harg6 arg7 harg7 arg8 harg8 arg9 harg9 v698 = p19 arg2 arg7 arg8 arg9 v698 := rfl
theorem part20_x (v734 : FVec F S8x128 .f32) : k0_part20 (F := F) i arg2 harg2 arg3 harg3 arg4 harg4 arg5 harg5 arg6 harg6 arg7 harg7 arg8 harg8 arg9 harg9 v734 = p20 arg3 arg6 arg8 arg9 v734 := rfl
theorem part20_d (v734 : FVec F S8x128 .f32) : k0_part54 (F := F) i arg2 harg2 arg3 harg3 arg4 harg4 arg5 harg5 arg6 harg6 arg7 harg7 arg8 harg8 arg9 harg9 v734 = p20 arg2 arg7 arg8 arg9 v734 := rfl
theorem part21_x (v770 : FVec F S8x128 .f32) : k0_part21 (F := F) i arg2 harg2 arg3 harg3 arg4 harg4 arg5 harg5 arg6 harg6 arg7 harg7 arg8 harg8 arg9 harg9 v770 = p21 arg3 arg6 arg8 arg9 v770 := rfl
theorem part21_d (v770 : FVec F S8x128 .f32) : k0_part55 (F := F) i arg2 harg2 arg3 harg3 arg4 harg4 arg5 harg5 arg6 harg6 arg7 harg7 arg8 harg8 arg9 harg9 v770 = p21 arg2 arg7 arg8 arg9 v770 := rfl
theorem part22_x (v772 : FVec F S8x128 .f32) (v815 : IVec S8x128 32) (c2_i32_407 : BitVec 32) : k0_part22 (F := F) i arg2 harg2 arg3 harg3 arg4 harg4 arg5 harg5 arg6 harg6 arg7 harg7 arg8 harg8 arg9 harg9 v772 v815 c2_i32_407 = p22 arg3 arg6 arg8 arg9 v772 v815 c2_i32_407 := rfl
theorem part22_d (v772 : FVec F S8x128 .f32) (v815 : IVec S8x128 32) (c2_i32_407 : BitVec 32) : k0_part56 (F := F) i arg2 harg2 arg3 harg3 arg4 harg4 arg5 harg5 arg6 harg6 arg7 harg7 arg8 harg8 arg9 harg9 v772 v815 c2_i32_407 = p22 arg2 arg7 arg8 arg9 v772 v815 c2_i32_407 := rfl
theorem part23_x (v853 : FVec F S8x128 .f32) : k0_part23 (F := F) i arg2 harg2 arg3 harg3 arg4 harg4 arg5 harg5 arg6 harg6 arg7 harg7 arg8 harg8 arg9 harg9 v853 = p23 arg3 arg6 arg8 arg9 v853 := rfl
theorem part23_d (v853 : FVec F S8x128 .f32) : k0_part57 (F := F) i arg2 harg2 arg3 harg3 arg4 harg4 arg5 harg5 arg6 harg6 arg7 harg7 arg8 harg8 arg9 harg9 v853 = p23 arg2 arg7 arg8 arg9 v853 := rfl
theorem part24_x (v889 : FVec F S8x128 .f32) : k0_part24 (F := F) i arg2 harg2 arg3 harg3 arg4 harg4 arg5 harg5 arg6 harg6 arg7 harg7 arg8 harg8 arg9 harg9 v889 = p24 arg3 arg6 arg8 arg9 v889 := rfl
theorem part24_d (v889 : FVec F S8x128 .f32) : k0_part58 (F := F) i arg2 harg2 arg3 harg3 arg4 harg4 arg5 harg5 arg6 harg6 arg7 harg7 arg8 harg8 arg9 harg9 v889 = p24 arg2 arg7 arg8 arg9 v889 := rfl
theorem part25_x (v925 : FVec F S8x128 .f32) : k0_part25 (F := F) i arg2 harg2 arg3 harg3 arg4 harg4 arg5 harg5 arg6 harg6 arg7 harg7 arg8 harg8 arg9 harg9 v925 = p25 arg3 arg6 arg8 arg9 v925 := rfl
theorem part25_d (v925 : FVec F S8x128 .f32) : k0_part59 (F := F) i arg2 harg2 arg3 harg3 arg4 harg4 arg5 harg5 arg6 harg6 arg7 harg7 arg8 harg8 arg9 harg9 v925 = p25 arg2 arg7 arg8 arg9 v925 := rfl
theorem part26_x (v933 : FVec F S8x128 .f32) (v969 : IVec S8x128 32) (c4_i32_492 : BitVec 32) : k0_part26 (F := F) i arg2 harg2 arg3 harg3 arg4 harg4 arg5 harg5 arg6 harg6 arg7 harg7 arg8 harg8 arg9 harg9 v933 v969 c4_i32_492 = p26 arg3 arg6 arg8 arg9 v933 v969 c4_i32_492 := rfl
theorem part26_d (v933 : FVec F S8x128 .f32) (v969 : IVec S8x128 32) (c4_i32_492 : BitVec 32) : k0_part60 (F := F) i arg2 harg2 arg3 harg3 arg4 harg4 arg5 harg5 arg6 harg6 arg7 harg7 arg8 harg8 arg9 harg9 v933 v969 c4_i32_492 = p26 arg2 arg7 arg8 arg9 v933 v969 c4_i32_492 := rfl
theorem part27_x (v1006 : FVec F S8x128 .f32) : k0_part27 (F := F) i arg2 harg2 arg3 harg3 arg4 harg4 arg5 harg5 arg6 harg6 arg7 harg7 arg8 harg8 arg9 harg9 v1006 = p27 arg3 arg6 arg8 arg9 v1006 := rfl
theorem part27_d (v1006 : FVec F S8x128 .f32) : k0_part61 (F := F) i arg2 harg2 arg3 harg3 arg4 harg4 arg5 harg5 arg6 harg6 arg7 harg7 arg8 harg8 arg9 harg9 v1006 = p27 arg2 arg7 arg8 arg9 v1006 := rfl
theorem part28_x (v1042 : FVec F S8x128 .f32) : k0_part28 (F := F) i arg2 harg2 arg3 harg3 arg4 harg4 arg5 harg5 arg6 harg6 arg7 harg7 arg8 harg8 arg9 harg9 v1042 = p28 arg3 arg6 arg8 arg9 v1042 := rfl
theorem part28_d (v1042 : FVec F S8x128 .f32) : k0_part62 (F := F) i arg2 harg2 arg3 harg3 arg4 harg4 arg5 harg5 arg6 harg6 arg7 harg7 arg8 harg8 arg9 harg9 v1042 = p28 arg2 arg7 arg8 arg9 v1042 := rfl
theorem part29_x (v1078 : FVec F S8x128 .f32) : k0_part29 (F := F) i arg2 harg2 arg3 harg3 arg4 harg4 arg5 harg5 arg6 harg6 arg7 harg7 arg8 harg8 arg9 harg9 v1078 = p29 arg3 arg6 arg8 arg9 v1078 := rfl
theorem part29_d (v1078 : FVec F S8x128 .f32) : k0_part63 (F := F) i arg2 harg2 arg3 harg3 arg4 harg4 arg5 harg5 arg6 harg6 arg7 harg7 arg8 harg8 arg9 harg9 v1078 = p29 arg2 arg7 arg8 arg9 v1078 := rfl
theorem part30_x (v1101 : FVec F S8x128 .f32) (v1116 : IVec S8x128 32) (v1118 : IVec S8x128 32) (c23_i32_579 : BitVec 32) : k0_part30 (F := F) i arg2 harg2 arg3 harg3 arg4 harg4 arg5 harg5 arg6 harg6 arg7 harg7 arg8 harg8 arg9 harg9 v1101 v1116 v1118 c23_i32_579 = p30 arg3 arg6 arg8 arg9 v1101 v1116 v1118 c23_i32_579 := rfl
theorem part30_d (v1101 : FVec F S8x128 .f32) (v1116 : IVec S8x128 32) (v1118 : IVec S8x128 32) (c23_i32_579 : BitVec 32) : k0_part64 (F := F) i arg2 harg2 arg3 harg3 arg4 harg4 arg5 harg5 arg6 harg6 arg7 harg7 arg8 harg8 arg9 harg9 v1101 v1116 v1118 c23_i32_579 = p30 arg2 arg7 arg8 arg9 v1101 v1116 v1118 c23_i32_579 := rfl
theorem part31_x (v1164 : IVec S8x128 32) : k0_part31 (F := F) i arg2 harg2 arg3 harg3 arg4 harg4 arg5 harg5 arg6 harg6 arg7 harg7 arg8 harg8 arg9 harg9 v1164 = p31 arg3 arg6 arg8 arg9 v1164 := rfl
theorem part31_d (v1164 : IVec S8x128 32) : k0_part65 (F := F) i arg2 harg2 arg3 harg3 arg4 harg4 arg5 harg5 arg6 harg6 arg7 harg7 arg8 harg8 arg9 harg9 v1164 = p31 arg2 arg7 arg8 arg9 v1164 := rfl
theorem part32_x (v1197 : FVec F S8x128 .f32) (v1198 : Vec F S8x128 .f32) : k0_part32 (F := F) i arg2 harg2 arg3 harg3 arg4 harg4 arg5 harg5 arg6 harg6 arg7 harg7 arg8 harg8 arg9 harg9 v1197 v1198 = p32 arg3 arg6 arg8 arg9 v1197 v1198 := rfl
theorem part32_d (v1197 : FVec F S8x128 .f32) (v1198 : Vec F S8x128 .f32) : k0_part66 (F := F) i arg2 harg2 arg3 harg3 arg4 harg4 arg5 harg5 arg6 harg6 arg7 harg7 arg8 harg8 arg9 harg9 v1197 v1198 = p32 arg2 arg7 arg8 arg9 v1197 v1198 := rfl
theorem part33_x (v1233 : FVec F S8x128 .f32) (v1234 : Vec F S8x128 .f32) : k0_part33 (F := F) i arg2 harg2 arg3 harg3 arg4 harg4 arg5 harg5 arg6 harg6 arg7 harg7 arg8 harg8 arg9 harg9 v1233 v1234 = p33 arg3 arg6 arg8 arg9 v1233 v1234 := rfl
theorem part33_d (v1233 : FVec F S8x128 .f32) (v1234 : Vec F S8x128 .f32) : k0_part67 (F := F) i arg2 harg2 arg3 harg3 arg4 harg4 arg5 harg5 arg6 harg6 arg7 harg7 arg8 harg8 arg9 harg9 v1233 v1234 = p33 arg2 arg7 arg8 arg9 v1233 v1234 := rfl
theorem part34_x (v1262 : FVec F S8x128 .f32) (v1270 : IVec S8x128 32) (v1272 : IVec S8x128 32) (c23_i32_664 : BitVec 32) : k0_part34 (F := F) i arg2 harg2 arg3 harg3 arg4 harg4 arg5 harg5 arg6 harg6 arg7 harg7 arg8 harg8 arg9 harg9 v1262 v1270 v1272 c23_i32_664 = p34 arg3 arg6 arg8 arg9 v1262 v1270 v1272 c23_i32_664 := rfl
theorem part34_d (v1262 : FVec F S8x128 .f32) (v1270 : IVec S8x128 32) (v1272 : IVec S8x128 32) (c23_i32_664 : BitVec 32) : k0_part68 (F := F) i arg2 harg2 arg3 harg3 arg4 harg4 arg5 harg5 arg6 harg6 arg7 harg7 arg8 harg8 arg9 harg9 v1262 v1270 v1272 c23_i32_664 = p34 arg2 arg7 arg8 arg9 v1262 v1270 v1272 c23_i32_664 := rfl

/-- The printed section on the first row of the grid. -/
def secX (k : Prog (TpuEff nD τ sig (Elt F) Λ₀ .tc) PUnit) : Prog (TpuEff nD τ sig (Elt F) Λ₀ .tc) PUnit := do
  let v43 : FVec F S8x128 .f32 ← k0_part1 i arg2 harg2 arg3 harg3 arg4 harg4 arg5 harg5 arg6 harg6 arg7 harg7 arg8 harg8 arg9 harg9
  let v79 : FVec F S8x128 .f32 ← k0_part2 i arg2 harg2 arg3 harg3 arg4 harg4 arg5 harg5 arg6 harg6 arg7 harg7 arg8 harg8 arg9 harg9 v43
  let ⟨v114, v115, c128_i32⟩ : Σ' (v114 : FVec F S8x128 .f32) (v115 : IVec S8x128 32), BitVec 32 ← k0_part3 i arg2 harg2 arg3 harg3 arg4 harg4 arg5 harg5 arg6 harg6 arg7 harg7 arg8 harg8 arg9 harg9 v79
  let ⟨v157, v159, v162⟩ : Σ' (v157 : IVec S8x128 32) (v159 : IVec S8x128 32), FVec F S8x128 .f32 ← k0_part4 i arg2 harg2 arg3 harg3 arg4 harg4 arg5 harg5 arg6 harg6 arg7 harg7 arg8 harg8 arg9 harg9 v114 v115 c128_i32
  let v198 : FVec F S8x128 .f32 ← k0_part5 i arg2 harg2 arg3 harg3 arg4 harg4 arg5 harg5 arg6 harg6 arg7 harg7 arg8 harg8 arg9 harg9 v114 v157 v159 v162
  let v234 : FVec F S8x128 .f32 ← k0_part6 i arg2 harg2 arg3 harg3 arg4 harg4 arg5 harg5 arg6 harg6 arg7 harg7 arg8 harg8 arg9 harg9 v198
  let v270 : FVec F S8x128 .f32 ← k0_part7 i arg2 harg2 arg3 harg3 arg4 harg4 arg5 harg5 arg6 harg6 arg7 harg7 arg8 harg8 arg9 harg9 v234
  let ⟨v275, v311, v313, v316⟩ : Σ' (v275 : FVec F S8x128 .f32) (v311 : IVec S8x128 32) (v313 : IVec S8x128 32), FVec F S8x128 .f32 ← k0_part8 i arg2 harg2 arg3 harg3 arg4 harg4 arg5 harg5 arg6 harg6 arg7 harg7 arg8 harg8 arg9 harg9 v270
  let ⟨v351, v352⟩ : Σ' (v351 : FVec F S8x128 .f32), Vec F S8x128 .f32 ← k0_part9 i arg2 harg2 arg3 harg3 arg4 harg4 arg5 harg5 arg6 harg6 arg7 harg7 arg8 harg8 arg9 harg9 v275 v311 v313 v316
  let ⟨v387, v388⟩ : Σ' (v387 : FVec F S8x128 .f32), Vec F S8x128 .f32 ← k0_part10 i arg2 harg2 arg3 harg3 arg4 harg4 arg5 harg5 arg6 harg6 arg7 harg7 arg8 harg8 arg9 harg9 v351 v352
  let ⟨v423, v424⟩ : Σ' (v423 : FVec F S8x128 .f32), Vec F S8x128 .f32 ← k0_part11 i arg2 harg2 arg3 harg3 arg4 harg4 arg5 harg5 arg6 harg6 arg7 harg7 arg8 harg8 arg9 harg9 v387 v388
  let ⟨v443, v465, c16_i32_222⟩ : Σ' (v443 : FVec F S8x128 .f32) (v465 : IVec S8x128 32), BitVec 32 ← k0_part12 i arg2 harg2 arg3 harg3 arg4 harg4 arg5 harg5 arg6 harg6 arg7 harg7 arg8 harg8 arg9 harg9 v423 v424
  let v508 : Vec F S8x128 .f32 ← k0_part13 i arg2 harg2 arg3 harg3 arg4 harg4 arg5 harg5 arg6 harg6 arg7 harg7 arg8 harg8 arg9 harg9 v443 v465 c16_i32_222
  let ⟨v542, v544⟩ : Σ' (v542 : FVec F S8x128 .f32), FVec F S8x128 .f32 ← k0_part14 i arg2 harg2 arg3 harg3 arg4 harg4 arg5 harg5 arg6 harg6 arg7 harg7 arg8 harg8 arg9 harg9 v508
  let ⟨v578, v580⟩ : Σ' (v578 : FVec F S8x128 .f32), FVec F S8x128 .f32 ← k0_part15 i arg2 harg2 arg3 harg3 arg4 harg4 arg5 harg5 arg6 harg6 arg7 harg7 arg8 harg8 arg9 harg9 v542 v544
  let ⟨v604, v619, c32_i32_307⟩ : Σ' (v604 : FVec F S8x128 .f32) (v619 : IVec S8x128 32), BitVec 32 ← k0_part16 i arg2 harg2 arg3 harg3 arg4 harg4 arg5 harg5 arg6 harg6 arg7 harg7 arg8 harg8 arg9 harg9 v578 v580
  let ⟨v663, v665, c0_i32_321⟩ : Σ' (v663 : IVec S8x128 1) (v665 : IVec S8x128 32), BitVec 32 ← k0_part17 i arg2 harg2 arg3 harg3 arg4 harg4 arg5 harg5 arg6 harg6 arg7 harg7 arg8 harg8 arg9 harg9 v604 v619 c32_i32_307
  let v698 : FVec F S8x128 .f32 ← k0_part18 i arg2 harg2 arg3 harg3 arg4 harg4 arg5 harg5 arg6 harg6 arg7 harg7 arg8 harg8 arg9 harg9 v663 v665 c0_i32_321
  let v734 : FVec F S8x128 .f32 ← k0_part19 i arg2 harg2 arg3 harg3 arg4 harg4 arg5 harg5 arg6 harg6 arg7 harg7 arg8 harg8 arg9 harg9 v698
  let v770 : FVec F S8x128 .f32 ← k0_part20 i arg2 harg2 arg3 harg3 arg4 harg4 arg5 harg5 arg6 harg6 arg7 harg7 arg8 harg8 arg9 harg9 v734
  let ⟨v772, v815, c2_i32_407⟩ : Σ' (v772 : FVec F S8x128 .f32) (v815 : IVec S8x128 32), BitVec 32 ← k0_part21 i arg2 harg2 arg3 harg3 arg4 harg4 arg5 harg5 arg6 harg6 arg7 harg7 arg8 harg8 arg9 harg9 v770
  let v853 : FVec F S8x128 .f32 ← k0_part22 i arg2 harg2 arg3 harg3 arg4 harg4 arg5 harg5 arg6 harg6 arg7 harg7 arg8 harg8 arg9 harg9 v772 v815 c2_i32_407
  let v889 : FVec F S8x128 .f32 ← k0_part23 i arg2 harg2 arg3 harg3 arg4 harg4 arg5 harg5 arg6 harg6 arg7 harg7 arg8 harg8 arg9 harg9 v853
  let v925 : FVec F S8x128 .f32 ← k0_part24 i arg2 harg2 arg3 harg3 arg4 harg4 arg5 harg5 arg6 harg6 arg7 harg7 arg8 harg8 arg9 harg9 v889
  let ⟨v933, v969, c4_i32_492⟩ : Σ' (v933 : FVec F S8x128 .f32) (v969 : IVec S8x128 32), BitVec 32 ← k0_part25 i arg2 harg2 arg3 harg3 arg4 harg4 arg5 harg5 arg6 harg6 arg7 harg7 arg8 harg8 arg9 harg9 v925
  let v1006 : FVec F S8x128 .f32 ← k0_part26 i arg2 harg2 arg3 harg3 arg4 harg4 arg5 harg5 arg6 harg6 arg7 harg7 arg8 harg8 arg9 harg9 v933 v969 c4_i32_492
  let v1042 : FVec F S8x128 .f32 ← k0_part27 i arg2 harg2 arg3 harg3 arg4 harg4 arg5 harg5 arg6 harg6 arg7 harg7 arg8 harg8 arg9 harg9 v1006
  let v1078 : FVec F S8x128 .f32 ← k0_part28 i arg2 harg2 arg3 harg3 arg4 harg4 arg5 harg5 arg6 harg6 arg7 harg7 arg8 harg8 arg9 harg9 v1042
  let ⟨v1101, v1116, v1118, c23_i32_579⟩ : Σ' (v1101 : FVec F S8x128 .f32) (v1116 : IVec S8x128 32) (v1118 : IVec S8x128 32), BitVec 32 ← k0_part29 i arg2 harg2 arg3 harg3 arg4 harg4 arg5 harg5 arg6 harg6 arg7 harg7 arg8 harg8 arg9 harg9 v1078
  let v1164 : IVec S8x128 32 ← k0_part30 i arg2 harg2 arg3 harg3 arg4 harg4 arg5 harg5 arg6 harg6 arg7 harg7 arg8 harg8 arg9 harg9 v1101 v1116 v1118 c23_i32_579
  let ⟨v1197, v1198⟩ : Σ' (v1197 : FVec F S8x128 .f32), Vec F S8x128 .f32 ← k0_part31 i arg2 harg2 arg3 harg3 arg4 harg4 arg5 harg5 arg6 harg6 arg7 harg7 arg8 harg8 arg9 harg9 v1164
  let ⟨v1233, v1234⟩ : Σ' (v1233 : FVec F S8x128 .f32), Vec F S8x128 .f32 ← k0_part32 i arg2 harg2 arg3 harg3 arg4 harg4 arg5 harg5 arg6 harg6 arg7 harg7 arg8 harg8 arg9 harg9 v1197 v1198
  let ⟨v1262, v1270, v1272, c23_i32_664⟩ : Σ' (v1262 : FVec F S8x128 .f32) (v1270 : IVec S8x128 32) (v1272 : IVec S8x128 32), BitVec 32 ← k0_part33 i arg2 harg2 arg3 harg3 arg4 harg4 arg5 harg5 arg6 harg6 arg7 harg7 arg8 harg8 arg9 harg9 v1233 v1234
  let ⟨v1319, c0_i32_677⟩ : Σ' (v1319 : IVec S8x128 32), BitVec 32 ← k0_part34 i arg2 harg2 arg3 harg3 arg4 harg4 arg5 harg5 arg6 harg6 arg7 harg7 arg8 harg8 arg9 harg9 v1262 v1270 v1272 c23_i32_664
  let v1326 : Vec F S8x128 .i32 ← Prog.lift (.load arg6 (Rect.unit (s := S8x1024) ![0, 896] S8x128.size inb_S8x1024_S8x128_0_896).toLoadRect (View.loadsAt_vmem h_S8x128))
  Prog.lift (.store arg6 (Rect.unit (s := S8x1024) ![0, 896] S8x128.size inb_S8x1024_S8x128_0_896) (k0_pay2 v1319 c0_i32_677) Finset.univ (View.stores_vmem_bits_univ h_S8x128 rfl) (.inl rfl))
  k

/-- The printed section on the first column of the grid, continued by `k`. -/
def secD (k : Prog (TpuEff nD τ sig (Elt F) Λ₀ .tc) PUnit) : Prog (TpuEff nD τ sig (Elt F) Λ₀ .tc) PUnit := do
  let v43 : FVec F S8x128 .f32 ← k0_part35 i arg2 harg2 arg3 harg3 arg4 harg4 arg5 harg5 arg6 harg6 arg7 harg7 arg8 harg8 arg9 harg9
  let v79 : FVec F S8x128 .f32 ← k0_part36 i arg2 harg2 arg3 harg3 arg4 harg4 arg5 harg5 arg6 harg6 arg7 harg7 arg8 harg8 arg9 harg9 v43
  let ⟨v114, v115, c128_i32⟩ : Σ' (v114 : FVec F S8x128 .f32) (v115 : IVec S8x128 32), BitVec 32 ← k0_part37 i arg2 harg2 arg3 harg3 arg4 harg4 arg5 harg5 arg6 harg6 arg7 harg7 arg8 harg8 arg9 harg9 v79
  let ⟨v157, v159, v162⟩ : Σ' (v157 : IVec S8x128 32) (v159 : IVec S8x128 32), FVec F S8x128 .f32 ← k0_part38 i arg2 harg2 arg3 harg3 arg4 harg4 arg5 harg5 arg6 harg6 arg7 harg7 arg8 harg8 arg9 harg9 v114 v115 c128_i32
  let v198 : FVec F S8x128 .f32 ← k0_part39 i arg2 harg2 arg3 harg3 arg4 harg4 arg5 harg5 arg6 harg6 arg7 harg7 arg8 harg8 arg9 harg9 v114 v157 v159 v162
  let v234 : FVec F S8x128 .f32 ← k0_part40 i arg2 harg2 arg3 harg3 arg4 harg4 arg5 harg5 arg6 harg6 arg7 harg7 arg8 harg8 arg9 harg9 v198
  let v270 : FVec F S8x128 .f32 ← k0_part41 i arg2 harg2 arg3 harg3 arg4 harg4 arg5 harg5 arg6 harg6 arg7 harg7 arg8 harg8 arg9 harg9 v234
  let ⟨v275, v311, v313, v316⟩ : Σ' (v275 : FVec F S8x128 .f32) (v311 : IVec S8x128 32) (v313 : IVec S8x128 32), FVec F S8x128 .f32 ← k0_part42 i arg2 harg2 arg3 harg3 arg4 harg4 arg5 harg5 arg6 harg6 arg7 harg7 arg8 harg8 arg9 harg9 v270
  let ⟨v351, v352⟩ : Σ' (v351 : FVec F S8x128 .f32), Vec F S8x128 .f32 ← k0_part43 i arg2 harg2 arg3 harg3 arg4 harg4 arg5 harg5 arg6 harg6 arg7 harg7 arg8 harg8 arg9 harg9 v275 v311 v313 v316
  let ⟨v387, v388⟩ : Σ' (v387 : FVec F S8x128 .f32), Vec F S8x128 .f32 ← k0_part44 i arg2 harg2 arg3 harg3 arg4 harg4 arg5 harg5 arg6 harg6 arg7 harg7 arg8 harg8 arg9 harg9 v351 v352
  let ⟨v423, v424⟩ : Σ' (v423 : FVec F S8x128 .f32), Vec F S8x128 .f32 ← k0_part45 i arg2 harg2 arg3 harg3 arg4 harg4 arg5 harg5 arg6 harg6 arg7 harg7 arg8 harg8 arg9 harg9 v387 v388
  let ⟨v443, v465, c16_i32_222⟩ : Σ' (v443 : FVec F S8x128 .f32) (v465 : IVec S8x128 32), BitVec 32 ← k0_part46 i arg2 harg2 arg3 harg3 arg4 harg4 arg5 harg5 arg6 harg6 arg7 harg7 arg8 harg8 arg9 harg9 v423 v424
  let v508 : Vec F S8x128 .f32 ← k0_part47 i arg2 harg2 arg3 harg3 arg4 harg4 arg5 harg5 arg6 harg6 arg7 harg7 arg8 harg8 arg9 harg9 v443 v465 c16_i32_222
  let ⟨v542, v544⟩ : Σ' (v542 : FVec F S8x128 .f32), FVec F S8x128 .f32 ← k0_part48 i arg2 harg2 arg3 harg3 arg4 harg4 arg5 harg5 arg6 harg6 arg7 harg7 arg8 harg8 arg9 harg9 v508
  let ⟨v578, v580⟩ : Σ' (v578 : FVec F S8x128 .f32), FVec F S8x128 .f32 ← k0_part49 i arg2 harg2 arg3 harg3 arg4 harg4 arg5 harg5 arg6 harg6 arg7 harg7 arg8 harg8 arg9 harg9 v542 v544
  let ⟨v604, v619, c32_i32_307⟩ : Σ' (v604 : FVec F S8x128 .f32) (v619 : IVec S8x128 32), BitVec 32 ← k0_part50 i arg2 harg2 arg3 harg3 arg4 harg4 arg5 harg5 arg6 harg6 arg7 harg7 arg8 harg8 arg9 harg9 v578 v580
  let ⟨v663, v665, c0_i32_321⟩ : Σ' (v663 : IVec S8x128 1) (v665 : IVec S8x128 32), BitVec 32 ← k0_part51 i arg2 harg2 arg3 harg3 arg4 harg4 arg5 harg5 arg6 harg6 arg7 harg7 arg8 harg8 arg9 harg9 v604 v619 c32_i32_307
  let v698 : FVec F S8x128 .f32 ← k0_part52 i arg2 harg2 arg3 harg3 arg4 harg4 arg5 harg5 arg6 harg6 arg7 harg7 arg8 harg8 arg9 harg9 v663 v665 c0_i32_321
  let v734 : FVec F S8x128 .f32 ← k0_part53 i arg2 harg2 arg3 harg3 arg4 harg4 arg5 harg5 arg6 harg6 arg7 harg7 arg8 harg8 arg9 harg9 v698
  let v770 : FVec F S8x128 .f32 ← k0_part54 i arg2 harg2 arg3 harg3 arg4 harg4 arg5 harg5 arg6 harg6 arg7 harg7 arg8 harg8 arg9 harg9 v734
  let ⟨v772, v815, c2_i32_407⟩ : Σ' (v772 : FVec F S8x128 .f32) (v815 : IVec S8x128 32), BitVec 32 ← k0_part55 i arg2 harg2 arg3 harg3 arg4 harg4 arg5 harg5 arg6 harg6 arg7 harg7 arg8 harg8 arg9 harg9 v770
  let v853 : FVec F S8x128 .f32 ← k0_part56 i arg2 harg2 arg3 harg3 arg4 harg4 arg5 harg5 arg6 harg6 arg7 harg7 arg8 harg8 arg9 harg9 v772 v815 c2_i32_407
  let v889 : FVec F S8x128 .f32 ← k0_part57 i arg2 harg2 arg3 harg3 arg4 harg4 arg5 harg5 arg6 harg6 arg7 harg7 arg8 harg8 arg9 harg9 v853
  let v925 : FVec F S8x128 .f32 ← k0_part58 i arg2 harg2 arg3 harg3 arg4 harg4 arg5 harg5 arg6 harg6 arg7 harg7 arg8 harg8 arg9 harg9 v889
  let ⟨v933, v969, c4_i32_492⟩ : Σ' (v933 : FVec F S8x128 .f32) (v969 : IVec S8x128 32), BitVec 32 ← k0_part59 i arg2 harg2 arg3 harg3 arg4 harg4 arg5 harg5 arg6 harg6 arg7 harg7 arg8 harg8 arg9 harg9 v925
  let v1006 : FVec F S8x128 .f32 ← k0_part60 i arg2 harg2 arg3 harg3 arg4 harg4 arg5 harg5 arg6 harg6 arg7 harg7 arg8 harg8 arg9 harg9 v933 v969 c4_i32_492
  let v1042 : FVec F S8x128 .f32 ← k0_part61 i arg2 harg2 arg3 harg3 arg4 harg4 arg5 harg5 arg6 harg6 arg7 harg7 arg8 harg8 arg9 harg9 v1006
  let v1078 : FVec F S8x128 .f32 ← k0_part62 i arg2 harg2 arg3 harg3 arg4 harg4 arg5 harg5 arg6 harg6 arg7 harg7 arg8 harg8 arg9 harg9 v1042
  let ⟨v1101, v1116, v1118, c23_i32_579⟩ : Σ' (v1101 : FVec F S8x128 .f32) (v1116 : IVec S8x128 32) (v1118 : IVec S8x128 32), BitVec 32 ← k0_part63 i arg2 harg2 arg3 harg3 arg4 harg4 arg5 harg5 arg6 harg6 arg7 harg7 arg8 harg8 arg9 harg9 v1078
  let v1164 : IVec S8x128 32 ← k0_part64 i arg2 harg2 arg3 harg3 arg4 harg4 arg5 harg5 arg6 harg6 arg7 harg7 arg8 harg8 arg9 harg9 v1101 v1116 v1118 c23_i32_579
  let ⟨v1197, v1198⟩ : Σ' (v1197 : FVec F S8x128 .f32), Vec F S8x128 .f32 ← k0_part65 i arg2 harg2 arg3 harg3 arg4 harg4 arg5 harg5 arg6 harg6 arg7 harg7 arg8 harg8 arg9 harg9 v1164
  let ⟨v1233, v1234⟩ : Σ' (v1233 : FVec F S8x128 .f32), Vec F S8x128 .f32 ← k0_part66 i arg2 harg2 arg3 harg3 arg4 harg4 arg5 harg5 arg6 harg6 arg7 harg7 arg8 harg8 arg9 harg9 v1197 v1198
  let ⟨v1262, v1270, v1272, c23_i32_664⟩ : Σ' (v1262 : FVec F S8x128 .f32) (v1270 : IVec S8x128 32) (v1272 : IVec S8x128 32), BitVec 32 ← k0_part67 i arg2 harg2 arg3 harg3 arg4 harg4 arg5 harg5 arg6 harg6 arg7 harg7 arg8 harg8 arg9 harg9 v1233 v1234
  let ⟨v1319, c0_i32_677⟩ : Σ' (v1319 : IVec S8x128 32), BitVec 32 ← k0_part68 i arg2 harg2 arg3 harg3 arg4 harg4 arg5 harg5 arg6 harg6 arg7 harg7 arg8 harg8 arg9 harg9 v1262 v1270 v1272 c23_i32_664
  let v1326 : Vec F S8x128 .i32 ← Prog.lift (.load arg7 (Rect.unit (s := S8x1024) ![0, 896] S8x128.size inb_S8x1024_S8x128_0_896).toLoadRect (View.loadsAt_vmem h_S8x128))
  Prog.lift (.store arg7 (Rect.unit (s := S8x1024) ![0, 896] S8x128.size inb_S8x1024_S8x128_0_896) (k0_pay3 v1319 c0_i32_677) Finset.univ (View.stores_vmem_bits_univ h_S8x128 rfl) (.inl rfl))
  k

set_option maxHeartbeats 0 in
set_option maxRecDepth 100000 in
/-- The printed section, continued, is the four tiles in order. -/
theorem secX_eq (k : Prog (TpuEff nD τ sig (Elt F) Λ₀ .tc) PUnit) : secX (F := F) i arg2 harg2 arg3 harg3 arg4 harg4 arg5 harg5 arg6 harg6 arg7 harg7 arg8 harg8 arg9 harg9 k = (section4 arg3 arg6 arg8 arg9 >>= fun _ => k) := by
  unfold secX
  simp only [part1_x, part2_x, part3_x, part4_x, part5_x, part6_x, part7_x, part8_x, part9_x, part10_x, part11_x, part12_x, part13_x, part14_x, part15_x, part16_x, part17_x, part18_x, part19_x, part20_x, part21_x, part22_x, part23_x, part24_x, part25_x, part26_x, part27_x, part28_x, part29_x, part30_x, part31_x, part32_x, part33_x, part34_x]
  simp (maxSteps := 100000000) only [p1, p2, p3, p4, p5, p6, p7, p8, p9, p10, p11, p12, p13, p14, p15, p16, p17, p18, p19, p20, p21, p22, p23, p24, p25, p26, p27, p28, p29, p30, p31, p32, p33, p34, section4, tile, half, more, bind_assoc, pure_bind, estep_fold, expo, eall]
  rfl

set_option maxHeartbeats 0 in
set_option maxRecDepth 100000 in
/-- The same for the other section. -/
theorem secD_eq (k : Prog (TpuEff nD τ sig (Elt F) Λ₀ .tc) PUnit) : secD (F := F) i arg2 harg2 arg3 harg3 arg4 harg4 arg5 harg5 arg6 harg6 arg7 harg7 arg8 harg8 arg9 harg9 k = (section4 arg2 arg7 arg8 arg9 >>= fun _ => k) := by
  unfold secD
  simp only [part1_d, part2_d, part3_d, part4_d, part5_d, part6_d, part7_d, part8_d, part9_d, part10_d, part11_d, part12_d, part13_d, part14_d, part15_d, part16_d, part17_d, part18_d, part19_d, part20_d, part21_d, part22_d, part23_d, part24_d, part25_d, part26_d, part27_d, part28_d, part29_d, part30_d, part31_d, part32_d, part33_d, part34_d]
  simp (maxSteps := 100000000) only [p1, p2, p3, p4, p5, p6, p7, p8, p9, p10, p11, p12, p13, p14, p15, p16, p17, p18, p19, p20, p21, p22, p23, p24, p25, p26, p27, p28, p29, p30, p31, p32, p33, p34, section4, tile, half, more, bind_assoc, pure_bind, estep_fold, expo, eall]
  rfl

end
end Cert.ScalesIdeal.Hand
end
-- ==== Proof.ScIdeal.Body.lean ====
/-
  THE TOKEN-SCALE KERNEL'S BODY, RUN ONCE. A tile is run at arbitrary contents: the rotation into scratch, then for each
  half the largest magnitude of its 32 groups and the exponent written. A section is four tiles, and leaves its whole
  block of exponents whatever the block held before. The body is the signed rotation matrix on the first point, a
  section of `x` on the first row of the grid, and a section of `dy` on the first column.
-/
module

public import proofs.«01_k».proof.Proof.ViewFacts
public import proofs.«01_k».proof.Proof.ScIdeal.Parts

@[expose] public section

noncomputable section

namespace Cert.ScalesIdeal.Hand

open Cert.ScalesIdeal Cert.ScalesIdeal.Gen Cert.ViewFacts
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The rectangle of the rotated tile within scratch. -/
abbrev rRot : Rect S256x1024 := Rect.unit ![0, 0] S256x256.size inb_S256x1024_S256x256_0_0

/-- The largest magnitude over `n` further groups from group `t`, begun at `m`, of contents `Y`. -/
def mx (Y : S256x1024.Idx → Elt F .f32) (h : ℕ) (hh : h < 2) : (n t : ℕ) → t + n ≤ 32 → FVec F S8x128 .f32 → FVec F S8x128 .f32
  | 0, _, _, m => m
  | n + 1, t, ht, m => mx Y h hh n (t + 1) (by omega) (maximumf m (absf (View.ld Y (rRow t (by omega) h hh))))

/-- The largest magnitude over the 32 groups of half `h`. -/
def amx (Y : S256x1024.Idx → Elt F .f32) (h : ℕ) (hh : h < 2) : FVec F S8x128 .f32 :=
  mx Y h hh 31 1 (by omega) (absf (View.ld Y (rRow 0 (by omega) h hh)))

/-- Scratch with one tile rotated into it. -/
def rotd (X8 : S256x256.Idx → Elt F .bf16) (XA : S256x1024.Idx → Elt F .bf16) (c : ℕ) (hc : c < 4) (X9 : S256x1024.Idx → Elt F .f32) :
    S256x1024.Idx → Elt F .f32 := rRot.overlay X9 (k0_pay4 X8 (View.ld XA (rCol c hc)))

/-- The block of exponents after one tile. -/
def outT (X8 : S256x256.Idx → Elt F .bf16) (XA : S256x1024.Idx → Elt F .bf16) (c : ℕ) (hc : c < 4) (X9 : S256x1024.Idx → Elt F .f32)
    (XO : S8x1024.Idx → BitVec 32) : S8x1024.Idx → BitVec 32 :=
  (rOut (2 * c + 1) (by omega)).overlay ((rOut (2 * c) (by omega)).overlay XO (expo (amx (rotd X8 XA c hc X9) 0 (by omega))))
    (expo (amx (rotd X8 XA c hc X9) 1 (by omega)))

section run
variable (c : Dev nD) (MA : Memref sig .tc .vmem S256x1024 .bf16) (MO : Memref sig .tc .vmem S8x1024 .i32)
  (M8 : Memref sig .tc .vmem S256x256 .bf16) (M9 : Memref sig .tc .vmem S256x1024 .f32)

/-- A memref held whole at contents that read `X`. -/
abbrev ow {sp : Space} {s : Shape} {e : EltTy} (M : Memref sig .tc sp s e) (X : s.Idx → Elt F e) : sProp 𝕄 :=
  owns (c : Thread nD τ) M fullShare X

/-- A program run on core `c`. -/
abbrev runs {α : Type} (p : Prog (TpuEff nD τ sig (Elt F) Λ₀ .tc) α) (Q : α → sProp 𝕄) : sProp 𝕄 :=
  wp frame (wpE (defs₀ (F := F)) Variants.none (c : Thread nD τ) none) Set.univ p Q

theorem ldr_run (Y : S256x1024.Idx → Elt F .f32) (t : ℕ) (ht : t < 32) (h : ℕ) (hh : h < 2) :
    ow c M9 Y ⊢ runs c (ldr M9 t ht h hh) (fun v => iprop(⌜v = View.ld Y (rRow t ht h hh)⌝ ∗ ow c M9 Y)) := by
  unfold runs ldr ow owns
  iintro ⟨%f, %e, H⟩
  sl_exec
  sl_step
  isplitr
  · ipureintro; rw [View.readAt_eq_ld, e]
  iexists _; isplitr; swap; · iexact H
  ipureintro; exact e

theorem sto_run (XO : S8x1024.Idx → BitVec 32) (j : ℕ) (hj : j < 8) (v : IVec S8x128 32) :
    ow (F := F) (e := .i32) c MO XO ⊢ runs c (sto MO j hj v) (fun _ => ow (F := F) (e := .i32) c MO ((rOut j hj).overlay XO v)) := by
  unfold runs sto ow owns
  iintro ⟨%f, %e, H⟩
  sl_exec
  sl_step
  iexists _; isplitr; swap; · iexact H
  ipureintro
  rw [read_writes_cons, View.writes_nil, e]

theorem rot_run (X8 : S256x256.Idx → Elt F .bf16) (XA : S256x1024.Idx → Elt F .bf16) (X9 : S256x1024.Idx → Elt F .f32) (k : ℕ) (hk : k < 4) :
    iprop(ow c M8 X8 ∗ ow c MA XA ∗ ow c M9 X9) ⊢ runs c (rot MA M8 M9 k hk)
      (fun _ => iprop(ow c M8 X8 ∗ ow c MA XA ∗ ow c M9 (rotd X8 XA k hk X9))) := by
  unfold runs rot ow owns
  iintro ⟨⟨%f8, %e8, H8⟩, ⟨%fA, %eA, HA⟩, ⟨%f9, %e9, H9⟩⟩
  sl_exec
  sl_step
  isplitl [H8]
  · iexists _; isplitr; swap; · iexact H8
    ipureintro; exact e8
  isplitl [HA]
  · iexists _; isplitr; swap; · iexact HA
    ipureintro; exact eA
  iexists _; isplitr; swap; · iexact H9
  ipureintro
  rw [read_writes_cons, View.writes_nil, e9, View.readAt_eq_ld, View.readAt_eq_ld, eA, e8, ld_whole z2]
  rfl

theorem more_run (Y : S256x1024.Idx → Elt F .f32) (h : ℕ) (hh : h < 2) : ∀ (n t : ℕ) (ht : t + n ≤ 32) (m : FVec F S8x128 .f32),
    ow c M9 Y ⊢ runs c (more M9 h hh n t ht m) (fun v => iprop(⌜v = mx Y h hh n t ht m⌝ ∗ ow c M9 Y))
  | 0, t, ht, m => by
    unfold more mx runs
    iintro H
    sl_step
    isplitr
    · ipureintro; rfl
    iexact H
  | n + 1, t, ht, m => by
    unfold more mx
    simp only [runs, wp_bind]
    iintro H
    iapply wp_wand_r
    isplitl [H]
    · iapply (ldr_run c M9 Y t _ h hh); iexact H
    iintro %v ⟨%e, H⟩
    subst e
    iapply (more_run Y h hh n (t + 1) _ _); iexact H

theorem half_run (Y : S256x1024.Idx → Elt F .f32) (XO : S8x1024.Idx → BitVec 32) (h : ℕ) (hh : h < 2) (j : ℕ) (hj : j < 8) :
    iprop(ow c M9 Y ∗ ow (F := F) (e := .i32) c MO XO) ⊢ runs c (half MO M9 h hh j hj)
      (fun _ => iprop(ow c M9 Y ∗ ow (F := F) (e := .i32) c MO ((rOut j hj).overlay XO (expo (amx Y h hh))))) := by
  unfold half amx
  simp only [runs, wp_bind]
  iintro ⟨H, HO⟩
  iapply wp_wand_r
  isplitl [H]
  · iapply (ldr_run c M9 Y 0 _ h hh); iexact H
  iintro %v ⟨%e, H⟩
  subst e
  iapply wp_wand_r
  isplitl [H]
  · iapply (more_run c M9 Y h hh 31 1 _ _); iexact H
  iintro %v ⟨%e, H⟩
  subst e
  iapply wp_wand_r
  isplitl [HO]
  · iapply (sto_run c MO XO j hj _); iexact HO
  iintro %_ HO
  isplitl [H]; · iexact H
  iexact HO

theorem tile_run (X8 : S256x256.Idx → Elt F .bf16) (XA : S256x1024.Idx → Elt F .bf16) (X9 : S256x1024.Idx → Elt F .f32)
    (XO : S8x1024.Idx → BitVec 32) (k : ℕ) (hk : k < 4) :
    iprop(ow c M8 X8 ∗ ow c MA XA ∗ ow c M9 X9 ∗ ow (F := F) (e := .i32) c MO XO) ⊢ runs c (tile MA MO M8 M9 k hk)
      (fun _ => iprop(ow c M8 X8 ∗ ow c MA XA ∗ ow c M9 (rotd X8 XA k hk X9) ∗ ow (F := F) (e := .i32) c MO (outT X8 XA k hk X9 XO))) := by
  unfold tile outT
  simp only [runs, wp_bind]
  iintro ⟨H8, HA, H9, HO⟩
  iapply wp_wand_r
  isplitl [H8 HA H9]
  · iapply (rot_run c MA M8 M9 X8 XA X9 k hk)
    isplitl [H8]; · iexact H8
    isplitl [HA]; · iexact HA
    iexact H9
  iintro %_ ⟨H8, HA, H9⟩
  iapply wp_wand_r
  isplitl [H9 HO]
  · iapply (half_run c MO M9 _ XO 0 _ (2 * k) _)
    isplitl [H9]; · iexact H9
    iexact HO
  iintro %_ ⟨H9, HO⟩
  iapply wp_wand_r
  isplitl [H9 HO]
  · iapply (half_run c MO M9 _ _ 1 _ (2 * k + 1) _)
    isplitl [H9]; · iexact H9
    iexact HO
  iintro %_ ⟨H9, HO⟩
  isplitl [H8]; · iexact H8
  isplitl [HA]; · iexact HA
  isplitl [H9]; · iexact H9
  iexact HO

end run

/-! ## The block a section leaves -/

/-- Eight rows of a rotated tile: group `t` of half `h`. -/
abbrev inbT (t : ℕ) (ht : t < 32) (h : ℕ) (hh : h < 2) :
    ∀ a, (![8 * t, 128 * h] : Fin 2 → Nat) a + S8x128.size a ≤ S256x256.size a := by
  intro a; fin_cases a
  · show 8 * t + 8 ≤ 256; omega
  · show 128 * h + 128 ≤ 256; omega

/-- The largest magnitude over groups of a rotated tile `T`. -/
def mxT (T : S256x256.Idx → Elt F .f32) (h : ℕ) (hh : h < 2) : (n t : ℕ) → t + n ≤ 32 → FVec F S8x128 .f32 → FVec F S8x128 .f32
  | 0, _, _, m => m
  | n + 1, t, ht, m => mxT T h hh n (t + 1) (by omega)
      (maximumf m (absf (View.ld T (Rect.unit ![8 * t, 128 * h] S8x128.size (inbT t (by omega) h hh) : Rect S256x256))))

/-- The largest magnitude over the 32 groups of half `h` of a rotated tile. -/
def amxT (T : S256x256.Idx → Elt F .f32) (h : ℕ) (hh : h < 2) : FVec F S8x128 .f32 :=
  mxT T h hh 31 1 (by omega) (absf (View.ld T (Rect.unit ![8 * 0, 128 * h] S8x128.size (inbT 0 (by omega) h hh) : Rect S256x256)))

theorem amxT_congr (T : S256x256.Idx → Elt F .f32) {h h' : ℕ} (e : h = h') (hh : h < 2) (hh' : h' < 2) : amxT T h hh = amxT T h' hh' := by
  subst e; rfl

/-- A group read from scratch is the group of the tile rotated into it. -/
theorem ld_rotd (X8 : S256x256.Idx → Elt F .bf16) (XA : S256x1024.Idx → Elt F .bf16) (k : ℕ) (hk : k < 4) (X9 : S256x1024.Idx → Elt F .f32)
    (t : ℕ) (ht : t < 32) (h : ℕ) (hh : h < 2) : View.ld (rotd X8 XA k hk X9) (rRow t ht h hh)
      = View.ld (k0_pay4 X8 (View.ld XA (rCol k hk)) : S256x256.Idx → Elt F .f32) (Rect.unit ![8 * t, 128 * h] S8x128.size (inbT t ht h hh) : Rect S256x256) := by
  funext r
  have h0 : (r 0).val < 8 := (r 0).isLt
  have h1 : (r 1).val < 128 := (r 1).isLt
  rw [ld_at (s := S256x1024) ![8 * t, 128 * h] S8x128.size (inbRow t ht h hh) _ r (ValueIdx.ix2 (n0 := 256) (n1 := 1024) ⟨8 * t + (r 0).val, by show _ < 256; omega⟩ ⟨128 * h + (r 1).val, by show _ < 1024; omega⟩)
      (by intro a; fin_cases a <;> rfl),
    ld_at (s := S256x256) ![8 * t, 128 * h] S8x128.size (inbT t ht h hh) _ r (ValueIdx.ix2 (n0 := 256) (n1 := 256) ⟨8 * t + (r 0).val, by show _ < 256; omega⟩ ⟨128 * h + (r 1).val, by show _ < 256; omega⟩)
      (by intro a; fin_cases a <;> rfl)]
  unfold rotd
  exact ov_in (s := S256x1024) ![0, 0] S256x256.size inb_S256x1024_S256x256_0_0 _ _ _
    (ValueIdx.ix2 (n0 := 256) (n1 := 256) ⟨8 * t + (r 0).val, by show _ < 256; omega⟩ ⟨128 * h + (r 1).val, by show _ < 256; omega⟩)
    (by intro a; fin_cases a
        · show _ = 0 + _; rw [Nat.zero_add]
        · show _ = 0 + _; rw [Nat.zero_add])

theorem mx_rotd (X8 : S256x256.Idx → Elt F .bf16) (XA : S256x1024.Idx → Elt F .bf16) (k : ℕ) (hk : k < 4) (X9 : S256x1024.Idx → Elt F .f32)
    (h : ℕ) (hh : h < 2) : ∀ (n t : ℕ) (ht : t + n ≤ 32) (m : FVec F S8x128 .f32),
    mx (rotd X8 XA k hk X9) h hh n t ht m = mxT (k0_pay4 X8 (View.ld XA (rCol k hk))) h hh n t ht m
  | 0, _, _, _ => rfl
  | n + 1, t, ht, m => by rw [mx, mxT, ld_rotd, mx_rotd]

theorem amx_rotd (X8 : S256x256.Idx → Elt F .bf16) (XA : S256x1024.Idx → Elt F .bf16) (k : ℕ) (hk : k < 4) (X9 : S256x1024.Idx → Elt F .f32)
    (h : ℕ) (hh : h < 2) : amx (rotd X8 XA k hk X9) h hh = amxT (k0_pay4 X8 (View.ld XA (rCol k hk))) h hh := by
  unfold amx amxT; rw [mx_rotd, ld_rotd]

/-- The block of exponents of a block `XA`: at column `q`, the exponent of half `q / 128` of the tile `q / 256`. -/
def outBlk (X8 : S256x256.Idx → Elt F .bf16) (XA : S256x1024.Idx → Elt F .bf16) : S8x1024.Idx → BitVec 32 := fun y =>
  expo (amxT (k0_pay4 X8 (View.ld XA (rCol ((y 1).val / 256) (by have h : (y 1).val < 1024 := (y 1).isLt; omega)))) ((y 1).val / 128 % 2) (by omega))
    (ValueIdx.ix2 (n0 := 8) (n1 := 128) (y 0) ⟨(y 1).val % 128, Nat.mod_lt _ (by decide)⟩)

/-- After a tile the columns of that tile hold its exponents and the others are as they were. -/
theorem outT_at (X8 : S256x256.Idx → Elt F .bf16) (XA : S256x1024.Idx → Elt F .bf16) (k : ℕ) (hk : k < 4) (X9 : S256x1024.Idx → Elt F .f32)
    (XO : S8x1024.Idx → BitVec 32) (y : S8x1024.Idx) :
    outT X8 XA k hk X9 XO y = if (y 1).val / 256 = k then outBlk X8 XA y else XO y := by
  have hy : (y 1).val < 1024 := (y 1).isLt
  unfold outT
  rw [amx_rotd, amx_rotd]
  by_cases e : (y 1).val / 256 = k
  · rw [if_pos e]
    subst e
    unfold outBlk
    by_cases e1 : (y 1).val / 128 % 2 = 1
    · rw [ov_in (s := S8x1024) ![0, 128 * (2 * ((y 1).val / 256) + 1)] S8x128.size _ _ _ y (ValueIdx.ix2 (n0 := 8) (n1 := 128) (y 0) ⟨(y 1).val % 128, Nat.mod_lt _ (by decide)⟩)
        (by intro a; fin_cases a
            · show _ = 0 + _; rw [Nat.zero_add]; rfl
            · show (y 1).val = 128 * (2 * ((y 1).val / 256) + 1) + (y 1).val % 128; omega)]
      exact congrFun (congrArg expo (amxT_congr _ e1.symm _ _)) _
    · have e0 : (y 1).val / 128 % 2 = 0 := by omega
      rw [ov_out (s := S8x1024) ![0, 128 * (2 * ((y 1).val / 256) + 1)] S8x128.size _ _ _ y 1
          (.inl (by show (y 1).val < 128 * (2 * ((y 1).val / 256) + 1); omega)),
        ov_in (s := S8x1024) ![0, 128 * (2 * ((y 1).val / 256))] S8x128.size _ _ _ y (ValueIdx.ix2 (n0 := 8) (n1 := 128) (y 0) ⟨(y 1).val % 128, Nat.mod_lt _ (by decide)⟩)
        (by intro a; fin_cases a
            · show _ = 0 + _; rw [Nat.zero_add]; rfl
            · show (y 1).val = 128 * (2 * ((y 1).val / 256)) + (y 1).val % 128; omega)]
      exact congrFun (congrArg expo (amxT_congr _ e0.symm _ _)) _
  · rw [if_neg e]
    rw [ov_out (s := S8x1024) ![0, 128 * (2 * k + 1)] S8x128.size _ _ _ y 1
          (by show (y 1).val < 128 * (2 * k + 1) ∨ 128 * (2 * k + 1) + 128 ≤ (y 1).val; omega),
      ov_out (s := S8x1024) ![0, 128 * (2 * k)] S8x128.size _ _ _ y 1
          (by show (y 1).val < 128 * (2 * k) ∨ 128 * (2 * k) + 128 ≤ (y 1).val; omega)]

/-- Four tiles leave the whole block of exponents, whatever the block and the scratch held. -/
theorem outT_all (X8 : S256x256.Idx → Elt F .bf16) (XA : S256x1024.Idx → Elt F .bf16) (Y0 Y1 Y2 Y3 : S256x1024.Idx → Elt F .f32)
    (XO : S8x1024.Idx → BitVec 32) :
    outT X8 XA 3 (by omega) Y3 (outT X8 XA 2 (by omega) Y2 (outT X8 XA 1 (by omega) Y1 (outT X8 XA 0 (by omega) Y0 XO))) = outBlk X8 XA := by
  funext y
  have hy : (y 1).val < 1024 := (y 1).isLt
  simp only [outT_at]
  split_ifs <;> first | rfl | omega

section run
variable (c : Dev nD) (MA : Memref sig .tc .vmem S256x1024 .bf16) (MO : Memref sig .tc .vmem S8x1024 .i32)
  (M8 : Memref sig .tc .vmem S256x256 .bf16) (M9 : Memref sig .tc .vmem S256x1024 .f32)

/-- A section leaves its block of exponents. -/
theorem section_run (X8 : S256x256.Idx → Elt F .bf16) (XA : S256x1024.Idx → Elt F .bf16) (XO : S8x1024.Idx → BitVec 32) :
    iprop(ow c M8 X8 ∗ ow c MA XA ∗ (∃ d, ow c M9 d) ∗ ow (F := F) (e := .i32) c MO XO) ⊢ runs c (section4 MA MO M8 M9)
      (fun _ => iprop(ow c M8 X8 ∗ ow c MA XA ∗ (∃ d, ow c M9 d) ∗ ow (F := F) (e := .i32) c MO (outBlk X8 XA))) := by
  unfold section4
  simp only [runs, wp_bind]
  iintro ⟨H8, HA, ⟨%X9, H9⟩, HO⟩
  iapply wp_wand_r
  isplitl [H8 HA H9 HO]
  · iapply (tile_run c MA MO M8 M9 X8 XA _ _ 0 _)
    isplitl [H8]; · iexact H8
    isplitl [HA]; · iexact HA
    isplitl [H9]; · iexact H9
    iexact HO
  iintro %_ ⟨H8, HA, H9, HO⟩
  iapply wp_wand_r
  isplitl [H8 HA H9 HO]
  · iapply (tile_run c MA MO M8 M9 X8 XA _ _ 1 _)
    isplitl [H8]; · iexact H8
    isplitl [HA]; · iexact HA
    isplitl [H9]; · iexact H9
    iexact HO
  iintro %_ ⟨H8, HA, H9, HO⟩
  iapply wp_wand_r
  isplitl [H8 HA H9 HO]
  · iapply (tile_run c MA MO M8 M9 X8 XA _ _ 2 _)
    isplitl [H8]; · iexact H8
    isplitl [HA]; · iexact HA
    isplitl [H9]; · iexact H9
    iexact HO
  iintro %_ ⟨H8, HA, H9, HO⟩
  iapply wp_wand_r
  isplitl [H8 HA H9 HO]
  · iapply (tile_run c MA MO M8 M9 X8 XA _ _ 3 _)
    isplitl [H8]; · iexact H8
    isplitl [HA]; · iexact HA
    isplitl [H9]; · iexact H9
    iexact HO
  iintro %_ ⟨H8, HA, H9, HO⟩
  rw [outT_all]
  isplitl [H8]; · iexact H8
  isplitl [HA]; · iexact HA
  isplitl [H9]; · iexists _; iexact H9
  iexact HO

end run

/-! ## The body -/

/-- The first condition: both coordinates are zero. -/
def cond1 (i : grid0.Coords) : BitVec 1 :=
  Scalar.cmpi .ne (Scalar.extui (Scalar.andi (Scalar.cmpi .eq (BitVec.ofNat 32 (i 0).val) 0#32) (Scalar.cmpi .eq (BitVec.ofNat 32 (i 1).val) 0#32)) : BitVec 32) 0#32

section body
variable (c : Dev nD) (i : grid0.Coords)
  (M2 : Memref sig .tc .vmem S256x1024 .bf16) (h2 : M2.IsWhole) (M3 : Memref sig .tc .vmem S256x1024 .bf16) (h3 : M3.IsWhole)
  (M4 : Memref sig .tc .vmem S1x256 .f32) (h4 : M4.IsWhole) (M5 : Memref sig .tc .vmem S256x256 .bf16) (h5 : M5.IsWhole)
  (M6 : Memref sig .tc .vmem S8x1024 .i32) (h6 : M6.IsWhole) (M7 : Memref sig .tc .vmem S8x1024 .i32) (h7 : M7.IsWhole)
  (M8 : Memref sig .tc .vmem S256x256 .bf16) (h8 : M8.IsWhole) (M9 : Memref sig .tc .vmem S256x1024 .f32) (h9 : M9.IsWhole)

/-- The first piece: on the first point, the rotation matrix with the signs in it. -/
def segA : Prog (TpuEff nD τ sig (Elt F) Λ₀ .tc) PUnit :=
  if k0_h1 : cond1 i = 1#1 then do
    let v11 : Vec F S256x256 .bf16 ← Prog.lift (.load M5 (Rect.unit (s := S256x256) ![0, 0] S256x256.size inb_S256x256_S256x256_0_0).toLoadRect (View.loadsAt_vmem h_S256x256))
    let v14 : Vec F S1x256 .f32 ← Prog.lift (.load M4 (Rect.unit (s := S1x256) ![0, 0] S1x256.size inb_S1x256_S1x256_0_0).toLoadRect (View.loadsAt_vmem h_S1x256))
    let v19 : Vec F S256x256 .bf16 ← Prog.lift (.load M8 (Rect.unit (s := S256x256) ![0, 0] S256x256.size inb_S256x256_S256x256_0_0).toLoadRect (View.loadsAt_vmem h_S256x256))
    Prog.lift (.store M8 (Rect.unit (s := S256x256) ![0, 0] S256x256.size inb_S256x256_S256x256_0_0) (k0_pay1 v11 v14) Finset.univ (View.stores_vmem h_S256x256 (h8.storeExact_slice rfl _ packedbf16_S256x256_S256x256_0_0) (fun _ => rfl)) (.inl rfl))
    pure ⟨⟩
  else pure ⟨⟩

/-- The second piece: on the first row of the grid, the section of `x`. -/
def segX : Prog (TpuEff nD τ sig (Elt F) Λ₀ .tc) PUnit :=
  if k0_cond2 i = 1#1 then section4 M3 M6 M8 M9 else pure ⟨⟩

/-- The third piece: on the first column of the grid, the section of `dy`. -/
def segD : Prog (TpuEff nD τ sig (Elt F) Λ₀ .tc) PUnit :=
  if k0_cond3 i = 1#1 then section4 M2 M7 M8 M9 else pure ⟨⟩

/-- A program followed by nothing. -/
theorem bind_pure_unit (p : Prog (TpuEff nD τ sig (Elt F) Λ₀ .tc) PUnit) : (p >>= fun _ => pure ⟨⟩) = p := bind_pure p

set_option maxHeartbeats 0 in
set_option maxRecDepth 100000 in
/-- The body is its three pieces in order. -/
theorem body_eq : cc0_mxfp4_bwd i M2 h2 M3 h3 M4 h4 M5 h5 M6 h6 M7 h7 M8 h8 M9 h9
    = (segA (F := F) i M4 M5 M8 h8 >>= fun _ => segX (F := F) i M3 M6 M8 M9 >>= fun _ => segD (F := F) i M2 M7 M8 M9) := by
  rw [cc0_mxfp4_bwd_eq_skeleton]
  unfold segX segD
  unfold cc0_mxfp4_bwd_skel segA
  have eX := secX_eq (F := F) i M2 h2 M3 h3 M4 h4 M5 h5 M6 h6 M7 h7 M8 h8 M9 h9
  have eD := secD_eq (F := F) i M2 h2 M3 h3 M4 h4 M5 h5 M6 h6 M7 h7 M8 h8 M9 h9 (pure ⟨⟩)
  rw [bind_pure_unit] at eD
  by_cases q1 : cond1 i = 1#1 <;> by_cases q2 : k0_cond2 i = 1#1 <;> by_cases q3 : k0_cond3 i = 1#1 <;>
    unfold cond1 at q1 <;>
    simp only [cond1, q1, q2, q3, dite_true, dite_false, if_true, if_false, ↓reduceDIte, ↓reduceIte, bind_assoc, pure_bind, ← eX, ← eD] <;>
    rfl

theorem segA_run (X4 : S1x256.Idx → Elt F .f32) (X5 X8 : S256x256.Idx → Elt F .bf16) :
    iprop(ow c M4 X4 ∗ ow c M5 X5 ∗ ow c M8 X8) ⊢ runs c (segA (F := F) i M4 M5 M8 h8)
      (fun _ => iprop(ow c M4 X4 ∗ ow c M5 X5 ∗ ow c M8 (if cond1 i = 1#1 then k0_pay1 X5 X4 else X8))) := by
  by_cases h : cond1 i = 1#1
  · simp only [segA, dif_pos h, if_pos h]
    unfold runs ow owns
    iintro ⟨⟨%f4, %e4, H4⟩, ⟨%f5, %e5, H5⟩, ⟨%f8, %e8, H8⟩⟩
    sl_exec
    sl_step
    isplitl [H4]
    · iexists _; isplitr; swap; · iexact H4
      ipureintro; exact e4
    isplitl [H5]
    · iexists _; isplitr; swap; · iexact H5
      ipureintro; exact e5
    iexists _; isplitr; swap; · iexact H8
    ipureintro
    rw [read_writes_whole _ _ z2, View.readAt_eq_ld, View.readAt_eq_ld, e4, e5, ld_whole z2, ld_whole z2]
  · simp only [segA, dif_neg h, if_neg h, runs]
    iintro H
    sl_step
    iexact H

/-- A section under a condition. -/
theorem cond_section (b : Prop) [Decidable b] (MA : Memref sig .tc .vmem S256x1024 .bf16) (MO : Memref sig .tc .vmem S8x1024 .i32)
    (X8 : S256x256.Idx → Elt F .bf16) (XA : S256x1024.Idx → Elt F .bf16) (XO : S8x1024.Idx → BitVec 32) :
    iprop(ow c M8 X8 ∗ ow c MA XA ∗ (∃ d, ow c M9 d) ∗ ow (F := F) (e := .i32) c MO XO)
    ⊢ runs c (if b then section4 MA MO M8 M9 else pure ⟨⟩)
      (fun _ => iprop(ow c M8 X8 ∗ ow c MA XA ∗ (∃ d, ow c M9 d) ∗ ow (F := F) (e := .i32) c MO (if b then outBlk X8 XA else XO))) := by
  by_cases h : b
  · rw [if_pos h, if_pos h]; exact section_run c MA MO M8 M9 X8 XA XO
  · rw [if_neg h, if_neg h]
    unfold runs
    iintro H
    sl_step
    iexact H

/-- The whole body at arbitrary contents. -/
theorem body_run (X2 X3 : S256x1024.Idx → Elt F .bf16) (X4 : S1x256.Idx → Elt F .f32) (X5 X8 : S256x256.Idx → Elt F .bf16)
    (X6 X7 : S8x1024.Idx → BitVec 32) :
    iprop(ow c M2 X2 ∗ ow c M3 X3 ∗ ow c M4 X4 ∗ ow c M5 X5 ∗ ow (F := F) (e := .i32) c M6 X6 ∗ ow (F := F) (e := .i32) c M7 X7
      ∗ ow c M8 X8 ∗ (∃ d, ow c M9 d))
    ⊢ runs c (cc0_mxfp4_bwd i M2 h2 M3 h3 M4 h4 M5 h5 M6 h6 M7 h7 M8 h8 M9 h9)
        (fun _ => iprop(ow c M2 X2 ∗ ow c M3 X3 ∗ ow c M4 X4 ∗ ow c M5 X5
          ∗ ow (F := F) (e := .i32) c M6 (if k0_cond2 i = 1#1 then outBlk (if cond1 i = 1#1 then k0_pay1 X5 X4 else X8) X3 else X6)
          ∗ ow (F := F) (e := .i32) c M7 (if k0_cond3 i = 1#1 then outBlk (if cond1 i = 1#1 then k0_pay1 X5 X4 else X8) X2 else X7)
          ∗ ow c M8 (if cond1 i = 1#1 then k0_pay1 X5 X4 else X8) ∗ (∃ d, ow c M9 d))) := by
  rw [body_eq]
  simp only [runs, wp_bind]
  iintro ⟨H2, H3, H4, H5, H6, H7, H8, H9⟩
  iapply wp_wand_r
  isplitl [H4 H5 H8]
  · iapply (segA_run c i M4 M5 M8 h8 X4 X5 X8)
    isplitl [H4]; · iexact H4
    isplitl [H5]; · iexact H5
    iexact H8
  iintro %_ ⟨H4, H5, H8⟩
  unfold segX segD
  iapply wp_wand_r
  isplitl [H3 H6 H8 H9]
  · iapply (cond_section c M8 M9 (k0_cond2 i = 1#1) M3 M6 _ X3 X6)
    isplitl [H8]; · iexact H8
    isplitl [H3]; · iexact H3
    isplitl [H9]; · iexact H9
    iexact H6
  iintro %_ ⟨H8, H3, H9, H6⟩
  iapply wp_wand_r
  isplitl [H2 H7 H8 H9]
  · iapply (cond_section c M8 M9 (k0_cond3 i = 1#1) M2 M7 _ X2 X7)
    isplitl [H8]; · iexact H8
    isplitl [H2]; · iexact H2
    isplitl [H9]; · iexact H9
    iexact H7
  iintro %_ ⟨H8, H2, H9, H7⟩
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

end body

end Cert.ScalesIdeal.Hand

end
-- ==== Proof.ScIdeal.Run.lean ====
/-
  THE WHOLE RUN OF THE TOKEN-SCALE KERNEL. The rotation matrix stays in scratch from the first point on. Each output
  block is written once, at the first row or first column of the grid, and then left where it is until the pipeline
  writes it back, possibly many points later: what the buffer holds in between is what the write left.
-/
module

public import proofs.«01_k».proof.Proof.ScIdeal.Body
public import Idealize.ShloMosaic.Lib.Pipeline.TableIdle

@[expose] public section

noncomputable section

namespace Cert.ScalesIdeal.Hand

open Cert.ScalesIdeal Cert.ScalesIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## A point's coordinates and the branch conditions -/

theorem c0_val (t : Fin grid0.N) : (grid0.coords t 0).val = t.val / 7 := by
  have h := Pipeline.Grid.coords_val (G := grid0) t 0 (S := 7) (B := 18) (by decide) rfl
  have ht : t.val < 126 := lt_of_lt_of_eq t.isLt N_0
  rw [h]; omega

theorem c1_val (t : Fin grid0.N) : (grid0.coords t 1).val = t.val % 7 := by
  have h := Pipeline.Grid.coords_val (G := grid0) t 1 (S := 1) (B := 7) (by decide) rfl
  rw [Nat.div_one] at h
  exact h

theorem cond1_iff (t : Fin grid0.N) : cond1 (grid0.coords t) = 1#1 ↔ t.val = 0 := by
  have h : ∀ (n : Fin 18) (k : Fin 7), (Scalar.cmpi .ne (Scalar.extui (Scalar.andi (Scalar.cmpi .eq (BitVec.ofNat 32 n.val) 0#32)
      (Scalar.cmpi .eq (BitVec.ofNat 32 k.val) 0#32)) : BitVec 32) 0#32 = 1#1) ↔ n.val = 0 ∧ k.val = 0 := by decide +kernel
  refine (h (grid0.coords t 0) (grid0.coords t 1)).trans ?_
  rw [c0_val, c1_val]; omega

theorem cond2_iff (t : Fin grid0.N) : k0_cond2 (grid0.coords t) = 1#1 ↔ t.val < 7 := by
  have h : ∀ n : Fin 18, (Scalar.cmpi .ne (Scalar.extui (Scalar.cmpi .eq (BitVec.ofNat 32 n.val) 0#32) : BitVec 32) 0#32 = 1#1) ↔ n.val = 0 := by
    decide +kernel
  refine (h (grid0.coords t 0)).trans ?_
  rw [c0_val]; omega

theorem cond3_iff (t : Fin grid0.N) : k0_cond3 (grid0.coords t) = 1#1 ↔ t.val % 7 = 0 := by
  have h : ∀ n : Fin 7, (Scalar.cmpi .ne (Scalar.extui (Scalar.cmpi .eq (BitVec.ofNat 32 n.val) 0#32) : BitVec 32) 0#32 = 1#1) ↔ n.val = 0 := by
    decide +kernel
  refine (h (grid0.coords t 1)).trans ?_
  rw [c1_val]

/-! ## The pipeline's proof data -/

variable (m : (ℓ : Loc nD τ sig) → Buf (Elt F) ℓ) (ρ : Dev nD → PrngReg)

/-- Point `n`, for any `n`. -/
def pt (n : ℕ) : Fin cfg0.N := ⟨n % 126, lt_of_lt_of_eq (Nat.mod_lt n (by decide)) N_0.symm⟩

theorem pt_val (t : Fin cfg0.N) : pt t.val = t := Fin.ext (Nat.mod_eq_of_lt (lt_of_lt_of_eq t.isLt N_0))

/-- The rotation matrix with the signs in it, as the first point makes it. -/
def rotM (c : Dev nD) : S256x256.Idx → Elt F .bf16 := k0_pay1 (iblk m c 3 (pt 0)) (iblk m c 2 (pt 0))
/-- The exponents of the block of `x` of point `n`. -/
def xsBlk (c : Dev nD) (n : ℕ) : S8x1024.Idx → Elt F .i32 := outBlk (rotM m c) (iblk m c 1 (pt n))
/-- The exponents of the block of `dy` of point `n`. -/
def dtsBlk (c : Dev nD) (n : ℕ) : S8x1024.Idx → Elt F .i32 := outBlk (rotM m c) (iblk m c 0 (pt n))

/-- The scratch after `t` points: the rotation matrix once made, and the rotated tile at any contents. -/
def PhiS (c : Dev nD) (t : ℕ) : sProp 𝕄 :=
  iprop((∃ X8, ⌜0 < t → X8 = rotM m c⌝ ∗ ow c (Memref.whole cc0_scratch0) X8 ∗ (∃ d, ow (F := F) c (Memref.whole cc0_scratch1) d))
    ∗ ∃ r, prngReg c r)

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => xsBlk m c (min t.val 6)
    | ⟨5, _⟩ => dtsBlk m c (7 * (t.val / 7))
    | ⟨_ + 6, h⟩ => absurd h (Nat.not_lt.2 (Nat.le_add_left _ _))
  Φ t := PhiS m c t.val
  q _ := fullShare
  owed _ := 0

theorem A_eq (c : Dev nD) (w : Fin cfg0.W) : (dats m 0 c).A w = V m c (Pipeline.arrRef spec0 w) := by
  dsimp only [dats]
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = iblk m c 2 t := by dsimp only [dats]
theorem after0_3 (c : Dev nD) (t : Fin cfg0.N) : (dats m 0 c).after 3 t = iblk m c 3 t := by dsimp only [dats]
theorem after0_4 (c : Dev nD) (t : Fin cfg0.N) : (dats m 0 c).after 4 t = xsBlk m c (min t.val 6) := by dsimp only [dats]
theorem after0_5 (c : Dev nD) (t : Fin cfg0.N) : (dats m 0 c).after 5 t = dtsBlk m c (7 * (t.val / 7)) := by dsimp only [dats]

theorem Phi_pre (c : Dev nD) (t : Fin cfg0.N) : (dats m 0 c).Φ t.castSucc = PhiS m c t.val := by
  dsimp only [dats]; exact Pipeline.Dat.Φ_castSucc (fun n _ => PhiS m c n) t
theorem Phi_post (c : Dev nD) (t : Fin cfg0.N) : (dats m 0 c).Φ t.succ = PhiS m c (t.val + 1) := by
  dsimp only [dats]; rfl

theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d
theorem before0_2 (c : Dev nD) (t : Fin cfg0.N) (d) : (dats m 0 c).before 2 t d = iblk m c 2 t :=
  before0_2_of m (dats m 0 c) (A_eq m c 2) (after0_2 m c) t d
theorem before0_3 (c : Dev nD) (t : Fin cfg0.N) (d) : (dats m 0 c).before 3 t d = iblk m c 3 t :=
  before0_3_of m (dats m 0 c) (A_eq m c 3) (after0_3 m c) t d

/-! ## The two output buffers between write and write-back -/

theorem idle4 (t : Fin cfg0.N) : cfg0.idle 4 (cfg0.grid.coords t) = decide (7 ≤ t.val) := by
  show (!(k0_cond2 (grid0.coords t) == 1#1)) = _
  by_cases h : t.val < 7
  · rw [(cond2_iff t).2 h]; simp; omega
  · have h' : ¬ k0_cond2 (grid0.coords t) = 1#1 := fun e => h ((cond2_iff t).1 e)
    rw [show (k0_cond2 (grid0.coords t) == 1#1) = false from beq_eq_false_iff_ne.2 h']
    exact (decide_eq_true (by omega)).symm

theorem idle5 (t : Fin cfg0.N) : cfg0.idle 5 (cfg0.grid.coords t) = decide (t.val % 7 ≠ 0) := by
  show (!(k0_cond3 (grid0.coords t) == 1#1)) = _
  by_cases h : t.val % 7 = 0
  · rw [(cond3_iff t).2 h]; simp; omega
  · have h' : ¬ k0_cond3 (grid0.coords t) = 1#1 := fun e => h ((cond3_iff t).1 e)
    rw [show (k0_cond3 (grid0.coords t) == 1#1) = false from beq_eq_false_iff_ne.2 h']
    exact (decide_eq_true (by omega)).symm

theorem flush4 : ∀ t : Fin cfg0.N, (cfg0.win 4).flush t = decide (t.val < 6 ∨ t.val = 125) := by
  have h : ∀ t : Fin grid0.N, win0_4.flush t = decide (t.val < 6 ∨ t.val = 125) := by decide +kernel
  exact h

theorem flush5 (t : Fin cfg0.N) : (cfg0.win 5).flush t = decide (t.val % 7 = 6) := by
  rw [Bool.eq_iff_iff, flush0_5, decide_eq_true_iff]

/-- Before the body runs at a point, window 4's buffer holds nothing the body wrote exactly at the first seven points. -/
theorem fresh4 : ∀ n, n ≤ cfg0.N → cfg0.fresh 4 n = decide (n ≤ 6 ∨ n = 126) :=
  cfg0.fresh_tab 4 _ rfl fun t => by
    have ht : t.val < 126 := lt_of_lt_of_eq t.isLt N_0
    rw [flush4, idle4, Bool.eq_iff_iff]
    simp only [decide_eq_true_iff, Bool.or_eq_true, Bool.and_eq_true]
    omega

/-- Window 5's exactly at the first column. -/
theorem fresh5 : ∀ n, n ≤ cfg0.N → cfg0.fresh 5 n = decide (n % 7 = 0) :=
  cfg0.fresh_tab 5 _ rfl fun t => by
    rw [flush5, idle5, Bool.eq_iff_iff]
    simp only [decide_eq_true_iff, Bool.or_eq_true, Bool.and_eq_true]
    omega

/-- Where the body writes nothing to window 4, its buffer holds the last block of the first row. -/
theorem before4 (c : Dev nD) (t : Fin cfg0.N) (ht : 7 ≤ t.val) (d) : (dats m 0 c).before 4 t d = (dats m 0 c).after 4 t := by
  have hN : t.val < 126 := lt_of_lt_of_eq t.isLt N_0
  have carry : ∀ s : Fin cfg0.N, s.val ≠ 0 → cfg0.idle 4 (cfg0.grid.coords s) = true → cfg0.fresh 4 s.val = false →
      (dats m 0 c).after 4 s = (dats m 0 c).after 4 ⟨s.val - 1, by omega⟩ := fun s _ hi _ => by
    rw [idle4, decide_eq_true_iff] at hi
    rw [after0_4, after0_4, show min s.val 6 = 6 by omega, show min (s.val - 1) 6 = 6 by omega]
  rw [(dats m 0 c).before_out_traj 4 rfl (fun _ _ => rfl) carry t.val t rfl d, fresh4 _ t.isLt.le, if_neg (by simp; omega),
    after0_4, after0_4, show min t.val 6 = 6 by omega, show min (t.val - 1) 6 = 6 by omega]

/-- Where the body writes nothing to window 5, its buffer holds the block of its row. -/
theorem before5 (c : Dev nD) (t : Fin cfg0.N) (ht : t.val % 7 ≠ 0) (d) : (dats m 0 c).before 5 t d = (dats m 0 c).after 5 t := by
  have hN : t.val < 126 := lt_of_lt_of_eq t.isLt N_0
  have carry : ∀ s : Fin cfg0.N, s.val ≠ 0 → cfg0.idle 5 (cfg0.grid.coords s) = true → cfg0.fresh 5 s.val = false →
      (dats m 0 c).after 5 s = (dats m 0 c).after 5 ⟨s.val - 1, by omega⟩ := fun s _ hi _ => by
    rw [idle5, decide_eq_true_iff] at hi
    rw [after0_5, after0_5, show (s.val - 1) / 7 = s.val / 7 by omega]
  rw [(dats m 0 c).before_out_traj 5 rfl (fun _ _ => rfl) carry t.val t rfl d, fresh5 _ t.isLt.le, if_neg (by simpa using ht),
    after0_5, after0_5, show (t.val - 1) / 7 = t.val / 7 by omega]

/-- What the pipeline asks of an output window's buffer after the body. -/
def postOf (c : Dev nD) (w : Fin cfg0.W) (t : Fin cfg0.N) : sProp 𝕄 :=
  match cfg0.idle w (cfg0.grid.coords t) with
  | true => (match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t))
  | false => owns (c : Thread nD τ) ((cfg0.win w).stage (cfg0.slots t w)) fullShare ((dats m 0 c).after w t)

/-- A buffer that holds the block at every point, written there or not, is as the pipeline asks. -/
theorem postOf_intro (c : Dev nD) (w : Fin cfg0.W) (t : Fin cfg0.N)
    (h : cfg0.idle w (cfg0.grid.coords t) = true → ∀ d, (dats m 0 c).before w t d = (dats m 0 c).after w t) :
    owns (c : Thread nD τ) ((cfg0.win w).stage (cfg0.slots t w)) fullShare ((dats m 0 c).after w t) ⊢ postOf m c w t := by
  unfold postOf
  cases hi : cfg0.idle w (cfg0.grid.coords t)
  · exact .rfl
  · cases hf : (cfg0.win w).flush t
    · dsimp only
      iintro H
      iexists ((dats m 0 c).after w t)
      rw [h hi]
      iexact H
    · exact .rfl

/-! ## One point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d))
    ∗ (∃ d, owns (c : Thread nD τ) (st0_3 t) fullShare ((dats m 0 c).before 3 t d))
    ∗ (∃ d, owns (c : Thread nD τ) (st0_4 t) fullShare ((dats m 0 c).before 4 t d))
    ∗ (∃ d, owns (c : Thread nD τ) (st0_5 t) fullShare ((dats m 0 c).before 5 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t)
    ∗ owns (c : Thread nD τ) (st0_3 t) fullShare ((dats m 0 c).after 3 t)
    ∗ postOf m c 4 t
    ∗ postOf m c 5 t)

/-- The rotation matrix after a point. -/
theorem rotM_after (c : Dev nD) (t : Fin cfg0.N) (X8 : S256x256.Idx → Elt F .bf16) (h : 0 < t.val → X8 = rotM m c) :
    (if cond1 (grid0.coords t) = 1#1 then k0_pay1 (iblk m c 3 t) (iblk m c 2 t) else X8) = rotM m c := by
  by_cases e : t.val = 0
  · rw [if_pos ((cond1_iff t).2 e)]
    have : t = pt 0 := Fin.ext e
    subst this; rfl
  · rw [if_neg fun q => e ((cond1_iff t).1 q), h (by omega)]

theorem post4 (c : Dev nD) (t : Fin cfg0.N) (d) :
    (if k0_cond2 (grid0.coords t) = 1#1 then outBlk (rotM m c) (iblk m c 1 t) else (dats m 0 c).before 4 t d) = (dats m 0 c).after 4 t := by
  by_cases e : t.val < 7
  · rw [if_pos ((cond2_iff t).2 e), after0_4, show min t.val 6 = t.val by omega]; unfold xsBlk; rw [pt_val]
  · rw [if_neg fun q => e ((cond2_iff t).1 q), before4 m c t (by omega)]

theorem post5 (c : Dev nD) (t : Fin cfg0.N) (d) :
    (if k0_cond3 (grid0.coords t) = 1#1 then outBlk (rotM m c) (iblk m c 0 t) else (dats m 0 c).before 5 t d) = (dats m 0 c).after 5 t := by
  by_cases e : t.val % 7 = 0
  · rw [if_pos ((cond3_iff t).2 e), after0_5, show 7 * (t.val / 7) = t.val by omega]; unfold dtsBlk; rw [pt_val]
  · rw [if_neg fun q => e ((cond3_iff t).1 q), before5 m c t e]

theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [Phi_pre, Phi_post, after0_0, after0_1, after0_2, after0_3]
  simp only [before0_0, before0_1, before0_2, before0_3]
  unfold PhiS Dat.owesAt Pipeline.owesWithin
  rw [show (dats m 0 c).owed t.castSucc = 0 from rfl, show (dats m 0 c).owed t.succ = 0 from rfl]
  iintro ⟨⟨⟨%X8, %hI, HS0, HS1⟩, Hg⟩, ⟨%W, -, HW⟩, ⟨%d0, H0⟩, ⟨%d1, H1⟩, ⟨%d2, H2⟩, ⟨%d3, H3⟩, ⟨%d4, H4⟩, ⟨%d5, H5⟩⟩
  iapply wp_wand_r
  isplitl [HS0 HS1 H0 H1 H2 H3 H4 H5]
  · iapply (body_run c (grid0.coords t) _ _ _ _ _ _ _ _ _ _ _ _ _ _ _ _ (iblk m c 0 t) (iblk m c 1 t) (iblk m c 2 t) (iblk m c 3 t) X8
      ((dats m 0 c).before 4 t d4) ((dats m 0 c).before 5 t d5))
    isplitl [H0]; · iexact H0
    isplitl [H1]; · iexact H1
    isplitl [H2]; · iexact H2
    isplitl [H3]; · iexact H3
    isplitl [H4]; · iexact H4
    isplitl [H5]; · iexact H5
    isplitl [HS0]; · iexact HS0
    iexact HS1
  rw [rotM_after m c t X8 hI, post4, post5]
  iintro %_ ⟨H0, H1, H2, H3, H4, H5, HS0, HS1⟩
  isplitl [HS0 HS1 Hg]
  · isplitl [HS0 HS1]
    · iexists _
      isplitr
      · ipureintro; exact fun _ => rfl
      isplitl [HS0]; · iexact HS0
      iexact HS1
    iexact Hg
  isplitl [HW]
  · iexists W; isplitr; · ipureintro; exact fun _ _ => Or.inl trivial
    iexact HW
  isplitl [H0]; · iexact H0
  isplitl [H1]; · iexact H1
  isplitl [H2]; · iexact H2
  isplitl [H3]; · iexact H3
  isplitl [H4]
  · iapply (postOf_intro m c 4 t fun h d => before4 m c t (by rw [idle4, decide_eq_true_iff] at h; exact h) d); iexact H4
  iapply (postOf_intro m c 5 t fun h d => before5 m c t (by rw [idle5, decide_eq_true_iff] at h; exact h) d); iexact H5

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  refine triple_restated (sound_body m c t) rfl .rfl fun _ => ?_
  unfold bodyPost postOf
  exact .rfl

/-! ## The run and the frame -/

theorem scratch_eq (c : Dev nD) :
    (Pipeline.scopedRest (Ix := Unit) (Name := ℕ) (U := UR sig nD τ) (Lvl := ℕ) (Val := Elt F) spec0 c : sProp 𝕄)
      = iprop((∃ d, ow (F := F) c (Memref.whole cc0_scratch0) d) ∗ (∃ d, ow (F := F) c (Memref.whole cc0_scratch1) d)) := by
  rw [scopedRest0_eq]
  unfold ow
  simp only [owns_whole]; try rfl

theorem Phi_in (c : Dev nD) : (Pipeline.ΦA spec0 c : sProp 𝕄) ⊢ (dats m 0 c).Φ 0 := by
  show (Pipeline.ΦA spec0 c : sProp 𝕄) ⊢ PhiS m c 0
  unfold Pipeline.ΦA PhiS
  rw [scratch_eq]
  iintro ⟨⟨⟨%X8, H0⟩, H1⟩, Hg⟩
  isplitl [H0 H1]
  · iexists X8
    isplitr
    · ipureintro; exact fun h => absurd h (lt_irrefl _)
    isplitl [H0]; · iexact H0
    iexact H1
  iexact Hg

theorem Phi_out (c : Dev nD) : (dats m 0 c).Φ (Fin.last cfg0.N) ⊢ (Pipeline.ΦA spec0 c : sProp 𝕄) := by
  show PhiS m c _ ⊢ (Pipeline.ΦA spec0 c : sProp 𝕄)
  unfold Pipeline.ΦA PhiS
  rw [scratch_eq]
  iintro ⟨⟨%X8, %_, H0, H1⟩, Hg⟩
  isplitl [H0 H1]
  · isplitl [H0]; · iexists X8; iexact H0
    iexact H1
  iexact Hg

set_option backward.isDefEq.respectTransparency.types false in
/-- The kernel's run ends, every array as the pipeline's data says and every semaphore back at zero. -/
theorem run_main : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := Phi_in m) (hout := Phi_out m)

theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) ((θ_run defs _ _).mono (fun _ h => h.1) (run_main m ρ))

end Cert.ScalesIdeal.Hand

end
-- ==== Proof.ScMath.lean ====
/-
  THE ARITHMETIC OF A BLOCK'S SCALE, over the extended reals. The exponent of a value is how many of the 255 powers
  `2^-126 … 2^128` (the last one infinity) it reaches. A search from the top bit down finds that number, and so does
  counting. A positive real factor goes through sums, magnitudes and maxima.
-/
module

public import Idealize.ShloMosaic.PureOps.Ideal
public import Idealize.ShloMosaic.PureOps.Ideal.Laws

@[expose] public section

noncomputable section

namespace Cert.ScMath

open Idealize.ShloMosaic

/-- The float whose exponent field is `e` and whose other bits are zero. -/
def pw (e : BitVec 32) : EReal := Ideal.ofBits .f32 (e <<< 23)

/-- The same by a natural number. -/
def P (k : ℕ) : EReal := pw (BitVec.ofNat 32 k)

/-- A nonnegative float by its exponent field and its fraction. -/
theorem ofBits_fields (b : BitVec 32) (k t : ℕ) (h1 : (b.extractLsb' 31 1 == 1#1) = false) (h2 : (b.extractLsb' 23 8).toNat = k)
    (h3 : (b.extractLsb' 0 23).toNat = t) : Ideal.ofBits .f32 b = if k = 255 then (if t = 0 then ⊤ else ⊥)
      else if k = 0 then (((t : ℝ) * (2 : ℝ) ^ (-149 : ℤ) : ℝ) : EReal)
      else ((((2 ^ 23 + t : ℕ) : ℝ) * (2 : ℝ) ^ ((k : ℤ) - 127 - 23) : ℝ) : EReal) := by
  subst h2 h3
  unfold Ideal.ofBits Ideal.ieee
  simp only [Nat.reduceAdd, h1, Bool.false_eq_true, if_false, one_mul]
  rfl

theorem fields : ∀ k : Fin 256, ((BitVec.ofNat 32 k.val <<< 23).extractLsb' 31 1 == 1#1) = false
    ∧ ((BitVec.ofNat 32 k.val <<< 23).extractLsb' 23 8).toNat = k.val
    ∧ ((BitVec.ofNat 32 k.val <<< 23).extractLsb' 0 23).toNat = 0 := by decide +kernel

/-- The value of the float with exponent field `k`. -/
theorem P_val (k : ℕ) (hk : k < 256) : P k = if k = 255 then ⊤ else if k = 0 then 0
    else (((2 : ℝ) ^ ((k : ℤ) - 127) : ℝ) : EReal) := by
  have hf := fields ⟨k, hk⟩
  dsimp only at hf
  obtain ⟨h1, h2, h3⟩ := hf
  unfold P pw
  generalize BitVec.ofNat 32 k <<< 23 = b at h1 h2 h3 ⊢
  refine (ofBits_fields b k 0 h1 h2 h3).trans ?_
  split_ifs
  · rfl
  · contradiction
  · simp
  · congr 1
    have e : ((k : ℤ) - 127) = 23 + ((k : ℤ) - 127 - 23) := by ring
    conv_rhs => rw [e, zpow_add₀ (by norm_num : (2 : ℝ) ≠ 0)]
    refine congrArg (· * (2 : ℝ) ^ ((k : ℤ) - 127 - 23)) ?_
    norm_num

theorem P_mono {j k : ℕ} (h : j ≤ k) (hk : k < 256) : P j ≤ P k := by
  rw [P_val j (by omega), P_val k hk]
  by_cases k1 : k = 255
  · rw [if_pos k1]; exact le_top
  rw [if_neg k1, if_neg (by omega : ¬ j = 255)]
  by_cases k0 : k = 0
  · rw [if_pos k0, if_pos (by omega : j = 0)]
  rw [if_neg k0]
  by_cases j0 : j = 0
  · rw [if_pos j0]
    exact EReal.coe_nonneg.2 (by positivity)
  · rw [if_neg j0]
    exact EReal.coe_le_coe_iff.2 (zpow_le_zpow_right₀ (by norm_num) (sub_le_sub_right (by exact_mod_cast h) _))

/-- Every value reaches exactly the first `n` of the powers, for one `n`. -/
theorem reach (v : EReal) : ∃ n ≤ 255, ∀ e, 1 ≤ e → e ≤ 255 → (P e ≤ v ↔ e ≤ n) := by
  classical
  refine ⟨Nat.findGreatest (fun e => P e ≤ v) 255, Nat.findGreatest_le _, fun e h1 h2 => ⟨fun h => Nat.le_findGreatest h2 h, fun h => ?_⟩⟩
  have hn := Nat.findGreatest_spec (P := fun e => P e ≤ v) (n := 255) (m := Nat.findGreatest (fun e => P e ≤ v) 255) (Nat.findGreatest_le _)
  have hp : P (Nat.findGreatest (fun e => P e ≤ v) 255) ≤ v := Nat.findGreatest_of_ne_zero (m := Nat.findGreatest (fun e => P e ≤ v) 255) rfl (by omega)
  exact (P_mono h (by have := Nat.findGreatest_le (P := fun e => P e ≤ v) 255; omega)).trans hp

/-- One step of the search. -/
def sstep (v : EReal) (b e : BitVec 32) : BitVec 32 := if pw (e + b) ≤ v then e + b else e

/-- The whole search. -/
def search (v : EReal) : BitVec 32 :=
  sstep v 1#32 (sstep v 2#32 (sstep v 4#32 (sstep v 8#32 (sstep v 16#32 (sstep v 32#32 (sstep v 64#32 (sstep v 128#32 0#32)))))))

/-- The count of the powers that `v` reaches. -/
def count (v : EReal) : ℕ := (Finset.univ.filter fun i : Fin 255 => P (i.val + 1) ≤ v).card

def tstep (n b e : ℕ) : ℕ := if e + b ≤ n then e + b else e

theorem tstep_le (n b e : ℕ) : tstep n b e ≤ e + b := by unfold tstep; split <;> omega

theorem tsearch : ∀ n : Fin 256, tstep n.val 1 (tstep n.val 2 (tstep n.val 4 (tstep n.val 8 (tstep n.val 16 (tstep n.val 32
    (tstep n.val 64 (tstep n.val 128 0))))))) = n.val := by decide +kernel

theorem sstep_eq (v : EReal) (n : ℕ) (h : ∀ e, 1 ≤ e → e ≤ 255 → (P e ≤ v ↔ e ≤ n)) (b e : ℕ) (hb : 1 ≤ b) (hbe : e + b ≤ 255) :
    sstep v (BitVec.ofNat 32 b) (BitVec.ofNat 32 e) = BitVec.ofNat 32 (tstep n b e) := by
  have q : BitVec.ofNat 32 e + BitVec.ofNat 32 b = BitVec.ofNat 32 (e + b) := by rw [BitVec.ofNat_add]
  unfold sstep tstep
  rw [q]
  have := h (e + b) (by omega) hbe
  unfold P at this
  by_cases c : e + b ≤ n
  · rw [if_pos (this.2 c), if_pos c]
  · rw [if_neg (fun x => c (this.1 x)), if_neg c]

/-- The search finds the count. -/
theorem search_eq (v : EReal) : search v = BitVec.ofNat 32 (count v) := by
  obtain ⟨n, hn, h⟩ := reach v
  have hc : count v = n := by
    unfold count
    have : (Finset.univ.filter fun i : Fin 255 => P (i.val + 1) ≤ v) = Finset.univ.filter fun i : Fin 255 => i.val < n := by
      refine Finset.filter_congr fun i _ => ?_
      have := i.isLt
      rw [h _ (by omega) (by omega)]; omega
    rw [this]
    have hk : ∀ n : Fin 256, (Finset.univ.filter fun i : Fin 255 => i.val < n.val).card = n.val := by decide +kernel
    exact hk ⟨n, by omega⟩
  rw [hc]
  have q := tsearch ⟨n, by omega⟩
  dsimp only at q
  unfold search
  have l1 := tstep_le n 128 0
  have l2 := tstep_le n 64 (tstep n 128 0)
  have l3 := tstep_le n 32 (tstep n 64 (tstep n 128 0))
  have l4 := tstep_le n 16 (tstep n 32 (tstep n 64 (tstep n 128 0)))
  have l5 := tstep_le n 8 (tstep n 16 (tstep n 32 (tstep n 64 (tstep n 128 0))))
  have l6 := tstep_le n 4 (tstep n 8 (tstep n 16 (tstep n 32 (tstep n 64 (tstep n 128 0)))))
  have l7 := tstep_le n 2 (tstep n 4 (tstep n 8 (tstep n 16 (tstep n 32 (tstep n 64 (tstep n 128 0))))))
  rw [sstep_eq v n h 128 0 (by omega) (by omega), sstep_eq v n h 64 _ (by omega) (by omega), sstep_eq v n h 32 _ (by omega) (by omega),
    sstep_eq v n h 16 _ (by omega) (by omega), sstep_eq v n h 8 _ (by omega) (by omega), sstep_eq v n h 4 _ (by omega) (by omega),
    sstep_eq v n h 2 _ (by omega) (by omega), sstep_eq v n h 1 _ (by omega) (by omega), q]

/-- The scale's exponent of a block whose largest rotated magnitude is `v`. -/
def scaleExp (v : EReal) : BitVec 32 :=
  if BitVec.ofNat 32 (count v) = 0#32 then 0#32 else BitVec.ofNat 32 (count v) - 129#32

/-! ## A positive real factor -/

/-- The rotation's factor `128^(-1/2)` as the constant reads. -/
def C : EReal := Ideal.ofBits .f32 0x3DB504F3#32

theorem C_real : ∃ r : ℝ, 0 < r ∧ C = (r : EReal) := by
  refine ⟨_, ?_, ofBits_fields 0x3DB504F3#32 123 3474675 (by decide +kernel) (by decide +kernel) (by decide +kernel)⟩
  positivity

theorem C_pos : 0 < C := by
  obtain ⟨r, h, e⟩ := C_real
  rw [e]; exact_mod_cast h

theorem C_ne_top : C ≠ ⊤ := by
  obtain ⟨r, h, e⟩ := C_real
  rw [e]; exact EReal.coe_ne_top r

theorem sum_C {ι : Type} (s : Finset ι) (f : ι → EReal) : (∑ i ∈ s, f i) * C = ∑ i ∈ s, f i * C := by
  classical
  induction s using Finset.induction_on with
  | empty => simp
  | insert a s h ih =>
    rw [Finset.sum_insert h, Finset.sum_insert h, ← ih, mul_comm, EReal.left_distrib_of_nonneg_of_ne_top C_pos.le C_ne_top,
      mul_comm C, mul_comm C]

theorem mono_C : Monotone fun x : EReal => x * C := fun _ _ h => mul_le_mul_of_nonneg_right h C_pos.le

theorem abs_C (x : EReal) : max x (-x) * C = max (x * C) (-(x * C)) := by
  rw [mono_C.map_max (a := x) (b := -x)]
  show max _ _ = _
  rw [EReal.neg_mul]

theorem sup_C {ι : Type} (s : Finset ι) (f : ι → EReal) : s.sup f * C = s.sup fun i => f i * C := by
  refine Finset.comp_sup_eq_sup_comp_of_is_total (fun x : EReal => x * C) mono_C ?_
  show ⊥ * C = ⊥
  exact EReal.bot_mul_of_pos C_pos

/-! ## The signs of the Hadamard matrix as words -/

/-- A word as an extended real. -/
def wv (a : BitVec 32) : EReal := FloatOps.sitofp (F := Ideal) .f32 a

theorem wv_zero : wv 0#32 = 0 := by
  show (((0#32).toInt : ℝ) : EReal) = 0
  simp

/-- Bit `k` of a word. -/
def bitW (a k : BitVec 32) : BitVec 32 := IntOp.andi (IntOp.shrsi ArithUnit.host a k) 1#32

/-- The sign of row `i` and column `j`, by the parity of the bits that both have. -/
def sgnW (i j : BitVec 32) : BitVec 32 :=
  IntOp.subi 1#32 (IntOp.muli 2#32 (IntOp.andi (IntOp.addi (IntOp.addi (IntOp.addi (IntOp.addi (IntOp.addi (IntOp.addi (IntOp.addi 0#32
    (bitW (IntOp.andi i j) 0#32)) (bitW (IntOp.andi i j) 1#32)) (bitW (IntOp.andi i j) 2#32)) (bitW (IntOp.andi i j) 3#32))
    (bitW (IntOp.andi i j) 4#32)) (bitW (IntOp.andi i j) 5#32)) (bitW (IntOp.andi i j) 6#32)) 1#32))

/-- The token that row `r` of the kernel's matrix rotates. -/
def tokW (r : BitVec 32) : BitVec 32 := IntOp.addi (IntOp.muli 32#32 (IntOp.andi r 7#32)) (IntOp.shrsi ArithUnit.host r 3#32)

/-- The kernel's matrix at row `r` and column `j`: the sign if token and column are of the same sequence, else zero. -/
def tileW (r j : BitVec 32) : BitVec 32 :=
  Scalar.select (IntOp.cmpi .eq (IntOp.shrsi ArithUnit.host (tokW r) 7#32) (IntOp.shrsi ArithUnit.host j 7#32)) (sgnW (tokW r) j) 0#32

theorem bitW_low (a : BitVec 32) (k : Nat) (hk : k < 7) : bitW (a &&& 127#32) (BitVec.ofNat 32 k) = bitW a (BitVec.ofNat 32 k) := by
  have h : ∀ b : BitVec 32, bitW b (BitVec.ofNat 32 k) = (b.sshiftRight k) &&& 1#32 := by
    intro b
    interval_cases k <;> rfl
  rw [h, h]
  ext i hi
  simp only [BitVec.getElem_and, BitVec.getElem_sshiftRight, BitVec.getElem_one]
  rcases Nat.eq_zero_or_pos i with rfl | h0
  · have : k + 0 < 32 := by omega
    simp only [this, dite_true, BitVec.getElem_and]
    interval_cases k <;> simp
  · simp [Nat.pos_iff_ne_zero.mp h0]

theorem sgnW_low (i j : BitVec 32) : sgnW (i &&& 127#32) (j &&& 127#32) = sgnW i j := by
  have e : IntOp.andi (i &&& 127#32) (j &&& 127#32) = IntOp.andi i j &&& 127#32 := by
    show (i &&& 127#32) &&& (j &&& 127#32) = (i &&& j) &&& 127#32
    ext k hk
    simp only [BitVec.getElem_and]
    generalize i[k] = a; generalize j[k] = b; generalize (127#32)[k] = c
    revert a b c; decide
  unfold sgnW
  rw [e, bitW_low _ 0 (by decide), bitW_low _ 1 (by decide), bitW_low _ 2 (by decide), bitW_low _ 3 (by decide),
    bitW_low _ 4 (by decide), bitW_low _ 5 (by decide), bitW_low _ 6 (by decide)]

set_option maxRecDepth 10000 in
theorem tokW_eq : ∀ r : Fin 256, tokW (BitVec.ofNat 32 r.val) = BitVec.ofNat 32 (32 * (r.val % 8) + r.val / 8) := by decide +kernel

set_option maxRecDepth 10000 in
theorem seqW_eq : ∀ r : Fin 256, IntOp.shrsi ArithUnit.host (BitVec.ofNat 32 r.val) 7#32 = BitVec.ofNat 32 (r.val / 128) := by decide +kernel

set_option maxRecDepth 10000 in
theorem lowW_eq : ∀ r : Fin 256, BitVec.ofNat 32 r.val &&& 127#32 = BitVec.ofNat 32 (r.val % 128) := by decide +kernel

theorem eqW : ∀ a b : Fin 2, IntOp.cmpi .eq (BitVec.ofNat 32 a.val) (BitVec.ofNat 32 b.val) = if a.val = b.val then 1#1 else 0#1 := by decide +kernel

theorem tileW_eq (r j : Fin 256) : tileW (BitVec.ofNat 32 r.val) (BitVec.ofNat 32 j.val)
    = if (32 * (r.val % 8) + r.val / 8) / 128 = j.val / 128
      then sgnW (BitVec.ofNat 32 ((32 * (r.val % 8) + r.val / 8) % 128)) (BitVec.ofNat 32 (j.val % 128)) else 0#32 := by
  unfold tileW
  have ht : 32 * (r.val % 8) + r.val / 8 < 256 := by omega
  have e1 := seqW_eq ⟨_, ht⟩
  have e2 := lowW_eq ⟨_, ht⟩
  have e3 := eqW ⟨(32 * (r.val % 8) + r.val / 8) / 128, by omega⟩ ⟨j.val / 128, by omega⟩
  dsimp only at e1 e2 e3
  rw [tokW_eq, e1, seqW_eq, e3, ← sgnW_low (BitVec.ofNat 32 _), e2, lowW_eq]
  split <;> rfl

end Cert.ScMath

end
-- ==== Proof.ScIdeal.Blocks.lean ====
/-
  THE TOKEN-SCALE KERNEL'S BLOCKS AT COORDINATES. Each input window's block at a grid point, read off the array it is
  staged from, and each of those arrays, read off the arguments.
-/
module

public import proofs.«01_k».proof.Proof.ScIdeal.Run
public import proofs.«01_k».proof.Proof.ScMath
public import Idealize.ShloMosaic.Lib.Pointwise

@[expose] public section

noncomputable section

namespace Cert.ScalesIdeal.Hand

open Cert.ScalesIdeal Cert.ScalesIdeal.Gen Cert.ScMath
open Idealize.ShloMosaic Idealize.ShloMosaic.TcCoe
open Idealize.ShloMosaic.Pipeline (Dat Cfg Window)

variable {F : FTy → Type} [FloatOps F]
variable (m : (ℓ : Loc nD τ sig) → Buf (Elt F) ℓ)

theorem index0 : ∀ t : Fin cfg0.N, win0_0.index t = ![0, t.val / 7] := by
  have h : ∀ t : Fin grid0.N, win0_0.index t = ![0, t.val / 7] := by decide +kernel
  exact h
theorem index1 : ∀ t : Fin cfg0.N, win0_1.index t = ![0, if t.val < 7 then t.val else 6] := by
  have h : ∀ t : Fin grid0.N, win0_1.index t = ![0, if t.val < 7 then t.val else 6] := by decide +kernel
  exact h
theorem index4 : ∀ t : Fin cfg0.N, win0_4.index t = ![0, if t.val < 7 then t.val else 6] := by
  have h : ∀ t : Fin grid0.N, win0_4.index t = ![0, if t.val < 7 then t.val else 6] := by decide +kernel
  exact h
theorem index5 : ∀ t : Fin cfg0.N, win0_5.index t = ![0, t.val / 7] := by
  have h : ∀ t : Fin grid0.N, win0_5.index t = ![0, t.val / 7] := by decide +kernel
  exact h

theorem index2 : ∀ t : Fin cfg0.N, win0_2.index t = ![0, 0] := by
  have h : ∀ t : Fin grid0.N, win0_2.index t = ![0, 0] := by decide +kernel
  exact h
theorem index3 : ∀ t : Fin cfg0.N, win0_3.index t = ![0, 0] := by
  have h : ∀ t : Fin grid0.N, win0_3.index t = ![0, 0] := by decide +kernel
  exact h

theorem pt_mod (n : ℕ) (h : n < 126) : (pt n).val = n := Nat.mod_eq_of_lt h

theorem dyBlk_at (c : Dev nD) (n : ℕ) (h : n < 126) (y : S256x1024.Idx) (z : S256x18432.Idx)
    (h0 : (z 0).val = (y 0).val) (h1 : (z 1).val = 1024 * (n / 7) + (y 1).val) :
    iblk m c 0 (pt n) y = V m c main_v60 z := by
  have e := pt_mod n h
  blk_simp [iblk, index0]
  congr 1
  blk_ext [index0] <;> simp [index0, e] <;> omega

theorem xBlk_at (c : Dev nD) (n : ℕ) (h : n < 7) (y : S256x1024.Idx) (z : S256x7168.Idx)
    (h0 : (z 0).val = (y 0).val) (h1 : (z 1).val = 1024 * n + (y 1).val) :
    iblk m c 1 (pt n) y = V m c main_v61 z := by
  have e := pt_mod n (by omega)
  blk_simp [iblk, index1]
  congr 1
  blk_ext [index1] <;> simp [index1, e, h] <;> omega

theorem signBlk_at (c : Dev nD) (t : Fin cfg0.N) (y : S1x256.Idx) : iblk m c 2 t y = V m c main_v62 y := by
  blk_simp [iblk]
  congr 1
  blk_ext [index2] <;> simp [index2]

theorem htBlk_at (c : Dev nD) (t : Fin cfg0.N) (y : S256x256.Idx) : iblk m c 3 t y = V m c main_v59 y := by
  blk_simp [iblk]
  congr 1
  blk_ext [index3] <;> simp [index3]

theorem V_main_v60 (c : Dev nD) : V m c main_v60 = shapeCast S256x18432 (m ((c : Thread nD τ).loc main_arg1)) shapeCasts_S2x128x18432_S256x18432 := by
  unfold V hostOps0 hostOps0_1 hostOps0_2
  simp only [List.flatten_cons, List.flatten_nil, List.append_nil, List.cons_append, List.nil_append]
  after_results <;> rfl

theorem V_main_v61 (c : Dev nD) : V m c main_v61 = shapeCast S256x7168 (m ((c : Thread nD τ).loc main_arg0)) shapeCasts_S2x128x7168_S256x7168 := by
  unfold V hostOps0 hostOps0_1 hostOps0_2
  simp only [List.flatten_cons, List.flatten_nil, List.append_nil, List.cons_append, List.nil_append]
  after_results <;> rfl

theorem V_main_v62 (c : Dev nD) : V m c main_v62 = shapeCast S1x256 (m ((c : Thread nD τ).loc main_arg2)) shapeCasts_S2x128_S1x256 := by
  unfold V hostOps0 hostOps0_1 hostOps0_2
  simp only [List.flatten_cons, List.flatten_nil, List.append_nil, List.cons_append, List.nil_append]
  after_results <;> rfl

theorem V_main_v59 (c : Dev nD) (y : S256x256.Idx) : (V m c main_v59 : FVec F S256x256 .bf16) y = FloatOps.truncf .bf16 bitsLt_bf16_f32 (FloatOps.sitofp (F := F) .f32 (tileW (BitVec.ofNat 32 (y 0).val) (BitVec.ofNat 32 (y 1).val))) := by
  unfold V hostOps0 hostOps0_1 hostOps0_2
  simp only [List.flatten_cons, List.flatten_nil, List.append_nil, List.cons_append, List.nil_append]
  after_results
  rfl

end Cert.ScalesIdeal.Hand

end
-- ==== Proof.ScReference.lean ====
/-
  WHAT THE SCALE REFERENCE HOLDS, over the extended reals, read at an index: the rotation's signs, the rotated values, the
  largest magnitude of a block of 32 tokens, and the exponent.
-/
module

public import proofs.«01_k».proof.Proof.Gen.ScalesReferenceIdeal.Run
public import proofs.«01_k».proof.Proof.ScMath
public import Idealize.ShloMosaic.Lib.Pointwise
public import Idealize.ShloMosaic.Lib.Pointwise.Reshape
public import Idealize.ShloMosaic.Lib.IndicatorCount

@[expose] public section

noncomputable section

namespace Cert.ScalesReferenceIdeal.Hand

open Cert.ScalesReferenceIdeal Cert.ScalesReferenceIdeal.Gen Cert.ScalesReferenceIdeal.Value Cert.ScMath
open Idealize.ShloMosaic Idealize.ShloMosaic.TcCoe

/-- The bitwise and of row and column. -/
def hAnd : IVec S128x128 32 := andi (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0)))

/-- The signs of the Hadamard matrix as integers. -/
def hInt : IVec S128x128 32 := subi (broadcastInDim S128x128 ![] bcast_S_S128x128 (constantI S_ 32 1#32)) (muli (broadcastInDim S128x128 ![] bcast_S_S128x128 (constantI S_ 32 2#32)) (andi (addi (addi (addi (addi (addi (addi (addi (broadcastInDim S128x128 ![] bcast_S_S128x128 (constantI S_ 32 0#32)) (andi (Host.shrsi hAnd (broadcastInDim S128x128 ![] bcast_S_S128x128 (constantI S_ 32 0#32))) (broadcastInDim S128x128 ![] bcast_S_S128x128 (constantI S_ 32 1#32)))) (andi (Host.shrsi hAnd (broadcastInDim S128x128 ![] bcast_S_S128x128 (constantI S_ 32 1#32))) (broadcastInDim S128x128 ![] bcast_S_S128x128 (constantI S_ 32 1#32)))) (andi (Host.shrsi hAnd (broadcastInDim S128x128 ![] bcast_S_S128x128 (constantI S_ 32 2#32))) (broadcastInDim S128x128 ![] bcast_S_S128x128 (constantI S_ 32 1#32)))) (andi (Host.shrsi hAnd (broadcastInDim S128x128 ![] bcast_S_S128x128 (constantI S_ 32 3#32))) (broadcastInDim S128x128 ![] bcast_S_S128x128 (constantI S_ 32 1#32)))) (andi (Host.shrsi hAnd (broadcastInDim S128x128 ![] bcast_S_S128x128 (constantI S_ 32 4#32))) (broadcastInDim S128x128 ![] bcast_S_S128x128 (constantI S_ 32 1#32)))) (andi (Host.shrsi hAnd (broadcastInDim S128x128 ![] bcast_S_S128x128 (constantI S_ 32 5#32))) (broadcastInDim S128x128 ![] bcast_S_S128x128 (constantI S_ 32 1#32)))) (andi (Host.shrsi hAnd (broadcastInDim S128x128 ![] bcast_S_S128x128 (constantI S_ 32 6#32))) (broadcastInDim S128x128 ![] bcast_S_S128x128 (constantI S_ 32 1#32)))) (broadcastInDim S128x128 ![] bcast_S_S128x128 (constantI S_ 32 1#32))))

theorem bits_bot : Ideal.ofBits .f32 0xFF800000#32 = ⊥ := by
  unfold Ideal.ofBits Ideal.ieee
  have h1 : ((0xFF800000#32).extractLsb' 31 1 == 1#1) = true := by decide
  have h2 : ((0xFF800000#32).extractLsb' 23 8).toNat = 255 := by decide
  have h3 : ((0xFF800000#32).extractLsb' 0 23).toNat = 0 := by decide
  simp only [Nat.reduceAdd, h1, h2, h3]
  simp

theorem fold_max {n : ℕ} (f : Fin n → EReal) :
    Finset.univ.fold (FloatOps.maximumf (F := Ideal) (φ := .f32)) (constant (F := Ideal) S_ .f32 0xFF800000#32 (Shape.Idx.first h_S_)) f = Finset.univ.sup f := by
  show Finset.univ.fold (fun a b : EReal => max a b) (Ideal.ofBits .f32 0xFF800000#32) f = _
  rw [bits_bot]
  rfl

theorem cmp_ge (a b : EReal) : FloatOps.cmpf (F := Ideal) (φ := .f32) .oge a b = if b ≤ a then 1#1 else 0#1 := by
  show BitVec.ofBool (decide (b ≤ a)) = _
  by_cases h : b ≤ a <;> simp [h]

set_option maxRecDepth 10000 in
theorem lit0_eq : ∀ t : Fin 255, lit0 t = BitVec.ofNat 32 (t.val + 1) <<< 23 := by decide +kernel

set_option maxRecDepth 10000 in
theorem lit1_eq : ∀ t : Fin 255, lit1 t = BitVec.ofNat 32 (t.val + 1) <<< 23 := by decide +kernel

theorem fold_cnt (p : Fin 255 → Prop) [DecidablePred p] :
    Finset.univ.fold IntOp.addi 0#32 (fun t => (if p t then 1#1 else 0#1 : BitVec 1).setWidth 32) = BitVec.ofNat 32 (Finset.univ.filter p).card := by
  rw [IndicatorCount.fold_addi_setWidth_eq_card]
  congr 2
  ext t
  by_cases h : p t <;> simp [h]

theorem select_scale (v : EReal) : Scalar.select (IntOp.cmpi .eq (BitVec.ofNat 32 (count v)) 0#32) (0#32) (IntOp.subi (BitVec.ofNat 32 (count v)) 129#32) = scaleExp v := by
  unfold scaleExp
  generalize BitVec.ofNat 32 (count v) = w
  by_cases h : w = 0#32
  · subst h; rfl
  · rw [if_neg h]
    show (if IntOp.cmpi .eq w 0#32 = 1#1 then _ else _) = _
    have : IntOp.cmpi .eq w 0#32 = 0#1 := by
      show BitVec.ofBool (w == 0#32) = 0#1
      rw [beq_false_of_ne h]; rfl
    rw [this]
    rfl

theorem hInt_at (y : S128x128.Idx) : hInt y = sgnW (BitVec.ofNat 32 (y 0).val) (BitVec.ofNat 32 (y 1).val) := by
  unfold hInt hAnd
  simp only [pointwise]
  rfl

/-- The Hadamard matrix with its factor. -/
def Hm : FVec Ideal S128x128 .f32 := mulf (sitofp .f32 hInt) (broadcastInDim S128x128 ![] bcast_S_S128x128 (constant S_ .f32 0x3DB504F3#32))

theorem Hm_at (y : S128x128.Idx) : Hm y = wv (sgnW (BitVec.ofNat 32 (y 0).val) (BitVec.ofNat 32 (y 1).val)) * C := by
  unfold Hm
  simp only [pointwise]
  rw [hInt_at]
  rfl

/-! ## The arrays of 7168 columns -/

/-- The rotated values: token, sequence, column. -/
def rot7168 (x : FVec Ideal S2x128x7168 .bf16) (sg : FVec Ideal S2x128 .f32) : FVec Ideal S128x2x7168 .f32 :=
  Host.dotGeneral dot_S128x128_S2x128x7168_S128x2x7168_1_1_0_02_n_n (some .fp32) Hm (mulf (extf .f32 x bitsLt_bf16_f32) (broadcastInDim S2x128x7168 ![0, 1, 2] bcast_S2x128x1_S2x128x7168_0_1_2 (broadcastInDim S2x128x1 ![0, 1] bcast_S2x128_S2x128x1_0_1 sg)))

/-- The largest magnitude of each block of 32 tokens. -/
def amax7168 (x : FVec Ideal S2x128x7168 .bf16) (sg : FVec Ideal S2x128 .f32) : FVec Ideal S2x4x7168 .f32 :=
  Host.reduce FloatOps.maximumf (Host.absf (shapeCast S2x4x32x7168 (transpose S2x128x7168 [1, 0, 2] (rot7168 x sg) transposes_S128x2x7168_S2x128x7168_1_0_2) shapeCasts_S2x128x7168_S2x4x32x7168)) (constant S_ .f32 0xFF800000#32) reducesTo_S2x4x32x7168_S2x4x7168_d2 h_S_

/-- How many of the powers each reaches. -/
def cnt7168 (a : FVec Ideal S2x4x7168 .f32) : IVec S2x4x7168 32 :=
  Host.reduce IntOp.addi (extui 32 (cmpf .oge (broadcastInDim S2x4x7168x255 ![0, 1, 2, 3] bcast_S2x4x7168x1_S2x4x7168x255_0_1_2_3 (broadcastInDim S2x4x7168x1 ![0, 1, 2] bcast_S2x4x7168_S2x4x7168x1_0_1_2 a)) (broadcastInDim S2x4x7168x255 ![0, 1, 2, 3] bcast_S1x1x1x255_S2x4x7168x255_0_1_2_3 (broadcastInDim S1x1x1x255 ![3] bcast_S255_S1x1x1x255_3 ((fun i => FloatOps.ofBits .f32 (lit0 (S255.rowMajor i))))))) natLt_1_32) (constantI S_ 32 0#32) reducesTo_S2x4x7168x255_S2x4x7168_d3 h_S_

/-- The exponents, one row for each block. -/
def out7168 (x : FVec Ideal S2x128x7168 .bf16) (sg : FVec Ideal S2x128 .f32) : IVec S8x7168 32 :=
  shapeCast S8x7168 (select (cmpi .eq (cnt7168 (amax7168 x sg)) (broadcastInDim S2x4x7168 ![] bcast_S_S2x4x7168 (constantI S_ 32 0#32))) (broadcastInDim S2x4x7168 ![] bcast_S_S2x4x7168 (id (constantI S_ 32 0#32))) (subi (cnt7168 (amax7168 x sg)) (broadcastInDim S2x4x7168 ![] bcast_S_S2x4x7168 (constantI S_ 32 129#32)))) shapeCasts_S2x4x7168_S8x7168

theorem res7168 (V0 : Valuation τ sig (Elt Ideal)) : res_main_v66 V0 = cnt7168 (amax7168 (V0 (Proc.devRef .tc main_arg0)) (V0 (Proc.devRef .tc main_arg2))) := rfl

theorem rot7168_at (x : FVec Ideal S2x128x7168 .bf16) (sg : FVec Ideal S2x128 .f32) (i : Fin 128) (b : Fin 2) (q : Fin 7168) :
    rot7168 x sg (ValueIdx.ix3 i b q) = ∑ j : Fin 128, wv (sgnW (BitVec.ofNat 32 i.val) (BitVec.ofNat 32 j.val)) * C
      * (x (ValueIdx.ix3 b j q) * sg (ValueIdx.ix2 b j)) := by
  unfold rot7168
  simp only [pointwise]
  rw [zero_add]
  refine Finset.sum_congr rfl fun j _ => ?_
  rw [Hm_at]
  rfl

theorem amax7168_at (x : FVec Ideal S2x128x7168 .bf16) (sg : FVec Ideal S2x128 .f32) (b : Fin 2) (k : Fin 4) (q : Fin 7168) :
    amax7168 x sg (ValueIdx.ix3 b k q) = Finset.univ.sup fun t : Fin 32 =>
      max (rot7168 x sg (ValueIdx.ix3 ⟨32 * k.val + t.val, by omega⟩ b q)) (-(rot7168 x sg (ValueIdx.ix3 ⟨32 * k.val + t.val, by omega⟩ b q))) := by
  unfold amax7168
  rw [Host.reduce_eq_fold_single _ _ _ _ (by decide)]
  refine (fold_max _).trans (Finset.sup_congr rfl fun t _ => ?_)
  have ht : t.val < 32 := t.isLt
  have hb := b.isLt
  have hk := k.isLt
  have e : shapeCast S2x4x32x7168 (transpose S2x128x7168 [1, 0, 2] (rot7168 x sg) transposes_S128x2x7168_S2x128x7168_1_0_2) shapeCasts_S2x128x7168_S2x4x32x7168 (ValueIdx.ix4 b k t q)
      = rot7168 x sg (ValueIdx.ix3 ⟨32 * k.val + t.val, by omega⟩ b q) := by
    refine (Idealize.ShloMosaic.shapeCast_apply _ _ _ (ValueIdx.ix3 b ⟨32 * k.val + t.val, by omega⟩ q) ?_).trans ?_
    · rw [Idealize.ShloMosaic.rowMajor_val4 _ (4 * (32 * 7168)) (32 * 7168) 7168 rfl rfl rfl, Idealize.ShloMosaic.rowMajor_val3 _ (128 * 7168) 7168 rfl rfl]
      show b.val * (128 * 7168) + (32 * k.val + t.val) * 7168 + q.val = b.val * (4 * (32 * 7168)) + k.val * (32 * 7168) + t.val * 7168 + q.val
      omega
    · simp only [pointwise]
      congr 1
  have e2 : ∀ z : S2x4x32x7168.Idx, z = ValueIdx.ix4 b k t q → Host.absf (F := Ideal) (shapeCast S2x4x32x7168 (transpose S2x128x7168 [1, 0, 2] (rot7168 x sg) transposes_S128x2x7168_S2x128x7168_1_0_2) shapeCasts_S2x128x7168_S2x4x32x7168) z
      = max (rot7168 x sg (ValueIdx.ix3 ⟨32 * k.val + t.val, by omega⟩ b q)) (-(rot7168 x sg (ValueIdx.ix3 ⟨32 * k.val + t.val, by omega⟩ b q))) := by
    rintro _ rfl
    rw [← e]
    rfl
  refine e2 _ ?_
  funext d
  fin_cases d <;> rfl

theorem cnt7168_at (a : FVec Ideal S2x4x7168 .f32) (b : Fin 2) (k : Fin 4) (q : Fin 7168) :
    cnt7168 a (ValueIdx.ix3 b k q) = BitVec.ofNat 32 (count (a (ValueIdx.ix3 b k q))) := by
  unfold cnt7168
  rw [Host.reduce_eq_fold_single _ _ _ _ (by decide)]
  have e2 : ∀ (t : Fin 255) (z : S2x4x7168x255.Idx), z = ValueIdx.ix4 b k q t → cmpf (F := Ideal) .oge (broadcastInDim S2x4x7168x255 ![0, 1, 2, 3] bcast_S2x4x7168x1_S2x4x7168x255_0_1_2_3 (broadcastInDim S2x4x7168x1 ![0, 1, 2] bcast_S2x4x7168_S2x4x7168x1_0_1_2 a)) (broadcastInDim S2x4x7168x255 ![0, 1, 2, 3] bcast_S1x1x1x255_S2x4x7168x255_0_1_2_3 (broadcastInDim S1x1x1x255 ![3] bcast_S255_S1x1x1x255_3 ((fun i => FloatOps.ofBits .f32 (lit0 (S255.rowMajor i)))))) z
      = if P (t.val + 1) ≤ a (ValueIdx.ix3 b k q) then 1#1 else 0#1 := by
    rintro t _ rfl
    simp only [pointwise]
    refine (cmp_ge _ _).trans ?_
    have e : S255.rowMajor (ValueIdx.ix1 t) = t := Fin.ext (Idealize.ShloMosaic.rowMajor_val1 (ValueIdx.ix1 t))
    have e3 : Ideal.ofBits .f32 (lit0 (S255.rowMajor (ValueIdx.ix1 t))) = P (t.val + 1) := by
      rw [e, lit0_eq]
      rfl
    rw [← e3]
    rfl
  refine Eq.trans ?_ (fold_cnt fun t => P (t.val + 1) ≤ a (ValueIdx.ix3 b k q))
  refine congrArg (fun f => Finset.fold IntOp.addi 0#32 f Finset.univ) (funext fun t => ?_)
  refine congrArg (BitVec.setWidth 32) (e2 t _ ?_)
  funext d
  fin_cases d <;> rfl

theorem out7168_at (x : FVec Ideal S2x128x7168 .bf16) (sg : FVec Ideal S2x128 .f32) (g : Fin 8) (b : Fin 2) (k : Fin 4) (q : Fin 7168)
    (e : g.val = 4 * b.val + k.val) : out7168 x sg (ValueIdx.ix2 g q) = scaleExp (amax7168 x sg (ValueIdx.ix3 b k q)) := by
  unfold out7168
  refine (Idealize.ShloMosaic.shapeCast_apply _ _ _ (ValueIdx.ix3 b k q) ?_).trans ?_
  · rw [Idealize.ShloMosaic.rowMajor_val2 _ 7168 rfl, Idealize.ShloMosaic.rowMajor_val3 _ (4 * 7168) 7168 rfl rfl]
    show b.val * (4 * 7168) + k.val * 7168 + q.val = g.val * 7168 + q.val
    omega
  simp only [pointwise]
  rw [cnt7168_at]
  exact select_scale _

/-! ## The arrays of 18432 columns -/

/-- The rotated values: token, sequence, column. -/
def rot18432 (x : FVec Ideal S2x128x18432 .bf16) (sg : FVec Ideal S2x128 .f32) : FVec Ideal S128x2x18432 .f32 :=
  Host.dotGeneral dot_S128x128_S2x128x18432_S128x2x18432_1_1_0_02_n_n (some .fp32) Hm (mulf (extf .f32 x bitsLt_bf16_f32) (broadcastInDim S2x128x18432 ![0, 1, 2] bcast_S2x128x1_S2x128x18432_0_1_2 (broadcastInDim S2x128x1 ![0, 1] bcast_S2x128_S2x128x1_0_1 sg)))

/-- The largest magnitude of each block of 32 tokens. -/
def amax18432 (x : FVec Ideal S2x128x18432 .bf16) (sg : FVec Ideal S2x128 .f32) : FVec Ideal S2x4x18432 .f32 :=
  Host.reduce FloatOps.maximumf (Host.absf (shapeCast S2x4x32x18432 (transpose S2x128x18432 [1, 0, 2] (rot18432 x sg) transposes_S128x2x18432_S2x128x18432_1_0_2) shapeCasts_S2x128x18432_S2x4x32x18432)) (constant S_ .f32 0xFF800000#32) reducesTo_S2x4x32x18432_S2x4x18432_d2 h_S_

/-- How many of the powers each reaches. -/
def cnt18432 (a : FVec Ideal S2x4x18432 .f32) : IVec S2x4x18432 32 :=
  Host.reduce IntOp.addi (extui 32 (cmpf .oge (broadcastInDim S2x4x18432x255 ![0, 1, 2, 3] bcast_S2x4x18432x1_S2x4x18432x255_0_1_2_3 (broadcastInDim S2x4x18432x1 ![0, 1, 2] bcast_S2x4x18432_S2x4x18432x1_0_1_2 a)) (broadcastInDim S2x4x18432x255 ![0, 1, 2, 3] bcast_S1x1x1x255_S2x4x18432x255_0_1_2_3 (broadcastInDim S1x1x1x255 ![3] bcast_S255_S1x1x1x255_3 ((fun i => FloatOps.ofBits .f32 (lit1 (S255.rowMajor i))))))) natLt_1_32) (constantI S_ 32 0#32) reducesTo_S2x4x18432x255_S2x4x18432_d3 h_S_

/-- The exponents, one row for each block. -/
def out18432 (x : FVec Ideal S2x128x18432 .bf16) (sg : FVec Ideal S2x128 .f32) : IVec S8x18432 32 :=
  shapeCast S8x18432 (select (cmpi .eq (cnt18432 (amax18432 x sg)) (broadcastInDim S2x4x18432 ![] bcast_S_S2x4x18432 (constantI S_ 32 0#32))) (broadcastInDim S2x4x18432 ![] bcast_S_S2x4x18432 (id (constantI S_ 32 0#32))) (subi (cnt18432 (amax18432 x sg)) (broadcastInDim S2x4x18432 ![] bcast_S_S2x4x18432 (constantI S_ 32 129#32)))) shapeCasts_S2x4x18432_S8x18432

theorem res18432 (V0 : Valuation τ sig (Elt Ideal)) : res_main_v139 V0 = cnt18432 (amax18432 (V0 (Proc.devRef .tc main_arg1)) (V0 (Proc.devRef .tc main_arg2))) := rfl

theorem rot18432_at (x : FVec Ideal S2x128x18432 .bf16) (sg : FVec Ideal S2x128 .f32) (i : Fin 128) (b : Fin 2) (q : Fin 18432) :
    rot18432 x sg (ValueIdx.ix3 i b q) = ∑ j : Fin 128, wv (sgnW (BitVec.ofNat 32 i.val) (BitVec.ofNat 32 j.val)) * C
      * (x (ValueIdx.ix3 b j q) * sg (ValueIdx.ix2 b j)) := by
  unfold rot18432
  simp only [pointwise]
  rw [zero_add]
  refine Finset.sum_congr rfl fun j _ => ?_
  rw [Hm_at]
  rfl

theorem amax18432_at (x : FVec Ideal S2x128x18432 .bf16) (sg : FVec Ideal S2x128 .f32) (b : Fin 2) (k : Fin 4) (q : Fin 18432) :
    amax18432 x sg (ValueIdx.ix3 b k q) = Finset.univ.sup fun t : Fin 32 =>
      max (rot18432 x sg (ValueIdx.ix3 ⟨32 * k.val + t.val, by omega⟩ b q)) (-(rot18432 x sg (ValueIdx.ix3 ⟨32 * k.val + t.val, by omega⟩ b q))) := by
  unfold amax18432
  rw [Host.reduce_eq_fold_single _ _ _ _ (by decide)]
  refine (fold_max _).trans (Finset.sup_congr rfl fun t _ => ?_)
  have ht : t.val < 32 := t.isLt
  have hb := b.isLt
  have hk := k.isLt
  have e : shapeCast S2x4x32x18432 (transpose S2x128x18432 [1, 0, 2] (rot18432 x sg) transposes_S128x2x18432_S2x128x18432_1_0_2) shapeCasts_S2x128x18432_S2x4x32x18432 (ValueIdx.ix4 b k t q)
      = rot18432 x sg (ValueIdx.ix3 ⟨32 * k.val + t.val, by omega⟩ b q) := by
    refine (Idealize.ShloMosaic.shapeCast_apply _ _ _ (ValueIdx.ix3 b ⟨32 * k.val + t.val, by omega⟩ q) ?_).trans ?_
    · rw [Idealize.ShloMosaic.rowMajor_val4 _ (4 * (32 * 18432)) (32 * 18432) 18432 rfl rfl rfl, Idealize.ShloMosaic.rowMajor_val3 _ (128 * 18432) 18432 rfl rfl]
      show b.val * (128 * 18432) + (32 * k.val + t.val) * 18432 + q.val = b.val * (4 * (32 * 18432)) + k.val * (32 * 18432) + t.val * 18432 + q.val
      omega
    · simp only [pointwise]
      congr 1
  have e2 : ∀ z : S2x4x32x18432.Idx, z = ValueIdx.ix4 b k t q → Host.absf (F := Ideal) (shapeCast S2x4x32x18432 (transpose S2x128x18432 [1, 0, 2] (rot18432 x sg) transposes_S128x2x18432_S2x128x18432_1_0_2) shapeCasts_S2x128x18432_S2x4x32x18432) z
      = max (rot18432 x sg (ValueIdx.ix3 ⟨32 * k.val + t.val, by omega⟩ b q)) (-(rot18432 x sg (ValueIdx.ix3 ⟨32 * k.val + t.val, by omega⟩ b q))) := by
    rintro _ rfl
    rw [← e]
    rfl
  refine e2 _ ?_
  funext d
  fin_cases d <;> rfl

theorem cnt18432_at (a : FVec Ideal S2x4x18432 .f32) (b : Fin 2) (k : Fin 4) (q : Fin 18432) :
    cnt18432 a (ValueIdx.ix3 b k q) = BitVec.ofNat 32 (count (a (ValueIdx.ix3 b k q))) := by
  unfold cnt18432
  rw [Host.reduce_eq_fold_single _ _ _ _ (by decide)]
  have e2 : ∀ (t : Fin 255) (z : S2x4x18432x255.Idx), z = ValueIdx.ix4 b k q t → cmpf (F := Ideal) .oge (broadcastInDim S2x4x18432x255 ![0, 1, 2, 3] bcast_S2x4x18432x1_S2x4x18432x255_0_1_2_3 (broadcastInDim S2x4x18432x1 ![0, 1, 2] bcast_S2x4x18432_S2x4x18432x1_0_1_2 a)) (broadcastInDim S2x4x18432x255 ![0, 1, 2, 3] bcast_S1x1x1x255_S2x4x18432x255_0_1_2_3 (broadcastInDim S1x1x1x255 ![3] bcast_S255_S1x1x1x255_3 ((fun i => FloatOps.ofBits .f32 (lit1 (S255.rowMajor i)))))) z
      = if P (t.val + 1) ≤ a (ValueIdx.ix3 b k q) then 1#1 else 0#1 := by
    rintro t _ rfl
    simp only [pointwise]
    refine (cmp_ge _ _).trans ?_
    have e : S255.rowMajor (ValueIdx.ix1 t) = t := Fin.ext (Idealize.ShloMosaic.rowMajor_val1 (ValueIdx.ix1 t))
    have e3 : Ideal.ofBits .f32 (lit1 (S255.rowMajor (ValueIdx.ix1 t))) = P (t.val + 1) := by
      rw [e, lit1_eq]
      rfl
    rw [← e3]
    rfl
  refine Eq.trans ?_ (fold_cnt fun t => P (t.val + 1) ≤ a (ValueIdx.ix3 b k q))
  refine congrArg (fun f => Finset.fold IntOp.addi 0#32 f Finset.univ) (funext fun t => ?_)
  refine congrArg (BitVec.setWidth 32) (e2 t _ ?_)
  funext d
  fin_cases d <;> rfl

theorem out18432_at (x : FVec Ideal S2x128x18432 .bf16) (sg : FVec Ideal S2x128 .f32) (g : Fin 8) (b : Fin 2) (k : Fin 4) (q : Fin 18432)
    (e : g.val = 4 * b.val + k.val) : out18432 x sg (ValueIdx.ix2 g q) = scaleExp (amax18432 x sg (ValueIdx.ix3 b k q)) := by
  unfold out18432
  refine (Idealize.ShloMosaic.shapeCast_apply _ _ _ (ValueIdx.ix3 b k q) ?_).trans ?_
  · rw [Idealize.ShloMosaic.rowMajor_val2 _ 18432 rfl, Idealize.ShloMosaic.rowMajor_val3 _ (4 * 18432) 18432 rfl rfl]
    show b.val * (4 * 18432) + k.val * 18432 + q.val = g.val * 18432 + q.val
    omega
  simp only [pointwise]
  rw [cnt18432_at]
  exact select_scale _

end Cert.ScalesReferenceIdeal.Hand

end
-- ==== Proof.ScIdeal.Value.lean ====
/-
  THE TOKEN-SCALE KERNEL'S RESULTS OVER THE EXTENDED REALS. What each of its steps leaves at an index, the two results in
  closed form, and that they are the reference's.
-/
module

public import proofs.«01_k».proof.Proof.ScIdeal.Blocks
public import proofs.«01_k».proof.Proof.ScReference

@[expose] public section

noncomputable section

namespace Cert.ScalesIdeal.Hand

open Cert.ScalesIdeal Cert.ScalesIdeal.Gen Cert.ScMath
open Idealize.ShloMosaic Idealize.ShloMosaic.TcCoe
open Idealize.ShloMosaic.Pipeline (Dat Cfg Window)

/-! ## The steps at an index -/

theorem estep_at (v : FVec Ideal S8x128 .f32) (b : BitVec 32) (e : IVec S8x128 32) (y : S8x128.Idx) :
    estep v b e y = sstep (v y) b (e y) := by
  show (if BitVec.ofBool (decide (pw (e y + b) ≤ v y)) = 1#1 then e y + b else e y) = _
  unfold sstep
  by_cases h : pw (e y + b) ≤ v y <;> simp [h]

theorem expo_at (v : FVec Ideal S8x128 .f32) (y : S8x128.Idx) : expo v y = scaleExp ((v y : EReal) * C) := by
  have h : eall (mulf v (broadcast S8x128 (Scalar.ofBits .f32 0x3DB504F3#32))) y = search ((v y : EReal) * C) := by
    unfold eall search
    simp only [estep_at]
    rfl
  refine Eq.trans ?_ (Cert.ScalesReferenceIdeal.Hand.select_scale _)
  rw [← search_eq, ← h]
  rfl

theorem pay4_at (X8 B : S256x256.Idx → EReal) (y : S256x256.Idx) :
    k0_pay4 (F := Ideal) X8 B y = ∑ j : Fin 256, X8 (ValueIdx.ix2 (y 0) j) * B (ValueIdx.ix2 j (y 1)) := by
  unfold k0_pay4
  rw [shapeCast_self, shapeCast_self]
  simp only [pointwise]
  rw [zero_add]
  rfl

/-- The magnitude at row `8 t + g`. -/
def mag (T : S256x256.Idx → EReal) (h : ℕ) (hh : h < 2) (y : S8x128.Idx) (t : ℕ) : EReal :=
  if ht : t < 32 then
    max (T (ValueIdx.ix2 ⟨8 * t + (y 0).val, by have : (y 0).val < 8 := (y 0).isLt; omega⟩ ⟨128 * h + (y 1).val, by have : (y 1).val < 128 := (y 1).isLt; omega⟩))
      (-(T (ValueIdx.ix2 ⟨8 * t + (y 0).val, by have : (y 0).val < 8 := (y 0).isLt; omega⟩ ⟨128 * h + (y 1).val, by have : (y 1).val < 128 := (y 1).isLt; omega⟩)))
  else ⊥

theorem ldT_at (T : S256x256.Idx → EReal) (h : ℕ) (hh : h < 2) (t : ℕ) (ht : t < 32) (y : S8x128.Idx) :
    absf (F := Ideal) (φ := .f32) (View.ld (Val := Elt Ideal) (e' := .f32) T (Rect.unit ![8 * t, 128 * h] S8x128.size (inbT t ht h hh) : Rect S256x256)) y = mag T h hh y t := by
  unfold mag
  rw [dif_pos ht]
  have e : (Rect.unit ![8 * t, 128 * h] S8x128.size (inbT t ht h hh) : Rect S256x256).emb y
      = ValueIdx.ix2 ⟨8 * t + (y 0).val, by have : (y 0).val < 8 := (y 0).isLt; omega⟩ ⟨128 * h + (y 1).val, by have : (y 1).val < 128 := (y 1).isLt; omega⟩ := by
    funext a
    apply Fin.ext
    rw [ValueKit.rect_emb_unit_val]
    fin_cases a <;> rfl
  rw [← e]
  rfl

theorem mxT_at (T : S256x256.Idx → EReal) (h : ℕ) (hh : h < 2) (y : S8x128.Idx) : ∀ (n t : ℕ) (ht : t + n ≤ 32) (v : FVec Ideal S8x128 .f32),
    (mxT (F := Ideal) T h hh n t ht v y : EReal) = max (v y : EReal) ((Finset.Ico t (t + n)).sup (mag T h hh y))
  | 0, t, ht, v => by simp [mxT]
  | n + 1, t, ht, v => by
    rw [mxT, mxT_at T h hh y n (t + 1) (by omega)]
    have e : Finset.Ico t (t + (n + 1)) = insert t (Finset.Ico (t + 1) (t + 1 + n)) := by
      ext i; simp only [Finset.mem_Ico, Finset.mem_insert]; omega
    rw [e, Finset.sup_insert, ← max_assoc, ← ldT_at T h hh t (by omega) y]
    rfl

theorem amxT_at (T : S256x256.Idx → EReal) (h : ℕ) (hh : h < 2) (y : S8x128.Idx) :
    (amxT (F := Ideal) T h hh y : EReal) = Finset.univ.sup fun t : Fin 32 => mag T h hh y t.val := by
  unfold amxT
  rw [mxT_at, ldT_at T h hh 0 (by decide) y]
  apply le_antisymm
  · refine max_le (Finset.le_sup (f := fun t : Fin 32 => mag T h hh y t.val) (Finset.mem_univ (0 : Fin 32))) (Finset.sup_le fun t ht => ?_)
    exact Finset.le_sup (f := fun t : Fin 32 => mag T h hh y t.val) (Finset.mem_univ (⟨t, by rw [Finset.mem_Ico] at ht; omega⟩ : Fin 32))
  · refine Finset.sup_le fun t _ => ?_
    by_cases e : t.val = 0
    · rw [e]; exact le_max_left _ _
    · exact le_max_of_le_right (Finset.le_sup (f := mag T h hh y) (by rw [Finset.mem_Ico]; have := t.isLt; omega))

/-- A block of exponents: at row `g`, from the largest of the rotated values of rows `8 t + g`. -/
theorem outBlk_at (X8 : S256x256.Idx → EReal) (XA : S256x1024.Idx → EReal) (y : S8x1024.Idx) :
    outBlk (F := Ideal) X8 XA y = scaleExp ((Finset.univ.sup fun t : Fin 32 =>
      max (∑ j : Fin 256, X8 (ValueIdx.ix2 ⟨8 * t.val + (y 0).val, by have : (y 0).val < 8 := (y 0).isLt; omega⟩ j) * XA (ValueIdx.ix2 j (y 1)))
        (-(∑ j : Fin 256, X8 (ValueIdx.ix2 ⟨8 * t.val + (y 0).val, by have : (y 0).val < 8 := (y 0).isLt; omega⟩ j) * XA (ValueIdx.ix2 j (y 1))))) * C) := by
  have hy : (y 1).val < 1024 := (y 1).isLt
  unfold outBlk
  rw [expo_at, amxT_at]
  refine congrArg (fun v : EReal => scaleExp (v * C)) (Finset.sup_congr rfl fun t _ => ?_)
  unfold mag
  rw [dif_pos t.isLt]
  have e : ∀ j : Fin 256, View.ld (Val := Elt Ideal) (e' := .bf16) XA (rCol ((y 1).val / 256) (by omega))
      (ValueIdx.ix2 j (⟨128 * ((y 1).val / 128 % 2) + (y 1).val % 128, by omega⟩ : Fin 256)) = XA (ValueIdx.ix2 j (y 1)) := by
    intro j
    refine congrArg XA ?_
    funext a
    apply Fin.ext
    refine (ValueKit.rect_emb_unit_val _ _ _ _ a).trans ?_
    fin_cases a
    · show 0 + j.val = j.val; omega
    · show 256 * ((y 1).val / 256) + (128 * ((y 1).val / 128 % 2) + (y 1).val % 128) = (y 1).val; omega
  rw [pay4_at]
  have e2 := Finset.sum_congr (s₁ := Finset.univ) rfl fun (j : Fin 256) _ => congrArg (X8 (ValueIdx.ix2 ⟨8 * t.val + (y 0).val, by have : (y 0).val < 8 := (y 0).isLt; omega⟩ j) * ·) (e j)
  exact congrArg (fun v : EReal => max v (-v)) e2

/-! ## The rotation of one block of tokens -/

/-- A sum over the 256 rows, by sequence and token. -/
theorem sum_rows (f : Fin 256 → EReal) :
    ∑ t : Fin 256, f t = ∑ b : Fin 2, ∑ s : Fin 128, f ⟨128 * b.val + s.val, by have := b.isLt; have := s.isLt; omega⟩ := by
  rw [← Fintype.sum_prod_type']
  refine (Fintype.sum_equiv (finProdFinEquiv (m := 2) (n := 128)) _ f fun p => ?_).symm
  congr 1
  exact Fin.ext (Nat.add_comm _ _)

/-- The kernel's largest magnitude with the factor taken last is the reference's with the factor in the matrix. -/
theorem core (g : Fin 8) (b : Fin 2) (k : Fin 4) (e : g.val = 4 * b.val + k.val) (sg xv : Fin 2 → Fin 128 → EReal)
    (X8 : S256x256.Idx → EReal) (xc : Fin 256 → EReal)
    (h8 : ∀ (r : Fin 256) (b : Fin 2) (j : Fin 128), X8 (ValueIdx.ix2 r ⟨128 * b.val + j.val, by omega⟩)
      = wv (tileW (BitVec.ofNat 32 r.val) (BitVec.ofNat 32 (128 * b.val + j.val))) * sg b j)
    (hx : ∀ (b : Fin 2) (j : Fin 128), xc ⟨128 * b.val + j.val, by omega⟩ = xv b j) :
    (Finset.univ.sup fun t : Fin 32 => max (∑ j : Fin 256, X8 (ValueIdx.ix2 ⟨8 * t.val + g.val, by omega⟩ j) * xc j)
        (-(∑ j : Fin 256, X8 (ValueIdx.ix2 ⟨8 * t.val + g.val, by omega⟩ j) * xc j))) * C
      = Finset.univ.sup fun t : Fin 32 =>
        max (∑ j : Fin 128, wv (sgnW (BitVec.ofNat 32 (32 * k.val + t.val)) (BitVec.ofNat 32 j.val)) * C * (xv b j * sg b j))
          (-(∑ j : Fin 128, wv (sgnW (BitVec.ofNat 32 (32 * k.val + t.val)) (BitVec.ofNat 32 j.val)) * C * (xv b j * sg b j))) := by
  rw [sup_C]
  refine Finset.sup_congr rfl fun t _ => ?_
  have ht := t.isLt
  have hb := b.isLt
  have hk := k.isLt
  have hsum : (∑ j : Fin 256, X8 (ValueIdx.ix2 ⟨8 * t.val + g.val, by omega⟩ j) * xc j) * C
      = ∑ j : Fin 128, wv (sgnW (BitVec.ofNat 32 (32 * k.val + t.val)) (BitVec.ofNat 32 j.val)) * C * (xv b j * sg b j) := by
    rw [sum_rows, Finset.sum_eq_single b]
    · rw [sum_C]
      refine Finset.sum_congr rfl fun j _ => ?_
      have hj := j.isLt
      have ew := tileW_eq ⟨8 * t.val + g.val, by omega⟩ ⟨128 * b.val + j.val, by omega⟩
      dsimp only at ew
      rw [show (8 * t.val + g.val) % 8 = g.val by omega, show (8 * t.val + g.val) / 8 = t.val by omega] at ew
      rw [if_pos (by omega), show (32 * g.val + t.val) % 128 = 32 * k.val + t.val by omega,
        show (128 * b.val + j.val) % 128 = j.val by omega] at ew
      rw [h8, hx, ew]
      ac_rfl
    · intro b' _ hne
      refine Finset.sum_eq_zero fun j _ => ?_
      have hj := j.isLt
      have hb' := b'.isLt
      have hne' : b'.val ≠ b.val := fun h => hne (Fin.ext h)
      have ew := tileW_eq ⟨8 * t.val + g.val, by omega⟩ ⟨128 * b'.val + j.val, by omega⟩
      dsimp only at ew
      rw [show (8 * t.val + g.val) % 8 = g.val by omega, show (8 * t.val + g.val) / 8 = t.val by omega] at ew
      rw [if_neg (by omega)] at ew
      rw [h8, ew, wv_zero, zero_mul, zero_mul]
    · exact fun h => absurd (Finset.mem_univ b) h
  rw [abs_C, hsum]

/-- The largest magnitude over a block of tokens of the rotated values of a column. -/
def top (sg xv : Fin 2 → Fin 128 → EReal) (b : Fin 2) (k : Fin 4) : EReal :=
  Finset.univ.sup fun t : Fin 32 =>
    max (∑ j : Fin 128, wv (sgnW (BitVec.ofNat 32 (32 * k.val + t.val)) (BitVec.ofNat 32 j.val)) * C * (xv b j * sg b j))
      (-(∑ j : Fin 128, wv (sgnW (BitVec.ofNat 32 (32 * k.val + t.val)) (BitVec.ofNat 32 j.val)) * C * (xv b j * sg b j)))

theorem outBlk_top (b : Fin 2) (k : Fin 4) (sg xv : Fin 2 → Fin 128 → EReal) (X8 : S256x256.Idx → EReal) (XA : S256x1024.Idx → EReal)
    (y : S8x1024.Idx) (e : (y 0).val = 4 * b.val + k.val)
    (h8 : ∀ (r : Fin 256) (b : Fin 2) (j : Fin 128), X8 (ValueIdx.ix2 r ⟨128 * b.val + j.val, by omega⟩)
      = wv (tileW (BitVec.ofNat 32 r.val) (BitVec.ofNat 32 (128 * b.val + j.val))) * sg b j)
    (hx : ∀ (b : Fin 2) (j : Fin 128), XA (ValueIdx.ix2 (⟨128 * b.val + j.val, by omega⟩ : Fin 256) (y 1)) = xv b j) :
    outBlk (F := Ideal) X8 XA y = scaleExp (top sg xv b k) :=
  (outBlk_at X8 XA y).trans (congrArg scaleExp (core (y 0) b k e sg xv X8 (fun j => XA (ValueIdx.ix2 j (y 1))) h8 hx))

variable (m : (ℓ : Loc nD τ sig) → Buf (Elt Ideal) ℓ)

theorem rotM_at (c : Dev nD) (r : Fin 256) (b : Fin 2) (j : Fin 128) :
    rotM m c (ValueIdx.ix2 r ⟨128 * b.val + j.val, by omega⟩)
      = wv (tileW (BitVec.ofNat 32 r.val) (BitVec.ofNat 32 (128 * b.val + j.val))) * (m ((c : Thread nD τ).loc main_arg2) : S2x128.Idx → EReal) (ValueIdx.ix2 b j) := by
  have hb := b.isLt
  have hj := j.isLt
  have e1 : iblk m c 3 (pt 0) (ValueIdx.ix2 r (⟨128 * b.val + j.val, by omega⟩ : Fin 256))
      = wv (tileW (BitVec.ofNat 32 r.val) (BitVec.ofNat 32 (128 * b.val + j.val))) := (htBlk_at m c _ _).trans (V_main_v59 m c _)
  have e2 : iblk m c 2 (pt 0) (ValueIdx.ix2 (0 : Fin 1) (⟨128 * b.val + j.val, by omega⟩ : Fin 256))
      = (m ((c : Thread nD τ).loc main_arg2) : S2x128.Idx → EReal) (ValueIdx.ix2 b j) := by
    refine ((signBlk_at m c _ _).trans (congrFun (V_main_v62 m c) _)).trans ?_
    refine Idealize.ShloMosaic.shapeCast_apply _ _ _ (ValueIdx.ix2 b j) ?_
    rw [Idealize.ShloMosaic.rowMajor_val2 _ 128 rfl, Idealize.ShloMosaic.rowMajor_val2 _ 256 rfl]
    show b.val * 128 + j.val = 0 * 256 + (128 * b.val + j.val)
    omega
  rw [← e1, ← e2]
  unfold rotM k0_pay1
  rw [shapeCast_self, shapeCast_self, shapeCast_self]
  rfl

/-! ## The result of 7168 columns -/

theorem rows7168 (X : S2x128x7168.Idx → EReal) (h : S2x128x7168.ShapeCasts S256x7168) (t : Fin 256) (n : Fin 7168)
    (b : Fin 2) (s : Fin 128) (e : t.val = 128 * b.val + s.val) :
    shapeCast S256x7168 X h (ValueIdx.ix2 t n) = X (ValueIdx.ix3 b s n) := by
  refine Idealize.ShloMosaic.shapeCast_apply X h _ _ ?_
  rw [Idealize.ShloMosaic.rowMajor_val2 _ 7168 rfl, Idealize.ShloMosaic.rowMajor_val3 _ (128 * 7168) 7168 rfl rfl]
  show b.val * (128 * 7168) + s.val * 7168 + n.val = t.val * 7168 + n.val
  omega

theorem ref7168_top (x : S2x128x7168.Idx → EReal) (sg : S2x128.Idx → EReal) (g : Fin 8) (b : Fin 2) (k : Fin 4) (q : Fin 7168)
    (e : g.val = 4 * b.val + k.val) : Cert.ScalesReferenceIdeal.Hand.out7168 x sg (ValueIdx.ix2 g q)
      = scaleExp (top (fun b j => sg (ValueIdx.ix2 b j)) (fun b j => x (ValueIdx.ix3 b j q)) b k) := by
  rw [Cert.ScalesReferenceIdeal.Hand.out7168_at x sg g b k q e, Cert.ScalesReferenceIdeal.Hand.amax7168_at]
  unfold top
  simp only [Cert.ScalesReferenceIdeal.Hand.rot7168_at]

/-- The reference's exponents of the arguments. -/
def out7168 (c : Dev nD) : S8x7168.Idx → BitVec 32 :=
  Cert.ScalesReferenceIdeal.Hand.out7168 (m ((c : Thread nD τ).loc main_arg0)) (m ((c : Thread nD τ).loc main_arg2))

theorem blk7168_at (c : Dev nD) (n : ℕ) (hn : n < 7) (y : S8x1024.Idx) (z : S8x7168.Idx) (h0 : (z 0).val = (y 0).val)
    (h1 : (z 1).val = 1024 * n + (y 1).val) : xsBlk m c n y = out7168 m c z := by
  have hy : (y 0).val < 8 := (y 0).isLt
  obtain ⟨b, hb⟩ : ∃ b : Fin 2, b.val = (z 0).val / 4 := ⟨⟨(z 0).val / 4, by omega⟩, rfl⟩
  obtain ⟨k, hk⟩ : ∃ k : Fin 4, k.val = (z 0).val % 4 := ⟨⟨(z 0).val % 4, by omega⟩, rfl⟩
  have e : (z 0).val = 4 * b.val + k.val := by omega
  have e' : (y 0).val = 4 * b.val + k.val := by omega
  have er : out7168 m c z = scaleExp (top (fun b j => (m ((c : Thread nD τ).loc main_arg2) : S2x128.Idx → EReal) (ValueIdx.ix2 b j))
      (fun b j => (m ((c : Thread nD τ).loc main_arg0) : S2x128x7168.Idx → EReal) (ValueIdx.ix3 b j (z 1))) b k) :=
    (congrArg (out7168 m c) (ValueIdx.eq_ix2 z)).trans (ref7168_top _ _ (z 0) b k (z 1) e)
  rw [er]
  refine outBlk_top b k _ _ (rotM m c) (iblk m c 1 (pt n)) y e' (rotM_at m c) ?_
  intro b j
  exact (xBlk_at m c n hn _ (ValueIdx.ix2 (⟨128 * b.val + j.val, by omega⟩ : Fin 256) (z 1)) rfl h1).trans ((congrFun (V_main_v61 m c) _).trans (rows7168 _ _ _ _ b j rfl))

/-! ## The result of 18432 columns -/

theorem rows18432 (X : S2x128x18432.Idx → EReal) (h : S2x128x18432.ShapeCasts S256x18432) (t : Fin 256) (n : Fin 18432)
    (b : Fin 2) (s : Fin 128) (e : t.val = 128 * b.val + s.val) :
    shapeCast S256x18432 X h (ValueIdx.ix2 t n) = X (ValueIdx.ix3 b s n) := by
  refine Idealize.ShloMosaic.shapeCast_apply X h _ _ ?_
  rw [Idealize.ShloMosaic.rowMajor_val2 _ 18432 rfl, Idealize.ShloMosaic.rowMajor_val3 _ (128 * 18432) 18432 rfl rfl]
  show b.val * (128 * 18432) + s.val * 18432 + n.val = t.val * 18432 + n.val
  omega

theorem ref18432_top (x : S2x128x18432.Idx → EReal) (sg : S2x128.Idx → EReal) (g : Fin 8) (b : Fin 2) (k : Fin 4) (q : Fin 18432)
    (e : g.val = 4 * b.val + k.val) : Cert.ScalesReferenceIdeal.Hand.out18432 x sg (ValueIdx.ix2 g q)
      = scaleExp (top (fun b j => sg (ValueIdx.ix2 b j)) (fun b j => x (ValueIdx.ix3 b j q)) b k) := by
  rw [Cert.ScalesReferenceIdeal.Hand.out18432_at x sg g b k q e, Cert.ScalesReferenceIdeal.Hand.amax18432_at]
  unfold top
  simp only [Cert.ScalesReferenceIdeal.Hand.rot18432_at]

/-- The reference's exponents of the arguments. -/
def out18432 (c : Dev nD) : S8x18432.Idx → BitVec 32 :=
  Cert.ScalesReferenceIdeal.Hand.out18432 (m ((c : Thread nD τ).loc main_arg1)) (m ((c : Thread nD τ).loc main_arg2))

theorem blk18432_at (c : Dev nD) (n : ℕ) (hn : n < 126) (y : S8x1024.Idx) (z : S8x18432.Idx) (h0 : (z 0).val = (y 0).val)
    (h1 : (z 1).val = 1024 * (n / 7) + (y 1).val) : dtsBlk m c n y = out18432 m c z := by
  have hy : (y 0).val < 8 := (y 0).isLt
  obtain ⟨b, hb⟩ : ∃ b : Fin 2, b.val = (z 0).val / 4 := ⟨⟨(z 0).val / 4, by omega⟩, rfl⟩
  obtain ⟨k, hk⟩ : ∃ k : Fin 4, k.val = (z 0).val % 4 := ⟨⟨(z 0).val % 4, by omega⟩, rfl⟩
  have e : (z 0).val = 4 * b.val + k.val := by omega
  have e' : (y 0).val = 4 * b.val + k.val := by omega
  have er : out18432 m c z = scaleExp (top (fun b j => (m ((c : Thread nD τ).loc main_arg2) : S2x128.Idx → EReal) (ValueIdx.ix2 b j))
      (fun b j => (m ((c : Thread nD τ).loc main_arg1) : S2x128x18432.Idx → EReal) (ValueIdx.ix3 b j (z 1))) b k) :=
    (congrArg (out18432 m c) (ValueIdx.eq_ix2 z)).trans (ref18432_top _ _ (z 0) b k (z 1) e)
  rw [er]
  refine outBlk_top b k _ _ (rotM m c) (iblk m c 0 (pt n)) y e' (rotM_at m c) ?_
  intro b j
  exact (dyBlk_at m c n hn _ (ValueIdx.ix2 (⟨128 * b.val + j.val, by omega⟩ : Fin 256) (z 1)) rfl h1).trans ((congrFun (V_main_v60 m c) _).trans (rows18432 _ _ _ _ b j rfl))

/-! ## The final arrays -/

theorem final_x (c : Dev nD) : (dats m 0 c).arrAt 4 cfg0.N = out7168 m c := by
  refine (dats m 0 c).arrAt_eq_of_covers 4 _ (by decide +kernel) fun t hf y => ?_
  have ht : t.val < 6 ∨ t.val = 125 := by
    rw [flush4 t] at hf
    exact of_decide_eq_true hf
  blk_simp
  rw [after0_4]
  refine blk7168_at m c _ (by omega) _ _ ?_ ?_
  · blk_simp [index4]; try simp [index4]
  · have e : min t.val 6 = if t.val < 7 then t.val else 6 := by split <;> omega
    rw [e]
    blk_simp [index4]; simp [index4]; split <;> omega

theorem final_dy (c : Dev nD) : (dats m 0 c).arrAt 5 cfg0.N = out18432 m c := by
  refine (dats m 0 c).arrAt_eq_of_covers 5 _ (by decide +kernel) fun t hf y => ?_
  blk_simp
  rw [after0_5]
  have hN : t.val < 126 := lt_of_lt_of_eq t.isLt N_0
  refine blk18432_at m c _ (by omega) _ _ ?_ ?_
  · blk_simp [index5]; try simp [index5]
  · blk_simp [index5]; simp [index5] <;> omega

end Cert.ScalesIdeal.Hand

end
-- ==== Proof.lean ====
/-
  THE CERTIFICATE: the programs of the two slices and their references run and leave their arguments alone, and over the
  extended reals the products `dx` and `dw` and the token scales of `x` and `dy` are the reference's.
-/
module

public import proofs.«01_k».proof.Defs
public import proofs.«01_k».proof.Proof.Bits.Run
public import proofs.«01_k».proof.Proof.Equation
public import proofs.«01_k».proof.Proof.ScBits.Run
public import proofs.«01_k».proof.Proof.ScIdeal.Value
public import Idealize.ShloMosaic.Lib.Claim
public import Idealize.ShloMosaic.Adequacy
public import Idealize.ShloMosaic.Init

@[expose] public section

noncomputable section

namespace Cert.Proof

open Idealize.ShloMosaic Idealize.SL.Sem

/-- The kernel ends, its arguments unchanged and its semaphores at zero. -/
theorem kernel_quiescent : @Cert.quiescent_Kernel Cert.Kernel.Gen.facts := fun m g _ =>
  θ_run_mono (θ_run_and (Cert.Kernel.Hand.frame m g) (Cert.Kernel.Hand.run_main m g)) fun _ h => ⟨h.1, h.2.2⟩

/-- So does the kernel over the extended reals. -/
theorem kernelIdeal_quiescent : @Cert.quiescent_KernelIdeal Cert.KernelIdeal.Gen.facts := fun m g _ =>
  θ_run_mono (θ_run_and (Cert.KernelIdeal.Hand.frame m g) (Cert.KernelIdeal.Hand.run_main m g)) fun _ h => ⟨h.1, h.2.2⟩

/-- So does the reference. -/
theorem reference_quiescent : @Cert.quiescent_ReferenceIdeal Cert.ReferenceIdeal.Gen.facts := fun m g _ =>
  θ_run_mono (Cert.ReferenceIdeal.Value.run m g) fun r h => ⟨fun c => (h c).2.2, sem_eq_zero_of_no_sems (by decide) r.2⟩

/-- Kernel and reference end with the same `dx` and the same `dw`. -/
theorem values : @Cert.algebraic_KernelIdeal_ReferenceIdeal Cert.KernelIdeal.Gen.facts Cert.ReferenceIdeal.Gen.facts := by
  intro m g m' g' _ hagree
  refine ⟨fun c => Cert.KernelIdeal.Hand.dxK m c, fun c => Cert.KernelIdeal.Hand.dwK m c, ?_, ?_⟩
  · refine θ_run_mono (θ_run_and (Cert.KernelIdeal.Hand.frame m g) (Cert.KernelIdeal.Hand.run_main m g)) fun r h c => ⟨?_, ?_, h.1 c⟩
    · exact (h.2.1.out_eq c 4).trans (Cert.KernelIdeal.Hand.final_dx m c)
    · exact (h.2.1.out_eq c 5).trans (Cert.KernelIdeal.Hand.final_dw m c)
  · refine θ_run_mono (Cert.ReferenceIdeal.Value.run m' g') fun r h c => ?_
    obtain ⟨e0, e1, e2, e3⟩ := hagree c
    obtain ⟨h0, h1, h2⟩ := h c
    refine ⟨h0.trans ?_, h1.trans ?_, h2⟩
    · rw [e2, e3]; exact (Cert.Equation.dx_eq m c).symm
    · rw [e0, e1]; exact (Cert.Equation.dw_eq m c).symm

/-- The scale kernel ends, its arguments unchanged and its semaphores at zero. -/
theorem scales_quiescent : @Cert.quiescent_Scales Cert.Scales.Gen.facts := fun m g _ =>
  θ_run_mono (θ_run_and (Cert.Scales.Hand.frame m g) (Cert.Scales.Hand.run_main m g)) fun _ h => ⟨h.1, h.2.2⟩

/-- So does the scale kernel over the extended reals. -/
theorem scalesIdeal_quiescent : @Cert.quiescent_ScalesIdeal Cert.ScalesIdeal.Gen.facts := fun m g _ =>
  θ_run_mono (θ_run_and (Cert.ScalesIdeal.Hand.frame m g) (Cert.ScalesIdeal.Hand.run_main m g)) fun _ h => ⟨h.1, h.2.2⟩

/-- So does its reference. -/
theorem scalesReference_quiescent : @Cert.quiescent_ScalesReferenceIdeal Cert.ScalesReferenceIdeal.Gen.facts := fun m g _ =>
  θ_run_mono (Cert.ScalesReferenceIdeal.Value.run m g) fun r h => ⟨fun c => (h c).2.2, sem_eq_zero_of_no_sems (by decide) r.2⟩

/-- Kernel and reference end with the same scales of `x` and of `dy`. -/
theorem scales : @Cert.algebraic_ScalesIdeal_ScalesReferenceIdeal Cert.ScalesIdeal.Gen.facts Cert.ScalesReferenceIdeal.Gen.facts := by
  intro m g m' g' _ hagree
  refine ⟨fun c => Cert.ScalesIdeal.Hand.out7168 m c, fun c => Cert.ScalesIdeal.Hand.out18432 m c, ?_, ?_⟩
  · refine θ_run_mono (θ_run_and (Cert.ScalesIdeal.Hand.frame m g) (Cert.ScalesIdeal.Hand.run_main m g)) fun r h c => ⟨?_, ?_, h.1 c⟩
    · exact (h.2.1.out_eq c 4).trans (Cert.ScalesIdeal.Hand.final_x m c)
    · exact (h.2.1.out_eq c 5).trans (Cert.ScalesIdeal.Hand.final_dy m c)
  · refine θ_run_mono (Cert.ScalesReferenceIdeal.Value.run m' g') fun r h c => ?_
    obtain ⟨e0, e1, e2⟩ := hagree c
    obtain ⟨h0, h1, h2⟩ := h c
    refine ⟨h0.trans ?_, h1.trans ?_, h2⟩
    · refine Eq.trans ?_ (congrArg₂ Cert.ScalesReferenceIdeal.Hand.out7168 e0 e2)
      rfl
    · refine Eq.trans ?_ (congrArg₂ Cert.ScalesReferenceIdeal.Hand.out18432 e1 e2)
      rfl

theorem claim : Cert.Claim := ⟨Cert.Kernel.Gen.facts, Cert.KernelIdeal.Gen.facts, Cert.ReferenceIdeal.Gen.facts,
  Cert.Scales.Gen.facts, Cert.ScalesIdeal.Gen.facts, Cert.ScalesReferenceIdeal.Gen.facts,
  kernel_quiescent, kernelIdeal_quiescent, reference_quiescent, scales_quiescent, scalesIdeal_quiescent, scalesReference_quiescent,
  trivial, values, trivial, scales⟩

end Cert.Proof

end
